-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_ABwd (m : (ℓ : Loc Cert.ABwd.nD Cert.ABwd.τ Cert.ABwd.sig) → Buf (Elt Bits) ℓ) : Prop :=
  True

def Pre_ABwdIdeal (m : (ℓ : Loc Cert.ABwdIdeal.nD Cert.ABwdIdeal.τ Cert.ABwdIdeal.sig) → Buf (Elt Ideal) ℓ) : Prop :=
  True

def Pre_ABwdRefIdeal (m : (ℓ : Loc Cert.ABwdRefIdeal.nD Cert.ABwdRefIdeal.τ Cert.ABwdRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_GDown (m : (ℓ : Loc Cert.GDown.nD Cert.GDown.τ Cert.GDown.sig) → Buf (Elt Bits) ℓ) : Prop :=
  True

def Pre_GDownIdeal (m : (ℓ : Loc Cert.GDownIdeal.nD Cert.GDownIdeal.τ Cert.GDownIdeal.sig) → Buf (Elt Ideal) ℓ) : Prop :=
  True

def Pre_GDownRefIdeal (m : (ℓ : Loc Cert.GDownRefIdeal.nD Cert.GDownRefIdeal.τ Cert.GDownRefIdeal.sig) → Buf (Elt Ideal) ℓ) : Prop :=
  True

def Pre_GOut (m : (ℓ : Loc Cert.GOut.nD Cert.GOut.τ Cert.GOut.sig) → Buf (Elt Bits) ℓ) : Prop :=
  True

def Pre_GOutIdeal (m : (ℓ : Loc Cert.GOutIdeal.nD Cert.GOutIdeal.τ Cert.GOutIdeal.sig) → Buf (Elt Ideal) ℓ) : Prop :=
  True

def Pre_GOutRefIdeal (m : (ℓ : Loc Cert.GOutRefIdeal.nD Cert.GOutRefIdeal.τ Cert.GOutRefIdeal.sig) → Buf (Elt Ideal) ℓ) : Prop :=
  True

def Pre_GBranchA (m : (ℓ : Loc Cert.GBranchA.nD Cert.GBranchA.τ Cert.GBranchA.sig) → Buf (Elt Bits) ℓ) : Prop :=
  True

def Pre_GBranchAIdeal (m : (ℓ : Loc Cert.GBranchAIdeal.nD Cert.GBranchAIdeal.τ Cert.GBranchAIdeal.sig) → Buf (Elt Ideal) ℓ) : Prop :=
  True

def Pre_GBranchARefIdeal (m : (ℓ : Loc Cert.GBranchARefIdeal.nD Cert.GBranchARefIdeal.τ Cert.GBranchARefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossRefIdeal (m : (ℓ : Loc Cert.OutLossRefIdeal.nD Cert.OutLossRefIdeal.τ Cert.OutLossRefIdeal.sig) → Buf (Elt Ideal) ℓ) : Prop :=
  True

def Pre_ResidualRms (m : (ℓ : Loc Cert.ResidualRms.nD Cert.ResidualRms.τ Cert.ResidualRms.sig) → Buf (Elt Bits) ℓ) : Prop :=
  True

def Pre_ResidualRmsIdeal (m : (ℓ : Loc Cert.ResidualRmsIdeal.nD Cert.ResidualRmsIdeal.τ Cert.ResidualRmsIdeal.sig) → Buf (Elt Ideal) ℓ) : Prop :=
  True

def Pre_ResidualRmsRefIdeal (m : (ℓ : Loc Cert.ResidualRmsRefIdeal.nD Cert.ResidualRmsRefIdeal.τ Cert.ResidualRmsRefIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdRefIdeal (m : (ℓ : Loc Cert.MergeFwdRefIdeal.nD Cert.MergeFwdRefIdeal.τ Cert.MergeFwdRefIdeal.sig) → Buf (Elt Ideal) ℓ) : Prop :=
  True

def Pre_CBwd (m : (ℓ : Loc Cert.CBwd.nD Cert.CBwd.τ Cert.CBwd.sig) → Buf (Elt Bits) ℓ) : Prop :=
  True

def Pre_CBwdIdeal (m : (ℓ : Loc Cert.CBwdIdeal.nD Cert.CBwdIdeal.τ Cert.CBwdIdeal.sig) → Buf (Elt Ideal) ℓ) : Prop :=
  True

def Pre_CBwdIdeal_finite [hPre_finite : Cert.Pre_finite.Facts] (m : (ℓ : Loc Cert.CBwdIdeal.nD Cert.CBwdIdeal.τ Cert.CBwdIdeal.sig) → Buf (Elt Ideal) ℓ) : Prop :=
  ∀ c : Dev Cert.CBwdIdeal.nD,
    (Cert.Pre_finite.fn (F := Ideal) (m ((c.tc : Thread Cert.CBwdIdeal.nD Cert.CBwdIdeal.τ).loc Cert.CBwdIdeal.main_arg0)) (m ((c.tc : Thread Cert.CBwdIdeal.nD Cert.CBwdIdeal.τ).loc Cert.CBwdIdeal.main_arg1)) (m ((c.tc : Thread Cert.CBwdIdeal.nD Cert.CBwdIdeal.τ).loc Cert.CBwdIdeal.main_arg2)) (m ((c.tc : Thread Cert.CBwdIdeal.nD Cert.CBwdIdeal.τ).loc Cert.CBwdIdeal.main_arg3)) (m ((c.tc : Thread Cert.CBwdIdeal.nD Cert.CBwdIdeal.τ).loc Cert.CBwdIdeal.main_arg4))) = (fun _ => 1#1)

def Pre_CBwdRefIdeal (m : (ℓ : Loc Cert.CBwdRefIdeal.nD Cert.CBwdRefIdeal.τ Cert.CBwdRefIdeal.sig) → Buf (Elt Ideal) ℓ) : Prop :=
  True

def Pre_CBwdRefIdeal_finite [hPre_finite : Cert.Pre_finite.Facts] (m : (ℓ : Loc Cert.CBwdRefIdeal.nD Cert.CBwdRefIdeal.τ Cert.CBwdRefIdeal.sig) → Buf (Elt Ideal) ℓ) : Prop :=
  ∀ c : Dev Cert.CBwdRefIdeal.nD,
    (Cert.Pre_finite.fn (F := Ideal) (m ((c.tc : Thread Cert.CBwdRefIdeal.nD Cert.CBwdRefIdeal.τ).loc Cert.CBwdRefIdeal.main_arg0)) (m ((c.tc : Thread Cert.CBwdRefIdeal.nD Cert.CBwdRefIdeal.τ).loc Cert.CBwdRefIdeal.main_arg1)) (m ((c.tc : Thread Cert.CBwdRefIdeal.nD Cert.CBwdRefIdeal.τ).loc Cert.CBwdRefIdeal.main_arg2)) (m ((c.tc : Thread Cert.CBwdRefIdeal.nD Cert.CBwdRefIdeal.τ).loc Cert.CBwdRefIdeal.main_arg3)) (m ((c.tc : Thread Cert.CBwdRefIdeal.nD Cert.CBwdRefIdeal.τ).loc Cert.CBwdRefIdeal.main_arg4))) = (fun _ => 1#1)

def Pre_GBranchB (m : (ℓ : Loc Cert.GBranchB.nD Cert.GBranchB.τ Cert.GBranchB.sig) → Buf (Elt Bits) ℓ) : Prop :=
  True

def Pre_GBranchBIdeal (m : (ℓ : Loc Cert.GBranchBIdeal.nD Cert.GBranchBIdeal.τ Cert.GBranchBIdeal.sig) → Buf (Elt Ideal) ℓ) : Prop :=
  True

def Pre_GBranchBRefIdeal (m : (ℓ : Loc Cert.GBranchBRefIdeal.nD Cert.GBranchBRefIdeal.τ Cert.GBranchBRefIdeal.sig) → Buf (Elt Ideal) ℓ) : Prop :=
  True

def Pre_GKv (m : (ℓ : Loc Cert.GKv.nD Cert.GKv.τ Cert.GKv.sig) → Buf (Elt Bits) ℓ) : Prop :=
  True

def Pre_GKvIdeal (m : (ℓ : Loc Cert.GKvIdeal.nD Cert.GKvIdeal.τ Cert.GKvIdeal.sig) → Buf (Elt Ideal) ℓ) : Prop :=
  True

def Pre_GKvRefIdeal (m : (ℓ : Loc Cert.GKvRefIdeal.nD Cert.GKvRefIdeal.τ Cert.GKvRefIdeal.sig) → Buf (Elt Ideal) ℓ) : Prop :=
  True

def Pre_DMemH (m : (ℓ : Loc Cert.DMemH.nD Cert.DMemH.τ Cert.DMemH.sig) → Buf (Elt Bits) ℓ) : Prop :=
  True

def Pre_DMemHIdeal (m : (ℓ : Loc Cert.DMemHIdeal.nD Cert.DMemHIdeal.τ Cert.DMemHIdeal.sig) → Buf (Elt Ideal) ℓ) : Prop :=
  True

def Pre_DMemHRefIdeal (m : (ℓ : Loc Cert.DMemHRefIdeal.nD Cert.DMemHRefIdeal.τ Cert.DMemHRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdRefIdeal (m : (ℓ : Loc Cert.MemFwdRefIdeal.nD Cert.MemFwdRefIdeal.τ Cert.MemFwdRefIdeal.sig) → Buf (Elt Ideal) ℓ) : Prop :=
  True

def Pre_KV (m : (ℓ : Loc Cert.KV.nD Cert.KV.τ Cert.KV.sig) → Buf (Elt Bits) ℓ) : Prop :=
  True

def Pre_KVIdeal (m : (ℓ : Loc Cert.KVIdeal.nD Cert.KVIdeal.τ Cert.KVIdeal.sig) → Buf (Elt Ideal) ℓ) : Prop :=
  True

def Pre_KVRefIdeal (m : (ℓ : Loc Cert.KVRefIdeal.nD Cert.KVRefIdeal.τ Cert.KVRefIdeal.sig) → Buf (Elt Ideal) ℓ) : Prop :=
  True

def Pre_AFwd (m : (ℓ : Loc Cert.AFwd.nD Cert.AFwd.τ Cert.AFwd.sig) → Buf (Elt Bits) ℓ) : Prop :=
  True

def Pre_AFwdIdeal (m : (ℓ : Loc Cert.AFwdIdeal.nD Cert.AFwdIdeal.τ Cert.AFwdIdeal.sig) → Buf (Elt Ideal) ℓ) : Prop :=
  True

def Pre_AFwdRefIdeal (m : (ℓ : Loc Cert.AFwdRefIdeal.nD Cert.AFwdRefIdeal.τ Cert.AFwdRefIdeal.sig) → Buf (Elt Ideal) ℓ) : Prop :=
  True

def Pre_CFwd (m : (ℓ : Loc Cert.CFwd.nD Cert.CFwd.τ Cert.CFwd.sig) → Buf (Elt Bits) ℓ) : Prop :=
  True

def Pre_CFwdIdeal (m : (ℓ : Loc Cert.CFwdIdeal.nD Cert.CFwdIdeal.τ Cert.CFwdIdeal.sig) → Buf (Elt Ideal) ℓ) : Prop :=
  True

def Pre_CFwdRefIdeal (m : (ℓ : Loc Cert.CFwdRefIdeal.nD Cert.CFwdRefIdeal.τ Cert.CFwdRefIdeal.sig) → Buf (Elt Ideal) ℓ) : Prop :=
  True

def Pre_AdamPlain (m : (ℓ : Loc Cert.AdamPlain.nD Cert.AdamPlain.τ Cert.AdamPlain.sig) → Buf (Elt Bits) ℓ) : Prop :=
  True

def Pre_AdamPlainIdeal (m : (ℓ : Loc Cert.AdamPlainIdeal.nD Cert.AdamPlainIdeal.τ Cert.AdamPlainIdeal.sig) → Buf (Elt Ideal) ℓ) : Prop :=
  True

def Pre_AdamPlainRefIdeal (m : (ℓ : Loc Cert.AdamPlainRefIdeal.nD Cert.AdamPlainRefIdeal.τ Cert.AdamPlainRefIdeal.sig) → Buf (Elt Ideal) ℓ) : Prop :=
  True

def Pre_BPre (m : (ℓ : Loc Cert.BPre.nD Cert.BPre.τ Cert.BPre.sig) → Buf (Elt Bits) ℓ) : Prop :=
  True

def Pre_BPreIdeal (m : (ℓ : Loc Cert.BPreIdeal.nD Cert.BPreIdeal.τ Cert.BPreIdeal.sig) → Buf (Elt Ideal) ℓ) : Prop :=
  True

def Pre_BPreRefIdeal (m : (ℓ : Loc Cert.BPreRefIdeal.nD Cert.BPreRefIdeal.τ Cert.BPreRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7))
      ∧ r.2.sem = fun _ => 0)

def quiescent_ABwd [hABwd : Cert.ABwd.Facts] : Prop :=
  ∀ (m : (ℓ : Loc Cert.ABwd.nD Cert.ABwd.τ Cert.ABwd.sig) → Buf (Elt Bits) ℓ) (g : Dev Cert.ABwd.nD → PrngReg), Pre_ABwd m →
    θ_run (Cert.ABwd.defs (F := Bits)) (onTc (τ := Cert.ABwd.τ) (Cert.ABwd.main (F := Bits))) ⟨m, fun _ => 0, g⟩ (fun r => (∀ c : Dev Cert.ABwd.nD,
      r.2.mem ((c.tc : Thread Cert.ABwd.nD Cert.ABwd.τ).loc Cert.ABwd.main_arg0) = m ((c.tc : Thread Cert.ABwd.nD Cert.ABwd.τ).loc Cert.ABwd.main_arg0)
      ∧ r.2.mem ((c.tc : Thread Cert.ABwd.nD Cert.ABwd.τ).loc Cert.ABwd.main_arg1) = m ((c.tc : Thread Cert.ABwd.nD Cert.ABwd.τ).loc Cert.ABwd.main_arg1)
      ∧ r.2.mem ((c.tc : Thread Cert.ABwd.nD Cert.ABwd.τ).loc Cert.ABwd.main_arg2) = m ((c.tc : Thread Cert.ABwd.nD Cert.ABwd.τ).loc Cert.ABwd.main_arg2)
      ∧ r.2.mem ((c.tc : Thread Cert.ABwd.nD Cert.ABwd.τ).loc Cert.ABwd.main_arg3) = m ((c.tc : Thread Cert.ABwd.nD Cert.ABwd.τ).loc Cert.ABwd.main_arg3)
      ∧ r.2.mem ((c.tc : Thread Cert.ABwd.nD Cert.ABwd.τ).loc Cert.ABwd.main_arg4) = m ((c.tc : Thread Cert.ABwd.nD Cert.ABwd.τ).loc Cert.ABwd.main_arg4))
      ∧ r.2.sem = fun _ => 0)

def quiescent_ABwdIdeal [hABwdIdeal : Cert.ABwdIdeal.Facts] : Prop :=
  ∀ (m : (ℓ : Loc Cert.ABwdIdeal.nD Cert.ABwdIdeal.τ Cert.ABwdIdeal.sig) → Buf (Elt Ideal) ℓ) (g : Dev Cert.ABwdIdeal.nD → PrngReg), Pre_ABwdIdeal m →
    θ_run (Cert.ABwdIdeal.defs (F := Ideal)) (onTc (τ := Cert.ABwdIdeal.τ) (Cert.ABwdIdeal.main (F := Ideal))) ⟨m, fun _ => 0, g⟩ (fun r => (∀ c : Dev Cert.ABwdIdeal.nD,
      r.2.mem ((c.tc : Thread Cert.ABwdIdeal.nD Cert.ABwdIdeal.τ).loc Cert.ABwdIdeal.main_arg0) = m ((c.tc : Thread Cert.ABwdIdeal.nD Cert.ABwdIdeal.τ).loc Cert.ABwdIdeal.main_arg0)
      ∧ r.2.mem ((c.tc : Thread Cert.ABwdIdeal.nD Cert.ABwdIdeal.τ).loc Cert.ABwdIdeal.main_arg1) = m ((c.tc : Thread Cert.ABwdIdeal.nD Cert.ABwdIdeal.τ).loc Cert.ABwdIdeal.main_arg1)
      ∧ r.2.mem ((c.tc : Thread Cert.ABwdIdeal.nD Cert.ABwdIdeal.τ).loc Cert.ABwdIdeal.main_arg2) = m ((c.tc : Thread Cert.ABwdIdeal.nD Cert.ABwdIdeal.τ).loc Cert.ABwdIdeal.main_arg2)
      ∧ r.2.mem ((c.tc : Thread Cert.ABwdIdeal.nD Cert.ABwdIdeal.τ).loc Cert.ABwdIdeal.main_arg3) = m ((c.tc : Thread Cert.ABwdIdeal.nD Cert.ABwdIdeal.τ).loc Cert.ABwdIdeal.main_arg3)
      ∧ r.2.mem ((c.tc : Thread Cert.ABwdIdeal.nD Cert.ABwdIdeal.τ).loc Cert.ABwdIdeal.main_arg4) = m ((c.tc : Thread Cert.ABwdIdeal.nD Cert.ABwdIdeal.τ).loc Cert.ABwdIdeal.main_arg4))
      ∧ r.2.sem = fun _ => 0)

def quiescent_ABwdRefIdeal [hABwdRefIdeal : Cert.ABwdRefIdeal.Facts] : Prop :=
  ∀ (m : (ℓ : Loc Cert.ABwdRefIdeal.nD Cert.ABwdRefIdeal.τ Cert.ABwdRefIdeal.sig) → Buf (Elt Ideal) ℓ) (g : Dev Cert.ABwdRefIdeal.nD → PrngReg), Pre_ABwdRefIdeal m →
    θ_run (Cert.ABwdRefIdeal.defs (F := Ideal)) (onTc (τ := Cert.ABwdRefIdeal.τ) (Cert.ABwdRefIdeal.main (F := Ideal))) ⟨m, fun _ => 0, g⟩ (fun r => (∀ c : Dev Cert.ABwdRefIdeal.nD,
      r.2.mem ((c.tc : Thread Cert.ABwdRefIdeal.nD Cert.ABwdRefIdeal.τ).loc Cert.ABwdRefIdeal.main_arg0) = m ((c.tc : Thread Cert.ABwdRefIdeal.nD Cert.ABwdRefIdeal.τ).loc Cert.ABwdRefIdeal.main_arg0)
      ∧ r.2.mem ((c.tc : Thread Cert.ABwdRefIdeal.nD Cert.ABwdRefIdeal.τ).loc Cert.ABwdRefIdeal.main_arg1) = m ((c.tc : Thread Cert.ABwdRefIdeal.nD Cert.ABwdRefIdeal.τ).loc Cert.ABwdRefIdeal.main_arg1)
      ∧ r.2.mem ((c.tc : Thread Cert.ABwdRefIdeal.nD Cert.ABwdRefIdeal.τ).loc Cert.ABwdRefIdeal.main_arg2) = m ((c.tc : Thread Cert.ABwdRefIdeal.nD Cert.ABwdRefIdeal.τ).loc Cert.ABwdRefIdeal.main_arg2)
      ∧ r.2.mem ((c.tc : Thread Cert.ABwdRefIdeal.nD Cert.ABwdRefIdeal.τ).loc Cert.ABwdRefIdeal.main_arg3) = m ((c.tc : Thread Cert.ABwdRefIdeal.nD Cert.ABwdRefIdeal.τ).loc Cert.ABwdRefIdeal.main_arg3)
      ∧ r.2.mem ((c.tc : Thread Cert.ABwdRefIdeal.nD Cert.ABwdRefIdeal.τ).loc Cert.ABwdRefIdeal.main_arg4) = m ((c.tc : Thread Cert.ABwdRefIdeal.nD Cert.ABwdRefIdeal.τ).loc Cert.ABwdRefIdeal.main_arg4))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2)
      ∧ r.2.mem ((c.tc : Thread Cert.RmsBwd.nD Cert.RmsBwd.τ).loc Cert.RmsBwd.main_arg3) = m ((c.tc : Thread Cert.RmsBwd.nD Cert.RmsBwd.τ).loc Cert.RmsBwd.main_arg3))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
      ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2)
      ∧ r.2.mem ((c.tc : Thread Cert.RmsBwdRefIdeal.nD Cert.RmsBwdRefIdeal.τ).loc Cert.RmsBwdRefIdeal.main_arg3) = m ((c.tc : Thread Cert.RmsBwdRefIdeal.nD Cert.RmsBwdRefIdeal.τ).loc Cert.RmsBwdRefIdeal.main_arg3))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_GDown [hGDown : Cert.GDown.Facts] : Prop :=
  ∀ (m : (ℓ : Loc Cert.GDown.nD Cert.GDown.τ Cert.GDown.sig) → Buf (Elt Bits) ℓ) (g : Dev Cert.GDown.nD → PrngReg), Pre_GDown m →
    θ_run (Cert.GDown.defs (F := Bits)) (onTc (τ := Cert.GDown.τ) (Cert.GDown.main (F := Bits))) ⟨m, fun _ => 0, g⟩ (fun r => (∀ c : Dev Cert.GDown.nD,
      r.2.mem ((c.tc : Thread Cert.GDown.nD Cert.GDown.τ).loc Cert.GDown.main_arg0) = m ((c.tc : Thread Cert.GDown.nD Cert.GDown.τ).loc Cert.GDown.main_arg0)
      ∧ r.2.mem ((c.tc : Thread Cert.GDown.nD Cert.GDown.τ).loc Cert.GDown.main_arg1) = m ((c.tc : Thread Cert.GDown.nD Cert.GDown.τ).loc Cert.GDown.main_arg1))
      ∧ r.2.sem = fun _ => 0)

def quiescent_GDownIdeal [hGDownIdeal : Cert.GDownIdeal.Facts] : Prop :=
  ∀ (m : (ℓ : Loc Cert.GDownIdeal.nD Cert.GDownIdeal.τ Cert.GDownIdeal.sig) → Buf (Elt Ideal) ℓ) (g : Dev Cert.GDownIdeal.nD → PrngReg), Pre_GDownIdeal m →
    θ_run (Cert.GDownIdeal.defs (F := Ideal)) (onTc (τ := Cert.GDownIdeal.τ) (Cert.GDownIdeal.main (F := Ideal))) ⟨m, fun _ => 0, g⟩ (fun r => (∀ c : Dev Cert.GDownIdeal.nD,
      r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
      ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ r.2.sem = fun _ => 0)

def quiescent_GDownRefIdeal [hGDownRefIdeal : Cert.GDownRefIdeal.Facts] : Prop :=
  ∀ (m : (ℓ : Loc Cert.GDownRefIdeal.nD Cert.GDownRefIdeal.τ Cert.GDownRefIdeal.sig) → Buf (Elt Ideal) ℓ) (g : Dev Cert.GDownRefIdeal.nD → PrngReg), Pre_GDownRefIdeal m →
    θ_run (Cert.GDownRefIdeal.defs (F := Ideal)) (onTc (τ := Cert.GDownRefIdeal.τ) (Cert.GDownRefIdeal.main (F := Ideal))) ⟨m, fun _ => 0, g⟩ (fun r => (∀ c : Dev Cert.GDownRefIdeal.nD,
      r.2.mem ((c.tc : Thread Cert.GDownRefIdeal.nD Cert.GDownRefIdeal.τ).loc Cert.GDownRefIdeal.main_arg0) = m ((c.tc : Thread Cert.GDownRefIdeal.nD Cert.GDownRefIdeal.τ).loc Cert.GDownRefIdeal.main_arg0)
      ∧ r.2.mem ((c.tc : Thread Cert.GDownRefIdeal.nD Cert.GDownRefIdeal.τ).loc Cert.GDownRefIdeal.main_arg1) = m ((c.tc : Thread Cert.GDownRefIdeal.nD Cert.GDownRefIdeal.τ).loc Cert.GDownRefIdeal.main_arg1))
      ∧ r.2.sem = fun _ => 0)

def quiescent_GOut [hGOut : Cert.GOut.Facts] : Prop :=
  ∀ (m : (ℓ : Loc Cert.GOut.nD Cert.GOut.τ Cert.GOut.sig) → Buf (Elt Bits) ℓ) (g : Dev Cert.GOut.nD → PrngReg), Pre_GOut m →
    θ_run (Cert.GOut.defs (F := Bits)) (onTc (τ := Cert.GOut.τ) (Cert.GOut.main (F := Bits))) ⟨m, fun _ => 0, g⟩ (fun r => (∀ c : Dev Cert.GOut.nD,
      r.2.mem ((c.tc : Thread Cert.GOut.nD Cert.GOut.τ).loc Cert.GOut.main_arg0) = m ((c.tc : Thread Cert.GOut.nD Cert.GOut.τ).loc Cert.GOut.main_arg0)
      ∧ r.2.mem ((c.tc : Thread Cert.GOut.nD Cert.GOut.τ).loc Cert.GOut.main_arg1) = m ((c.tc : Thread Cert.GOut.nD Cert.GOut.τ).loc Cert.GOut.main_arg1))
      ∧ r.2.sem = fun _ => 0)

def quiescent_GOutIdeal [hGOutIdeal : Cert.GOutIdeal.Facts] : Prop :=
  ∀ (m : (ℓ : Loc Cert.GOutIdeal.nD Cert.GOutIdeal.τ Cert.GOutIdeal.sig) → Buf (Elt Ideal) ℓ) (g : Dev Cert.GOutIdeal.nD → PrngReg), Pre_GOutIdeal m →
    θ_run (Cert.GOutIdeal.defs (F := Ideal)) (onTc (τ := Cert.GOutIdeal.τ) (Cert.GOutIdeal.main (F := Ideal))) ⟨m, fun _ => 0, g⟩ (fun r => (∀ c : Dev Cert.GOutIdeal.nD,
      r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
      ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ r.2.sem = fun _ => 0)

def quiescent_GOutRefIdeal [hGOutRefIdeal : Cert.GOutRefIdeal.Facts] : Prop :=
  ∀ (m : (ℓ : Loc Cert.GOutRefIdeal.nD Cert.GOutRefIdeal.τ Cert.GOutRefIdeal.sig) → Buf (Elt Ideal) ℓ) (g : Dev Cert.GOutRefIdeal.nD → PrngReg), Pre_GOutRefIdeal m →
    θ_run (Cert.GOutRefIdeal.defs (F := Ideal)) (onTc (τ := Cert.GOutRefIdeal.τ) (Cert.GOutRefIdeal.main (F := Ideal))) ⟨m, fun _ => 0, g⟩ (fun r => (∀ c : Dev Cert.GOutRefIdeal.nD,
      r.2.mem ((c.tc : Thread Cert.GOutRefIdeal.nD Cert.GOutRefIdeal.τ).loc Cert.GOutRefIdeal.main_arg0) = m ((c.tc : Thread Cert.GOutRefIdeal.nD Cert.GOutRefIdeal.τ).loc Cert.GOutRefIdeal.main_arg0)
      ∧ r.2.mem ((c.tc : Thread Cert.GOutRefIdeal.nD Cert.GOutRefIdeal.τ).loc Cert.GOutRefIdeal.main_arg1) = m ((c.tc : Thread Cert.GOutRefIdeal.nD Cert.GOutRefIdeal.τ).loc Cert.GOutRefIdeal.main_arg1))
      ∧ r.2.sem = fun _ => 0)

def quiescent_GBranchA [hGBranchA : Cert.GBranchA.Facts] : Prop :=
  ∀ (m : (ℓ : Loc Cert.GBranchA.nD Cert.GBranchA.τ Cert.GBranchA.sig) → Buf (Elt Bits) ℓ) (g : Dev Cert.GBranchA.nD → PrngReg), Pre_GBranchA m →
    θ_run (Cert.GBranchA.defs (F := Bits)) (onTc (τ := Cert.GBranchA.τ) (Cert.GBranchA.main (F := Bits))) ⟨m, fun _ => 0, g⟩ (fun r => (∀ c : Dev Cert.GBranchA.nD,
      r.2.mem ((c.tc : Thread Cert.GBranchA.nD Cert.GBranchA.τ).loc Cert.GBranchA.main_arg0) = m ((c.tc : Thread Cert.GBranchA.nD Cert.GBranchA.τ).loc Cert.GBranchA.main_arg0)
      ∧ r.2.mem ((c.tc : Thread Cert.GBranchA.nD Cert.GBranchA.τ).loc Cert.GBranchA.main_arg1) = m ((c.tc : Thread Cert.GBranchA.nD Cert.GBranchA.τ).loc Cert.GBranchA.main_arg1))
      ∧ r.2.sem = fun _ => 0)

def quiescent_GBranchAIdeal [hGBranchAIdeal : Cert.GBranchAIdeal.Facts] : Prop :=
  ∀ (m : (ℓ : Loc Cert.GBranchAIdeal.nD Cert.GBranchAIdeal.τ Cert.GBranchAIdeal.sig) → Buf (Elt Ideal) ℓ) (g : Dev Cert.GBranchAIdeal.nD → PrngReg), Pre_GBranchAIdeal m →
    θ_run (Cert.GBranchAIdeal.defs (F := Ideal)) (onTc (τ := Cert.GBranchAIdeal.τ) (Cert.GBranchAIdeal.main (F := Ideal))) ⟨m, fun _ => 0, g⟩ (fun r => (∀ c : Dev Cert.GBranchAIdeal.nD,
      r.2.mem ((c.tc : Thread Cert.GBranchAIdeal.nD Cert.GBranchAIdeal.τ).loc Cert.GBranchAIdeal.main_arg0) = m ((c.tc : Thread Cert.GBranchAIdeal.nD Cert.GBranchAIdeal.τ).loc Cert.GBranchAIdeal.main_arg0)
      ∧ r.2.mem ((c.tc : Thread Cert.GBranchAIdeal.nD Cert.GBranchAIdeal.τ).loc Cert.GBranchAIdeal.main_arg1) = m ((c.tc : Thread Cert.GBranchAIdeal.nD Cert.GBranchAIdeal.τ).loc Cert.GBranchAIdeal.main_arg1))
      ∧ r.2.sem = fun _ => 0)

def quiescent_GBranchARefIdeal [hGBranchARefIdeal : Cert.GBranchARefIdeal.Facts] : Prop :=
  ∀ (m : (ℓ : Loc Cert.GBranchARefIdeal.nD Cert.GBranchARefIdeal.τ Cert.GBranchARefIdeal.sig) → Buf (Elt Ideal) ℓ) (g : Dev Cert.GBranchARefIdeal.nD → PrngReg), Pre_GBranchARefIdeal m →
    θ_run (Cert.GBranchARefIdeal.defs (F := Ideal)) (onTc (τ := Cert.GBranchARefIdeal.τ) (Cert.GBranchARefIdeal.main (F := Ideal))) ⟨m, fun _ => 0, g⟩ (fun r => (∀ c : Dev Cert.GBranchARefIdeal.nD,
      r.2.mem ((c.tc : Thread Cert.GBranchARefIdeal.nD Cert.GBranchARefIdeal.τ).loc Cert.GBranchARefIdeal.main_arg0) = m ((c.tc : Thread Cert.GBranchARefIdeal.nD Cert.GBranchARefIdeal.τ).loc Cert.GBranchARefIdeal.main_arg0)
      ∧ r.2.mem ((c.tc : Thread Cert.GBranchARefIdeal.nD Cert.GBranchARefIdeal.τ).loc Cert.GBranchARefIdeal.main_arg1) = m ((c.tc : Thread Cert.GBranchARefIdeal.nD Cert.GBranchARefIdeal.τ).loc Cert.GBranchARefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3))
      ∧ r.2.sem = fun _ => 0)

def quiescent_ResidualRms [hResidualRms : Cert.ResidualRms.Facts] : Prop :=
  ∀ (m : (ℓ : Loc Cert.ResidualRms.nD Cert.ResidualRms.τ Cert.ResidualRms.sig) → Buf (Elt Bits) ℓ) (g : Dev Cert.ResidualRms.nD → PrngReg), Pre_ResidualRms m →
    θ_run (Cert.ResidualRms.defs (F := Bits)) (onTc (τ := Cert.ResidualRms.τ) (Cert.ResidualRms.main (F := Bits))) ⟨m, fun _ => 0, g⟩ (fun r => (∀ c : Dev Cert.ResidualRms.nD,
      r.2.mem ((c.tc : Thread Cert.ResidualRms.nD Cert.ResidualRms.τ).loc Cert.ResidualRms.main_arg0) = m ((c.tc : Thread Cert.ResidualRms.nD Cert.ResidualRms.τ).loc Cert.ResidualRms.main_arg0)
      ∧ r.2.mem ((c.tc : Thread Cert.ResidualRms.nD Cert.ResidualRms.τ).loc Cert.ResidualRms.main_arg1) = m ((c.tc : Thread Cert.ResidualRms.nD Cert.ResidualRms.τ).loc Cert.ResidualRms.main_arg1)
      ∧ r.2.mem ((c.tc : Thread Cert.ResidualRms.nD Cert.ResidualRms.τ).loc Cert.ResidualRms.main_arg2) = m ((c.tc : Thread Cert.ResidualRms.nD Cert.ResidualRms.τ).loc Cert.ResidualRms.main_arg2)
      ∧ r.2.mem ((c.tc : Thread Cert.ResidualRms.nD Cert.ResidualRms.τ).loc Cert.ResidualRms.main_arg3) = m ((c.tc : Thread Cert.ResidualRms.nD Cert.ResidualRms.τ).loc Cert.ResidualRms.main_arg3))
      ∧ r.2.sem = fun _ => 0)

def quiescent_ResidualRmsIdeal [hResidualRmsIdeal : Cert.ResidualRmsIdeal.Facts] : Prop :=
  ∀ (m : (ℓ : Loc Cert.ResidualRmsIdeal.nD Cert.ResidualRmsIdeal.τ Cert.ResidualRmsIdeal.sig) → Buf (Elt Ideal) ℓ) (g : Dev Cert.ResidualRmsIdeal.nD → PrngReg), Pre_ResidualRmsIdeal m →
    θ_run (Cert.ResidualRmsIdeal.defs (F := Ideal)) (onTc (τ := Cert.ResidualRmsIdeal.τ) (Cert.ResidualRmsIdeal.main (F := Ideal))) ⟨m, fun _ => 0, g⟩ (fun r => (∀ c : Dev Cert.ResidualRmsIdeal.nD,
      r.2.mem ((c.tc : Thread Cert.ResidualRmsIdeal.nD Cert.ResidualRmsIdeal.τ).loc Cert.ResidualRmsIdeal.main_arg0) = m ((c.tc : Thread Cert.ResidualRmsIdeal.nD Cert.ResidualRmsIdeal.τ).loc Cert.ResidualRmsIdeal.main_arg0)
      ∧ r.2.mem ((c.tc : Thread Cert.ResidualRmsIdeal.nD Cert.ResidualRmsIdeal.τ).loc Cert.ResidualRmsIdeal.main_arg1) = m ((c.tc : Thread Cert.ResidualRmsIdeal.nD Cert.ResidualRmsIdeal.τ).loc Cert.ResidualRmsIdeal.main_arg1)
      ∧ r.2.mem ((c.tc : Thread Cert.ResidualRmsIdeal.nD Cert.ResidualRmsIdeal.τ).loc Cert.ResidualRmsIdeal.main_arg2) = m ((c.tc : Thread Cert.ResidualRmsIdeal.nD Cert.ResidualRmsIdeal.τ).loc Cert.ResidualRmsIdeal.main_arg2)
      ∧ r.2.mem ((c.tc : Thread Cert.ResidualRmsIdeal.nD Cert.ResidualRmsIdeal.τ).loc Cert.ResidualRmsIdeal.main_arg3) = m ((c.tc : Thread Cert.ResidualRmsIdeal.nD Cert.ResidualRmsIdeal.τ).loc Cert.ResidualRmsIdeal.main_arg3))
      ∧ r.2.sem = fun _ => 0)

def quiescent_ResidualRmsRefIdeal [hResidualRmsRefIdeal : Cert.ResidualRmsRefIdeal.Facts] : Prop :=
  ∀ (m : (ℓ : Loc Cert.ResidualRmsRefIdeal.nD Cert.ResidualRmsRefIdeal.τ Cert.ResidualRmsRefIdeal.sig) → Buf (Elt Ideal) ℓ) (g : Dev Cert.ResidualRmsRefIdeal.nD → PrngReg), Pre_ResidualRmsRefIdeal m →
    θ_run (Cert.ResidualRmsRefIdeal.defs (F := Ideal)) (onTc (τ := Cert.ResidualRmsRefIdeal.τ) (Cert.ResidualRmsRefIdeal.main (F := Ideal))) ⟨m, fun _ => 0, g⟩ (fun r => (∀ c : Dev Cert.ResidualRmsRefIdeal.nD,
      r.2.mem ((c.tc : Thread Cert.ResidualRmsRefIdeal.nD Cert.ResidualRmsRefIdeal.τ).loc Cert.ResidualRmsRefIdeal.main_arg0) = m ((c.tc : Thread Cert.ResidualRmsRefIdeal.nD Cert.ResidualRmsRefIdeal.τ).loc Cert.ResidualRmsRefIdeal.main_arg0)
      ∧ r.2.mem ((c.tc : Thread Cert.ResidualRmsRefIdeal.nD Cert.ResidualRmsRefIdeal.τ).loc Cert.ResidualRmsRefIdeal.main_arg1) = m ((c.tc : Thread Cert.ResidualRmsRefIdeal.nD Cert.ResidualRmsRefIdeal.τ).loc Cert.ResidualRmsRefIdeal.main_arg1)
      ∧ r.2.mem ((c.tc : Thread Cert.ResidualRmsRefIdeal.nD Cert.ResidualRmsRefIdeal.τ).loc Cert.ResidualRmsRefIdeal.main_arg2) = m ((c.tc : Thread Cert.ResidualRmsRefIdeal.nD Cert.ResidualRmsRefIdeal.τ).loc Cert.ResidualRmsRefIdeal.main_arg2)
      ∧ r.2.mem ((c.tc : Thread Cert.ResidualRmsRefIdeal.nD Cert.ResidualRmsRefIdeal.τ).loc Cert.ResidualRmsRefIdeal.main_arg3) = m ((c.tc : Thread Cert.ResidualRmsRefIdeal.nD Cert.ResidualRmsRefIdeal.τ).loc Cert.ResidualRmsRefIdeal.main_arg3))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4)
      ∧ r.2.mem ((c.tc : Thread Cert.MergeFwd.nD Cert.MergeFwd.τ).loc Cert.MergeFwd.main_arg5) = m ((c.tc : Thread Cert.MergeFwd.nD Cert.MergeFwd.τ).loc Cert.MergeFwd.main_arg5)
      ∧ r.2.mem ((c.tc : Thread Cert.MergeFwd.nD Cert.MergeFwd.τ).loc Cert.MergeFwd.main_arg6) = m ((c.tc : Thread Cert.MergeFwd.nD Cert.MergeFwd.τ).loc Cert.MergeFwd.main_arg6))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
      ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
      ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ r.2.sem = fun _ => 0)

def quiescent_MergeFwdRefIdeal [hMergeFwdRefIdeal : Cert.MergeFwdRefIdeal.Facts] : Prop :=
  ∀ (m : (ℓ : Loc Cert.MergeFwdRefIdeal.nD Cert.MergeFwdRefIdeal.τ Cert.MergeFwdRefIdeal.sig) → Buf (Elt Ideal) ℓ) (g : Dev Cert.MergeFwdRefIdeal.nD → PrngReg), Pre_MergeFwdRefIdeal m →
    θ_run (Cert.MergeFwdRefIdeal.defs (F := Ideal)) (onTc (τ := Cert.MergeFwdRefIdeal.τ) (Cert.MergeFwdRefIdeal.main (F := Ideal))) ⟨m, fun _ => 0, g⟩ (fun r => (∀ c : Dev Cert.MergeFwdRefIdeal.nD,
      r.2.mem ((c.tc : Thread Cert.MergeFwdRefIdeal.nD Cert.MergeFwdRefIdeal.τ).loc Cert.MergeFwdRefIdeal.main_arg0) = m ((c.tc : Thread Cert.MergeFwdRefIdeal.nD Cert.MergeFwdRefIdeal.τ).loc Cert.MergeFwdRefIdeal.main_arg0)
      ∧ r.2.mem ((c.tc : Thread Cert.MergeFwdRefIdeal.nD Cert.MergeFwdRefIdeal.τ).loc Cert.MergeFwdRefIdeal.main_arg1) = m ((c.tc : Thread Cert.MergeFwdRefIdeal.nD Cert.MergeFwdRefIdeal.τ).loc Cert.MergeFwdRefIdeal.main_arg1)
      ∧ r.2.mem ((c.tc : Thread Cert.MergeFwdRefIdeal.nD Cert.MergeFwdRefIdeal.τ).loc Cert.MergeFwdRefIdeal.main_arg2) = m ((c.tc : Thread Cert.MergeFwdRefIdeal.nD Cert.MergeFwdRefIdeal.τ).loc Cert.MergeFwdRefIdeal.main_arg2)
      ∧ r.2.mem ((c.tc : Thread Cert.MergeFwdRefIdeal.nD Cert.MergeFwdRefIdeal.τ).loc Cert.MergeFwdRefIdeal.main_arg3) = m ((c.tc : Thread Cert.MergeFwdRefIdeal.nD Cert.MergeFwdRefIdeal.τ).loc Cert.MergeFwdRefIdeal.main_arg3)
      ∧ r.2.mem ((c.tc : Thread Cert.MergeFwdRefIdeal.nD Cert.MergeFwdRefIdeal.τ).loc Cert.MergeFwdRefIdeal.main_arg4) = m ((c.tc : Thread Cert.MergeFwdRefIdeal.nD Cert.MergeFwdRefIdeal.τ).loc Cert.MergeFwdRefIdeal.main_arg4)
      ∧ r.2.mem ((c.tc : Thread Cert.MergeFwdRefIdeal.nD Cert.MergeFwdRefIdeal.τ).loc Cert.MergeFwdRefIdeal.main_arg5) = m ((c.tc : Thread Cert.MergeFwdRefIdeal.nD Cert.MergeFwdRefIdeal.τ).loc Cert.MergeFwdRefIdeal.main_arg5)
      ∧ r.2.mem ((c.tc : Thread Cert.MergeFwdRefIdeal.nD Cert.MergeFwdRefIdeal.τ).loc Cert.MergeFwdRefIdeal.main_arg6) = m ((c.tc : Thread Cert.MergeFwdRefIdeal.nD Cert.MergeFwdRefIdeal.τ).loc Cert.MergeFwdRefIdeal.main_arg6))
      ∧ r.2.sem = fun _ => 0)

def quiescent_CBwd [hCBwd : Cert.CBwd.Facts] : Prop :=
  ∀ (m : (ℓ : Loc Cert.CBwd.nD Cert.CBwd.τ Cert.CBwd.sig) → Buf (Elt Bits) ℓ) (g : Dev Cert.CBwd.nD → PrngReg), Pre_CBwd m →
    θ_run (Cert.CBwd.defs (F := Bits)) (onTc (τ := Cert.CBwd.τ) (Cert.CBwd.main (F := Bits))) ⟨m, fun _ => 0, g⟩ (fun r => (∀ c : Dev Cert.CBwd.nD,
      r.2.mem ((c.tc : Thread Cert.CBwd.nD Cert.CBwd.τ).loc Cert.CBwd.main_arg0) = m ((c.tc : Thread Cert.CBwd.nD Cert.CBwd.τ).loc Cert.CBwd.main_arg0)
      ∧ r.2.mem ((c.tc : Thread Cert.CBwd.nD Cert.CBwd.τ).loc Cert.CBwd.main_arg1) = m ((c.tc : Thread Cert.CBwd.nD Cert.CBwd.τ).loc Cert.CBwd.main_arg1)
      ∧ r.2.mem ((c.tc : Thread Cert.CBwd.nD Cert.CBwd.τ).loc Cert.CBwd.main_arg2) = m ((c.tc : Thread Cert.CBwd.nD Cert.CBwd.τ).loc Cert.CBwd.main_arg2)
      ∧ r.2.mem ((c.tc : Thread Cert.CBwd.nD Cert.CBwd.τ).loc Cert.CBwd.main_arg3) = m ((c.tc : Thread Cert.CBwd.nD Cert.CBwd.τ).loc Cert.CBwd.main_arg3)
      ∧ r.2.mem ((c.tc : Thread Cert.CBwd.nD Cert.CBwd.τ).loc Cert.CBwd.main_arg4) = m ((c.tc : Thread Cert.CBwd.nD Cert.CBwd.τ).loc Cert.CBwd.main_arg4))
      ∧ r.2.sem = fun _ => 0)

def quiescent_CBwdIdeal [hCBwdIdeal : Cert.CBwdIdeal.Facts] : Prop :=
  ∀ (m : (ℓ : Loc Cert.CBwdIdeal.nD Cert.CBwdIdeal.τ Cert.CBwdIdeal.sig) → Buf (Elt Ideal) ℓ) (g : Dev Cert.CBwdIdeal.nD → PrngReg), Pre_CBwdIdeal m →
    θ_run (Cert.CBwdIdeal.defs (F := Ideal)) (onTc (τ := Cert.CBwdIdeal.τ) (Cert.CBwdIdeal.main (F := Ideal))) ⟨m, fun _ => 0, g⟩ (fun r => (∀ c : Dev Cert.CBwdIdeal.nD,
      r.2.mem ((c.tc : Thread Cert.CBwdIdeal.nD Cert.CBwdIdeal.τ).loc Cert.CBwdIdeal.main_arg0) = m ((c.tc : Thread Cert.CBwdIdeal.nD Cert.CBwdIdeal.τ).loc Cert.CBwdIdeal.main_arg0)
      ∧ r.2.mem ((c.tc : Thread Cert.CBwdIdeal.nD Cert.CBwdIdeal.τ).loc Cert.CBwdIdeal.main_arg1) = m ((c.tc : Thread Cert.CBwdIdeal.nD Cert.CBwdIdeal.τ).loc Cert.CBwdIdeal.main_arg1)
      ∧ r.2.mem ((c.tc : Thread Cert.CBwdIdeal.nD Cert.CBwdIdeal.τ).loc Cert.CBwdIdeal.main_arg2) = m ((c.tc : Thread Cert.CBwdIdeal.nD Cert.CBwdIdeal.τ).loc Cert.CBwdIdeal.main_arg2)
      ∧ r.2.mem ((c.tc : Thread Cert.CBwdIdeal.nD Cert.CBwdIdeal.τ).loc Cert.CBwdIdeal.main_arg3) = m ((c.tc : Thread Cert.CBwdIdeal.nD Cert.CBwdIdeal.τ).loc Cert.CBwdIdeal.main_arg3)
      ∧ r.2.mem ((c.tc : Thread Cert.CBwdIdeal.nD Cert.CBwdIdeal.τ).loc Cert.CBwdIdeal.main_arg4) = m ((c.tc : Thread Cert.CBwdIdeal.nD Cert.CBwdIdeal.τ).loc Cert.CBwdIdeal.main_arg4))
      ∧ r.2.sem = fun _ => 0)

def quiescent_CBwdIdeal_pre_finite [hCBwdIdeal : Cert.CBwdIdeal.Facts] [hPre_finite : Cert.Pre_finite.Facts] : Prop :=
  ∀ (m : (ℓ : Loc Cert.CBwdIdeal.nD Cert.CBwdIdeal.τ Cert.CBwdIdeal.sig) → Buf (Elt Ideal) ℓ) (g : Dev Cert.CBwdIdeal.nD → PrngReg), Pre_CBwdIdeal_finite m →
    θ_run (Cert.CBwdIdeal.defs (F := Ideal)) (onTc (τ := Cert.CBwdIdeal.τ) (Cert.CBwdIdeal.main (F := Ideal))) ⟨m, fun _ => 0, g⟩ (fun r => (∀ c : Dev Cert.CBwdIdeal.nD,
      r.2.mem ((c.tc : Thread Cert.CBwdIdeal.nD Cert.CBwdIdeal.τ).loc Cert.CBwdIdeal.main_arg0) = m ((c.tc : Thread Cert.CBwdIdeal.nD Cert.CBwdIdeal.τ).loc Cert.CBwdIdeal.main_arg0)
      ∧ r.2.mem ((c.tc : Thread Cert.CBwdIdeal.nD Cert.CBwdIdeal.τ).loc Cert.CBwdIdeal.main_arg1) = m ((c.tc : Thread Cert.CBwdIdeal.nD Cert.CBwdIdeal.τ).loc Cert.CBwdIdeal.main_arg1)
      ∧ r.2.mem ((c.tc : Thread Cert.CBwdIdeal.nD Cert.CBwdIdeal.τ).loc Cert.CBwdIdeal.main_arg2) = m ((c.tc : Thread Cert.CBwdIdeal.nD Cert.CBwdIdeal.τ).loc Cert.CBwdIdeal.main_arg2)
      ∧ r.2.mem ((c.tc : Thread Cert.CBwdIdeal.nD Cert.CBwdIdeal.τ).loc Cert.CBwdIdeal.main_arg3) = m ((c.tc : Thread Cert.CBwdIdeal.nD Cert.CBwdIdeal.τ).loc Cert.CBwdIdeal.main_arg3)
      ∧ r.2.mem ((c.tc : Thread Cert.CBwdIdeal.nD Cert.CBwdIdeal.τ).loc Cert.CBwdIdeal.main_arg4) = m ((c.tc : Thread Cert.CBwdIdeal.nD Cert.CBwdIdeal.τ).loc Cert.CBwdIdeal.main_arg4))
      ∧ r.2.sem = fun _ => 0)

def quiescent_CBwdRefIdeal [hCBwdRefIdeal : Cert.CBwdRefIdeal.Facts] : Prop :=
  ∀ (m : (ℓ : Loc Cert.CBwdRefIdeal.nD Cert.CBwdRefIdeal.τ Cert.CBwdRefIdeal.sig) → Buf (Elt Ideal) ℓ) (g : Dev Cert.CBwdRefIdeal.nD → PrngReg), Pre_CBwdRefIdeal m →
    θ_run (Cert.CBwdRefIdeal.defs (F := Ideal)) (onTc (τ := Cert.CBwdRefIdeal.τ) (Cert.CBwdRefIdeal.main (F := Ideal))) ⟨m, fun _ => 0, g⟩ (fun r => (∀ c : Dev Cert.CBwdRefIdeal.nD,
      r.2.mem ((c.tc : Thread Cert.CBwdRefIdeal.nD Cert.CBwdRefIdeal.τ).loc Cert.CBwdRefIdeal.main_arg0) = m ((c.tc : Thread Cert.CBwdRefIdeal.nD Cert.CBwdRefIdeal.τ).loc Cert.CBwdRefIdeal.main_arg0)
      ∧ r.2.mem ((c.tc : Thread Cert.CBwdRefIdeal.nD Cert.CBwdRefIdeal.τ).loc Cert.CBwdRefIdeal.main_arg1) = m ((c.tc : Thread Cert.CBwdRefIdeal.nD Cert.CBwdRefIdeal.τ).loc Cert.CBwdRefIdeal.main_arg1)
      ∧ r.2.mem ((c.tc : Thread Cert.CBwdRefIdeal.nD Cert.CBwdRefIdeal.τ).loc Cert.CBwdRefIdeal.main_arg2) = m ((c.tc : Thread Cert.CBwdRefIdeal.nD Cert.CBwdRefIdeal.τ).loc Cert.CBwdRefIdeal.main_arg2)
      ∧ r.2.mem ((c.tc : Thread Cert.CBwdRefIdeal.nD Cert.CBwdRefIdeal.τ).loc Cert.CBwdRefIdeal.main_arg3) = m ((c.tc : Thread Cert.CBwdRefIdeal.nD Cert.CBwdRefIdeal.τ).loc Cert.CBwdRefIdeal.main_arg3)
      ∧ r.2.mem ((c.tc : Thread Cert.CBwdRefIdeal.nD Cert.CBwdRefIdeal.τ).loc Cert.CBwdRefIdeal.main_arg4) = m ((c.tc : Thread Cert.CBwdRefIdeal.nD Cert.CBwdRefIdeal.τ).loc Cert.CBwdRefIdeal.main_arg4))
      ∧ r.2.sem = fun _ => 0)

def quiescent_CBwdRefIdeal_pre_finite [hCBwdRefIdeal : Cert.CBwdRefIdeal.Facts] [hPre_finite : Cert.Pre_finite.Facts] : Prop :=
  ∀ (m : (ℓ : Loc Cert.CBwdRefIdeal.nD Cert.CBwdRefIdeal.τ Cert.CBwdRefIdeal.sig) → Buf (Elt Ideal) ℓ) (g : Dev Cert.CBwdRefIdeal.nD → PrngReg), Pre_CBwdRefIdeal_finite m →
    θ_run (Cert.CBwdRefIdeal.defs (F := Ideal)) (onTc (τ := Cert.CBwdRefIdeal.τ) (Cert.CBwdRefIdeal.main (F := Ideal))) ⟨m, fun _ => 0, g⟩ (fun r => (∀ c : Dev Cert.CBwdRefIdeal.nD,
      r.2.mem ((c.tc : Thread Cert.CBwdRefIdeal.nD Cert.CBwdRefIdeal.τ).loc Cert.CBwdRefIdeal.main_arg0) = m ((c.tc : Thread Cert.CBwdRefIdeal.nD Cert.CBwdRefIdeal.τ).loc Cert.CBwdRefIdeal.main_arg0)
      ∧ r.2.mem ((c.tc : Thread Cert.CBwdRefIdeal.nD Cert.CBwdRefIdeal.τ).loc Cert.CBwdRefIdeal.main_arg1) = m ((c.tc : Thread Cert.CBwdRefIdeal.nD Cert.CBwdRefIdeal.τ).loc Cert.CBwdRefIdeal.main_arg1)
      ∧ r.2.mem ((c.tc : Thread Cert.CBwdRefIdeal.nD Cert.CBwdRefIdeal.τ).loc Cert.CBwdRefIdeal.main_arg2) = m ((c.tc : Thread Cert.CBwdRefIdeal.nD Cert.CBwdRefIdeal.τ).loc Cert.CBwdRefIdeal.main_arg2)
      ∧ r.2.mem ((c.tc : Thread Cert.CBwdRefIdeal.nD Cert.CBwdRefIdeal.τ).loc Cert.CBwdRefIdeal.main_arg3) = m ((c.tc : Thread Cert.CBwdRefIdeal.nD Cert.CBwdRefIdeal.τ).loc Cert.CBwdRefIdeal.main_arg3)
      ∧ r.2.mem ((c.tc : Thread Cert.CBwdRefIdeal.nD Cert.CBwdRefIdeal.τ).loc Cert.CBwdRefIdeal.main_arg4) = m ((c.tc : Thread Cert.CBwdRefIdeal.nD Cert.CBwdRefIdeal.τ).loc Cert.CBwdRefIdeal.main_arg4))
      ∧ r.2.sem = fun _ => 0)

def quiescent_GBranchB [hGBranchB : Cert.GBranchB.Facts] : Prop :=
  ∀ (m : (ℓ : Loc Cert.GBranchB.nD Cert.GBranchB.τ Cert.GBranchB.sig) → Buf (Elt Bits) ℓ) (g : Dev Cert.GBranchB.nD → PrngReg), Pre_GBranchB m →
    θ_run (Cert.GBranchB.defs (F := Bits)) (onTc (τ := Cert.GBranchB.τ) (Cert.GBranchB.main (F := Bits))) ⟨m, fun _ => 0, g⟩ (fun r => (∀ c : Dev Cert.GBranchB.nD,
      r.2.mem ((c.tc : Thread Cert.GBranchB.nD Cert.GBranchB.τ).loc Cert.GBranchB.main_arg0) = m ((c.tc : Thread Cert.GBranchB.nD Cert.GBranchB.τ).loc Cert.GBranchB.main_arg0)
      ∧ r.2.mem ((c.tc : Thread Cert.GBranchB.nD Cert.GBranchB.τ).loc Cert.GBranchB.main_arg1) = m ((c.tc : Thread Cert.GBranchB.nD Cert.GBranchB.τ).loc Cert.GBranchB.main_arg1))
      ∧ r.2.sem = fun _ => 0)

def quiescent_GBranchBIdeal [hGBranchBIdeal : Cert.GBranchBIdeal.Facts] : Prop :=
  ∀ (m : (ℓ : Loc Cert.GBranchBIdeal.nD Cert.GBranchBIdeal.τ Cert.GBranchBIdeal.sig) → Buf (Elt Ideal) ℓ) (g : Dev Cert.GBranchBIdeal.nD → PrngReg), Pre_GBranchBIdeal m →
    θ_run (Cert.GBranchBIdeal.defs (F := Ideal)) (onTc (τ := Cert.GBranchBIdeal.τ) (Cert.GBranchBIdeal.main (F := Ideal))) ⟨m, fun _ => 0, g⟩ (fun r => (∀ c : Dev Cert.GBranchBIdeal.nD,
      r.2.mem ((c.tc : Thread Cert.GBranchBIdeal.nD Cert.GBranchBIdeal.τ).loc Cert.GBranchBIdeal.main_arg0) = m ((c.tc : Thread Cert.GBranchBIdeal.nD Cert.GBranchBIdeal.τ).loc Cert.GBranchBIdeal.main_arg0)
      ∧ r.2.mem ((c.tc : Thread Cert.GBranchBIdeal.nD Cert.GBranchBIdeal.τ).loc Cert.GBranchBIdeal.main_arg1) = m ((c.tc : Thread Cert.GBranchBIdeal.nD Cert.GBranchBIdeal.τ).loc Cert.GBranchBIdeal.main_arg1))
      ∧ r.2.sem = fun _ => 0)

def quiescent_GBranchBRefIdeal [hGBranchBRefIdeal : Cert.GBranchBRefIdeal.Facts] : Prop :=
  ∀ (m : (ℓ : Loc Cert.GBranchBRefIdeal.nD Cert.GBranchBRefIdeal.τ Cert.GBranchBRefIdeal.sig) → Buf (Elt Ideal) ℓ) (g : Dev Cert.GBranchBRefIdeal.nD → PrngReg), Pre_GBranchBRefIdeal m →
    θ_run (Cert.GBranchBRefIdeal.defs (F := Ideal)) (onTc (τ := Cert.GBranchBRefIdeal.τ) (Cert.GBranchBRefIdeal.main (F := Ideal))) ⟨m, fun _ => 0, g⟩ (fun r => (∀ c : Dev Cert.GBranchBRefIdeal.nD,
      r.2.mem ((c.tc : Thread Cert.GBranchBRefIdeal.nD Cert.GBranchBRefIdeal.τ).loc Cert.GBranchBRefIdeal.main_arg0) = m ((c.tc : Thread Cert.GBranchBRefIdeal.nD Cert.GBranchBRefIdeal.τ).loc Cert.GBranchBRefIdeal.main_arg0)
      ∧ r.2.mem ((c.tc : Thread Cert.GBranchBRefIdeal.nD Cert.GBranchBRefIdeal.τ).loc Cert.GBranchBRefIdeal.main_arg1) = m ((c.tc : Thread Cert.GBranchBRefIdeal.nD Cert.GBranchBRefIdeal.τ).loc Cert.GBranchBRefIdeal.main_arg1))
      ∧ r.2.sem = fun _ => 0)

def quiescent_GKv [hGKv : Cert.GKv.Facts] : Prop :=
  ∀ (m : (ℓ : Loc Cert.GKv.nD Cert.GKv.τ Cert.GKv.sig) → Buf (Elt Bits) ℓ) (g : Dev Cert.GKv.nD → PrngReg), Pre_GKv m →
    θ_run (Cert.GKv.defs (F := Bits)) (onTc (τ := Cert.GKv.τ) (Cert.GKv.main (F := Bits))) ⟨m, fun _ => 0, g⟩ (fun r => (∀ c : Dev Cert.GKv.nD,
      r.2.mem ((c.tc : Thread Cert.GKv.nD Cert.GKv.τ).loc Cert.GKv.main_arg0) = m ((c.tc : Thread Cert.GKv.nD Cert.GKv.τ).loc Cert.GKv.main_arg0)
      ∧ r.2.mem ((c.tc : Thread Cert.GKv.nD Cert.GKv.τ).loc Cert.GKv.main_arg1) = m ((c.tc : Thread Cert.GKv.nD Cert.GKv.τ).loc Cert.GKv.main_arg1))
      ∧ r.2.sem = fun _ => 0)

def quiescent_GKvIdeal [hGKvIdeal : Cert.GKvIdeal.Facts] : Prop :=
  ∀ (m : (ℓ : Loc Cert.GKvIdeal.nD Cert.GKvIdeal.τ Cert.GKvIdeal.sig) → Buf (Elt Ideal) ℓ) (g : Dev Cert.GKvIdeal.nD → PrngReg), Pre_GKvIdeal m →
    θ_run (Cert.GKvIdeal.defs (F := Ideal)) (onTc (τ := Cert.GKvIdeal.τ) (Cert.GKvIdeal.main (F := Ideal))) ⟨m, fun _ => 0, g⟩ (fun r => (∀ c : Dev Cert.GKvIdeal.nD,
      r.2.mem ((c.tc : Thread Cert.GKvIdeal.nD Cert.GKvIdeal.τ).loc Cert.GKvIdeal.main_arg0) = m ((c.tc : Thread Cert.GKvIdeal.nD Cert.GKvIdeal.τ).loc Cert.GKvIdeal.main_arg0)
      ∧ r.2.mem ((c.tc : Thread Cert.GKvIdeal.nD Cert.GKvIdeal.τ).loc Cert.GKvIdeal.main_arg1) = m ((c.tc : Thread Cert.GKvIdeal.nD Cert.GKvIdeal.τ).loc Cert.GKvIdeal.main_arg1))
      ∧ r.2.sem = fun _ => 0)

def quiescent_GKvRefIdeal [hGKvRefIdeal : Cert.GKvRefIdeal.Facts] : Prop :=
  ∀ (m : (ℓ : Loc Cert.GKvRefIdeal.nD Cert.GKvRefIdeal.τ Cert.GKvRefIdeal.sig) → Buf (Elt Ideal) ℓ) (g : Dev Cert.GKvRefIdeal.nD → PrngReg), Pre_GKvRefIdeal m →
    θ_run (Cert.GKvRefIdeal.defs (F := Ideal)) (onTc (τ := Cert.GKvRefIdeal.τ) (Cert.GKvRefIdeal.main (F := Ideal))) ⟨m, fun _ => 0, g⟩ (fun r => (∀ c : Dev Cert.GKvRefIdeal.nD,
      r.2.mem ((c.tc : Thread Cert.GKvRefIdeal.nD Cert.GKvRefIdeal.τ).loc Cert.GKvRefIdeal.main_arg0) = m ((c.tc : Thread Cert.GKvRefIdeal.nD Cert.GKvRefIdeal.τ).loc Cert.GKvRefIdeal.main_arg0)
      ∧ r.2.mem ((c.tc : Thread Cert.GKvRefIdeal.nD Cert.GKvRefIdeal.τ).loc Cert.GKvRefIdeal.main_arg1) = m ((c.tc : Thread Cert.GKvRefIdeal.nD Cert.GKvRefIdeal.τ).loc Cert.GKvRefIdeal.main_arg1))
      ∧ r.2.sem = fun _ => 0)

def quiescent_DMemH [hDMemH : Cert.DMemH.Facts] : Prop :=
  ∀ (m : (ℓ : Loc Cert.DMemH.nD Cert.DMemH.τ Cert.DMemH.sig) → Buf (Elt Bits) ℓ) (g : Dev Cert.DMemH.nD → PrngReg), Pre_DMemH m →
    θ_run (Cert.DMemH.defs (F := Bits)) (onTc (τ := Cert.DMemH.τ) (Cert.DMemH.main (F := Bits))) ⟨m, fun _ => 0, g⟩ (fun r => (∀ c : Dev Cert.DMemH.nD,
      r.2.mem ((c.tc : Thread Cert.DMemH.nD Cert.DMemH.τ).loc Cert.DMemH.main_arg0) = m ((c.tc : Thread Cert.DMemH.nD Cert.DMemH.τ).loc Cert.DMemH.main_arg0)
      ∧ r.2.mem ((c.tc : Thread Cert.DMemH.nD Cert.DMemH.τ).loc Cert.DMemH.main_arg1) = m ((c.tc : Thread Cert.DMemH.nD Cert.DMemH.τ).loc Cert.DMemH.main_arg1))
      ∧ r.2.sem = fun _ => 0)

def quiescent_DMemHIdeal [hDMemHIdeal : Cert.DMemHIdeal.Facts] : Prop :=
  ∀ (m : (ℓ : Loc Cert.DMemHIdeal.nD Cert.DMemHIdeal.τ Cert.DMemHIdeal.sig) → Buf (Elt Ideal) ℓ) (g : Dev Cert.DMemHIdeal.nD → PrngReg), Pre_DMemHIdeal m →
    θ_run (Cert.DMemHIdeal.defs (F := Ideal)) (onTc (τ := Cert.DMemHIdeal.τ) (Cert.DMemHIdeal.main (F := Ideal))) ⟨m, fun _ => 0, g⟩ (fun r => (∀ c : Dev Cert.DMemHIdeal.nD,
      r.2.mem ((c.tc : Thread Cert.DMemHIdeal.nD Cert.DMemHIdeal.τ).loc Cert.DMemHIdeal.main_arg0) = m ((c.tc : Thread Cert.DMemHIdeal.nD Cert.DMemHIdeal.τ).loc Cert.DMemHIdeal.main_arg0)
      ∧ r.2.mem ((c.tc : Thread Cert.DMemHIdeal.nD Cert.DMemHIdeal.τ).loc Cert.DMemHIdeal.main_arg1) = m ((c.tc : Thread Cert.DMemHIdeal.nD Cert.DMemHIdeal.τ).loc Cert.DMemHIdeal.main_arg1))
      ∧ r.2.sem = fun _ => 0)

def quiescent_DMemHRefIdeal [hDMemHRefIdeal : Cert.DMemHRefIdeal.Facts] : Prop :=
  ∀ (m : (ℓ : Loc Cert.DMemHRefIdeal.nD Cert.DMemHRefIdeal.τ Cert.DMemHRefIdeal.sig) → Buf (Elt Ideal) ℓ) (g : Dev Cert.DMemHRefIdeal.nD → PrngReg), Pre_DMemHRefIdeal m →
    θ_run (Cert.DMemHRefIdeal.defs (F := Ideal)) (onTc (τ := Cert.DMemHRefIdeal.τ) (Cert.DMemHRefIdeal.main (F := Ideal))) ⟨m, fun _ => 0, g⟩ (fun r => (∀ c : Dev Cert.DMemHRefIdeal.nD,
      r.2.mem ((c.tc : Thread Cert.DMemHRefIdeal.nD Cert.DMemHRefIdeal.τ).loc Cert.DMemHRefIdeal.main_arg0) = m ((c.tc : Thread Cert.DMemHRefIdeal.nD Cert.DMemHRefIdeal.τ).loc Cert.DMemHRefIdeal.main_arg0)
      ∧ r.2.mem ((c.tc : Thread Cert.DMemHRefIdeal.nD Cert.DMemHRefIdeal.τ).loc Cert.DMemHRefIdeal.main_arg1) = m ((c.tc : Thread Cert.DMemHRefIdeal.nD Cert.DMemHRefIdeal.τ).loc Cert.DMemHRefIdeal.main_arg1))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_KV [hKV : Cert.KV.Facts] : Prop :=
  ∀ (m : (ℓ : Loc Cert.KV.nD Cert.KV.τ Cert.KV.sig) → Buf (Elt Bits) ℓ) (g : Dev Cert.KV.nD → PrngReg), Pre_KV m →
    θ_run (Cert.KV.defs (F := Bits)) (onTc (τ := Cert.KV.τ) (Cert.KV.main (F := Bits))) ⟨m, fun _ => 0, g⟩ (fun r => (∀ c : Dev Cert.KV.nD,
      r.2.mem ((c.tc : Thread Cert.KV.nD Cert.KV.τ).loc Cert.KV.main_arg0) = m ((c.tc : Thread Cert.KV.nD Cert.KV.τ).loc Cert.KV.main_arg0)
      ∧ r.2.mem ((c.tc : Thread Cert.KV.nD Cert.KV.τ).loc Cert.KV.main_arg1) = m ((c.tc : Thread Cert.KV.nD Cert.KV.τ).loc Cert.KV.main_arg1))
      ∧ r.2.sem = fun _ => 0)

def quiescent_KVIdeal [hKVIdeal : Cert.KVIdeal.Facts] : Prop :=
  ∀ (m : (ℓ : Loc Cert.KVIdeal.nD Cert.KVIdeal.τ Cert.KVIdeal.sig) → Buf (Elt Ideal) ℓ) (g : Dev Cert.KVIdeal.nD → PrngReg), Pre_KVIdeal m →
    θ_run (Cert.KVIdeal.defs (F := Ideal)) (onTc (τ := Cert.KVIdeal.τ) (Cert.KVIdeal.main (F := Ideal))) ⟨m, fun _ => 0, g⟩ (fun r => (∀ c : Dev Cert.KVIdeal.nD,
      r.2.mem ((c.tc : Thread Cert.KVIdeal.nD Cert.KVIdeal.τ).loc Cert.KVIdeal.main_arg0) = m ((c.tc : Thread Cert.KVIdeal.nD Cert.KVIdeal.τ).loc Cert.KVIdeal.main_arg0)
      ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ r.2.sem = fun _ => 0)

def quiescent_KVRefIdeal [hKVRefIdeal : Cert.KVRefIdeal.Facts] : Prop :=
  ∀ (m : (ℓ : Loc Cert.KVRefIdeal.nD Cert.KVRefIdeal.τ Cert.KVRefIdeal.sig) → Buf (Elt Ideal) ℓ) (g : Dev Cert.KVRefIdeal.nD → PrngReg), Pre_KVRefIdeal m →
    θ_run (Cert.KVRefIdeal.defs (F := Ideal)) (onTc (τ := Cert.KVRefIdeal.τ) (Cert.KVRefIdeal.main (F := Ideal))) ⟨m, fun _ => 0, g⟩ (fun r => (∀ c : Dev Cert.KVRefIdeal.nD,
      r.2.mem ((c.tc : Thread Cert.KVRefIdeal.nD Cert.KVRefIdeal.τ).loc Cert.KVRefIdeal.main_arg0) = m ((c.tc : Thread Cert.KVRefIdeal.nD Cert.KVRefIdeal.τ).loc Cert.KVRefIdeal.main_arg0)
      ∧ r.2.mem ((c.tc : Thread Cert.KVRefIdeal.nD Cert.KVRefIdeal.τ).loc Cert.KVRefIdeal.main_arg1) = m ((c.tc : Thread Cert.KVRefIdeal.nD Cert.KVRefIdeal.τ).loc Cert.KVRefIdeal.main_arg1))
      ∧ r.2.sem = fun _ => 0)

def quiescent_AFwd [hAFwd : Cert.AFwd.Facts] : Prop :=
  ∀ (m : (ℓ : Loc Cert.AFwd.nD Cert.AFwd.τ Cert.AFwd.sig) → Buf (Elt Bits) ℓ) (g : Dev Cert.AFwd.nD → PrngReg), Pre_AFwd m →
    θ_run (Cert.AFwd.defs (F := Bits)) (onTc (τ := Cert.AFwd.τ) (Cert.AFwd.main (F := Bits))) ⟨m, fun _ => 0, g⟩ (fun r => (∀ c : Dev Cert.AFwd.nD,
      r.2.mem ((c.tc : Thread Cert.AFwd.nD Cert.AFwd.τ).loc Cert.AFwd.main_arg0) = m ((c.tc : Thread Cert.AFwd.nD Cert.AFwd.τ).loc Cert.AFwd.main_arg0)
      ∧ r.2.mem ((c.tc : Thread Cert.AFwd.nD Cert.AFwd.τ).loc Cert.AFwd.main_arg1) = m ((c.tc : Thread Cert.AFwd.nD Cert.AFwd.τ).loc Cert.AFwd.main_arg1)
      ∧ r.2.mem ((c.tc : Thread Cert.AFwd.nD Cert.AFwd.τ).loc Cert.AFwd.main_arg2) = m ((c.tc : Thread Cert.AFwd.nD Cert.AFwd.τ).loc Cert.AFwd.main_arg2)
      ∧ r.2.mem ((c.tc : Thread Cert.AFwd.nD Cert.AFwd.τ).loc Cert.AFwd.main_arg3) = m ((c.tc : Thread Cert.AFwd.nD Cert.AFwd.τ).loc Cert.AFwd.main_arg3))
      ∧ r.2.sem = fun _ => 0)

def quiescent_AFwdIdeal [hAFwdIdeal : Cert.AFwdIdeal.Facts] : Prop :=
  ∀ (m : (ℓ : Loc Cert.AFwdIdeal.nD Cert.AFwdIdeal.τ Cert.AFwdIdeal.sig) → Buf (Elt Ideal) ℓ) (g : Dev Cert.AFwdIdeal.nD → PrngReg), Pre_AFwdIdeal m →
    θ_run (Cert.AFwdIdeal.defs (F := Ideal)) (onTc (τ := Cert.AFwdIdeal.τ) (Cert.AFwdIdeal.main (F := Ideal))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3))
      ∧ r.2.sem = fun _ => 0)

def quiescent_AFwdRefIdeal [hAFwdRefIdeal : Cert.AFwdRefIdeal.Facts] : Prop :=
  ∀ (m : (ℓ : Loc Cert.AFwdRefIdeal.nD Cert.AFwdRefIdeal.τ Cert.AFwdRefIdeal.sig) → Buf (Elt Ideal) ℓ) (g : Dev Cert.AFwdRefIdeal.nD → PrngReg), Pre_AFwdRefIdeal m →
    θ_run (Cert.AFwdRefIdeal.defs (F := Ideal)) (onTc (τ := Cert.AFwdRefIdeal.τ) (Cert.AFwdRefIdeal.main (F := Ideal))) ⟨m, fun _ => 0, g⟩ (fun r => (∀ c : Dev Cert.AFwdRefIdeal.nD,
      r.2.mem ((c.tc : Thread Cert.AFwdRefIdeal.nD Cert.AFwdRefIdeal.τ).loc Cert.AFwdRefIdeal.main_arg0) = m ((c.tc : Thread Cert.AFwdRefIdeal.nD Cert.AFwdRefIdeal.τ).loc Cert.AFwdRefIdeal.main_arg0)
      ∧ r.2.mem ((c.tc : Thread Cert.AFwdRefIdeal.nD Cert.AFwdRefIdeal.τ).loc Cert.AFwdRefIdeal.main_arg1) = m ((c.tc : Thread Cert.AFwdRefIdeal.nD Cert.AFwdRefIdeal.τ).loc Cert.AFwdRefIdeal.main_arg1)
      ∧ r.2.mem ((c.tc : Thread Cert.AFwdRefIdeal.nD Cert.AFwdRefIdeal.τ).loc Cert.AFwdRefIdeal.main_arg2) = m ((c.tc : Thread Cert.AFwdRefIdeal.nD Cert.AFwdRefIdeal.τ).loc Cert.AFwdRefIdeal.main_arg2)
      ∧ r.2.mem ((c.tc : Thread Cert.AFwdRefIdeal.nD Cert.AFwdRefIdeal.τ).loc Cert.AFwdRefIdeal.main_arg3) = m ((c.tc : Thread Cert.AFwdRefIdeal.nD Cert.AFwdRefIdeal.τ).loc Cert.AFwdRefIdeal.main_arg3))
      ∧ r.2.sem = fun _ => 0)

def quiescent_CFwd [hCFwd : Cert.CFwd.Facts] : Prop :=
  ∀ (m : (ℓ : Loc Cert.CFwd.nD Cert.CFwd.τ Cert.CFwd.sig) → Buf (Elt Bits) ℓ) (g : Dev Cert.CFwd.nD → PrngReg), Pre_CFwd m →
    θ_run (Cert.CFwd.defs (F := Bits)) (onTc (τ := Cert.CFwd.τ) (Cert.CFwd.main (F := Bits))) ⟨m, fun _ => 0, g⟩ (fun r => (∀ c : Dev Cert.CFwd.nD,
      r.2.mem ((c.tc : Thread Cert.CFwd.nD Cert.CFwd.τ).loc Cert.CFwd.main_arg0) = m ((c.tc : Thread Cert.CFwd.nD Cert.CFwd.τ).loc Cert.CFwd.main_arg0)
      ∧ r.2.mem ((c.tc : Thread Cert.CFwd.nD Cert.CFwd.τ).loc Cert.CFwd.main_arg1) = m ((c.tc : Thread Cert.CFwd.nD Cert.CFwd.τ).loc Cert.CFwd.main_arg1)
      ∧ r.2.mem ((c.tc : Thread Cert.CFwd.nD Cert.CFwd.τ).loc Cert.CFwd.main_arg2) = m ((c.tc : Thread Cert.CFwd.nD Cert.CFwd.τ).loc Cert.CFwd.main_arg2)
      ∧ r.2.mem ((c.tc : Thread Cert.CFwd.nD Cert.CFwd.τ).loc Cert.CFwd.main_arg3) = m ((c.tc : Thread Cert.CFwd.nD Cert.CFwd.τ).loc Cert.CFwd.main_arg3))
      ∧ r.2.sem = fun _ => 0)

def quiescent_CFwdIdeal [hCFwdIdeal : Cert.CFwdIdeal.Facts] : Prop :=
  ∀ (m : (ℓ : Loc Cert.CFwdIdeal.nD Cert.CFwdIdeal.τ Cert.CFwdIdeal.sig) → Buf (Elt Ideal) ℓ) (g : Dev Cert.CFwdIdeal.nD → PrngReg), Pre_CFwdIdeal m →
    θ_run (Cert.CFwdIdeal.defs (F := Ideal)) (onTc (τ := Cert.CFwdIdeal.τ) (Cert.CFwdIdeal.main (F := Ideal))) ⟨m, fun _ => 0, g⟩ (fun r => (∀ c : Dev Cert.CFwdIdeal.nD,
      r.2.mem ((c.tc : Thread Cert.CFwdIdeal.nD Cert.CFwdIdeal.τ).loc Cert.CFwdIdeal.main_arg0) = m ((c.tc : Thread Cert.CFwdIdeal.nD Cert.CFwdIdeal.τ).loc Cert.CFwdIdeal.main_arg0)
      ∧ r.2.mem ((c.tc : Thread Cert.CFwdIdeal.nD Cert.CFwdIdeal.τ).loc Cert.CFwdIdeal.main_arg1) = m ((c.tc : Thread Cert.CFwdIdeal.nD Cert.CFwdIdeal.τ).loc Cert.CFwdIdeal.main_arg1)
      ∧ r.2.mem ((c.tc : Thread Cert.CFwdIdeal.nD Cert.CFwdIdeal.τ).loc Cert.CFwdIdeal.main_arg2) = m ((c.tc : Thread Cert.CFwdIdeal.nD Cert.CFwdIdeal.τ).loc Cert.CFwdIdeal.main_arg2)
      ∧ r.2.mem ((c.tc : Thread Cert.CFwdIdeal.nD Cert.CFwdIdeal.τ).loc Cert.CFwdIdeal.main_arg3) = m ((c.tc : Thread Cert.CFwdIdeal.nD Cert.CFwdIdeal.τ).loc Cert.CFwdIdeal.main_arg3))
      ∧ r.2.sem = fun _ => 0)

def quiescent_CFwdRefIdeal [hCFwdRefIdeal : Cert.CFwdRefIdeal.Facts] : Prop :=
  ∀ (m : (ℓ : Loc Cert.CFwdRefIdeal.nD Cert.CFwdRefIdeal.τ Cert.CFwdRefIdeal.sig) → Buf (Elt Ideal) ℓ) (g : Dev Cert.CFwdRefIdeal.nD → PrngReg), Pre_CFwdRefIdeal m →
    θ_run (Cert.CFwdRefIdeal.defs (F := Ideal)) (onTc (τ := Cert.CFwdRefIdeal.τ) (Cert.CFwdRefIdeal.main (F := Ideal))) ⟨m, fun _ => 0, g⟩ (fun r => (∀ c : Dev Cert.CFwdRefIdeal.nD,
      r.2.mem ((c.tc : Thread Cert.CFwdRefIdeal.nD Cert.CFwdRefIdeal.τ).loc Cert.CFwdRefIdeal.main_arg0) = m ((c.tc : Thread Cert.CFwdRefIdeal.nD Cert.CFwdRefIdeal.τ).loc Cert.CFwdRefIdeal.main_arg0)
      ∧ r.2.mem ((c.tc : Thread Cert.CFwdRefIdeal.nD Cert.CFwdRefIdeal.τ).loc Cert.CFwdRefIdeal.main_arg1) = m ((c.tc : Thread Cert.CFwdRefIdeal.nD Cert.CFwdRefIdeal.τ).loc Cert.CFwdRefIdeal.main_arg1)
      ∧ r.2.mem ((c.tc : Thread Cert.CFwdRefIdeal.nD Cert.CFwdRefIdeal.τ).loc Cert.CFwdRefIdeal.main_arg2) = m ((c.tc : Thread Cert.CFwdRefIdeal.nD Cert.CFwdRefIdeal.τ).loc Cert.CFwdRefIdeal.main_arg2)
      ∧ r.2.mem ((c.tc : Thread Cert.CFwdRefIdeal.nD Cert.CFwdRefIdeal.τ).loc Cert.CFwdRefIdeal.main_arg3) = m ((c.tc : Thread Cert.CFwdRefIdeal.nD Cert.CFwdRefIdeal.τ).loc Cert.CFwdRefIdeal.main_arg3))
      ∧ r.2.sem = fun _ => 0)

def quiescent_AdamPlain [hAdamPlain : Cert.AdamPlain.Facts] : Prop :=
  ∀ (m : (ℓ : Loc Cert.AdamPlain.nD Cert.AdamPlain.τ Cert.AdamPlain.sig) → Buf (Elt Bits) ℓ) (g : Dev Cert.AdamPlain.nD → PrngReg), Pre_AdamPlain m →
    θ_run (Cert.AdamPlain.defs (F := Bits)) (onTc (τ := Cert.AdamPlain.τ) (Cert.AdamPlain.main (F := Bits))) ⟨m, fun _ => 0, g⟩ (fun r => (∀ c : Dev Cert.AdamPlain.nD,
      r.2.mem ((c.tc : Thread Cert.AdamPlain.nD Cert.AdamPlain.τ).loc Cert.AdamPlain.main_arg0) = m ((c.tc : Thread Cert.AdamPlain.nD Cert.AdamPlain.τ).loc Cert.AdamPlain.main_arg0)
      ∧ r.2.mem ((c.tc : Thread Cert.AdamPlain.nD Cert.AdamPlain.τ).loc Cert.AdamPlain.main_arg1) = m ((c.tc : Thread Cert.AdamPlain.nD Cert.AdamPlain.τ).loc Cert.AdamPlain.main_arg1)
      ∧ r.2.mem ((c.tc : Thread Cert.AdamPlain.nD Cert.AdamPlain.τ).loc Cert.AdamPlain.main_arg2) = m ((c.tc : Thread Cert.AdamPlain.nD Cert.AdamPlain.τ).loc Cert.AdamPlain.main_arg2)
      ∧ r.2.mem ((c.tc : Thread Cert.AdamPlain.nD Cert.AdamPlain.τ).loc Cert.AdamPlain.main_arg3) = m ((c.tc : Thread Cert.AdamPlain.nD Cert.AdamPlain.τ).loc Cert.AdamPlain.main_arg3))
      ∧ r.2.sem = fun _ => 0)

def quiescent_AdamPlainIdeal [hAdamPlainIdeal : Cert.AdamPlainIdeal.Facts] : Prop :=
  ∀ (m : (ℓ : Loc Cert.AdamPlainIdeal.nD Cert.AdamPlainIdeal.τ Cert.AdamPlainIdeal.sig) → Buf (Elt Ideal) ℓ) (g : Dev Cert.AdamPlainIdeal.nD → PrngReg), Pre_AdamPlainIdeal m →
    θ_run (Cert.AdamPlainIdeal.defs (F := Ideal)) (onTc (τ := Cert.AdamPlainIdeal.τ) (Cert.AdamPlainIdeal.main (F := Ideal))) ⟨m, fun _ => 0, g⟩ (fun r => (∀ c : Dev Cert.AdamPlainIdeal.nD,
      r.2.mem ((c.tc : Thread Cert.AdamPlainIdeal.nD Cert.AdamPlainIdeal.τ).loc Cert.AdamPlainIdeal.main_arg0) = m ((c.tc : Thread Cert.AdamPlainIdeal.nD Cert.AdamPlainIdeal.τ).loc Cert.AdamPlainIdeal.main_arg0)
      ∧ r.2.mem ((c.tc : Thread Cert.AdamPlainIdeal.nD Cert.AdamPlainIdeal.τ).loc Cert.AdamPlainIdeal.main_arg1) = m ((c.tc : Thread Cert.AdamPlainIdeal.nD Cert.AdamPlainIdeal.τ).loc Cert.AdamPlainIdeal.main_arg1)
      ∧ r.2.mem ((c.tc : Thread Cert.AdamPlainIdeal.nD Cert.AdamPlainIdeal.τ).loc Cert.AdamPlainIdeal.main_arg2) = m ((c.tc : Thread Cert.AdamPlainIdeal.nD Cert.AdamPlainIdeal.τ).loc Cert.AdamPlainIdeal.main_arg2)
      ∧ r.2.mem ((c.tc : Thread Cert.AdamPlainIdeal.nD Cert.AdamPlainIdeal.τ).loc Cert.AdamPlainIdeal.main_arg3) = m ((c.tc : Thread Cert.AdamPlainIdeal.nD Cert.AdamPlainIdeal.τ).loc Cert.AdamPlainIdeal.main_arg3))
      ∧ r.2.sem = fun _ => 0)

def quiescent_AdamPlainRefIdeal [hAdamPlainRefIdeal : Cert.AdamPlainRefIdeal.Facts] : Prop :=
  ∀ (m : (ℓ : Loc Cert.AdamPlainRefIdeal.nD Cert.AdamPlainRefIdeal.τ Cert.AdamPlainRefIdeal.sig) → Buf (Elt Ideal) ℓ) (g : Dev Cert.AdamPlainRefIdeal.nD → PrngReg), Pre_AdamPlainRefIdeal m →
    θ_run (Cert.AdamPlainRefIdeal.defs (F := Ideal)) (onTc (τ := Cert.AdamPlainRefIdeal.τ) (Cert.AdamPlainRefIdeal.main (F := Ideal))) ⟨m, fun _ => 0, g⟩ (fun r => (∀ c : Dev Cert.AdamPlainRefIdeal.nD,
      r.2.mem ((c.tc : Thread Cert.AdamPlainRefIdeal.nD Cert.AdamPlainRefIdeal.τ).loc Cert.AdamPlainRefIdeal.main_arg0) = m ((c.tc : Thread Cert.AdamPlainRefIdeal.nD Cert.AdamPlainRefIdeal.τ).loc Cert.AdamPlainRefIdeal.main_arg0)
      ∧ r.2.mem ((c.tc : Thread Cert.AdamPlainRefIdeal.nD Cert.AdamPlainRefIdeal.τ).loc Cert.AdamPlainRefIdeal.main_arg1) = m ((c.tc : Thread Cert.AdamPlainRefIdeal.nD Cert.AdamPlainRefIdeal.τ).loc Cert.AdamPlainRefIdeal.main_arg1)
      ∧ r.2.mem ((c.tc : Thread Cert.AdamPlainRefIdeal.nD Cert.AdamPlainRefIdeal.τ).loc Cert.AdamPlainRefIdeal.main_arg2) = m ((c.tc : Thread Cert.AdamPlainRefIdeal.nD Cert.AdamPlainRefIdeal.τ).loc Cert.AdamPlainRefIdeal.main_arg2)
      ∧ r.2.mem ((c.tc : Thread Cert.AdamPlainRefIdeal.nD Cert.AdamPlainRefIdeal.τ).loc Cert.AdamPlainRefIdeal.main_arg3) = m ((c.tc : Thread Cert.AdamPlainRefIdeal.nD Cert.AdamPlainRefIdeal.τ).loc Cert.AdamPlainRefIdeal.main_arg3))
      ∧ r.2.sem = fun _ => 0)

def quiescent_BPre [hBPre : Cert.BPre.Facts] : Prop :=
  ∀ (m : (ℓ : Loc Cert.BPre.nD Cert.BPre.τ Cert.BPre.sig) → Buf (Elt Bits) ℓ) (g : Dev Cert.BPre.nD → PrngReg), Pre_BPre m →
    θ_run (Cert.BPre.defs (F := Bits)) (onTc (τ := Cert.BPre.τ) (Cert.BPre.main (F := Bits))) ⟨m, fun _ => 0, g⟩ (fun r => (∀ c : Dev Cert.BPre.nD,
      r.2.mem ((c.tc : Thread Cert.BPre.nD Cert.BPre.τ).loc Cert.BPre.main_arg0) = m ((c.tc : Thread Cert.BPre.nD Cert.BPre.τ).loc Cert.BPre.main_arg0)
      ∧ r.2.mem ((c.tc : Thread Cert.BPre.nD Cert.BPre.τ).loc Cert.BPre.main_arg1) = m ((c.tc : Thread Cert.BPre.nD Cert.BPre.τ).loc Cert.BPre.main_arg1)
      ∧ r.2.mem ((c.tc : Thread Cert.BPre.nD Cert.BPre.τ).loc Cert.BPre.main_arg2) = m ((c.tc : Thread Cert.BPre.nD Cert.BPre.τ).loc Cert.BPre.main_arg2)
      ∧ r.2.mem ((c.tc : Thread Cert.BPre.nD Cert.BPre.τ).loc Cert.BPre.main_arg3) = m ((c.tc : Thread Cert.BPre.nD Cert.BPre.τ).loc Cert.BPre.main_arg3))
      ∧ r.2.sem = fun _ => 0)

def quiescent_BPreIdeal [hBPreIdeal : Cert.BPreIdeal.Facts] : Prop :=
  ∀ (m : (ℓ : Loc Cert.BPreIdeal.nD Cert.BPreIdeal.τ Cert.BPreIdeal.sig) → Buf (Elt Ideal) ℓ) (g : Dev Cert.BPreIdeal.nD → PrngReg), Pre_BPreIdeal m →
    θ_run (Cert.BPreIdeal.defs (F := Ideal)) (onTc (τ := Cert.BPreIdeal.τ) (Cert.BPreIdeal.main (F := Ideal))) ⟨m, fun _ => 0, g⟩ (fun r => (∀ c : Dev Cert.BPreIdeal.nD,
      r.2.mem ((c.tc : Thread Cert.BPreIdeal.nD Cert.BPreIdeal.τ).loc Cert.BPreIdeal.main_arg0) = m ((c.tc : Thread Cert.BPreIdeal.nD Cert.BPreIdeal.τ).loc Cert.BPreIdeal.main_arg0)
      ∧ r.2.mem ((c.tc : Thread Cert.BPreIdeal.nD Cert.BPreIdeal.τ).loc Cert.BPreIdeal.main_arg1) = m ((c.tc : Thread Cert.BPreIdeal.nD Cert.BPreIdeal.τ).loc Cert.BPreIdeal.main_arg1)
      ∧ r.2.mem ((c.tc : Thread Cert.BPreIdeal.nD Cert.BPreIdeal.τ).loc Cert.BPreIdeal.main_arg2) = m ((c.tc : Thread Cert.BPreIdeal.nD Cert.BPreIdeal.τ).loc Cert.BPreIdeal.main_arg2)
      ∧ r.2.mem ((c.tc : Thread Cert.BPreIdeal.nD Cert.BPreIdeal.τ).loc Cert.BPreIdeal.main_arg3) = m ((c.tc : Thread Cert.BPreIdeal.nD Cert.BPreIdeal.τ).loc Cert.BPreIdeal.main_arg3))
      ∧ r.2.sem = fun _ => 0)

def quiescent_BPreRefIdeal [hBPreRefIdeal : Cert.BPreRefIdeal.Facts] : Prop :=
  ∀ (m : (ℓ : Loc Cert.BPreRefIdeal.nD Cert.BPreRefIdeal.τ Cert.BPreRefIdeal.sig) → Buf (Elt Ideal) ℓ) (g : Dev Cert.BPreRefIdeal.nD → PrngReg), Pre_BPreRefIdeal m →
    θ_run (Cert.BPreRefIdeal.defs (F := Ideal)) (onTc (τ := Cert.BPreRefIdeal.τ) (Cert.BPreRefIdeal.main (F := Ideal))) ⟨m, fun _ => 0, g⟩ (fun r => (∀ c : Dev Cert.BPreRefIdeal.nD,
      r.2.mem ((c.tc : Thread Cert.BPreRefIdeal.nD Cert.BPreRefIdeal.τ).loc Cert.BPreRefIdeal.main_arg0) = m ((c.tc : Thread Cert.BPreRefIdeal.nD Cert.BPreRefIdeal.τ).loc Cert.BPreRefIdeal.main_arg0)
      ∧ r.2.mem ((c.tc : Thread Cert.BPreRefIdeal.nD Cert.BPreRefIdeal.τ).loc Cert.BPreRefIdeal.main_arg1) = m ((c.tc : Thread Cert.BPreRefIdeal.nD Cert.BPreRefIdeal.τ).loc Cert.BPreRefIdeal.main_arg1)
      ∧ r.2.mem ((c.tc : Thread Cert.BPreRefIdeal.nD Cert.BPreRefIdeal.τ).loc Cert.BPreRefIdeal.main_arg2) = m ((c.tc : Thread Cert.BPreRefIdeal.nD Cert.BPreRefIdeal.τ).loc Cert.BPreRefIdeal.main_arg2)
      ∧ r.2.mem ((c.tc : Thread Cert.BPreRefIdeal.nD Cert.BPreRefIdeal.τ).loc Cert.BPreRefIdeal.main_arg3) = m ((c.tc : Thread Cert.BPreRefIdeal.nD Cert.BPreRefIdeal.τ).loc Cert.BPreRefIdeal.main_arg3))
      ∧ r.2.sem = fun _ => 0)

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)) →
    ∃ (v0 : (c : Dev Cert.MergeBwdIdeal.nD) → Buf (Elt Ideal) ((c.tc : Thread Cert.MergeBwdIdeal.nD Cert.MergeBwdIdeal.τ).loc Cert.MergeBwdIdeal.main_v15_0)) (v1 : (c : Dev Cert.MergeBwdIdeal.nD) → Buf (Elt Ideal) ((c.tc : Thread Cert.MergeBwdIdeal.nD Cert.MergeBwdIdeal.τ).loc Cert.MergeBwdIdeal.main_v15_1)) (v2 : (c : Dev Cert.MergeBwdIdeal.nD) → Buf (Elt Ideal) ((c.tc : Thread Cert.MergeBwdIdeal.nD Cert.MergeBwdIdeal.τ).loc Cert.MergeBwdIdeal.main_v15_2)) (v3 : (c : Dev Cert.MergeBwdIdeal.nD) → Buf (Elt Ideal) ((c.tc : Thread Cert.MergeBwdIdeal.nD Cert.MergeBwdIdeal.τ).loc Cert.MergeBwdIdeal.main_v15_3)) (v4 : (c : Dev Cert.MergeBwdIdeal.nD) → Buf (Elt Ideal) ((c.tc : Thread Cert.MergeBwdIdeal.nD Cert.MergeBwdIdeal.τ).loc Cert.MergeBwdIdeal.main_v15_4)) (v5 : (c : Dev Cert.MergeBwdIdeal.nD) → Buf (Elt Ideal) ((c.tc : Thread Cert.MergeBwdIdeal.nD Cert.MergeBwdIdeal.τ).loc Cert.MergeBwdIdeal.main_v15_5)) (v6 : (c : Dev Cert.MergeBwdIdeal.nD) → Buf (Elt Ideal) ((c.tc : Thread Cert.MergeBwdIdeal.nD Cert.MergeBwdIdeal.τ).loc Cert.MergeBwdIdeal.main_v15_6)) (v7 : (c : Dev Cert.MergeBwdIdeal.nD) → Buf (Elt Ideal) ((c.tc : Thread Cert.MergeBwdIdeal.nD Cert.MergeBwdIdeal.τ).loc Cert.MergeBwdIdeal.main_v15_7)) (v8 : (c : Dev Cert.MergeBwdIdeal.nD) → Buf (Elt Ideal) ((c.tc : Thread Cert.MergeBwdIdeal.nD Cert.MergeBwdIdeal.τ).loc Cert.MergeBwdIdeal.main_v15_8)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v15_0) = v0 c
          ∧ r.2.mem ((c.tc : Thread Cert.MergeBwdIdeal.nD Cert.MergeBwdIdeal.τ).loc Cert.MergeBwdIdeal.main_v15_1) = v1 c
          ∧ r.2.mem ((c.tc : Thread Cert.MergeBwdIdeal.nD Cert.MergeBwdIdeal.τ).loc Cert.MergeBwdIdeal.main_v15_2) = v2 c
          ∧ r.2.mem ((c.tc : Thread Cert.MergeBwdIdeal.nD Cert.MergeBwdIdeal.τ).loc Cert.MergeBwdIdeal.main_v15_3) = v3 c
          ∧ r.2.mem ((c.tc : Thread Cert.MergeBwdIdeal.nD Cert.MergeBwdIdeal.τ).loc Cert.MergeBwdIdeal.main_v15_4) = v4 c
          ∧ r.2.mem ((c.tc : Thread Cert.MergeBwdIdeal.nD Cert.MergeBwdIdeal.τ).loc Cert.MergeBwdIdeal.main_v15_5) = v5 c
          ∧ r.2.mem ((c.tc : Thread Cert.MergeBwdIdeal.nD Cert.MergeBwdIdeal.τ).loc Cert.MergeBwdIdeal.main_v15_6) = v6 c
          ∧ r.2.mem ((c.tc : Thread Cert.MergeBwdIdeal.nD Cert.MergeBwdIdeal.τ).loc Cert.MergeBwdIdeal.main_v15_7) = v7 c
          ∧ r.2.mem ((c.tc : Thread Cert.MergeBwdIdeal.nD Cert.MergeBwdIdeal.τ).loc Cert.MergeBwdIdeal.main_v15_8) = v8 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v45) = v0 c
          ∧ r.2.mem ((c.tc : Thread Cert.MergeBwdRefIdeal.nD Cert.MergeBwdRefIdeal.τ).loc Cert.MergeBwdRefIdeal.main_v46) = v1 c
          ∧ r.2.mem ((c.tc : Thread Cert.MergeBwdRefIdeal.nD Cert.MergeBwdRefIdeal.τ).loc Cert.MergeBwdRefIdeal.main_v47) = v2 c
          ∧ r.2.mem ((c.tc : Thread Cert.MergeBwdRefIdeal.nD Cert.MergeBwdRefIdeal.τ).loc Cert.MergeBwdRefIdeal.main_v50) = v3 c
          ∧ r.2.mem ((c.tc : Thread Cert.MergeBwdRefIdeal.nD Cert.MergeBwdRefIdeal.τ).loc Cert.MergeBwdRefIdeal.main_v53) = v4 c
          ∧ r.2.mem ((c.tc : Thread Cert.MergeBwdRefIdeal.nD Cert.MergeBwdRefIdeal.τ).loc Cert.MergeBwdRefIdeal.main_v56) = v5 c
          ∧ r.2.mem ((c.tc : Thread Cert.MergeBwdRefIdeal.nD Cert.MergeBwdRefIdeal.τ).loc Cert.MergeBwdRefIdeal.main_v44) = v6 c
          ∧ r.2.mem ((c.tc : Thread Cert.MergeBwdRefIdeal.nD Cert.MergeBwdRefIdeal.τ).loc Cert.MergeBwdRefIdeal.main_v43) = v7 c
          ∧ r.2.mem ((c.tc : Thread Cert.MergeBwdRefIdeal.nD Cert.MergeBwdRefIdeal.τ).loc Cert.MergeBwdRefIdeal.main_v42) = v8 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7))

def preserves_ABwd_ABwdIdeal : Prop :=
  True

def algebraic_ABwdIdeal_ABwdRefIdeal [hABwdIdeal : Cert.ABwdIdeal.Facts] [hABwdRefIdeal : Cert.ABwdRefIdeal.Facts] : Prop :=
  ∀ (m : (ℓ : Loc Cert.ABwdIdeal.nD Cert.ABwdIdeal.τ Cert.ABwdIdeal.sig) → Buf (Elt Ideal) ℓ) (g : Dev Cert.ABwdIdeal.nD → PrngReg)
    (m' : (ℓ : Loc Cert.ABwdRefIdeal.nD Cert.ABwdRefIdeal.τ Cert.ABwdRefIdeal.sig) → Buf (Elt Ideal) ℓ) (g' : Dev Cert.ABwdRefIdeal.nD → PrngReg), Pre_ABwdIdeal m →
    (∀ c : Dev Cert.ABwdIdeal.nD,
      m' ((c.tc : Thread Cert.ABwdRefIdeal.nD Cert.ABwdRefIdeal.τ).loc Cert.ABwdRefIdeal.main_arg0) = m ((c.tc : Thread Cert.ABwdIdeal.nD Cert.ABwdIdeal.τ).loc Cert.ABwdIdeal.main_arg0)
      ∧ m' ((c.tc : Thread Cert.ABwdRefIdeal.nD Cert.ABwdRefIdeal.τ).loc Cert.ABwdRefIdeal.main_arg1) = m ((c.tc : Thread Cert.ABwdIdeal.nD Cert.ABwdIdeal.τ).loc Cert.ABwdIdeal.main_arg1)
      ∧ m' ((c.tc : Thread Cert.ABwdRefIdeal.nD Cert.ABwdRefIdeal.τ).loc Cert.ABwdRefIdeal.main_arg2) = m ((c.tc : Thread Cert.ABwdIdeal.nD Cert.ABwdIdeal.τ).loc Cert.ABwdIdeal.main_arg2)
      ∧ m' ((c.tc : Thread Cert.ABwdRefIdeal.nD Cert.ABwdRefIdeal.τ).loc Cert.ABwdRefIdeal.main_arg3) = m ((c.tc : Thread Cert.ABwdIdeal.nD Cert.ABwdIdeal.τ).loc Cert.ABwdIdeal.main_arg3)
      ∧ m' ((c.tc : Thread Cert.ABwdRefIdeal.nD Cert.ABwdRefIdeal.τ).loc Cert.ABwdRefIdeal.main_arg4) = m ((c.tc : Thread Cert.ABwdIdeal.nD Cert.ABwdIdeal.τ).loc Cert.ABwdIdeal.main_arg4)) →
    ∃ (v0 : (c : Dev Cert.ABwdIdeal.nD) → Buf (Elt Ideal) ((c.tc : Thread Cert.ABwdIdeal.nD Cert.ABwdIdeal.τ).loc Cert.ABwdIdeal.main_v1_0)) (v1 : (c : Dev Cert.ABwdIdeal.nD) → Buf (Elt Ideal) ((c.tc : Thread Cert.ABwdIdeal.nD Cert.ABwdIdeal.τ).loc Cert.ABwdIdeal.main_v1_1)) (v2 : (c : Dev Cert.ABwdIdeal.nD) → Buf (Elt Ideal) ((c.tc : Thread Cert.ABwdIdeal.nD Cert.ABwdIdeal.τ).loc Cert.ABwdIdeal.main_v1_2)) (v3 : (c : Dev Cert.ABwdIdeal.nD) → Buf (Elt Ideal) ((c.tc : Thread Cert.ABwdIdeal.nD Cert.ABwdIdeal.τ).loc Cert.ABwdIdeal.main_v1_3)),
      θ_run (Cert.ABwdIdeal.defs (F := Ideal)) (onTc (τ := Cert.ABwdIdeal.τ) (Cert.ABwdIdeal.main (F := Ideal))) ⟨m, fun _ => 0, g⟩ (fun r => ∀ c : Dev Cert.ABwdIdeal.nD,
          r.2.mem ((c.tc : Thread Cert.ABwdIdeal.nD Cert.ABwdIdeal.τ).loc Cert.ABwdIdeal.main_v1_0) = v0 c
          ∧ r.2.mem ((c.tc : Thread Cert.ABwdIdeal.nD Cert.ABwdIdeal.τ).loc Cert.ABwdIdeal.main_v1_1) = v1 c
          ∧ r.2.mem ((c.tc : Thread Cert.ABwdIdeal.nD Cert.ABwdIdeal.τ).loc Cert.ABwdIdeal.main_v1_2) = v2 c
          ∧ r.2.mem ((c.tc : Thread Cert.ABwdIdeal.nD Cert.ABwdIdeal.τ).loc Cert.ABwdIdeal.main_v1_3) = v3 c
          ∧ r.2.mem ((c.tc : Thread Cert.ABwdIdeal.nD Cert.ABwdIdeal.τ).loc Cert.ABwdIdeal.main_arg0) = m ((c.tc : Thread Cert.ABwdIdeal.nD Cert.ABwdIdeal.τ).loc Cert.ABwdIdeal.main_arg0)
          ∧ r.2.mem ((c.tc : Thread Cert.ABwdIdeal.nD Cert.ABwdIdeal.τ).loc Cert.ABwdIdeal.main_arg1) = m ((c.tc : Thread Cert.ABwdIdeal.nD Cert.ABwdIdeal.τ).loc Cert.ABwdIdeal.main_arg1)
          ∧ r.2.mem ((c.tc : Thread Cert.ABwdIdeal.nD Cert.ABwdIdeal.τ).loc Cert.ABwdIdeal.main_arg2) = m ((c.tc : Thread Cert.ABwdIdeal.nD Cert.ABwdIdeal.τ).loc Cert.ABwdIdeal.main_arg2)
          ∧ r.2.mem ((c.tc : Thread Cert.ABwdIdeal.nD Cert.ABwdIdeal.τ).loc Cert.ABwdIdeal.main_arg3) = m ((c.tc : Thread Cert.ABwdIdeal.nD Cert.ABwdIdeal.τ).loc Cert.ABwdIdeal.main_arg3)
          ∧ r.2.mem ((c.tc : Thread Cert.ABwdIdeal.nD Cert.ABwdIdeal.τ).loc Cert.ABwdIdeal.main_arg4) = m ((c.tc : Thread Cert.ABwdIdeal.nD Cert.ABwdIdeal.τ).loc Cert.ABwdIdeal.main_arg4))
      ∧ θ_run (Cert.ABwdRefIdeal.defs (F := Ideal)) (onTc (τ := Cert.ABwdRefIdeal.τ) (Cert.ABwdRefIdeal.main (F := Ideal))) ⟨m', fun _ => 0, g'⟩ (fun r => ∀ c : Dev Cert.ABwdRefIdeal.nD,
          r.2.mem ((c.tc : Thread Cert.ABwdRefIdeal.nD Cert.ABwdRefIdeal.τ).loc Cert.ABwdRefIdeal.main_v130) = v0 c
          ∧ r.2.mem ((c.tc : Thread Cert.ABwdRefIdeal.nD Cert.ABwdRefIdeal.τ).loc Cert.ABwdRefIdeal.main_v88) = v1 c
          ∧ r.2.mem ((c.tc : Thread Cert.ABwdRefIdeal.nD Cert.ABwdRefIdeal.τ).loc Cert.ABwdRefIdeal.main_v84) = v2 c
          ∧ r.2.mem ((c.tc : Thread Cert.ABwdRefIdeal.nD Cert.ABwdRefIdeal.τ).loc Cert.ABwdRefIdeal.main_v131) = v3 c
          ∧ r.2.mem ((c.tc : Thread Cert.ABwdRefIdeal.nD Cert.ABwdRefIdeal.τ).loc Cert.ABwdRefIdeal.main_arg0) = m' ((c.tc : Thread Cert.ABwdRefIdeal.nD Cert.ABwdRefIdeal.τ).loc Cert.ABwdRefIdeal.main_arg0)
          ∧ r.2.mem ((c.tc : Thread Cert.ABwdRefIdeal.nD Cert.ABwdRefIdeal.τ).loc Cert.ABwdRefIdeal.main_arg1) = m' ((c.tc : Thread Cert.ABwdRefIdeal.nD Cert.ABwdRefIdeal.τ).loc Cert.ABwdRefIdeal.main_arg1)
          ∧ r.2.mem ((c.tc : Thread Cert.ABwdRefIdeal.nD Cert.ABwdRefIdeal.τ).loc Cert.ABwdRefIdeal.main_arg2) = m' ((c.tc : Thread Cert.ABwdRefIdeal.nD Cert.ABwdRefIdeal.τ).loc Cert.ABwdRefIdeal.main_arg2)
          ∧ r.2.mem ((c.tc : Thread Cert.ABwdRefIdeal.nD Cert.ABwdRefIdeal.τ).loc Cert.ABwdRefIdeal.main_arg3) = m' ((c.tc : Thread Cert.ABwdRefIdeal.nD Cert.ABwdRefIdeal.τ).loc Cert.ABwdRefIdeal.main_arg3)
          ∧ r.2.mem ((c.tc : Thread Cert.ABwdRefIdeal.nD Cert.ABwdRefIdeal.τ).loc Cert.ABwdRefIdeal.main_arg4) = m' ((c.tc : Thread Cert.ABwdRefIdeal.nD Cert.ABwdRefIdeal.τ).loc Cert.ABwdRefIdeal.main_arg4))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)
      ∧ m' ((c.tc : Thread Cert.RmsBwdRefIdeal.nD Cert.RmsBwdRefIdeal.τ).loc Cert.RmsBwdRefIdeal.main_arg3) = m ((c.tc : Thread Cert.RmsBwdIdeal.nD Cert.RmsBwdIdeal.τ).loc Cert.RmsBwdIdeal.main_arg3)) →
    ∃ (v0 : (c : Dev Cert.RmsBwdIdeal.nD) → Buf (Elt Ideal) ((c.tc : Thread Cert.RmsBwdIdeal.nD Cert.RmsBwdIdeal.τ).loc Cert.RmsBwdIdeal.main_v8_0)) (v1 : (c : Dev Cert.RmsBwdIdeal.nD) → Buf (Elt Ideal) ((c.tc : Thread Cert.RmsBwdIdeal.nD Cert.RmsBwdIdeal.τ).loc Cert.RmsBwdIdeal.main_v8_1)) (v2 : (c : Dev Cert.RmsBwdIdeal.nD) → Buf (Elt Ideal) ((c.tc : Thread Cert.RmsBwdIdeal.nD Cert.RmsBwdIdeal.τ).loc Cert.RmsBwdIdeal.main_v8_2)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v8_0) = v0 c
          ∧ r.2.mem ((c.tc : Thread Cert.RmsBwdIdeal.nD Cert.RmsBwdIdeal.τ).loc Cert.RmsBwdIdeal.main_v8_1) = v1 c
          ∧ r.2.mem ((c.tc : Thread Cert.RmsBwdIdeal.nD Cert.RmsBwdIdeal.τ).loc Cert.RmsBwdIdeal.main_v8_2) = v2 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2)
          ∧ r.2.mem ((c.tc : Thread Cert.RmsBwdIdeal.nD Cert.RmsBwdIdeal.τ).loc Cert.RmsBwdIdeal.main_arg3) = m ((c.tc : Thread Cert.RmsBwdIdeal.nD Cert.RmsBwdIdeal.τ).loc Cert.RmsBwdIdeal.main_arg3))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v34) = v0 c
          ∧ r.2.mem ((c.tc : Thread Cert.RmsBwdRefIdeal.nD Cert.RmsBwdRefIdeal.τ).loc Cert.RmsBwdRefIdeal.main_v35) = v1 c
          ∧ r.2.mem ((c.tc : Thread Cert.RmsBwdRefIdeal.nD Cert.RmsBwdRefIdeal.τ).loc Cert.RmsBwdRefIdeal.main_v17) = v2 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2)
          ∧ r.2.mem ((c.tc : Thread Cert.RmsBwdRefIdeal.nD Cert.RmsBwdRefIdeal.τ).loc Cert.RmsBwdRefIdeal.main_arg3) = m' ((c.tc : Thread Cert.RmsBwdRefIdeal.nD Cert.RmsBwdRefIdeal.τ).loc Cert.RmsBwdRefIdeal.main_arg3))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v3)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v3) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v2) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v2)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v2) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v3) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_GDown_GDownIdeal : Prop :=
  True

def algebraic_GDownIdeal_GDownRefIdeal [hGDownIdeal : Cert.GDownIdeal.Facts] [hGDownRefIdeal : Cert.GDownRefIdeal.Facts] : Prop :=
  ∀ (m : (ℓ : Loc Cert.GDownIdeal.nD Cert.GDownIdeal.τ Cert.GDownIdeal.sig) → Buf (Elt Ideal) ℓ) (g : Dev Cert.GDownIdeal.nD → PrngReg)
    (m' : (ℓ : Loc Cert.GDownRefIdeal.nD Cert.GDownRefIdeal.τ Cert.GDownRefIdeal.sig) → Buf (Elt Ideal) ℓ) (g' : Dev Cert.GDownRefIdeal.nD → PrngReg), Pre_GDownIdeal m →
    (∀ c : Dev Cert.GDownIdeal.nD,
      m' ((c.tc : Thread Cert.GDownRefIdeal.nD Cert.GDownRefIdeal.τ).loc Cert.GDownRefIdeal.main_arg0) = m ((c.tc : Thread Cert.GDownIdeal.nD Cert.GDownIdeal.τ).loc Cert.GDownIdeal.main_arg0)
      ∧ m' ((c.tc : Thread Cert.GDownRefIdeal.nD Cert.GDownRefIdeal.τ).loc Cert.GDownRefIdeal.main_arg1) = m ((c.tc : Thread Cert.GDownIdeal.nD Cert.GDownIdeal.τ).loc Cert.GDownIdeal.main_arg1)) →
    ∃ (v0 : (c : Dev Cert.GDownIdeal.nD) → Buf (Elt Ideal) ((c.tc : Thread Cert.GDownIdeal.nD Cert.GDownIdeal.τ).loc Cert.GDownIdeal.main_v2)),
      θ_run (Cert.GDownIdeal.defs (F := Ideal)) (onTc (τ := Cert.GDownIdeal.τ) (Cert.GDownIdeal.main (F := Ideal))) ⟨m, fun _ => 0, g⟩ (fun r => ∀ c : Dev Cert.GDownIdeal.nD,
          r.2.mem ((c.tc : Thread Cert.GDownIdeal.nD Cert.GDownIdeal.τ).loc Cert.GDownIdeal.main_v2) = v0 c
          ∧ r.2.mem ((c.tc : Thread Cert.GDownIdeal.nD Cert.GDownIdeal.τ).loc Cert.GDownIdeal.main_arg0) = m ((c.tc : Thread Cert.GDownIdeal.nD Cert.GDownIdeal.τ).loc Cert.GDownIdeal.main_arg0)
          ∧ r.2.mem ((c.tc : Thread Cert.GDownIdeal.nD Cert.GDownIdeal.τ).loc Cert.GDownIdeal.main_arg1) = m ((c.tc : Thread Cert.GDownIdeal.nD Cert.GDownIdeal.τ).loc Cert.GDownIdeal.main_arg1))
      ∧ θ_run (Cert.GDownRefIdeal.defs (F := Ideal)) (onTc (τ := Cert.GDownRefIdeal.τ) (Cert.GDownRefIdeal.main (F := Ideal))) ⟨m', fun _ => 0, g'⟩ (fun r => ∀ c : Dev Cert.GDownRefIdeal.nD,
          r.2.mem ((c.tc : Thread Cert.GDownRefIdeal.nD Cert.GDownRefIdeal.τ).loc Cert.GDownRefIdeal.main_v4) = v0 c
          ∧ r.2.mem ((c.tc : Thread Cert.GDownRefIdeal.nD Cert.GDownRefIdeal.τ).loc Cert.GDownRefIdeal.main_arg0) = m' ((c.tc : Thread Cert.GDownRefIdeal.nD Cert.GDownRefIdeal.τ).loc Cert.GDownRefIdeal.main_arg0)
          ∧ r.2.mem ((c.tc : Thread Cert.GDownRefIdeal.nD Cert.GDownRefIdeal.τ).loc Cert.GDownRefIdeal.main_arg1) = m' ((c.tc : Thread Cert.GDownRefIdeal.nD Cert.GDownRefIdeal.τ).loc Cert.GDownRefIdeal.main_arg1))

def preserves_GOut_GOutIdeal : Prop :=
  True

def algebraic_GOutIdeal_GOutRefIdeal [hGOutIdeal : Cert.GOutIdeal.Facts] [hGOutRefIdeal : Cert.GOutRefIdeal.Facts] : Prop :=
  ∀ (m : (ℓ : Loc Cert.GOutIdeal.nD Cert.GOutIdeal.τ Cert.GOutIdeal.sig) → Buf (Elt Ideal) ℓ) (g : Dev Cert.GOutIdeal.nD → PrngReg)
    (m' : (ℓ : Loc Cert.GOutRefIdeal.nD Cert.GOutRefIdeal.τ Cert.GOutRefIdeal.sig) → Buf (Elt Ideal) ℓ) (g' : Dev Cert.GOutRefIdeal.nD → PrngReg), Pre_GOutIdeal m →
    (∀ c : Dev Cert.GOutIdeal.nD,
      m' ((c.tc : Thread Cert.GOutRefIdeal.nD Cert.GOutRefIdeal.τ).loc Cert.GOutRefIdeal.main_arg0) = m ((c.tc : Thread Cert.GOutIdeal.nD Cert.GOutIdeal.τ).loc Cert.GOutIdeal.main_arg0)
      ∧ m' ((c.tc : Thread Cert.GOutRefIdeal.nD Cert.GOutRefIdeal.τ).loc Cert.GOutRefIdeal.main_arg1) = m ((c.tc : Thread Cert.GOutIdeal.nD Cert.GOutIdeal.τ).loc Cert.GOutIdeal.main_arg1)) →
    ∃ (v0 : (c : Dev Cert.GOutIdeal.nD) → Buf (Elt Ideal) ((c.tc : Thread Cert.GOutIdeal.nD Cert.GOutIdeal.τ).loc Cert.GOutIdeal.main_v2)),
      θ_run (Cert.GOutIdeal.defs (F := Ideal)) (onTc (τ := Cert.GOutIdeal.τ) (Cert.GOutIdeal.main (F := Ideal))) ⟨m, fun _ => 0, g⟩ (fun r => ∀ c : Dev Cert.GOutIdeal.nD,
          r.2.mem ((c.tc : Thread Cert.GOutIdeal.nD Cert.GOutIdeal.τ).loc Cert.GOutIdeal.main_v2) = v0 c
          ∧ r.2.mem ((c.tc : Thread Cert.GOutIdeal.nD Cert.GOutIdeal.τ).loc Cert.GOutIdeal.main_arg0) = m ((c.tc : Thread Cert.GOutIdeal.nD Cert.GOutIdeal.τ).loc Cert.GOutIdeal.main_arg0)
          ∧ r.2.mem ((c.tc : Thread Cert.GOutIdeal.nD Cert.GOutIdeal.τ).loc Cert.GOutIdeal.main_arg1) = m ((c.tc : Thread Cert.GOutIdeal.nD Cert.GOutIdeal.τ).loc Cert.GOutIdeal.main_arg1))
      ∧ θ_run (Cert.GOutRefIdeal.defs (F := Ideal)) (onTc (τ := Cert.GOutRefIdeal.τ) (Cert.GOutRefIdeal.main (F := Ideal))) ⟨m', fun _ => 0, g'⟩ (fun r => ∀ c : Dev Cert.GOutRefIdeal.nD,
          r.2.mem ((c.tc : Thread Cert.GOutRefIdeal.nD Cert.GOutRefIdeal.τ).loc Cert.GOutRefIdeal.main_v4) = v0 c
          ∧ r.2.mem ((c.tc : Thread Cert.GOutRefIdeal.nD Cert.GOutRefIdeal.τ).loc Cert.GOutRefIdeal.main_arg0) = m' ((c.tc : Thread Cert.GOutRefIdeal.nD Cert.GOutRefIdeal.τ).loc Cert.GOutRefIdeal.main_arg0)
          ∧ r.2.mem ((c.tc : Thread Cert.GOutRefIdeal.nD Cert.GOutRefIdeal.τ).loc Cert.GOutRefIdeal.main_arg1) = m' ((c.tc : Thread Cert.GOutRefIdeal.nD Cert.GOutRefIdeal.τ).loc Cert.GOutRefIdeal.main_arg1))

def preserves_GBranchA_GBranchAIdeal : Prop :=
  True

def algebraic_GBranchAIdeal_GBranchARefIdeal [hGBranchAIdeal : Cert.GBranchAIdeal.Facts] [hGBranchARefIdeal : Cert.GBranchARefIdeal.Facts] : Prop :=
  ∀ (m : (ℓ : Loc Cert.GBranchAIdeal.nD Cert.GBranchAIdeal.τ Cert.GBranchAIdeal.sig) → Buf (Elt Ideal) ℓ) (g : Dev Cert.GBranchAIdeal.nD → PrngReg)
    (m' : (ℓ : Loc Cert.GBranchARefIdeal.nD Cert.GBranchARefIdeal.τ Cert.GBranchARefIdeal.sig) → Buf (Elt Ideal) ℓ) (g' : Dev Cert.GBranchARefIdeal.nD → PrngReg), Pre_GBranchAIdeal m →
    (∀ c : Dev Cert.GBranchAIdeal.nD,
      m' ((c.tc : Thread Cert.GBranchARefIdeal.nD Cert.GBranchARefIdeal.τ).loc Cert.GBranchARefIdeal.main_arg0) = m ((c.tc : Thread Cert.GBranchAIdeal.nD Cert.GBranchAIdeal.τ).loc Cert.GBranchAIdeal.main_arg0)
      ∧ m' ((c.tc : Thread Cert.GBranchARefIdeal.nD Cert.GBranchARefIdeal.τ).loc Cert.GBranchARefIdeal.main_arg1) = m ((c.tc : Thread Cert.GBranchAIdeal.nD Cert.GBranchAIdeal.τ).loc Cert.GBranchAIdeal.main_arg1)) →
    ∃ (v0 : (c : Dev Cert.GBranchAIdeal.nD) → Buf (Elt Ideal) ((c.tc : Thread Cert.GBranchAIdeal.nD Cert.GBranchAIdeal.τ).loc Cert.GBranchAIdeal.main_v2)),
      θ_run (Cert.GBranchAIdeal.defs (F := Ideal)) (onTc (τ := Cert.GBranchAIdeal.τ) (Cert.GBranchAIdeal.main (F := Ideal))) ⟨m, fun _ => 0, g⟩ (fun r => ∀ c : Dev Cert.GBranchAIdeal.nD,
          r.2.mem ((c.tc : Thread Cert.GBranchAIdeal.nD Cert.GBranchAIdeal.τ).loc Cert.GBranchAIdeal.main_v2) = v0 c
          ∧ r.2.mem ((c.tc : Thread Cert.GBranchAIdeal.nD Cert.GBranchAIdeal.τ).loc Cert.GBranchAIdeal.main_arg0) = m ((c.tc : Thread Cert.GBranchAIdeal.nD Cert.GBranchAIdeal.τ).loc Cert.GBranchAIdeal.main_arg0)
          ∧ r.2.mem ((c.tc : Thread Cert.GBranchAIdeal.nD Cert.GBranchAIdeal.τ).loc Cert.GBranchAIdeal.main_arg1) = m ((c.tc : Thread Cert.GBranchAIdeal.nD Cert.GBranchAIdeal.τ).loc Cert.GBranchAIdeal.main_arg1))
      ∧ θ_run (Cert.GBranchARefIdeal.defs (F := Ideal)) (onTc (τ := Cert.GBranchARefIdeal.τ) (Cert.GBranchARefIdeal.main (F := Ideal))) ⟨m', fun _ => 0, g'⟩ (fun r => ∀ c : Dev Cert.GBranchARefIdeal.nD,
          r.2.mem ((c.tc : Thread Cert.GBranchARefIdeal.nD Cert.GBranchARefIdeal.τ).loc Cert.GBranchARefIdeal.main_v6) = v0 c
          ∧ r.2.mem ((c.tc : Thread Cert.GBranchARefIdeal.nD Cert.GBranchARefIdeal.τ).loc Cert.GBranchARefIdeal.main_arg0) = m' ((c.tc : Thread Cert.GBranchARefIdeal.nD Cert.GBranchARefIdeal.τ).loc Cert.GBranchARefIdeal.main_arg0)
          ∧ r.2.mem ((c.tc : Thread Cert.GBranchARefIdeal.nD Cert.GBranchARefIdeal.τ).loc Cert.GBranchARefIdeal.main_arg1) = m' ((c.tc : Thread Cert.GBranchARefIdeal.nD Cert.GBranchARefIdeal.τ).loc Cert.GBranchARefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v0) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_OutLoss_OutLossIdeal : Prop :=
  True

def algebraic_OutLossIdeal_OutLossRefIdeal [hOutLossIdeal : Cert.OutLossIdeal.Facts] [hOutLossRefIdeal : Cert.OutLossRefIdeal.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)) →
    ∃ (v0 : (c : Dev Cert.OutLossIdeal.nD) → Buf (Elt Ideal) ((c.tc : Thread Cert.OutLossIdeal.nD Cert.OutLossIdeal.τ).loc Cert.OutLossIdeal.main_v2_0)) (v1 : (c : Dev Cert.OutLossIdeal.nD) → Buf (Elt Ideal) ((c.tc : Thread Cert.OutLossIdeal.nD Cert.OutLossIdeal.τ).loc Cert.OutLossIdeal.main_v2_1)) (v2 : (c : Dev Cert.OutLossIdeal.nD) → Buf (Elt Ideal) ((c.tc : Thread Cert.OutLossIdeal.nD Cert.OutLossIdeal.τ).loc Cert.OutLossIdeal.main_v2_2)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v2_0) = v0 c
          ∧ r.2.mem ((c.tc : Thread Cert.OutLossIdeal.nD Cert.OutLossIdeal.τ).loc Cert.OutLossIdeal.main_v2_1) = v1 c
          ∧ r.2.mem ((c.tc : Thread Cert.OutLossIdeal.nD Cert.OutLossIdeal.τ).loc Cert.OutLossIdeal.main_v2_2) = v2 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v16) = v0 c
          ∧ r.2.mem ((c.tc : Thread Cert.OutLossRefIdeal.nD Cert.OutLossRefIdeal.τ).loc Cert.OutLossRefIdeal.main_v17) = v1 c
          ∧ r.2.mem ((c.tc : Thread Cert.OutLossRefIdeal.nD Cert.OutLossRefIdeal.τ).loc Cert.OutLossRefIdeal.main_v18) = v2 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3))

def preserves_ResidualRms_ResidualRmsIdeal : Prop :=
  True

def algebraic_ResidualRmsIdeal_ResidualRmsRefIdeal [hResidualRmsIdeal : Cert.ResidualRmsIdeal.Facts] [hResidualRmsRefIdeal : Cert.ResidualRmsRefIdeal.Facts] : Prop :=
  ∀ (m : (ℓ : Loc Cert.ResidualRmsIdeal.nD Cert.ResidualRmsIdeal.τ Cert.ResidualRmsIdeal.sig) → Buf (Elt Ideal) ℓ) (g : Dev Cert.ResidualRmsIdeal.nD → PrngReg)
    (m' : (ℓ : Loc Cert.ResidualRmsRefIdeal.nD Cert.ResidualRmsRefIdeal.τ Cert.ResidualRmsRefIdeal.sig) → Buf (Elt Ideal) ℓ) (g' : Dev Cert.ResidualRmsRefIdeal.nD → PrngReg), Pre_ResidualRmsIdeal m →
    (∀ c : Dev Cert.ResidualRmsIdeal.nD,
      m' ((c.tc : Thread Cert.ResidualRmsRefIdeal.nD Cert.ResidualRmsRefIdeal.τ).loc Cert.ResidualRmsRefIdeal.main_arg0) = m ((c.tc : Thread Cert.ResidualRmsIdeal.nD Cert.ResidualRmsIdeal.τ).loc Cert.ResidualRmsIdeal.main_arg0)
      ∧ m' ((c.tc : Thread Cert.ResidualRmsRefIdeal.nD Cert.ResidualRmsRefIdeal.τ).loc Cert.ResidualRmsRefIdeal.main_arg1) = m ((c.tc : Thread Cert.ResidualRmsIdeal.nD Cert.ResidualRmsIdeal.τ).loc Cert.ResidualRmsIdeal.main_arg1)
      ∧ m' ((c.tc : Thread Cert.ResidualRmsRefIdeal.nD Cert.ResidualRmsRefIdeal.τ).loc Cert.ResidualRmsRefIdeal.main_arg2) = m ((c.tc : Thread Cert.ResidualRmsIdeal.nD Cert.ResidualRmsIdeal.τ).loc Cert.ResidualRmsIdeal.main_arg2)
      ∧ m' ((c.tc : Thread Cert.ResidualRmsRefIdeal.nD Cert.ResidualRmsRefIdeal.τ).loc Cert.ResidualRmsRefIdeal.main_arg3) = m ((c.tc : Thread Cert.ResidualRmsIdeal.nD Cert.ResidualRmsIdeal.τ).loc Cert.ResidualRmsIdeal.main_arg3)) →
    ∃ (v0 : (c : Dev Cert.ResidualRmsIdeal.nD) → Buf (Elt Ideal) ((c.tc : Thread Cert.ResidualRmsIdeal.nD Cert.ResidualRmsIdeal.τ).loc Cert.ResidualRmsIdeal.main_v2_0)) (v1 : (c : Dev Cert.ResidualRmsIdeal.nD) → Buf (Elt Ideal) ((c.tc : Thread Cert.ResidualRmsIdeal.nD Cert.ResidualRmsIdeal.τ).loc Cert.ResidualRmsIdeal.main_v2_1)) (v2 : (c : Dev Cert.ResidualRmsIdeal.nD) → Buf (Elt Ideal) ((c.tc : Thread Cert.ResidualRmsIdeal.nD Cert.ResidualRmsIdeal.τ).loc Cert.ResidualRmsIdeal.main_v2_2)),
      θ_run (Cert.ResidualRmsIdeal.defs (F := Ideal)) (onTc (τ := Cert.ResidualRmsIdeal.τ) (Cert.ResidualRmsIdeal.main (F := Ideal))) ⟨m, fun _ => 0, g⟩ (fun r => ∀ c : Dev Cert.ResidualRmsIdeal.nD,
          r.2.mem ((c.tc : Thread Cert.ResidualRmsIdeal.nD Cert.ResidualRmsIdeal.τ).loc Cert.ResidualRmsIdeal.main_v2_0) = v0 c
          ∧ r.2.mem ((c.tc : Thread Cert.ResidualRmsIdeal.nD Cert.ResidualRmsIdeal.τ).loc Cert.ResidualRmsIdeal.main_v2_1) = v1 c
          ∧ r.2.mem ((c.tc : Thread Cert.ResidualRmsIdeal.nD Cert.ResidualRmsIdeal.τ).loc Cert.ResidualRmsIdeal.main_v2_2) = v2 c
          ∧ r.2.mem ((c.tc : Thread Cert.ResidualRmsIdeal.nD Cert.ResidualRmsIdeal.τ).loc Cert.ResidualRmsIdeal.main_arg0) = m ((c.tc : Thread Cert.ResidualRmsIdeal.nD Cert.ResidualRmsIdeal.τ).loc Cert.ResidualRmsIdeal.main_arg0)
          ∧ r.2.mem ((c.tc : Thread Cert.ResidualRmsIdeal.nD Cert.ResidualRmsIdeal.τ).loc Cert.ResidualRmsIdeal.main_arg1) = m ((c.tc : Thread Cert.ResidualRmsIdeal.nD Cert.ResidualRmsIdeal.τ).loc Cert.ResidualRmsIdeal.main_arg1)
          ∧ r.2.mem ((c.tc : Thread Cert.ResidualRmsIdeal.nD Cert.ResidualRmsIdeal.τ).loc Cert.ResidualRmsIdeal.main_arg2) = m ((c.tc : Thread Cert.ResidualRmsIdeal.nD Cert.ResidualRmsIdeal.τ).loc Cert.ResidualRmsIdeal.main_arg2)
          ∧ r.2.mem ((c.tc : Thread Cert.ResidualRmsIdeal.nD Cert.ResidualRmsIdeal.τ).loc Cert.ResidualRmsIdeal.main_arg3) = m ((c.tc : Thread Cert.ResidualRmsIdeal.nD Cert.ResidualRmsIdeal.τ).loc Cert.ResidualRmsIdeal.main_arg3))
      ∧ θ_run (Cert.ResidualRmsRefIdeal.defs (F := Ideal)) (onTc (τ := Cert.ResidualRmsRefIdeal.τ) (Cert.ResidualRmsRefIdeal.main (F := Ideal))) ⟨m', fun _ => 0, g'⟩ (fun r => ∀ c : Dev Cert.ResidualRmsRefIdeal.nD,
          r.2.mem ((c.tc : Thread Cert.ResidualRmsRefIdeal.nD Cert.ResidualRmsRefIdeal.τ).loc Cert.ResidualRmsRefIdeal.main_v1) = v0 c
          ∧ r.2.mem ((c.tc : Thread Cert.ResidualRmsRefIdeal.nD Cert.ResidualRmsRefIdeal.τ).loc Cert.ResidualRmsRefIdeal.main_v14) = v1 c
          ∧ r.2.mem ((c.tc : Thread Cert.ResidualRmsRefIdeal.nD Cert.ResidualRmsRefIdeal.τ).loc Cert.ResidualRmsRefIdeal.main_v22) = v2 c
          ∧ r.2.mem ((c.tc : Thread Cert.ResidualRmsRefIdeal.nD Cert.ResidualRmsRefIdeal.τ).loc Cert.ResidualRmsRefIdeal.main_arg0) = m' ((c.tc : Thread Cert.ResidualRmsRefIdeal.nD Cert.ResidualRmsRefIdeal.τ).loc Cert.ResidualRmsRefIdeal.main_arg0)
          ∧ r.2.mem ((c.tc : Thread Cert.ResidualRmsRefIdeal.nD Cert.ResidualRmsRefIdeal.τ).loc Cert.ResidualRmsRefIdeal.main_arg1) = m' ((c.tc : Thread Cert.ResidualRmsRefIdeal.nD Cert.ResidualRmsRefIdeal.τ).loc Cert.ResidualRmsRefIdeal.main_arg1)
          ∧ r.2.mem ((c.tc : Thread Cert.ResidualRmsRefIdeal.nD Cert.ResidualRmsRefIdeal.τ).loc Cert.ResidualRmsRefIdeal.main_arg2) = m' ((c.tc : Thread Cert.ResidualRmsRefIdeal.nD Cert.ResidualRmsRefIdeal.τ).loc Cert.ResidualRmsRefIdeal.main_arg2)
          ∧ r.2.mem ((c.tc : Thread Cert.ResidualRmsRefIdeal.nD Cert.ResidualRmsRefIdeal.τ).loc Cert.ResidualRmsRefIdeal.main_arg3) = m' ((c.tc : Thread Cert.ResidualRmsRefIdeal.nD Cert.ResidualRmsRefIdeal.τ).loc Cert.ResidualRmsRefIdeal.main_arg3))

def preserves_MergeFwd_MergeFwdIdeal : Prop :=
  True

def algebraic_MergeFwdIdeal_MergeFwdRefIdeal [hMergeFwdIdeal : Cert.MergeFwdIdeal.Facts] [hMergeFwdRefIdeal : Cert.MergeFwdRefIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdRefIdeal.nD Cert.MergeFwdRefIdeal.τ Cert.MergeFwdRefIdeal.sig) → Buf (Elt Ideal) ℓ) (g' : Dev Cert.MergeFwdRefIdeal.nD → PrngReg), Pre_MergeFwdIdeal m →
    (∀ c : Dev Cert.MergeFwdIdeal.nD,
      m' ((c.tc : Thread Cert.MergeFwdRefIdeal.nD Cert.MergeFwdRefIdeal.τ).loc Cert.MergeFwdRefIdeal.main_arg0) = m ((c.tc : Thread Cert.MergeFwdIdeal.nD Cert.MergeFwdIdeal.τ).loc Cert.MergeFwdIdeal.main_arg0)
      ∧ m' ((c.tc : Thread Cert.MergeFwdRefIdeal.nD Cert.MergeFwdRefIdeal.τ).loc Cert.MergeFwdRefIdeal.main_arg1) = m ((c.tc : Thread Cert.MergeFwdIdeal.nD Cert.MergeFwdIdeal.τ).loc Cert.MergeFwdIdeal.main_arg1)
      ∧ m' ((c.tc : Thread Cert.MergeFwdRefIdeal.nD Cert.MergeFwdRefIdeal.τ).loc Cert.MergeFwdRefIdeal.main_arg2) = m ((c.tc : Thread Cert.MergeFwdIdeal.nD Cert.MergeFwdIdeal.τ).loc Cert.MergeFwdIdeal.main_arg2)
      ∧ m' ((c.tc : Thread Cert.MergeFwdRefIdeal.nD Cert.MergeFwdRefIdeal.τ).loc Cert.MergeFwdRefIdeal.main_arg3) = m ((c.tc : Thread Cert.MergeFwdIdeal.nD Cert.MergeFwdIdeal.τ).loc Cert.MergeFwdIdeal.main_arg3)
      ∧ m' ((c.tc : Thread Cert.MergeFwdRefIdeal.nD Cert.MergeFwdRefIdeal.τ).loc Cert.MergeFwdRefIdeal.main_arg4) = m ((c.tc : Thread Cert.MergeFwdIdeal.nD Cert.MergeFwdIdeal.τ).loc Cert.MergeFwdIdeal.main_arg4)
      ∧ m' ((c.tc : Thread Cert.MergeFwdRefIdeal.nD Cert.MergeFwdRefIdeal.τ).loc Cert.MergeFwdRefIdeal.main_arg5) = m ((c.tc : Thread Cert.MergeFwdIdeal.nD Cert.MergeFwdIdeal.τ).loc Cert.MergeFwdIdeal.main_arg5)
      ∧ m' ((c.tc : Thread Cert.MergeFwdRefIdeal.nD Cert.MergeFwdRefIdeal.τ).loc Cert.MergeFwdRefIdeal.main_arg6) = m ((c.tc : Thread Cert.MergeFwdIdeal.nD Cert.MergeFwdIdeal.τ).loc Cert.MergeFwdIdeal.main_arg6)) →
    ∃ (v0 : (c : Dev Cert.MergeFwdIdeal.nD) → Buf (Elt Ideal) ((c.tc : Thread Cert.MergeFwdIdeal.nD Cert.MergeFwdIdeal.τ).loc Cert.MergeFwdIdeal.main_v12_0)) (v1 : (c : Dev Cert.MergeFwdIdeal.nD) → Buf (Elt Ideal) ((c.tc : Thread Cert.MergeFwdIdeal.nD Cert.MergeFwdIdeal.τ).loc Cert.MergeFwdIdeal.main_v12_1)) (v2 : (c : Dev Cert.MergeFwdIdeal.nD) → Buf (Elt Ideal) ((c.tc : Thread Cert.MergeFwdIdeal.nD Cert.MergeFwdIdeal.τ).loc Cert.MergeFwdIdeal.main_v12_2)) (v3 : (c : Dev Cert.MergeFwdIdeal.nD) → Buf (Elt Ideal) ((c.tc : Thread Cert.MergeFwdIdeal.nD Cert.MergeFwdIdeal.τ).loc Cert.MergeFwdIdeal.main_v12_3)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v12_0) = v0 c
          ∧ r.2.mem ((c.tc : Thread Cert.MergeFwdIdeal.nD Cert.MergeFwdIdeal.τ).loc Cert.MergeFwdIdeal.main_v12_1) = v1 c
          ∧ r.2.mem ((c.tc : Thread Cert.MergeFwdIdeal.nD Cert.MergeFwdIdeal.τ).loc Cert.MergeFwdIdeal.main_v12_2) = v2 c
          ∧ r.2.mem ((c.tc : Thread Cert.MergeFwdIdeal.nD Cert.MergeFwdIdeal.τ).loc Cert.MergeFwdIdeal.main_v12_3) = v3 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4)
          ∧ r.2.mem ((c.tc : Thread Cert.MergeFwdIdeal.nD Cert.MergeFwdIdeal.τ).loc Cert.MergeFwdIdeal.main_arg5) = m ((c.tc : Thread Cert.MergeFwdIdeal.nD Cert.MergeFwdIdeal.τ).loc Cert.MergeFwdIdeal.main_arg5)
          ∧ r.2.mem ((c.tc : Thread Cert.MergeFwdIdeal.nD Cert.MergeFwdIdeal.τ).loc Cert.MergeFwdIdeal.main_arg6) = m ((c.tc : Thread Cert.MergeFwdIdeal.nD Cert.MergeFwdIdeal.τ).loc Cert.MergeFwdIdeal.main_arg6))
      ∧ θ_run (Cert.MergeFwdRefIdeal.defs (F := Ideal)) (onTc (τ := Cert.MergeFwdRefIdeal.τ) (Cert.MergeFwdRefIdeal.main (F := Ideal))) ⟨m', fun _ => 0, g'⟩ (fun r => ∀ c : Dev Cert.MergeFwdRefIdeal.nD,
          r.2.mem ((c.tc : Thread Cert.MergeFwdRefIdeal.nD Cert.MergeFwdRefIdeal.τ).loc Cert.MergeFwdRefIdeal.main_v22) = v0 c
          ∧ r.2.mem ((c.tc : Thread Cert.MergeFwdRefIdeal.nD Cert.MergeFwdRefIdeal.τ).loc Cert.MergeFwdRefIdeal.main_v23) = v1 c
          ∧ r.2.mem ((c.tc : Thread Cert.MergeFwdRefIdeal.nD Cert.MergeFwdRefIdeal.τ).loc Cert.MergeFwdRefIdeal.main_v24) = v2 c
          ∧ r.2.mem ((c.tc : Thread Cert.MergeFwdRefIdeal.nD Cert.MergeFwdRefIdeal.τ).loc Cert.MergeFwdRefIdeal.main_v25) = v3 c
          ∧ r.2.mem ((c.tc : Thread Cert.MergeFwdRefIdeal.nD Cert.MergeFwdRefIdeal.τ).loc Cert.MergeFwdRefIdeal.main_arg0) = m' ((c.tc : Thread Cert.MergeFwdRefIdeal.nD Cert.MergeFwdRefIdeal.τ).loc Cert.MergeFwdRefIdeal.main_arg0)
          ∧ r.2.mem ((c.tc : Thread Cert.MergeFwdRefIdeal.nD Cert.MergeFwdRefIdeal.τ).loc Cert.MergeFwdRefIdeal.main_arg1) = m' ((c.tc : Thread Cert.MergeFwdRefIdeal.nD Cert.MergeFwdRefIdeal.τ).loc Cert.MergeFwdRefIdeal.main_arg1)
          ∧ r.2.mem ((c.tc : Thread Cert.MergeFwdRefIdeal.nD Cert.MergeFwdRefIdeal.τ).loc Cert.MergeFwdRefIdeal.main_arg2) = m' ((c.tc : Thread Cert.MergeFwdRefIdeal.nD Cert.MergeFwdRefIdeal.τ).loc Cert.MergeFwdRefIdeal.main_arg2)
          ∧ r.2.mem ((c.tc : Thread Cert.MergeFwdRefIdeal.nD Cert.MergeFwdRefIdeal.τ).loc Cert.MergeFwdRefIdeal.main_arg3) = m' ((c.tc : Thread Cert.MergeFwdRefIdeal.nD Cert.MergeFwdRefIdeal.τ).loc Cert.MergeFwdRefIdeal.main_arg3)
          ∧ r.2.mem ((c.tc : Thread Cert.MergeFwdRefIdeal.nD Cert.MergeFwdRefIdeal.τ).loc Cert.MergeFwdRefIdeal.main_arg4) = m' ((c.tc : Thread Cert.MergeFwdRefIdeal.nD Cert.MergeFwdRefIdeal.τ).loc Cert.MergeFwdRefIdeal.main_arg4)
          ∧ r.2.mem ((c.tc : Thread Cert.MergeFwdRefIdeal.nD Cert.MergeFwdRefIdeal.τ).loc Cert.MergeFwdRefIdeal.main_arg5) = m' ((c.tc : Thread Cert.MergeFwdRefIdeal.nD Cert.MergeFwdRefIdeal.τ).loc Cert.MergeFwdRefIdeal.main_arg5)
          ∧ r.2.mem ((c.tc : Thread Cert.MergeFwdRefIdeal.nD Cert.MergeFwdRefIdeal.τ).loc Cert.MergeFwdRefIdeal.main_arg6) = m' ((c.tc : Thread Cert.MergeFwdRefIdeal.nD Cert.MergeFwdRefIdeal.τ).loc Cert.MergeFwdRefIdeal.main_arg6))

def preserves_CBwd_CBwdIdeal : Prop :=
  True

def algebraic_CBwdIdeal_CBwdRefIdeal_pre_finite [hCBwdIdeal : Cert.CBwdIdeal.Facts] [hCBwdRefIdeal : Cert.CBwdRefIdeal.Facts] [hPre_finite : Cert.Pre_finite.Facts] : Prop :=
  ∀ (m : (ℓ : Loc Cert.CBwdIdeal.nD Cert.CBwdIdeal.τ Cert.CBwdIdeal.sig) → Buf (Elt Ideal) ℓ) (g : Dev Cert.CBwdIdeal.nD → PrngReg)
    (m' : (ℓ : Loc Cert.CBwdRefIdeal.nD Cert.CBwdRefIdeal.τ Cert.CBwdRefIdeal.sig) → Buf (Elt Ideal) ℓ) (g' : Dev Cert.CBwdRefIdeal.nD → PrngReg), Pre_CBwdIdeal_finite m →
    (∀ c : Dev Cert.CBwdIdeal.nD,
      m' ((c.tc : Thread Cert.CBwdRefIdeal.nD Cert.CBwdRefIdeal.τ).loc Cert.CBwdRefIdeal.main_arg0) = m ((c.tc : Thread Cert.CBwdIdeal.nD Cert.CBwdIdeal.τ).loc Cert.CBwdIdeal.main_arg0)
      ∧ m' ((c.tc : Thread Cert.CBwdRefIdeal.nD Cert.CBwdRefIdeal.τ).loc Cert.CBwdRefIdeal.main_arg1) = m ((c.tc : Thread Cert.CBwdIdeal.nD Cert.CBwdIdeal.τ).loc Cert.CBwdIdeal.main_arg1)
      ∧ m' ((c.tc : Thread Cert.CBwdRefIdeal.nD Cert.CBwdRefIdeal.τ).loc Cert.CBwdRefIdeal.main_arg2) = m ((c.tc : Thread Cert.CBwdIdeal.nD Cert.CBwdIdeal.τ).loc Cert.CBwdIdeal.main_arg2)
      ∧ m' ((c.tc : Thread Cert.CBwdRefIdeal.nD Cert.CBwdRefIdeal.τ).loc Cert.CBwdRefIdeal.main_arg3) = m ((c.tc : Thread Cert.CBwdIdeal.nD Cert.CBwdIdeal.τ).loc Cert.CBwdIdeal.main_arg3)
      ∧ m' ((c.tc : Thread Cert.CBwdRefIdeal.nD Cert.CBwdRefIdeal.τ).loc Cert.CBwdRefIdeal.main_arg4) = m ((c.tc : Thread Cert.CBwdIdeal.nD Cert.CBwdIdeal.τ).loc Cert.CBwdIdeal.main_arg4)) →
    ∃ (v0 : (c : Dev Cert.CBwdIdeal.nD) → Buf (Elt Ideal) ((c.tc : Thread Cert.CBwdIdeal.nD Cert.CBwdIdeal.τ).loc Cert.CBwdIdeal.main_v0_0)) (v1 : (c : Dev Cert.CBwdIdeal.nD) → Buf (Elt Ideal) ((c.tc : Thread Cert.CBwdIdeal.nD Cert.CBwdIdeal.τ).loc Cert.CBwdIdeal.main_v0_1)) (v2 : (c : Dev Cert.CBwdIdeal.nD) → Buf (Elt Ideal) ((c.tc : Thread Cert.CBwdIdeal.nD Cert.CBwdIdeal.τ).loc Cert.CBwdIdeal.main_v0_2)) (v3 : (c : Dev Cert.CBwdIdeal.nD) → Buf (Elt Ideal) ((c.tc : Thread Cert.CBwdIdeal.nD Cert.CBwdIdeal.τ).loc Cert.CBwdIdeal.main_v0_3)) (v4 : (c : Dev Cert.CBwdIdeal.nD) → Buf (Elt Ideal) ((c.tc : Thread Cert.CBwdIdeal.nD Cert.CBwdIdeal.τ).loc Cert.CBwdIdeal.main_v0_4)),
      θ_run (Cert.CBwdIdeal.defs (F := Ideal)) (onTc (τ := Cert.CBwdIdeal.τ) (Cert.CBwdIdeal.main (F := Ideal))) ⟨m, fun _ => 0, g⟩ (fun r => ∀ c : Dev Cert.CBwdIdeal.nD,
          r.2.mem ((c.tc : Thread Cert.CBwdIdeal.nD Cert.CBwdIdeal.τ).loc Cert.CBwdIdeal.main_v0_0) = v0 c
          ∧ r.2.mem ((c.tc : Thread Cert.CBwdIdeal.nD Cert.CBwdIdeal.τ).loc Cert.CBwdIdeal.main_v0_1) = v1 c
          ∧ r.2.mem ((c.tc : Thread Cert.CBwdIdeal.nD Cert.CBwdIdeal.τ).loc Cert.CBwdIdeal.main_v0_2) = v2 c
          ∧ r.2.mem ((c.tc : Thread Cert.CBwdIdeal.nD Cert.CBwdIdeal.τ).loc Cert.CBwdIdeal.main_v0_3) = v3 c
          ∧ r.2.mem ((c.tc : Thread Cert.CBwdIdeal.nD Cert.CBwdIdeal.τ).loc Cert.CBwdIdeal.main_v0_4) = v4 c
          ∧ r.2.mem ((c.tc : Thread Cert.CBwdIdeal.nD Cert.CBwdIdeal.τ).loc Cert.CBwdIdeal.main_arg0) = m ((c.tc : Thread Cert.CBwdIdeal.nD Cert.CBwdIdeal.τ).loc Cert.CBwdIdeal.main_arg0)
          ∧ r.2.mem ((c.tc : Thread Cert.CBwdIdeal.nD Cert.CBwdIdeal.τ).loc Cert.CBwdIdeal.main_arg1) = m ((c.tc : Thread Cert.CBwdIdeal.nD Cert.CBwdIdeal.τ).loc Cert.CBwdIdeal.main_arg1)
          ∧ r.2.mem ((c.tc : Thread Cert.CBwdIdeal.nD Cert.CBwdIdeal.τ).loc Cert.CBwdIdeal.main_arg2) = m ((c.tc : Thread Cert.CBwdIdeal.nD Cert.CBwdIdeal.τ).loc Cert.CBwdIdeal.main_arg2)
          ∧ r.2.mem ((c.tc : Thread Cert.CBwdIdeal.nD Cert.CBwdIdeal.τ).loc Cert.CBwdIdeal.main_arg3) = m ((c.tc : Thread Cert.CBwdIdeal.nD Cert.CBwdIdeal.τ).loc Cert.CBwdIdeal.main_arg3)
          ∧ r.2.mem ((c.tc : Thread Cert.CBwdIdeal.nD Cert.CBwdIdeal.τ).loc Cert.CBwdIdeal.main_arg4) = m ((c.tc : Thread Cert.CBwdIdeal.nD Cert.CBwdIdeal.τ).loc Cert.CBwdIdeal.main_arg4))
      ∧ θ_run (Cert.CBwdRefIdeal.defs (F := Ideal)) (onTc (τ := Cert.CBwdRefIdeal.τ) (Cert.CBwdRefIdeal.main (F := Ideal))) ⟨m', fun _ => 0, g'⟩ (fun r => ∀ c : Dev Cert.CBwdRefIdeal.nD,
          r.2.mem ((c.tc : Thread Cert.CBwdRefIdeal.nD Cert.CBwdRefIdeal.τ).loc Cert.CBwdRefIdeal.main_v145) = v0 c
          ∧ r.2.mem ((c.tc : Thread Cert.CBwdRefIdeal.nD Cert.CBwdRefIdeal.τ).loc Cert.CBwdRefIdeal.main_v146) = v1 c
          ∧ r.2.mem ((c.tc : Thread Cert.CBwdRefIdeal.nD Cert.CBwdRefIdeal.τ).loc Cert.CBwdRefIdeal.main_v147) = v2 c
          ∧ r.2.mem ((c.tc : Thread Cert.CBwdRefIdeal.nD Cert.CBwdRefIdeal.τ).loc Cert.CBwdRefIdeal.main_v148) = v3 c
          ∧ r.2.mem ((c.tc : Thread Cert.CBwdRefIdeal.nD Cert.CBwdRefIdeal.τ).loc Cert.CBwdRefIdeal.main_v149) = v4 c
          ∧ r.2.mem ((c.tc : Thread Cert.CBwdRefIdeal.nD Cert.CBwdRefIdeal.τ).loc Cert.CBwdRefIdeal.main_arg0) = m' ((c.tc : Thread Cert.CBwdRefIdeal.nD Cert.CBwdRefIdeal.τ).loc Cert.CBwdRefIdeal.main_arg0)
          ∧ r.2.mem ((c.tc : Thread Cert.CBwdRefIdeal.nD Cert.CBwdRefIdeal.τ).loc Cert.CBwdRefIdeal.main_arg1) = m' ((c.tc : Thread Cert.CBwdRefIdeal.nD Cert.CBwdRefIdeal.τ).loc Cert.CBwdRefIdeal.main_arg1)
          ∧ r.2.mem ((c.tc : Thread Cert.CBwdRefIdeal.nD Cert.CBwdRefIdeal.τ).loc Cert.CBwdRefIdeal.main_arg2) = m' ((c.tc : Thread Cert.CBwdRefIdeal.nD Cert.CBwdRefIdeal.τ).loc Cert.CBwdRefIdeal.main_arg2)
          ∧ r.2.mem ((c.tc : Thread Cert.CBwdRefIdeal.nD Cert.CBwdRefIdeal.τ).loc Cert.CBwdRefIdeal.main_arg3) = m' ((c.tc : Thread Cert.CBwdRefIdeal.nD Cert.CBwdRefIdeal.τ).loc Cert.CBwdRefIdeal.main_arg3)
          ∧ r.2.mem ((c.tc : Thread Cert.CBwdRefIdeal.nD Cert.CBwdRefIdeal.τ).loc Cert.CBwdRefIdeal.main_arg4) = m' ((c.tc : Thread Cert.CBwdRefIdeal.nD Cert.CBwdRefIdeal.τ).loc Cert.CBwdRefIdeal.main_arg4))

def preserves_GBranchB_GBranchBIdeal : Prop :=
  True

def algebraic_GBranchBIdeal_GBranchBRefIdeal [hGBranchBIdeal : Cert.GBranchBIdeal.Facts] [hGBranchBRefIdeal : Cert.GBranchBRefIdeal.Facts] : Prop :=
  ∀ (m : (ℓ : Loc Cert.GBranchBIdeal.nD Cert.GBranchBIdeal.τ Cert.GBranchBIdeal.sig) → Buf (Elt Ideal) ℓ) (g : Dev Cert.GBranchBIdeal.nD → PrngReg)
    (m' : (ℓ : Loc Cert.GBranchBRefIdeal.nD Cert.GBranchBRefIdeal.τ Cert.GBranchBRefIdeal.sig) → Buf (Elt Ideal) ℓ) (g' : Dev Cert.GBranchBRefIdeal.nD → PrngReg), Pre_GBranchBIdeal m →
    (∀ c : Dev Cert.GBranchBIdeal.nD,
      m' ((c.tc : Thread Cert.GBranchBRefIdeal.nD Cert.GBranchBRefIdeal.τ).loc Cert.GBranchBRefIdeal.main_arg0) = m ((c.tc : Thread Cert.GBranchBIdeal.nD Cert.GBranchBIdeal.τ).loc Cert.GBranchBIdeal.main_arg0)
      ∧ m' ((c.tc : Thread Cert.GBranchBRefIdeal.nD Cert.GBranchBRefIdeal.τ).loc Cert.GBranchBRefIdeal.main_arg1) = m ((c.tc : Thread Cert.GBranchBIdeal.nD Cert.GBranchBIdeal.τ).loc Cert.GBranchBIdeal.main_arg1)) →
    ∃ (v0 : (c : Dev Cert.GBranchBIdeal.nD) → Buf (Elt Ideal) ((c.tc : Thread Cert.GBranchBIdeal.nD Cert.GBranchBIdeal.τ).loc Cert.GBranchBIdeal.main_v2)),
      θ_run (Cert.GBranchBIdeal.defs (F := Ideal)) (onTc (τ := Cert.GBranchBIdeal.τ) (Cert.GBranchBIdeal.main (F := Ideal))) ⟨m, fun _ => 0, g⟩ (fun r => ∀ c : Dev Cert.GBranchBIdeal.nD,
          r.2.mem ((c.tc : Thread Cert.GBranchBIdeal.nD Cert.GBranchBIdeal.τ).loc Cert.GBranchBIdeal.main_v2) = v0 c
          ∧ r.2.mem ((c.tc : Thread Cert.GBranchBIdeal.nD Cert.GBranchBIdeal.τ).loc Cert.GBranchBIdeal.main_arg0) = m ((c.tc : Thread Cert.GBranchBIdeal.nD Cert.GBranchBIdeal.τ).loc Cert.GBranchBIdeal.main_arg0)
          ∧ r.2.mem ((c.tc : Thread Cert.GBranchBIdeal.nD Cert.GBranchBIdeal.τ).loc Cert.GBranchBIdeal.main_arg1) = m ((c.tc : Thread Cert.GBranchBIdeal.nD Cert.GBranchBIdeal.τ).loc Cert.GBranchBIdeal.main_arg1))
      ∧ θ_run (Cert.GBranchBRefIdeal.defs (F := Ideal)) (onTc (τ := Cert.GBranchBRefIdeal.τ) (Cert.GBranchBRefIdeal.main (F := Ideal))) ⟨m', fun _ => 0, g'⟩ (fun r => ∀ c : Dev Cert.GBranchBRefIdeal.nD,
          r.2.mem ((c.tc : Thread Cert.GBranchBRefIdeal.nD Cert.GBranchBRefIdeal.τ).loc Cert.GBranchBRefIdeal.main_v6) = v0 c
          ∧ r.2.mem ((c.tc : Thread Cert.GBranchBRefIdeal.nD Cert.GBranchBRefIdeal.τ).loc Cert.GBranchBRefIdeal.main_arg0) = m' ((c.tc : Thread Cert.GBranchBRefIdeal.nD Cert.GBranchBRefIdeal.τ).loc Cert.GBranchBRefIdeal.main_arg0)
          ∧ r.2.mem ((c.tc : Thread Cert.GBranchBRefIdeal.nD Cert.GBranchBRefIdeal.τ).loc Cert.GBranchBRefIdeal.main_arg1) = m' ((c.tc : Thread Cert.GBranchBRefIdeal.nD Cert.GBranchBRefIdeal.τ).loc Cert.GBranchBRefIdeal.main_arg1))

def preserves_GKv_GKvIdeal : Prop :=
  True

def algebraic_GKvIdeal_GKvRefIdeal [hGKvIdeal : Cert.GKvIdeal.Facts] [hGKvRefIdeal : Cert.GKvRefIdeal.Facts] : Prop :=
  ∀ (m : (ℓ : Loc Cert.GKvIdeal.nD Cert.GKvIdeal.τ Cert.GKvIdeal.sig) → Buf (Elt Ideal) ℓ) (g : Dev Cert.GKvIdeal.nD → PrngReg)
    (m' : (ℓ : Loc Cert.GKvRefIdeal.nD Cert.GKvRefIdeal.τ Cert.GKvRefIdeal.sig) → Buf (Elt Ideal) ℓ) (g' : Dev Cert.GKvRefIdeal.nD → PrngReg), Pre_GKvIdeal m →
    (∀ c : Dev Cert.GKvIdeal.nD,
      m' ((c.tc : Thread Cert.GKvRefIdeal.nD Cert.GKvRefIdeal.τ).loc Cert.GKvRefIdeal.main_arg0) = m ((c.tc : Thread Cert.GKvIdeal.nD Cert.GKvIdeal.τ).loc Cert.GKvIdeal.main_arg0)
      ∧ m' ((c.tc : Thread Cert.GKvRefIdeal.nD Cert.GKvRefIdeal.τ).loc Cert.GKvRefIdeal.main_arg1) = m ((c.tc : Thread Cert.GKvIdeal.nD Cert.GKvIdeal.τ).loc Cert.GKvIdeal.main_arg1)) →
    ∃ (v0 : (c : Dev Cert.GKvIdeal.nD) → Buf (Elt Ideal) ((c.tc : Thread Cert.GKvIdeal.nD Cert.GKvIdeal.τ).loc Cert.GKvIdeal.main_v2)),
      θ_run (Cert.GKvIdeal.defs (F := Ideal)) (onTc (τ := Cert.GKvIdeal.τ) (Cert.GKvIdeal.main (F := Ideal))) ⟨m, fun _ => 0, g⟩ (fun r => ∀ c : Dev Cert.GKvIdeal.nD,
          r.2.mem ((c.tc : Thread Cert.GKvIdeal.nD Cert.GKvIdeal.τ).loc Cert.GKvIdeal.main_v2) = v0 c
          ∧ r.2.mem ((c.tc : Thread Cert.GKvIdeal.nD Cert.GKvIdeal.τ).loc Cert.GKvIdeal.main_arg0) = m ((c.tc : Thread Cert.GKvIdeal.nD Cert.GKvIdeal.τ).loc Cert.GKvIdeal.main_arg0)
          ∧ r.2.mem ((c.tc : Thread Cert.GKvIdeal.nD Cert.GKvIdeal.τ).loc Cert.GKvIdeal.main_arg1) = m ((c.tc : Thread Cert.GKvIdeal.nD Cert.GKvIdeal.τ).loc Cert.GKvIdeal.main_arg1))
      ∧ θ_run (Cert.GKvRefIdeal.defs (F := Ideal)) (onTc (τ := Cert.GKvRefIdeal.τ) (Cert.GKvRefIdeal.main (F := Ideal))) ⟨m', fun _ => 0, g'⟩ (fun r => ∀ c : Dev Cert.GKvRefIdeal.nD,
          r.2.mem ((c.tc : Thread Cert.GKvRefIdeal.nD Cert.GKvRefIdeal.τ).loc Cert.GKvRefIdeal.main_v4) = v0 c
          ∧ r.2.mem ((c.tc : Thread Cert.GKvRefIdeal.nD Cert.GKvRefIdeal.τ).loc Cert.GKvRefIdeal.main_arg0) = m' ((c.tc : Thread Cert.GKvRefIdeal.nD Cert.GKvRefIdeal.τ).loc Cert.GKvRefIdeal.main_arg0)
          ∧ r.2.mem ((c.tc : Thread Cert.GKvRefIdeal.nD Cert.GKvRefIdeal.τ).loc Cert.GKvRefIdeal.main_arg1) = m' ((c.tc : Thread Cert.GKvRefIdeal.nD Cert.GKvRefIdeal.τ).loc Cert.GKvRefIdeal.main_arg1))

def preserves_DMemH_DMemHIdeal : Prop :=
  True

def algebraic_DMemHIdeal_DMemHRefIdeal [hDMemHIdeal : Cert.DMemHIdeal.Facts] [hDMemHRefIdeal : Cert.DMemHRefIdeal.Facts] : Prop :=
  ∀ (m : (ℓ : Loc Cert.DMemHIdeal.nD Cert.DMemHIdeal.τ Cert.DMemHIdeal.sig) → Buf (Elt Ideal) ℓ) (g : Dev Cert.DMemHIdeal.nD → PrngReg)
    (m' : (ℓ : Loc Cert.DMemHRefIdeal.nD Cert.DMemHRefIdeal.τ Cert.DMemHRefIdeal.sig) → Buf (Elt Ideal) ℓ) (g' : Dev Cert.DMemHRefIdeal.nD → PrngReg), Pre_DMemHIdeal m →
    (∀ c : Dev Cert.DMemHIdeal.nD,
      m' ((c.tc : Thread Cert.DMemHRefIdeal.nD Cert.DMemHRefIdeal.τ).loc Cert.DMemHRefIdeal.main_arg0) = m ((c.tc : Thread Cert.DMemHIdeal.nD Cert.DMemHIdeal.τ).loc Cert.DMemHIdeal.main_arg0)
      ∧ m' ((c.tc : Thread Cert.DMemHRefIdeal.nD Cert.DMemHRefIdeal.τ).loc Cert.DMemHRefIdeal.main_arg1) = m ((c.tc : Thread Cert.DMemHIdeal.nD Cert.DMemHIdeal.τ).loc Cert.DMemHIdeal.main_arg1)) →
    ∃ (v0 : (c : Dev Cert.DMemHIdeal.nD) → Buf (Elt Ideal) ((c.tc : Thread Cert.DMemHIdeal.nD Cert.DMemHIdeal.τ).loc Cert.DMemHIdeal.main_v2)),
      θ_run (Cert.DMemHIdeal.defs (F := Ideal)) (onTc (τ := Cert.DMemHIdeal.τ) (Cert.DMemHIdeal.main (F := Ideal))) ⟨m, fun _ => 0, g⟩ (fun r => ∀ c : Dev Cert.DMemHIdeal.nD,
          r.2.mem ((c.tc : Thread Cert.DMemHIdeal.nD Cert.DMemHIdeal.τ).loc Cert.DMemHIdeal.main_v2) = v0 c
          ∧ r.2.mem ((c.tc : Thread Cert.DMemHIdeal.nD Cert.DMemHIdeal.τ).loc Cert.DMemHIdeal.main_arg0) = m ((c.tc : Thread Cert.DMemHIdeal.nD Cert.DMemHIdeal.τ).loc Cert.DMemHIdeal.main_arg0)
          ∧ r.2.mem ((c.tc : Thread Cert.DMemHIdeal.nD Cert.DMemHIdeal.τ).loc Cert.DMemHIdeal.main_arg1) = m ((c.tc : Thread Cert.DMemHIdeal.nD Cert.DMemHIdeal.τ).loc Cert.DMemHIdeal.main_arg1))
      ∧ θ_run (Cert.DMemHRefIdeal.defs (F := Ideal)) (onTc (τ := Cert.DMemHRefIdeal.τ) (Cert.DMemHRefIdeal.main (F := Ideal))) ⟨m', fun _ => 0, g'⟩ (fun r => ∀ c : Dev Cert.DMemHRefIdeal.nD,
          r.2.mem ((c.tc : Thread Cert.DMemHRefIdeal.nD Cert.DMemHRefIdeal.τ).loc Cert.DMemHRefIdeal.main_v2) = v0 c
          ∧ r.2.mem ((c.tc : Thread Cert.DMemHRefIdeal.nD Cert.DMemHRefIdeal.τ).loc Cert.DMemHRefIdeal.main_arg0) = m' ((c.tc : Thread Cert.DMemHRefIdeal.nD Cert.DMemHRefIdeal.τ).loc Cert.DMemHRefIdeal.main_arg0)
          ∧ r.2.mem ((c.tc : Thread Cert.DMemHRefIdeal.nD Cert.DMemHRefIdeal.τ).loc Cert.DMemHRefIdeal.main_arg1) = m' ((c.tc : Thread Cert.DMemHRefIdeal.nD Cert.DMemHRefIdeal.τ).loc Cert.DMemHRefIdeal.main_arg1))

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v8_0)) (v1 : (c : Dev Cert.MemBwdIdeal.nD) → Buf (Elt Ideal) ((c.tc : Thread Cert.MemBwdIdeal.nD Cert.MemBwdIdeal.τ).loc Cert.MemBwdIdeal.main_v8_1)) (v2 : (c : Dev Cert.MemBwdIdeal.nD) → Buf (Elt Ideal) ((c.tc : Thread Cert.MemBwdIdeal.nD Cert.MemBwdIdeal.τ).loc Cert.MemBwdIdeal.main_v8_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v8_0) = v0 c
          ∧ r.2.mem ((c.tc : Thread Cert.MemBwdIdeal.nD Cert.MemBwdIdeal.τ).loc Cert.MemBwdIdeal.main_v8_1) = v1 c
          ∧ r.2.mem ((c.tc : Thread Cert.MemBwdIdeal.nD Cert.MemBwdIdeal.τ).loc Cert.MemBwdIdeal.main_v8_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v33) = v0 c
          ∧ r.2.mem ((c.tc : Thread Cert.MemBwdRefIdeal.nD Cert.MemBwdRefIdeal.τ).loc Cert.MemBwdRefIdeal.main_v34) = v1 c
          ∧ r.2.mem ((c.tc : Thread Cert.MemBwdRefIdeal.nD Cert.MemBwdRefIdeal.τ).loc Cert.MemBwdRefIdeal.main_v17) = v2 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0_0)) (v1 : (c : Dev Cert.RmsFwdIdeal.nD) → Buf (Elt Ideal) ((c.tc : Thread Cert.RmsFwdIdeal.nD Cert.RmsFwdIdeal.τ).loc Cert.RmsFwdIdeal.main_v0_1)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0_0) = v0 c
          ∧ r.2.mem ((c.tc : Thread Cert.RmsFwdIdeal.nD Cert.RmsFwdIdeal.τ).loc Cert.RmsFwdIdeal.main_v0_1) = v1 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_v20) = v1 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MemFwd_MemFwdIdeal : Prop :=
  True

def algebraic_MemFwdIdeal_MemFwdRefIdeal [hMemFwdIdeal : Cert.MemFwdIdeal.Facts] [hMemFwdRefIdeal : Cert.MemFwdRefIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0_0)) (v1 : (c : Dev Cert.MemFwdIdeal.nD) → Buf (Elt Ideal) ((c.tc : Thread Cert.MemFwdIdeal.nD Cert.MemFwdIdeal.τ).loc Cert.MemFwdIdeal.main_v0_1)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0_0) = v0 c
          ∧ r.2.mem ((c.tc : Thread Cert.MemFwdIdeal.nD Cert.MemFwdIdeal.τ).loc Cert.MemFwdIdeal.main_v0_1) = v1 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v12) = v0 c
          ∧ r.2.mem ((c.tc : Thread Cert.MemFwdRefIdeal.nD Cert.MemFwdRefIdeal.τ).loc Cert.MemFwdRefIdeal.main_v20) = v1 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_KV_KVIdeal : Prop :=
  True

def algebraic_KVIdeal_KVRefIdeal [hKVIdeal : Cert.KVIdeal.Facts] [hKVRefIdeal : Cert.KVRefIdeal.Facts] : Prop :=
  ∀ (m : (ℓ : Loc Cert.KVIdeal.nD Cert.KVIdeal.τ Cert.KVIdeal.sig) → Buf (Elt Ideal) ℓ) (g : Dev Cert.KVIdeal.nD → PrngReg)
    (m' : (ℓ : Loc Cert.KVRefIdeal.nD Cert.KVRefIdeal.τ Cert.KVRefIdeal.sig) → Buf (Elt Ideal) ℓ) (g' : Dev Cert.KVRefIdeal.nD → PrngReg), Pre_KVIdeal m →
    (∀ c : Dev Cert.KVIdeal.nD,
      m' ((c.tc : Thread Cert.KVRefIdeal.nD Cert.KVRefIdeal.τ).loc Cert.KVRefIdeal.main_arg0) = m ((c.tc : Thread Cert.KVIdeal.nD Cert.KVIdeal.τ).loc Cert.KVIdeal.main_arg0)
      ∧ m' ((c.tc : Thread Cert.KVRefIdeal.nD Cert.KVRefIdeal.τ).loc Cert.KVRefIdeal.main_arg1) = m ((c.tc : Thread Cert.KVIdeal.nD Cert.KVIdeal.τ).loc Cert.KVIdeal.main_arg1)) →
    ∃ (v0 : (c : Dev Cert.KVIdeal.nD) → Buf (Elt Ideal) ((c.tc : Thread Cert.KVIdeal.nD Cert.KVIdeal.τ).loc Cert.KVIdeal.main_v2)),
      θ_run (Cert.KVIdeal.defs (F := Ideal)) (onTc (τ := Cert.KVIdeal.τ) (Cert.KVIdeal.main (F := Ideal))) ⟨m, fun _ => 0, g⟩ (fun r => ∀ c : Dev Cert.KVIdeal.nD,
          r.2.mem ((c.tc : Thread Cert.KVIdeal.nD Cert.KVIdeal.τ).loc Cert.KVIdeal.main_v2) = v0 c
          ∧ r.2.mem ((c.tc : Thread Cert.KVIdeal.nD Cert.KVIdeal.τ).loc Cert.KVIdeal.main_arg0) = m ((c.tc : Thread Cert.KVIdeal.nD Cert.KVIdeal.τ).loc Cert.KVIdeal.main_arg0)
          ∧ r.2.mem ((c.tc : Thread Cert.KVIdeal.nD Cert.KVIdeal.τ).loc Cert.KVIdeal.main_arg1) = m ((c.tc : Thread Cert.KVIdeal.nD Cert.KVIdeal.τ).loc Cert.KVIdeal.main_arg1))
      ∧ θ_run (Cert.KVRefIdeal.defs (F := Ideal)) (onTc (τ := Cert.KVRefIdeal.τ) (Cert.KVRefIdeal.main (F := Ideal))) ⟨m', fun _ => 0, g'⟩ (fun r => ∀ c : Dev Cert.KVRefIdeal.nD,
          r.2.mem ((c.tc : Thread Cert.KVRefIdeal.nD Cert.KVRefIdeal.τ).loc Cert.KVRefIdeal.main_v0) = v0 c
          ∧ r.2.mem ((c.tc : Thread Cert.KVRefIdeal.nD Cert.KVRefIdeal.τ).loc Cert.KVRefIdeal.main_arg0) = m' ((c.tc : Thread Cert.KVRefIdeal.nD Cert.KVRefIdeal.τ).loc Cert.KVRefIdeal.main_arg0)
          ∧ r.2.mem ((c.tc : Thread Cert.KVRefIdeal.nD Cert.KVRefIdeal.τ).loc Cert.KVRefIdeal.main_arg1) = m' ((c.tc : Thread Cert.KVRefIdeal.nD Cert.KVRefIdeal.τ).loc Cert.KVRefIdeal.main_arg1))

def preserves_AFwd_AFwdIdeal : Prop :=
  True

def algebraic_AFwdIdeal_AFwdRefIdeal [hAFwdIdeal : Cert.AFwdIdeal.Facts] [hAFwdRefIdeal : Cert.AFwdRefIdeal.Facts] : Prop :=
  ∀ (m : (ℓ : Loc Cert.AFwdIdeal.nD Cert.AFwdIdeal.τ Cert.AFwdIdeal.sig) → Buf (Elt Ideal) ℓ) (g : Dev Cert.AFwdIdeal.nD → PrngReg)
    (m' : (ℓ : Loc Cert.AFwdRefIdeal.nD Cert.AFwdRefIdeal.τ Cert.AFwdRefIdeal.sig) → Buf (Elt Ideal) ℓ) (g' : Dev Cert.AFwdRefIdeal.nD → PrngReg), Pre_AFwdIdeal m →
    (∀ c : Dev Cert.AFwdIdeal.nD,
      m' ((c.tc : Thread Cert.AFwdRefIdeal.nD Cert.AFwdRefIdeal.τ).loc Cert.AFwdRefIdeal.main_arg0) = m ((c.tc : Thread Cert.AFwdIdeal.nD Cert.AFwdIdeal.τ).loc Cert.AFwdIdeal.main_arg0)
      ∧ m' ((c.tc : Thread Cert.AFwdRefIdeal.nD Cert.AFwdRefIdeal.τ).loc Cert.AFwdRefIdeal.main_arg1) = m ((c.tc : Thread Cert.AFwdIdeal.nD Cert.AFwdIdeal.τ).loc Cert.AFwdIdeal.main_arg1)
      ∧ m' ((c.tc : Thread Cert.AFwdRefIdeal.nD Cert.AFwdRefIdeal.τ).loc Cert.AFwdRefIdeal.main_arg2) = m ((c.tc : Thread Cert.AFwdIdeal.nD Cert.AFwdIdeal.τ).loc Cert.AFwdIdeal.main_arg2)
      ∧ m' ((c.tc : Thread Cert.AFwdRefIdeal.nD Cert.AFwdRefIdeal.τ).loc Cert.AFwdRefIdeal.main_arg3) = m ((c.tc : Thread Cert.AFwdIdeal.nD Cert.AFwdIdeal.τ).loc Cert.AFwdIdeal.main_arg3)) →
    ∃ (v0 : (c : Dev Cert.AFwdIdeal.nD) → Buf (Elt Ideal) ((c.tc : Thread Cert.AFwdIdeal.nD Cert.AFwdIdeal.τ).loc Cert.AFwdIdeal.main_v1)),
      θ_run (Cert.AFwdIdeal.defs (F := Ideal)) (onTc (τ := Cert.AFwdIdeal.τ) (Cert.AFwdIdeal.main (F := Ideal))) ⟨m, fun _ => 0, g⟩ (fun r => ∀ c : Dev Cert.AFwdIdeal.nD,
          r.2.mem ((c.tc : Thread Cert.AFwdIdeal.nD Cert.AFwdIdeal.τ).loc Cert.AFwdIdeal.main_v1) = v0 c
          ∧ r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
          ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
          ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
          ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3))
      ∧ θ_run (Cert.AFwdRefIdeal.defs (F := Ideal)) (onTc (τ := Cert.AFwdRefIdeal.τ) (Cert.AFwdRefIdeal.main (F := Ideal))) ⟨m', fun _ => 0, g'⟩ (fun r => ∀ c : Dev Cert.AFwdRefIdeal.nD,
          r.2.mem ((c.tc : Thread Cert.AFwdRefIdeal.nD Cert.AFwdRefIdeal.τ).loc Cert.AFwdRefIdeal.main_v54) = v0 c
          ∧ r.2.mem ((c.tc : Thread Cert.AFwdRefIdeal.nD Cert.AFwdRefIdeal.τ).loc Cert.AFwdRefIdeal.main_arg0) = m' ((c.tc : Thread Cert.AFwdRefIdeal.nD Cert.AFwdRefIdeal.τ).loc Cert.AFwdRefIdeal.main_arg0)
          ∧ r.2.mem ((c.tc : Thread Cert.AFwdRefIdeal.nD Cert.AFwdRefIdeal.τ).loc Cert.AFwdRefIdeal.main_arg1) = m' ((c.tc : Thread Cert.AFwdRefIdeal.nD Cert.AFwdRefIdeal.τ).loc Cert.AFwdRefIdeal.main_arg1)
          ∧ r.2.mem ((c.tc : Thread Cert.AFwdRefIdeal.nD Cert.AFwdRefIdeal.τ).loc Cert.AFwdRefIdeal.main_arg2) = m' ((c.tc : Thread Cert.AFwdRefIdeal.nD Cert.AFwdRefIdeal.τ).loc Cert.AFwdRefIdeal.main_arg2)
          ∧ r.2.mem ((c.tc : Thread Cert.AFwdRefIdeal.nD Cert.AFwdRefIdeal.τ).loc Cert.AFwdRefIdeal.main_arg3) = m' ((c.tc : Thread Cert.AFwdRefIdeal.nD Cert.AFwdRefIdeal.τ).loc Cert.AFwdRefIdeal.main_arg3))

def preserves_CFwd_CFwdIdeal : Prop :=
  True

def algebraic_CFwdIdeal_CFwdRefIdeal [hCFwdIdeal : Cert.CFwdIdeal.Facts] [hCFwdRefIdeal : Cert.CFwdRefIdeal.Facts] : Prop :=
  ∀ (m : (ℓ : Loc Cert.CFwdIdeal.nD Cert.CFwdIdeal.τ Cert.CFwdIdeal.sig) → Buf (Elt Ideal) ℓ) (g : Dev Cert.CFwdIdeal.nD → PrngReg)
    (m' : (ℓ : Loc Cert.CFwdRefIdeal.nD Cert.CFwdRefIdeal.τ Cert.CFwdRefIdeal.sig) → Buf (Elt Ideal) ℓ) (g' : Dev Cert.CFwdRefIdeal.nD → PrngReg), Pre_CFwdIdeal m →
    (∀ c : Dev Cert.CFwdIdeal.nD,
      m' ((c.tc : Thread Cert.CFwdRefIdeal.nD Cert.CFwdRefIdeal.τ).loc Cert.CFwdRefIdeal.main_arg0) = m ((c.tc : Thread Cert.CFwdIdeal.nD Cert.CFwdIdeal.τ).loc Cert.CFwdIdeal.main_arg0)
      ∧ m' ((c.tc : Thread Cert.CFwdRefIdeal.nD Cert.CFwdRefIdeal.τ).loc Cert.CFwdRefIdeal.main_arg1) = m ((c.tc : Thread Cert.CFwdIdeal.nD Cert.CFwdIdeal.τ).loc Cert.CFwdIdeal.main_arg1)
      ∧ m' ((c.tc : Thread Cert.CFwdRefIdeal.nD Cert.CFwdRefIdeal.τ).loc Cert.CFwdRefIdeal.main_arg2) = m ((c.tc : Thread Cert.CFwdIdeal.nD Cert.CFwdIdeal.τ).loc Cert.CFwdIdeal.main_arg2)
      ∧ m' ((c.tc : Thread Cert.CFwdRefIdeal.nD Cert.CFwdRefIdeal.τ).loc Cert.CFwdRefIdeal.main_arg3) = m ((c.tc : Thread Cert.CFwdIdeal.nD Cert.CFwdIdeal.τ).loc Cert.CFwdIdeal.main_arg3)) →
    ∃ (v0 : (c : Dev Cert.CFwdIdeal.nD) → Buf (Elt Ideal) ((c.tc : Thread Cert.CFwdIdeal.nD Cert.CFwdIdeal.τ).loc Cert.CFwdIdeal.main_v0)),
      θ_run (Cert.CFwdIdeal.defs (F := Ideal)) (onTc (τ := Cert.CFwdIdeal.τ) (Cert.CFwdIdeal.main (F := Ideal))) ⟨m, fun _ => 0, g⟩ (fun r => ∀ c : Dev Cert.CFwdIdeal.nD,
          r.2.mem ((c.tc : Thread Cert.CFwdIdeal.nD Cert.CFwdIdeal.τ).loc Cert.CFwdIdeal.main_v0) = v0 c
          ∧ r.2.mem ((c.tc : Thread Cert.CFwdIdeal.nD Cert.CFwdIdeal.τ).loc Cert.CFwdIdeal.main_arg0) = m ((c.tc : Thread Cert.CFwdIdeal.nD Cert.CFwdIdeal.τ).loc Cert.CFwdIdeal.main_arg0)
          ∧ r.2.mem ((c.tc : Thread Cert.CFwdIdeal.nD Cert.CFwdIdeal.τ).loc Cert.CFwdIdeal.main_arg1) = m ((c.tc : Thread Cert.CFwdIdeal.nD Cert.CFwdIdeal.τ).loc Cert.CFwdIdeal.main_arg1)
          ∧ r.2.mem ((c.tc : Thread Cert.CFwdIdeal.nD Cert.CFwdIdeal.τ).loc Cert.CFwdIdeal.main_arg2) = m ((c.tc : Thread Cert.CFwdIdeal.nD Cert.CFwdIdeal.τ).loc Cert.CFwdIdeal.main_arg2)
          ∧ r.2.mem ((c.tc : Thread Cert.CFwdIdeal.nD Cert.CFwdIdeal.τ).loc Cert.CFwdIdeal.main_arg3) = m ((c.tc : Thread Cert.CFwdIdeal.nD Cert.CFwdIdeal.τ).loc Cert.CFwdIdeal.main_arg3))
      ∧ θ_run (Cert.CFwdRefIdeal.defs (F := Ideal)) (onTc (τ := Cert.CFwdRefIdeal.τ) (Cert.CFwdRefIdeal.main (F := Ideal))) ⟨m', fun _ => 0, g'⟩ (fun r => ∀ c : Dev Cert.CFwdRefIdeal.nD,
          r.2.mem ((c.tc : Thread Cert.CFwdRefIdeal.nD Cert.CFwdRefIdeal.τ).loc Cert.CFwdRefIdeal.main_v50) = v0 c
          ∧ r.2.mem ((c.tc : Thread Cert.CFwdRefIdeal.nD Cert.CFwdRefIdeal.τ).loc Cert.CFwdRefIdeal.main_arg0) = m' ((c.tc : Thread Cert.CFwdRefIdeal.nD Cert.CFwdRefIdeal.τ).loc Cert.CFwdRefIdeal.main_arg0)
          ∧ r.2.mem ((c.tc : Thread Cert.CFwdRefIdeal.nD Cert.CFwdRefIdeal.τ).loc Cert.CFwdRefIdeal.main_arg1) = m' ((c.tc : Thread Cert.CFwdRefIdeal.nD Cert.CFwdRefIdeal.τ).loc Cert.CFwdRefIdeal.main_arg1)
          ∧ r.2.mem ((c.tc : Thread Cert.CFwdRefIdeal.nD Cert.CFwdRefIdeal.τ).loc Cert.CFwdRefIdeal.main_arg2) = m' ((c.tc : Thread Cert.CFwdRefIdeal.nD Cert.CFwdRefIdeal.τ).loc Cert.CFwdRefIdeal.main_arg2)
          ∧ r.2.mem ((c.tc : Thread Cert.CFwdRefIdeal.nD Cert.CFwdRefIdeal.τ).loc Cert.CFwdRefIdeal.main_arg3) = m' ((c.tc : Thread Cert.CFwdRefIdeal.nD Cert.CFwdRefIdeal.τ).loc Cert.CFwdRefIdeal.main_arg3))

def preserves_AdamPlain_AdamPlainIdeal : Prop :=
  True

def algebraic_AdamPlainIdeal_AdamPlainRefIdeal [hAdamPlainIdeal : Cert.AdamPlainIdeal.Facts] [hAdamPlainRefIdeal : Cert.AdamPlainRefIdeal.Facts] : Prop :=
  ∀ (m : (ℓ : Loc Cert.AdamPlainIdeal.nD Cert.AdamPlainIdeal.τ Cert.AdamPlainIdeal.sig) → Buf (Elt Ideal) ℓ) (g : Dev Cert.AdamPlainIdeal.nD → PrngReg)
    (m' : (ℓ : Loc Cert.AdamPlainRefIdeal.nD Cert.AdamPlainRefIdeal.τ Cert.AdamPlainRefIdeal.sig) → Buf (Elt Ideal) ℓ) (g' : Dev Cert.AdamPlainRefIdeal.nD → PrngReg), Pre_AdamPlainIdeal m →
    (∀ c : Dev Cert.AdamPlainIdeal.nD,
      m' ((c.tc : Thread Cert.AdamPlainRefIdeal.nD Cert.AdamPlainRefIdeal.τ).loc Cert.AdamPlainRefIdeal.main_arg0) = m ((c.tc : Thread Cert.AdamPlainIdeal.nD Cert.AdamPlainIdeal.τ).loc Cert.AdamPlainIdeal.main_arg0)
      ∧ m' ((c.tc : Thread Cert.AdamPlainRefIdeal.nD Cert.AdamPlainRefIdeal.τ).loc Cert.AdamPlainRefIdeal.main_arg1) = m ((c.tc : Thread Cert.AdamPlainIdeal.nD Cert.AdamPlainIdeal.τ).loc Cert.AdamPlainIdeal.main_arg1)
      ∧ m' ((c.tc : Thread Cert.AdamPlainRefIdeal.nD Cert.AdamPlainRefIdeal.τ).loc Cert.AdamPlainRefIdeal.main_arg2) = m ((c.tc : Thread Cert.AdamPlainIdeal.nD Cert.AdamPlainIdeal.τ).loc Cert.AdamPlainIdeal.main_arg2)
      ∧ m' ((c.tc : Thread Cert.AdamPlainRefIdeal.nD Cert.AdamPlainRefIdeal.τ).loc Cert.AdamPlainRefIdeal.main_arg3) = m ((c.tc : Thread Cert.AdamPlainIdeal.nD Cert.AdamPlainIdeal.τ).loc Cert.AdamPlainIdeal.main_arg3)) →
    ∃ (v0 : (c : Dev Cert.AdamPlainIdeal.nD) → Buf (Elt Ideal) ((c.tc : Thread Cert.AdamPlainIdeal.nD Cert.AdamPlainIdeal.τ).loc Cert.AdamPlainIdeal.main_v0_0)) (v1 : (c : Dev Cert.AdamPlainIdeal.nD) → Buf (Elt Ideal) ((c.tc : Thread Cert.AdamPlainIdeal.nD Cert.AdamPlainIdeal.τ).loc Cert.AdamPlainIdeal.main_v0_1)) (v2 : (c : Dev Cert.AdamPlainIdeal.nD) → Buf (Elt Ideal) ((c.tc : Thread Cert.AdamPlainIdeal.nD Cert.AdamPlainIdeal.τ).loc Cert.AdamPlainIdeal.main_v0_2)),
      θ_run (Cert.AdamPlainIdeal.defs (F := Ideal)) (onTc (τ := Cert.AdamPlainIdeal.τ) (Cert.AdamPlainIdeal.main (F := Ideal))) ⟨m, fun _ => 0, g⟩ (fun r => ∀ c : Dev Cert.AdamPlainIdeal.nD,
          r.2.mem ((c.tc : Thread Cert.AdamPlainIdeal.nD Cert.AdamPlainIdeal.τ).loc Cert.AdamPlainIdeal.main_v0_0) = v0 c
          ∧ r.2.mem ((c.tc : Thread Cert.AdamPlainIdeal.nD Cert.AdamPlainIdeal.τ).loc Cert.AdamPlainIdeal.main_v0_1) = v1 c
          ∧ r.2.mem ((c.tc : Thread Cert.AdamPlainIdeal.nD Cert.AdamPlainIdeal.τ).loc Cert.AdamPlainIdeal.main_v0_2) = v2 c
          ∧ r.2.mem ((c.tc : Thread Cert.AdamPlainIdeal.nD Cert.AdamPlainIdeal.τ).loc Cert.AdamPlainIdeal.main_arg0) = m ((c.tc : Thread Cert.AdamPlainIdeal.nD Cert.AdamPlainIdeal.τ).loc Cert.AdamPlainIdeal.main_arg0)
          ∧ r.2.mem ((c.tc : Thread Cert.AdamPlainIdeal.nD Cert.AdamPlainIdeal.τ).loc Cert.AdamPlainIdeal.main_arg1) = m ((c.tc : Thread Cert.AdamPlainIdeal.nD Cert.AdamPlainIdeal.τ).loc Cert.AdamPlainIdeal.main_arg1)
          ∧ r.2.mem ((c.tc : Thread Cert.AdamPlainIdeal.nD Cert.AdamPlainIdeal.τ).loc Cert.AdamPlainIdeal.main_arg2) = m ((c.tc : Thread Cert.AdamPlainIdeal.nD Cert.AdamPlainIdeal.τ).loc Cert.AdamPlainIdeal.main_arg2)
          ∧ r.2.mem ((c.tc : Thread Cert.AdamPlainIdeal.nD Cert.AdamPlainIdeal.τ).loc Cert.AdamPlainIdeal.main_arg3) = m ((c.tc : Thread Cert.AdamPlainIdeal.nD Cert.AdamPlainIdeal.τ).loc Cert.AdamPlainIdeal.main_arg3))
      ∧ θ_run (Cert.AdamPlainRefIdeal.defs (F := Ideal)) (onTc (τ := Cert.AdamPlainRefIdeal.τ) (Cert.AdamPlainRefIdeal.main (F := Ideal))) ⟨m', fun _ => 0, g'⟩ (fun r => ∀ c : Dev Cert.AdamPlainRefIdeal.nD,
          r.2.mem ((c.tc : Thread Cert.AdamPlainRefIdeal.nD Cert.AdamPlainRefIdeal.τ).loc Cert.AdamPlainRefIdeal.main_v23) = v0 c
          ∧ r.2.mem ((c.tc : Thread Cert.AdamPlainRefIdeal.nD Cert.AdamPlainRefIdeal.τ).loc Cert.AdamPlainRefIdeal.main_v4) = v1 c
          ∧ r.2.mem ((c.tc : Thread Cert.AdamPlainRefIdeal.nD Cert.AdamPlainRefIdeal.τ).loc Cert.AdamPlainRefIdeal.main_v10) = v2 c
          ∧ r.2.mem ((c.tc : Thread Cert.AdamPlainRefIdeal.nD Cert.AdamPlainRefIdeal.τ).loc Cert.AdamPlainRefIdeal.main_arg0) = m' ((c.tc : Thread Cert.AdamPlainRefIdeal.nD Cert.AdamPlainRefIdeal.τ).loc Cert.AdamPlainRefIdeal.main_arg0)
          ∧ r.2.mem ((c.tc : Thread Cert.AdamPlainRefIdeal.nD Cert.AdamPlainRefIdeal.τ).loc Cert.AdamPlainRefIdeal.main_arg1) = m' ((c.tc : Thread Cert.AdamPlainRefIdeal.nD Cert.AdamPlainRefIdeal.τ).loc Cert.AdamPlainRefIdeal.main_arg1)
          ∧ r.2.mem ((c.tc : Thread Cert.AdamPlainRefIdeal.nD Cert.AdamPlainRefIdeal.τ).loc Cert.AdamPlainRefIdeal.main_arg2) = m' ((c.tc : Thread Cert.AdamPlainRefIdeal.nD Cert.AdamPlainRefIdeal.τ).loc Cert.AdamPlainRefIdeal.main_arg2)
          ∧ r.2.mem ((c.tc : Thread Cert.AdamPlainRefIdeal.nD Cert.AdamPlainRefIdeal.τ).loc Cert.AdamPlainRefIdeal.main_arg3) = m' ((c.tc : Thread Cert.AdamPlainRefIdeal.nD Cert.AdamPlainRefIdeal.τ).loc Cert.AdamPlainRefIdeal.main_arg3))

def preserves_BPre_BPreIdeal : Prop :=
  True

def algebraic_BPreIdeal_BPreRefIdeal [hBPreIdeal : Cert.BPreIdeal.Facts] [hBPreRefIdeal : Cert.BPreRefIdeal.Facts] : Prop :=
  ∀ (m : (ℓ : Loc Cert.BPreIdeal.nD Cert.BPreIdeal.τ Cert.BPreIdeal.sig) → Buf (Elt Ideal) ℓ) (g : Dev Cert.BPreIdeal.nD → PrngReg)
    (m' : (ℓ : Loc Cert.BPreRefIdeal.nD Cert.BPreRefIdeal.τ Cert.BPreRefIdeal.sig) → Buf (Elt Ideal) ℓ) (g' : Dev Cert.BPreRefIdeal.nD → PrngReg), Pre_BPreIdeal m →
    (∀ c : Dev Cert.BPreIdeal.nD,
      m' ((c.tc : Thread Cert.BPreRefIdeal.nD Cert.BPreRefIdeal.τ).loc Cert.BPreRefIdeal.main_arg0) = m ((c.tc : Thread Cert.BPreIdeal.nD Cert.BPreIdeal.τ).loc Cert.BPreIdeal.main_arg0)
      ∧ m' ((c.tc : Thread Cert.BPreRefIdeal.nD Cert.BPreRefIdeal.τ).loc Cert.BPreRefIdeal.main_arg1) = m ((c.tc : Thread Cert.BPreIdeal.nD Cert.BPreIdeal.τ).loc Cert.BPreIdeal.main_arg1)
      ∧ m' ((c.tc : Thread Cert.BPreRefIdeal.nD Cert.BPreRefIdeal.τ).loc Cert.BPreRefIdeal.main_arg2) = m ((c.tc : Thread Cert.BPreIdeal.nD Cert.BPreIdeal.τ).loc Cert.BPreIdeal.main_arg2)
      ∧ m' ((c.tc : Thread Cert.BPreRefIdeal.nD Cert.BPreRefIdeal.τ).loc Cert.BPreRefIdeal.main_arg3) = m ((c.tc : Thread Cert.BPreIdeal.nD Cert.BPreIdeal.τ).loc Cert.BPreIdeal.main_arg3)) →
    ∃ (v0 : (c : Dev Cert.BPreIdeal.nD) → Buf (Elt Ideal) ((c.tc : Thread Cert.BPreIdeal.nD Cert.BPreIdeal.τ).loc Cert.BPreIdeal.main_v36_0)) (v1 : (c : Dev Cert.BPreIdeal.nD) → Buf (Elt Ideal) ((c.tc : Thread Cert.BPreIdeal.nD Cert.BPreIdeal.τ).loc Cert.BPreIdeal.main_v36_1)),
      θ_run (Cert.BPreIdeal.defs (F := Ideal)) (onTc (τ := Cert.BPreIdeal.τ) (Cert.BPreIdeal.main (F := Ideal))) ⟨m, fun _ => 0, g⟩ (fun r => ∀ c : Dev Cert.BPreIdeal.nD,
          r.2.mem ((c.tc : Thread Cert.BPreIdeal.nD Cert.BPreIdeal.τ).loc Cert.BPreIdeal.main_v36_0) = v0 c
          ∧ r.2.mem ((c.tc : Thread Cert.BPreIdeal.nD Cert.BPreIdeal.τ).loc Cert.BPreIdeal.main_v36_1) = v1 c
          ∧ r.2.mem ((c.tc : Thread Cert.BPreIdeal.nD Cert.BPreIdeal.τ).loc Cert.BPreIdeal.main_arg0) = m ((c.tc : Thread Cert.BPreIdeal.nD Cert.BPreIdeal.τ).loc Cert.BPreIdeal.main_arg0)
          ∧ r.2.mem ((c.tc : Thread Cert.BPreIdeal.nD Cert.BPreIdeal.τ).loc Cert.BPreIdeal.main_arg1) = m ((c.tc : Thread Cert.BPreIdeal.nD Cert.BPreIdeal.τ).loc Cert.BPreIdeal.main_arg1)
          ∧ r.2.mem ((c.tc : Thread Cert.BPreIdeal.nD Cert.BPreIdeal.τ).loc Cert.BPreIdeal.main_arg2) = m ((c.tc : Thread Cert.BPreIdeal.nD Cert.BPreIdeal.τ).loc Cert.BPreIdeal.main_arg2)
          ∧ r.2.mem ((c.tc : Thread Cert.BPreIdeal.nD Cert.BPreIdeal.τ).loc Cert.BPreIdeal.main_arg3) = m ((c.tc : Thread Cert.BPreIdeal.nD Cert.BPreIdeal.τ).loc Cert.BPreIdeal.main_arg3))
      ∧ θ_run (Cert.BPreRefIdeal.defs (F := Ideal)) (onTc (τ := Cert.BPreRefIdeal.τ) (Cert.BPreRefIdeal.main (F := Ideal))) ⟨m', fun _ => 0, g'⟩ (fun r => ∀ c : Dev Cert.BPreRefIdeal.nD,
          r.2.mem ((c.tc : Thread Cert.BPreRefIdeal.nD Cert.BPreRefIdeal.τ).loc Cert.BPreRefIdeal.main_v93) = v0 c
          ∧ r.2.mem ((c.tc : Thread Cert.BPreRefIdeal.nD Cert.BPreRefIdeal.τ).loc Cert.BPreRefIdeal.main_v95) = v1 c
          ∧ r.2.mem ((c.tc : Thread Cert.BPreRefIdeal.nD Cert.BPreRefIdeal.τ).loc Cert.BPreRefIdeal.main_arg0) = m' ((c.tc : Thread Cert.BPreRefIdeal.nD Cert.BPreRefIdeal.τ).loc Cert.BPreRefIdeal.main_arg0)
          ∧ r.2.mem ((c.tc : Thread Cert.BPreRefIdeal.nD Cert.BPreRefIdeal.τ).loc Cert.BPreRefIdeal.main_arg1) = m' ((c.tc : Thread Cert.BPreRefIdeal.nD Cert.BPreRefIdeal.τ).loc Cert.BPreRefIdeal.main_arg1)
          ∧ r.2.mem ((c.tc : Thread Cert.BPreRefIdeal.nD Cert.BPreRefIdeal.τ).loc Cert.BPreRefIdeal.main_arg2) = m' ((c.tc : Thread Cert.BPreRefIdeal.nD Cert.BPreRefIdeal.τ).loc Cert.BPreRefIdeal.main_arg2)
          ∧ r.2.mem ((c.tc : Thread Cert.BPreRefIdeal.nD Cert.BPreRefIdeal.τ).loc Cert.BPreRefIdeal.main_arg3) = m' ((c.tc : Thread Cert.BPreRefIdeal.nD Cert.BPreRefIdeal.τ).loc Cert.BPreRefIdeal.main_arg3))

def Claim : Prop :=
  ∃ (hMergeBwd : Cert.MergeBwd.Facts) (hMergeBwdIdeal : Cert.MergeBwdIdeal.Facts) (hMergeBwdRefIdeal : Cert.MergeBwdRefIdeal.Facts) (hABwd : Cert.ABwd.Facts) (hABwdIdeal : Cert.ABwdIdeal.Facts) (hABwdRefIdeal : Cert.ABwdRefIdeal.Facts) (hRmsBwd : Cert.RmsBwd.Facts) (hRmsBwdIdeal : Cert.RmsBwdIdeal.Facts) (hRmsBwdRefIdeal : Cert.RmsBwdRefIdeal.Facts) (hDH : Cert.DH.Facts) (hDHIdeal : Cert.DHIdeal.Facts) (hDHRefIdeal : Cert.DHRefIdeal.Facts) (hDAct : Cert.DAct.Facts) (hDActIdeal : Cert.DActIdeal.Facts) (hDActRefIdeal : Cert.DActRefIdeal.Facts) (hGDown : Cert.GDown.Facts) (hGDownIdeal : Cert.GDownIdeal.Facts) (hGDownRefIdeal : Cert.GDownRefIdeal.Facts) (hGOut : Cert.GOut.Facts) (hGOutIdeal : Cert.GOutIdeal.Facts) (hGOutRefIdeal : Cert.GOutRefIdeal.Facts) (hGBranchA : Cert.GBranchA.Facts) (hGBranchAIdeal : Cert.GBranchAIdeal.Facts) (hGBranchARefIdeal : Cert.GBranchARefIdeal.Facts) (hProj : Cert.Proj.Facts) (hProjIdeal : Cert.ProjIdeal.Facts) (hProjRefIdeal : Cert.ProjRefIdeal.Facts) (hUp : Cert.Up.Facts) (hUpIdeal : Cert.UpIdeal.Facts) (hUpRefIdeal : Cert.UpRefIdeal.Facts) (hOutLoss : Cert.OutLoss.Facts) (hOutLossIdeal : Cert.OutLossIdeal.Facts) (hOutLossRefIdeal : Cert.OutLossRefIdeal.Facts) (hResidualRms : Cert.ResidualRms.Facts) (hResidualRmsIdeal : Cert.ResidualRmsIdeal.Facts) (hResidualRmsRefIdeal : Cert.ResidualRmsRefIdeal.Facts) (hMergeFwd : Cert.MergeFwd.Facts) (hMergeFwdIdeal : Cert.MergeFwdIdeal.Facts) (hMergeFwdRefIdeal : Cert.MergeFwdRefIdeal.Facts) (hCBwd : Cert.CBwd.Facts) (hCBwdIdeal : Cert.CBwdIdeal.Facts) (hCBwdRefIdeal : Cert.CBwdRefIdeal.Facts) (hGBranchB : Cert.GBranchB.Facts) (hGBranchBIdeal : Cert.GBranchBIdeal.Facts) (hGBranchBRefIdeal : Cert.GBranchBRefIdeal.Facts) (hGKv : Cert.GKv.Facts) (hGKvIdeal : Cert.GKvIdeal.Facts) (hGKvRefIdeal : Cert.GKvRefIdeal.Facts) (hDMemH : Cert.DMemH.Facts) (hDMemHIdeal : Cert.DMemHIdeal.Facts) (hDMemHRefIdeal : Cert.DMemHRefIdeal.Facts) (hMemBwd : Cert.MemBwd.Facts) (hMemBwdIdeal : Cert.MemBwdIdeal.Facts) (hMemBwdRefIdeal : Cert.MemBwdRefIdeal.Facts) (hRmsFwd : Cert.RmsFwd.Facts) (hRmsFwdIdeal : Cert.RmsFwdIdeal.Facts) (hRmsFwdRefIdeal : Cert.RmsFwdRefIdeal.Facts) (hMemFwd : Cert.MemFwd.Facts) (hMemFwdIdeal : Cert.MemFwdIdeal.Facts) (hMemFwdRefIdeal : Cert.MemFwdRefIdeal.Facts) (hKV : Cert.KV.Facts) (hKVIdeal : Cert.KVIdeal.Facts) (hKVRefIdeal : Cert.KVRefIdeal.Facts) (hAFwd : Cert.AFwd.Facts) (hAFwdIdeal : Cert.AFwdIdeal.Facts) (hAFwdRefIdeal : Cert.AFwdRefIdeal.Facts) (hCFwd : Cert.CFwd.Facts) (hCFwdIdeal : Cert.CFwdIdeal.Facts) (hCFwdRefIdeal : Cert.CFwdRefIdeal.Facts) (hAdamPlain : Cert.AdamPlain.Facts) (hAdamPlainIdeal : Cert.AdamPlainIdeal.Facts) (hAdamPlainRefIdeal : Cert.AdamPlainRefIdeal.Facts) (hBPre : Cert.BPre.Facts) (hBPreIdeal : Cert.BPreIdeal.Facts) (hBPreRefIdeal : Cert.BPreRefIdeal.Facts) (hPre_finite : Cert.Pre_finite.Facts),
    quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_ABwd (hABwd := hABwd)
    ∧ quiescent_ABwdIdeal (hABwdIdeal := hABwdIdeal)
    ∧ quiescent_ABwdRefIdeal (hABwdRefIdeal := hABwdRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_DH (hDH := hDH)
    ∧ quiescent_DHIdeal (hDHIdeal := hDHIdeal)
    ∧ quiescent_DHRefIdeal (hDHRefIdeal := hDHRefIdeal)
    ∧ quiescent_DAct (hDAct := hDAct)
    ∧ quiescent_DActIdeal (hDActIdeal := hDActIdeal)
    ∧ quiescent_DActRefIdeal (hDActRefIdeal := hDActRefIdeal)
    ∧ quiescent_GDown (hGDown := hGDown)
    ∧ quiescent_GDownIdeal (hGDownIdeal := hGDownIdeal)
    ∧ quiescent_GDownRefIdeal (hGDownRefIdeal := hGDownRefIdeal)
    ∧ quiescent_GOut (hGOut := hGOut)
    ∧ quiescent_GOutIdeal (hGOutIdeal := hGOutIdeal)
    ∧ quiescent_GOutRefIdeal (hGOutRefIdeal := hGOutRefIdeal)
    ∧ quiescent_GBranchA (hGBranchA := hGBranchA)
    ∧ quiescent_GBranchAIdeal (hGBranchAIdeal := hGBranchAIdeal)
    ∧ quiescent_GBranchARefIdeal (hGBranchARefIdeal := hGBranchARefIdeal)
    ∧ quiescent_Proj (hProj := hProj)
    ∧ quiescent_ProjIdeal (hProjIdeal := hProjIdeal)
    ∧ quiescent_ProjRefIdeal (hProjRefIdeal := hProjRefIdeal)
    ∧ quiescent_Up (hUp := hUp)
    ∧ quiescent_UpIdeal (hUpIdeal := hUpIdeal)
    ∧ quiescent_UpRefIdeal (hUpRefIdeal := hUpRefIdeal)
    ∧ quiescent_OutLoss (hOutLoss := hOutLoss)
    ∧ quiescent_OutLossIdeal (hOutLossIdeal := hOutLossIdeal)
    ∧ quiescent_OutLossRefIdeal (hOutLossRefIdeal := hOutLossRefIdeal)
    ∧ quiescent_ResidualRms (hResidualRms := hResidualRms)
    ∧ quiescent_ResidualRmsIdeal (hResidualRmsIdeal := hResidualRmsIdeal)
    ∧ quiescent_ResidualRmsRefIdeal (hResidualRmsRefIdeal := hResidualRmsRefIdeal)
    ∧ quiescent_MergeFwd (hMergeFwd := hMergeFwd)
    ∧ quiescent_MergeFwdIdeal (hMergeFwdIdeal := hMergeFwdIdeal)
    ∧ quiescent_MergeFwdRefIdeal (hMergeFwdRefIdeal := hMergeFwdRefIdeal)
    ∧ quiescent_CBwd (hCBwd := hCBwd)
    ∧ quiescent_CBwdIdeal (hCBwdIdeal := hCBwdIdeal)
    ∧ quiescent_CBwdIdeal_pre_finite (hCBwdIdeal := hCBwdIdeal) (hPre_finite := hPre_finite)
    ∧ quiescent_CBwdRefIdeal (hCBwdRefIdeal := hCBwdRefIdeal)
    ∧ quiescent_CBwdRefIdeal_pre_finite (hCBwdRefIdeal := hCBwdRefIdeal) (hPre_finite := hPre_finite)
    ∧ quiescent_GBranchB (hGBranchB := hGBranchB)
    ∧ quiescent_GBranchBIdeal (hGBranchBIdeal := hGBranchBIdeal)
    ∧ quiescent_GBranchBRefIdeal (hGBranchBRefIdeal := hGBranchBRefIdeal)
    ∧ quiescent_GKv (hGKv := hGKv)
    ∧ quiescent_GKvIdeal (hGKvIdeal := hGKvIdeal)
    ∧ quiescent_GKvRefIdeal (hGKvRefIdeal := hGKvRefIdeal)
    ∧ quiescent_DMemH (hDMemH := hDMemH)
    ∧ quiescent_DMemHIdeal (hDMemHIdeal := hDMemHIdeal)
    ∧ quiescent_DMemHRefIdeal (hDMemHRefIdeal := hDMemHRefIdeal)
    ∧ quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MemFwd (hMemFwd := hMemFwd)
    ∧ quiescent_MemFwdIdeal (hMemFwdIdeal := hMemFwdIdeal)
    ∧ quiescent_MemFwdRefIdeal (hMemFwdRefIdeal := hMemFwdRefIdeal)
    ∧ quiescent_KV (hKV := hKV)
    ∧ quiescent_KVIdeal (hKVIdeal := hKVIdeal)
    ∧ quiescent_KVRefIdeal (hKVRefIdeal := hKVRefIdeal)
    ∧ quiescent_AFwd (hAFwd := hAFwd)
    ∧ quiescent_AFwdIdeal (hAFwdIdeal := hAFwdIdeal)
    ∧ quiescent_AFwdRefIdeal (hAFwdRefIdeal := hAFwdRefIdeal)
    ∧ quiescent_CFwd (hCFwd := hCFwd)
    ∧ quiescent_CFwdIdeal (hCFwdIdeal := hCFwdIdeal)
    ∧ quiescent_CFwdRefIdeal (hCFwdRefIdeal := hCFwdRefIdeal)
    ∧ quiescent_AdamPlain (hAdamPlain := hAdamPlain)
    ∧ quiescent_AdamPlainIdeal (hAdamPlainIdeal := hAdamPlainIdeal)
    ∧ quiescent_AdamPlainRefIdeal (hAdamPlainRefIdeal := hAdamPlainRefIdeal)
    ∧ quiescent_BPre (hBPre := hBPre)
    ∧ quiescent_BPreIdeal (hBPreIdeal := hBPreIdeal)
    ∧ quiescent_BPreRefIdeal (hBPreRefIdeal := hBPreRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_ABwd_ABwdIdeal
    ∧ algebraic_ABwdIdeal_ABwdRefIdeal (hABwdIdeal := hABwdIdeal) (hABwdRefIdeal := hABwdRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_DH_DHIdeal
    ∧ algebraic_DHIdeal_DHRefIdeal (hDHIdeal := hDHIdeal) (hDHRefIdeal := hDHRefIdeal)
    ∧ preserves_DAct_DActIdeal
    ∧ algebraic_DActIdeal_DActRefIdeal (hDActIdeal := hDActIdeal) (hDActRefIdeal := hDActRefIdeal)
    ∧ preserves_GDown_GDownIdeal
    ∧ algebraic_GDownIdeal_GDownRefIdeal (hGDownIdeal := hGDownIdeal) (hGDownRefIdeal := hGDownRefIdeal)
    ∧ preserves_GOut_GOutIdeal
    ∧ algebraic_GOutIdeal_GOutRefIdeal (hGOutIdeal := hGOutIdeal) (hGOutRefIdeal := hGOutRefIdeal)
    ∧ preserves_GBranchA_GBranchAIdeal
    ∧ algebraic_GBranchAIdeal_GBranchARefIdeal (hGBranchAIdeal := hGBranchAIdeal) (hGBranchARefIdeal := hGBranchARefIdeal)
    ∧ preserves_Proj_ProjIdeal
    ∧ algebraic_ProjIdeal_ProjRefIdeal (hProjIdeal := hProjIdeal) (hProjRefIdeal := hProjRefIdeal)
    ∧ preserves_Up_UpIdeal
    ∧ algebraic_UpIdeal_UpRefIdeal (hUpIdeal := hUpIdeal) (hUpRefIdeal := hUpRefIdeal)
    ∧ preserves_OutLoss_OutLossIdeal
    ∧ algebraic_OutLossIdeal_OutLossRefIdeal (hOutLossIdeal := hOutLossIdeal) (hOutLossRefIdeal := hOutLossRefIdeal)
    ∧ preserves_ResidualRms_ResidualRmsIdeal
    ∧ algebraic_ResidualRmsIdeal_ResidualRmsRefIdeal (hResidualRmsIdeal := hResidualRmsIdeal) (hResidualRmsRefIdeal := hResidualRmsRefIdeal)
    ∧ preserves_MergeFwd_MergeFwdIdeal
    ∧ algebraic_MergeFwdIdeal_MergeFwdRefIdeal (hMergeFwdIdeal := hMergeFwdIdeal) (hMergeFwdRefIdeal := hMergeFwdRefIdeal)
    ∧ preserves_CBwd_CBwdIdeal
    ∧ algebraic_CBwdIdeal_CBwdRefIdeal_pre_finite (hCBwdIdeal := hCBwdIdeal) (hCBwdRefIdeal := hCBwdRefIdeal) (hPre_finite := hPre_finite)
    ∧ preserves_GBranchB_GBranchBIdeal
    ∧ algebraic_GBranchBIdeal_GBranchBRefIdeal (hGBranchBIdeal := hGBranchBIdeal) (hGBranchBRefIdeal := hGBranchBRefIdeal)
    ∧ preserves_GKv_GKvIdeal
    ∧ algebraic_GKvIdeal_GKvRefIdeal (hGKvIdeal := hGKvIdeal) (hGKvRefIdeal := hGKvRefIdeal)
    ∧ preserves_DMemH_DMemHIdeal
    ∧ algebraic_DMemHIdeal_DMemHRefIdeal (hDMemHIdeal := hDMemHIdeal) (hDMemHRefIdeal := hDMemHRefIdeal)
    ∧ preserves_MemBwd_MemBwdIdeal
    ∧ algebraic_MemBwdIdeal_MemBwdRefIdeal (hMemBwdIdeal := hMemBwdIdeal) (hMemBwdRefIdeal := hMemBwdRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MemFwd_MemFwdIdeal
    ∧ algebraic_MemFwdIdeal_MemFwdRefIdeal (hMemFwdIdeal := hMemFwdIdeal) (hMemFwdRefIdeal := hMemFwdRefIdeal)
    ∧ preserves_KV_KVIdeal
    ∧ algebraic_KVIdeal_KVRefIdeal (hKVIdeal := hKVIdeal) (hKVRefIdeal := hKVRefIdeal)
    ∧ preserves_AFwd_AFwdIdeal
    ∧ algebraic_AFwdIdeal_AFwdRefIdeal (hAFwdIdeal := hAFwdIdeal) (hAFwdRefIdeal := hAFwdRefIdeal)
    ∧ preserves_CFwd_CFwdIdeal
    ∧ algebraic_CFwdIdeal_CFwdRefIdeal (hCFwdIdeal := hCFwdIdeal) (hCFwdRefIdeal := hCFwdRefIdeal)
    ∧ preserves_AdamPlain_AdamPlainIdeal
    ∧ algebraic_AdamPlainIdeal_AdamPlainRefIdeal (hAdamPlainIdeal := hAdamPlainIdeal) (hAdamPlainRefIdeal := hAdamPlainRefIdeal)
    ∧ preserves_BPre_BPreIdeal
    ∧ algebraic_BPreIdeal_BPreRefIdeal (hBPreIdeal := hBPreIdeal) (hBPreRefIdeal := hBPreRefIdeal)
-- ==== Pre_finite.lean ====
abbrev S2048x8960 : Shape := ⟨2, ![2048, 8960]⟩
abbrev S256x1024 : Shape := ⟨2, ![256, 1024]⟩
abbrev S1x128 : Shape := ⟨2, ![1, 128]⟩
abbrev S2048x512 : Shape := ⟨2, ![2048, 512]⟩
abbrev S_ : Shape := ⟨0, ![]⟩

class Facts : Prop where
  bcast_S_S2048x8960 : S_.BroadcastsInDim S2048x8960 (![] : Fin 0 → Fin S2048x8960.rank)
  reducesTo_S2048x8960_S_d0_1 : S2048x8960.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1x128 : S_.BroadcastsInDim S1x128 (![] : Fin 0 → Fin S1x128.rank)
  reducesTo_S1x128_S_d0_1 : S1x128.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn_part1 {F : FTy → Type} [FloatOps F] (main_arg4 : FVec F S2048x512 .f32) (main_v3 : IVec S_ 1) (main_v7 : IVec S_ 1) (main_v11 : IVec S_ 1) (main_v15 : IVec S_ 1) : IVec S_ 1 :=
  let main_v16 : FVec F S2048x512 .f32 := Host.absf main_arg4
  let main_cst_6 : FVec F S_ .f32 := constant S_ .f32 0x7F800000#32
  let main_v17 : FVec F S2048x512 .f32 := broadcastInDim S2048x512 ![] bcast_S_S2048x512 main_cst_6
  let main_v18 : IVec S2048x512 1 := cmpf .olt main_v16 main_v17
  let main_c_7 : IVec S_ 1 := constantI S_ 1 1#1
  let main_v19 : IVec S_ 1 := (fun x v => Host.reduce IntOp.andi x v reducesTo_S2048x512_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x8960 .f32) (main_arg1 : FVec F S256x1024 .f32) (main_arg2 : FVec F S1x128 .f32) (main_arg3 : FVec F S1x128 .f32) (main_arg4 : FVec F S2048x512 .f32) : IVec S_ 1 :=
  let main_v0 : FVec F S2048x8960 .f32 := Host.absf main_arg0
  let main_cst : FVec F S_ .f32 := constant S_ .f32 0x7F800000#32
  let main_v1 : FVec F S2048x8960 .f32 := broadcastInDim S2048x8960 ![] bcast_S_S2048x8960 main_cst
  let main_v2 : IVec S2048x8960 1 := cmpf .olt main_v0 main_v1
  let main_c : IVec S_ 1 := constantI S_ 1 1#1
  let main_v3 : IVec S_ 1 := (fun x v => Host.reduce IntOp.andi x v reducesTo_S2048x8960_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : FVec F S1x128 .f32 := Host.absf main_arg2
  let main_cst_2 : FVec F S_ .f32 := constant S_ .f32 0x7F800000#32
  let main_v9 : FVec F S1x128 .f32 := broadcastInDim S1x128 ![] bcast_S_S1x128 main_cst_2
  let main_v10 : IVec S1x128 1 := cmpf .olt main_v8 main_v9
  let main_c_3 : IVec S_ 1 := constantI S_ 1 1#1
  let main_v11 : IVec S_ 1 := (fun x v => Host.reduce IntOp.andi x v reducesTo_S1x128_S_d0_1 h_S_) main_v10 main_c_3
  let main_v12 : FVec F S1x128 .f32 := Host.absf main_arg3
  let main_cst_4 : FVec F S_ .f32 := constant S_ .f32 0x7F800000#32
  let main_v13 : FVec F S1x128 .f32 := broadcastInDim S1x128 ![] bcast_S_S1x128 main_cst_4
  let main_v14 : IVec S1x128 1 := cmpf .olt main_v12 main_v13
  let main_c_5 : IVec S_ 1 := constantI S_ 1 1#1
  let main_v15 : IVec S_ 1 := (fun x v => Host.reduce IntOp.andi x v reducesTo_S1x128_S_d0_1 h_S_) main_v14 main_c_5
  fn_part1 (F := F) main_arg4 main_v3 main_v7 main_v11 main_v15
-- ==== MergeBwd.lean ====
abbrev S2048x8960 : Shape := ⟨2, ![2048, 8960]⟩
abbrev S2048x512 : Shape := ⟨2, ![2048, 512]⟩
abbrev S2048x1024 : Shape := ⟨2, ![2048, 1024]⟩
abbrev S2048x2048 : Shape := ⟨2, ![2048, 2048]⟩
abbrev S512x2048 : Shape := ⟨2, ![512, 2048]⟩
abbrev S1024x2048 : Shape := ⟨2, ![1024, 2048]⟩
abbrev S512x8x256 : Shape := ⟨3, ![512, 8, 256]⟩
abbrev S8x512x256 : Shape := ⟨3, ![8, 512, 256]⟩
abbrev S1024x8x256 : Shape := ⟨3, ![1024, 8, 256]⟩
abbrev S8x1024x256 : Shape := ⟨3, ![8, 1024, 256]⟩
abbrev S1024x256 : Shape := ⟨2, ![1024, 256]⟩
abbrev S1x512x256 : Shape := ⟨3, ![1, 512, 256]⟩
abbrev S1x1024x256 : Shape := ⟨3, ![1, 1024, 256]⟩
abbrev S1024x512 : Shape := ⟨2, ![1024, 512]⟩
abbrev S1024x1024 : Shape := ⟨2, ![1024, 1024]⟩
abbrev S512x256 : Shape := ⟨2, ![512, 256]⟩

abbrev nBuf : Space → Nat
  | .hbm => 32
  | .vmem => 38
  | .smem => 0
  | _ => 0

abbrev bufTy : (tb : Table) → Fin (tcTables nBuf tb) → BufTy
  | .hbm, ⟨0, _⟩ => ⟨S2048x8960, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x2048, .f32⟩
  | .hbm, ⟨5, _⟩ => ⟨S512x2048, .f32⟩
  | .hbm, ⟨6, _⟩ => ⟨S1024x2048, .f32⟩
  | .hbm, ⟨7, _⟩ => ⟨S512x2048, .f32⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S512x2048, .bf16⟩
  | .hbm, ⟨15, _⟩ => ⟨S512x8x256, .bf16⟩
  | .hbm, ⟨16, _⟩ => ⟨S8x512x256, .bf16⟩
  | .hbm, ⟨17, _⟩ => ⟨S1024x2048, .bf16⟩
  | .hbm, ⟨18, _⟩ => ⟨S1024x8x256, .bf16⟩
  | .hbm, ⟨19, _⟩ => ⟨S8x1024x256, .bf16⟩
  | .hbm, ⟨20, _⟩ => ⟨S512x2048, .bf16⟩
  | .hbm, ⟨21, _⟩ => ⟨S512x8x256, .bf16⟩
  | .hbm, ⟨22, _⟩ => ⟨S8x512x256, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S2048x2048, .bf16⟩
  | .hbm, ⟨28, _⟩ => ⟨S2048x2048, .bf16⟩
  | .hbm, ⟨29, _⟩ => ⟨S2048x512, .f32⟩
  | .hbm, ⟨30, _⟩ => ⟨S2048x1024, .f32⟩
  | .hbm, ⟨31, _⟩ => ⟨S2048x512, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1x512x256, .bf16⟩
  | .local _ .vmem, ⟨15, _⟩ => ⟨S1x512x256, .bf16⟩
  | .local _ .vmem, ⟨16, _⟩ => ⟨S1x1024x256, .bf16⟩
  | .local _ .vmem, ⟨17, _⟩ => ⟨S1x1024x256, .bf16⟩
  | .local _ .vmem, ⟨18, _⟩ => ⟨S1x512x256, .bf16⟩
  | .local _ .vmem, ⟨19, _⟩ => ⟨S1x512x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .vmem, ⟨27, _⟩ => ⟨S1024x256, .bf16⟩
  | .local _ .vmem, ⟨28, _⟩ => ⟨S1024x256, .bf16⟩
  | .local _ .vmem, ⟨29, _⟩ => ⟨S1024x256, .bf16⟩
  | .local _ .vmem, ⟨30, _⟩ => ⟨S1024x256, .bf16⟩
  | .local _ .vmem, ⟨31, _⟩ => ⟨S1024x256, .bf16⟩
  | .local _ .vmem, ⟨32, _⟩ => ⟨S1024x512, .f32⟩
  | .local _ .vmem, ⟨33, _⟩ => ⟨S1024x512, .f32⟩
  | .local _ .vmem, ⟨34, _⟩ => ⟨S1024x1024, .f32⟩
  | .local _ .vmem, ⟨35, _⟩ => ⟨S1024x1024, .f32⟩
  | .local _ .vmem, ⟨36, _⟩ => ⟨S1024x512, .f32⟩
  | .local _ .vmem, ⟨37, _⟩ => ⟨S1024x512, .f32⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v15_7 : Ref sig .tc := ⟨.hbm, 30, rfl⟩
abbrev main_v15_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v19 : BitVec 1 := Scalar.cmpi .eq arg1 c0_i32
  let v20 : BitVec 32 := Scalar.extui v19
  let c0_i32_13 : BitVec 32 := 0#32
  let v21 : BitVec 1 := Scalar.cmpi .ne v20 c0_i32_13
  v21

def k0_cond2 (i : grid0.Coords) : BitVec 1 :=
  let arg1 : BitVec 32 := BitVec.ofNat 32 (i 1).val
  let c0_i32_14 : BitVec 32 := 0#32
  let v22 : BitVec 1 := Scalar.cmpi .sgt arg1 c0_i32_14
  let v23 : BitVec 32 := Scalar.extui v22
  let c0_i32_15 : BitVec 32 := 0#32
  let v24 : BitVec 1 := Scalar.cmpi .ne v23 c0_i32_15
  v24

def k0_cond3 (i : grid0.Coords) : BitVec 1 :=
  let arg1 : BitVec 32 := BitVec.ofNat 32 (i 1).val
  let c0_i32_29 : BitVec 32 := 0#32
  let v43 : BitVec 1 := Scalar.cmpi .eq arg1 c0_i32_29
  let v44 : BitVec 32 := Scalar.extui v43
  let c0_i32_30 : BitVec 32 := 0#32
  let v45 : BitVec 1 := Scalar.cmpi .ne v44 c0_i32_30
  v45

def k0_cond4 (i : grid0.Coords) : BitVec 1 :=
  let arg1 : BitVec 32 := BitVec.ofNat 32 (i 1).val
  let c0_i32_31 : BitVec 32 := 0#32
  let v46 : BitVec 1 := Scalar.cmpi .sgt arg1 c0_i32_31
  let v47 : BitVec 32 := Scalar.extui v46
  let c0_i32_32 : BitVec 32 := 0#32
  let v48 : BitVec 1 := Scalar.cmpi .ne v47 c0_i32_32
  v48

def k0_cond5 (i : grid0.Coords) : BitVec 1 :=
  let arg1 : BitVec 32 := BitVec.ofNat 32 (i 1).val
  let c0_i32_46 : BitVec 32 := 0#32
  let v67 : BitVec 1 := Scalar.cmpi .eq arg1 c0_i32_46
  let v68 : BitVec 32 := Scalar.extui v67
  let c0_i32_47 : BitVec 32 := 0#32
  let v69 : BitVec 1 := Scalar.cmpi .ne v68 c0_i32_47
  v69

def k0_cond6 (i : grid0.Coords) : BitVec 1 :=
  let arg1 : BitVec 32 := BitVec.ofNat 32 (i 1).val
  let c0_i32_48 : BitVec 32 := 0#32
  let v70 : BitVec 1 := Scalar.cmpi .sgt arg1 c0_i32_48
  let v71 : BitVec 32 := Scalar.extui v70
  let c0_i32_49 : BitVec 32 := 0#32
  let v72 : BitVec 1 := Scalar.cmpi .ne v71 c0_i32_49
  v72

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1024x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== MergeBwdRefIdeal.lean ====
abbrev S2048x8960 : Shape := ⟨2, ![2048, 8960]⟩
abbrev S2048x512 : Shape := ⟨2, ![2048, 512]⟩
abbrev S2048x1024 : Shape := ⟨2, ![2048, 1024]⟩
abbrev S2048x2048 : Shape := ⟨2, ![2048, 2048]⟩
abbrev S512x2048 : Shape := ⟨2, ![512, 2048]⟩
abbrev S1024x2048 : Shape := ⟨2, ![1024, 2048]⟩
abbrev S2048x6144 : Shape := ⟨2, ![2048, 6144]⟩
abbrev S2048x3x2048 : Shape := ⟨3, ![2048, 3, 2048]⟩
abbrev S_ : Shape := ⟨0, ![]⟩
abbrev S2048x1x2048 : Shape := ⟨3, ![2048, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S2048x2048, .f32⟩
  | .hbm, ⟨5, _⟩ => ⟨S512x2048, .f32⟩
  | .hbm, ⟨6, _⟩ => ⟨S1024x2048, .f32⟩
  | .hbm, ⟨7, _⟩ => ⟨S512x2048, .f32⟩
  | .hbm, ⟨8, _⟩ => ⟨S2048x6144, .f32⟩
  | .hbm, ⟨9, _⟩ => ⟨S2048x3x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x3x2048, .f32⟩
  | .hbm, ⟨14, _⟩ => ⟨S2048x3x2048, .f32⟩
  | .hbm, ⟨15, _⟩ => ⟨S_, .f32⟩
  | .hbm, ⟨16, _⟩ => ⟨S2048x3x2048, .f32⟩
  | .hbm, ⟨17, _⟩ => ⟨S2048x3x2048, .f32⟩
  | .hbm, ⟨18, _⟩ => ⟨S_, .f32⟩
  | .hbm, ⟨19, _⟩ => ⟨S2048x3x2048, .f32⟩
  | .hbm, ⟨20, _⟩ => ⟨S2048x3x2048, .f32⟩
  | .hbm, ⟨21, _⟩ => ⟨S_, .f32⟩
  | .hbm, ⟨22, _⟩ => ⟨S2048x3x2048, .f32⟩
  | .hbm, ⟨23, _⟩ => ⟨S2048x3x2048, .f32⟩
  | .hbm, ⟨24, _⟩ => ⟨S2048x3x2048, .f32⟩
  | .hbm, ⟨25, _⟩ => ⟨S2048x1x2048, .f32⟩
  | .hbm, ⟨26, _⟩ => ⟨S2048x2048, .f32⟩
  | .hbm, ⟨27, _⟩ => ⟨S2048x2048, .f32⟩
  | .hbm, ⟨28, _⟩ => ⟨S2048x1x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x1x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1x2048, .f32⟩
  | .hbm, ⟨41, _⟩ => ⟨S_, .f32⟩
  | .hbm, ⟨42, _⟩ => ⟨S2048x3x2048, .f32⟩
  | .hbm, ⟨43, _⟩ => ⟨S2048x2048, .f32⟩
  | .hbm, ⟨44, _⟩ => ⟨S2048x2048, .f32⟩
  | .hbm, ⟨45, _⟩ => ⟨S2048x1x2048, .f32⟩
  | .hbm, ⟨46, _⟩ => ⟨S_, .f32⟩
  | .hbm, ⟨47, _⟩ => ⟨S2048x3x2048, .f32⟩
  | .hbm, ⟨48, _⟩ => ⟨S2048x3x2048, .f32⟩
  | .hbm, ⟨49, _⟩ => ⟨S2048x2048, .f32⟩
  | .hbm, ⟨50, _⟩ => ⟨S2048x2048, .f32⟩
  | .hbm, ⟨51, _⟩ => ⟨S2048x1x2048, .f32⟩
  | .hbm, ⟨52, _⟩ => ⟨S_, .f32⟩
  | .hbm, ⟨53, _⟩ => ⟨S2048x3x2048, .f32⟩
  | .hbm, ⟨54, _⟩ => ⟨S2048x3x2048, .f32⟩
  | .hbm, ⟨55, _⟩ => ⟨S2048x3x2048, .f32⟩
  | .hbm, ⟨56, _⟩ => ⟨S2048x512, .f32⟩
  | .hbm, ⟨57, _⟩ => ⟨S2048x1024, .f32⟩
  | .hbm, ⟨58, _⟩ => ⟨S2048x512, .f32⟩
  | .hbm, ⟨59, _⟩ => ⟨S2048x2048, .bf16⟩
  | .hbm, ⟨60, _⟩ => ⟨S2048x2048, .bf16⟩
  | .hbm, ⟨61, _⟩ => ⟨S2048x2048, .bf16⟩
  | .hbm, ⟨62, _⟩ => ⟨S2048x1x2048, .f32⟩
  | .hbm, ⟨63, _⟩ => ⟨S2048x2048, .f32⟩
  | .hbm, ⟨64, _⟩ => ⟨S2048x2048, .bf16⟩
  | .hbm, ⟨65, _⟩ => ⟨S2048x1x2048, .f32⟩
  | .hbm, ⟨66, _⟩ => ⟨S2048x2048, .f32⟩
  | .hbm, ⟨67, _⟩ => ⟨S2048x2048, .bf16⟩
  | .hbm, ⟨68, _⟩ => ⟨S2048x1x2048, .f32⟩
  | .hbm, ⟨69, _⟩ => ⟨S2048x2048, .f32⟩
  | .hbm, ⟨70, _⟩ => ⟨S2048x2048, .bf16⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== ABwd.lean ====
abbrev S2048x8960 : Shape := ⟨2, ![2048, 8960]⟩
abbrev S1x512 : Shape := ⟨2, ![1, 512]⟩
abbrev S4x128x128 : Shape := ⟨3, ![4, 128, 128]⟩
abbrev S4x128 : Shape := ⟨2, ![4, 128]⟩
abbrev S2048x512 : Shape := ⟨2, ![2048, 512]⟩
abbrev S128x4 : Shape := ⟨2, ![128, 4]⟩
abbrev S2048x1024 : Shape := ⟨2, ![2048, 1024]⟩
abbrev S128x512 : Shape := ⟨2, ![128, 512]⟩
abbrev S128x1024 : Shape := ⟨2, ![128, 1024]⟩
abbrev S128x128 : Shape := ⟨2, ![128, 128]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S2048x8960, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S2048x512, .f32⟩
  | .hbm, ⟨5, _⟩ => ⟨S128x4, .f32⟩
  | .hbm, ⟨6, _⟩ => ⟨S2048x1024, .bf16⟩
  | .hbm, ⟨7, _⟩ => ⟨S1x512, .f32⟩
  | .hbm, ⟨8, _⟩ => ⟨S4x128x128, .f32⟩
  | .hbm, ⟨9, _⟩ => ⟨S128x4, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S128x512, .f32⟩
  | .local _ .vmem, ⟨8, _⟩ => ⟨S128x512, .f32⟩
  | .local _ .vmem, ⟨9, _⟩ => ⟨S128x1024, .bf16⟩
  | .local _ .vmem, ⟨10, _⟩ => ⟨S128x1024, .bf16⟩
  | .local _ .vmem, ⟨11, _⟩ => ⟨S1x512, .f32⟩
  | .local _ .vmem, ⟨12, _⟩ => ⟨S4x128x128, .f32⟩
  | .local _ .vmem, ⟨13, _⟩ => ⟨S128x4, .f32⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ABwdRefIdeal.lean ====
abbrev S2048x8960 : Shape := ⟨2, ![2048, 8960]⟩
abbrev S1x512 : Shape := ⟨2, ![1, 512]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S1x128x4x1 : Shape := ⟨4, ![1, 128, 4, 1]⟩
abbrev S512 : Shape := ⟨1, ![512]⟩
abbrev S2048x1024 : Shape := ⟨2, ![2048, 1024]⟩

abbrev nBuf : Space → Nat
  | .hbm => 182
  | .vmem => 0
  | .smem => 0
  | _ => 0

abbrev hbmTy0_0 (i : Nat) : BufTy := match i % 128 with
  | 0 => ⟨S2048x8960, .f32⟩
  | 1 => ⟨S1x512, .f32⟩
  | 2 => ⟨S4x128x128, .f32⟩
  | 3 => ⟨S4x128, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S_, .f32⟩
  | 25 => ⟨S2048x512, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S_, .f32⟩
  | 42 => ⟨S2048x512, .f32⟩
  | 43 => ⟨S2048x512, .f32⟩
  | 44 => ⟨S2048x512, .f32⟩
  | 45 => ⟨S_, .f32⟩
  | 46 => ⟨S2048x512, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S2048x512, .f32⟩
  | 63 => ⟨S2048x512, .f32⟩
  | 64 => ⟨S_, .f32⟩
  | 65 => ⟨S2048, .f32⟩
  | 66 => ⟨S2048x1, .f32⟩
  | 67 => ⟨S_, .f32⟩
  | 68 => ⟨S2048x1, .f32⟩
  | 69 => ⟨S2048x1, .f32⟩
  | 70 => ⟨S_, .f32⟩
  | 71 => ⟨S2048x1, .f32⟩
  | 72 => ⟨S2048x1, .f32⟩
  | 73 => ⟨S2048x1, .f32⟩
  | 74 => ⟨S2048x1, .f32⟩
  | 75 => ⟨S_, .f32⟩
  | 76 => ⟨S2048x1, .f32⟩
  | 77 => ⟨S2048x1, .f32⟩
  | 78 => ⟨S2048x512, .f32⟩
  | 79 => ⟨S2048x512, .f32⟩
  | 80 => ⟨S2048x512, .f32⟩
  | 81 => ⟨S2048x512, .f32⟩
  | 82 => ⟨S16x128x4x128, .f32⟩
  | 83 => ⟨S_, .i1⟩
  | 84 => ⟨S128x128, .i1⟩
  | 85 => ⟨S128x128, .i32⟩
  | 86 => ⟨S_, .i32⟩
  | 87 => ⟨S128x128, .i32⟩
  | 88 => ⟨S128x128, .i32⟩
  | 89 => ⟨S128x128, .i32⟩
  | 90 => ⟨S128x128, .i1⟩
  | 91 => ⟨S_, .i1⟩
  | 92 => ⟨S128x128, .i1⟩
  | 93 => ⟨S128x128, .i1⟩
  | 94 => ⟨S1x128x128, .i1⟩
  | 95 => ⟨S_, .f32⟩
  | 96 => ⟨S4x128x128, .f32⟩
  | 97 => ⟨S4x128x128, .i1⟩
  | 98 => ⟨S4x128x128, .f32⟩
  | 99 => ⟨S_, .f32⟩
  | 100 => ⟨S4x128x128, .f32⟩
  | 101 => ⟨S4x16x128x128, .f32⟩
  | 102 => ⟨S16x128x4x128, .f32⟩
  | 103 => ⟨S128x4, .f32⟩
  | 104 => ⟨S1x128x4x1, .f32⟩
  | 105 => ⟨S16x128x4x128, .f32⟩
  | 106 => ⟨S16x128x4x128, .f32⟩
  | 107 => ⟨S2048x512, .f32⟩
  | 108 => ⟨S2048x512, .f32⟩
  | 109 => ⟨S2048x512, .f32⟩
  | 110 => ⟨S2048x512, .f32⟩
  | 111 => ⟨S16x128x4x128, .f32⟩
  | 112 => ⟨S_, .f32⟩
  | 113 => ⟨S128x4, .f32⟩
  | 114 => ⟨S1x128x4x1, .f32⟩
  | 115 => ⟨S_, .f32⟩
  | 116 => ⟨S128x4, .f32⟩
  | 117 => ⟨S4x128, .f32⟩
  | 118 => ⟨S4x16x128x128, .f32⟩
  | 119 => ⟨S4x128x128, .f32⟩
  | 120 => ⟨S4x16x128x128, .f32⟩
  | 121 => ⟨S16x128x4x128, .f32⟩
  | 122 => ⟨S_, .f32⟩
  | 123 => ⟨S4x128x128, .f32⟩
  | 124 => ⟨S4x128x128, .f32⟩
  | 125 => ⟨S2048x512, .f32⟩
  | 126 => ⟨S2048x512, .f32⟩
  | 127 => ⟨S_, .f32⟩
  | _ => ⟨S2048x8960, .f32⟩

abbrev hbmTy0_1 (i : Nat) : BufTy := match i % 128 with
  | 0 => ⟨S512, .f32⟩
  | 1 => ⟨S1x512, .f32⟩
  | 2 => ⟨S2048x512, .f32⟩
  | 3 => ⟨S2048x512, .f32⟩
  | 4 => ⟨S2048x512, .f32⟩
  | 5 => ⟨S_, .f32⟩
  | 6 => ⟨S2048, .f32⟩
  | 7 => ⟨S2048x1, .f32⟩
  | 8 => ⟨S2048x512, .f32⟩
  | 9 => ⟨S2048x512, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048, .f32⟩
  | 16 => ⟨S2048x512, .f32⟩
  | 17 => ⟨S2048x512, .f32⟩
  | 18 => ⟨S2048x512, .f32⟩
  | 19 => ⟨S2048x512, .f32⟩
  | 20 => ⟨S2048x512, .f32⟩
  | 21 => ⟨S2048x512, .f32⟩
  | 22 => ⟨S2048x512, .f32⟩
  | 23 => ⟨S_, .f32⟩
  | 24 => ⟨S2048x512, .f32⟩
  | 25 => ⟨S2048x512, .f32⟩
  | 26 => ⟨S2048x512, .f32⟩
  | 27 => ⟨S_, .f32⟩
  | 28 => ⟨S2048x512, .f32⟩
  | 29 => ⟨S2048x512, .f32⟩
  | 30 => ⟨S2048x512, .f32⟩
  | 31 => ⟨S_, .f32⟩
  | 32 => ⟨S2048x512, .f32⟩
  | 33 => ⟨S2048x512, .f32⟩
  | 34 => ⟨S2048x512, .f32⟩
  | 35 => ⟨S2048x512, .f32⟩
  | 36 => ⟨S2048x512, .f32⟩
  | 37 => ⟨S2048x512, .f32⟩
  | 38 => ⟨S_, .f32⟩
  | 39 => ⟨S2048x512, .f32⟩
  | 40 => ⟨S2048x512, .f32⟩
  | 41 => ⟨S2048x512, .f32⟩
  | 42 => ⟨S_, .f32⟩
  | 43 => ⟨S2048x512, .f32⟩
  | 44 => ⟨S2048x512, .f32⟩
  | 45 => ⟨S2048x512, .f32⟩
  | 46 => ⟨S_, .f32⟩
  | 47 => ⟨S2048x512, .f32⟩
  | 48 => ⟨S2048x512, .f32⟩
  | 49 => ⟨S2048x512, .f32⟩
  | 50 => ⟨S2048x512, .f32⟩
  | 51 => ⟨S2048x1024, .f32⟩
  | 52 => ⟨S2048x1024, .bf16⟩
  | 53 => ⟨S128x4, .f32⟩
  | _ => ⟨S2048x8960, .f32⟩

abbrev hbmTy (i : Nat) : BufTy := match i / 128 with
  | 0 => hbmTy0_0 i
  | 1 => hbmTy0_1 i
  | _ => ⟨S2048x8960, .f32⟩

abbrev bufTy : (tb : Table) → Fin (tcTables nBuf tb) → BufTy
  | .hbm, ⟨i, _⟩ => hbmTy i
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_cst_12 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c : Ref sig .tc := ⟨.hbm, 83, rfl⟩
abbrev main_v60 : Ref sig .tc := ⟨.hbm, 84, rfl⟩
abbrev main_call0_v0 : Ref sig .tc := ⟨.hbm, 85, rfl⟩
abbrev main_call0_c : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_c_0 : Ref sig .tc := ⟨.hbm, 91, rfl⟩
abbrev main_call0_v5 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64_1 : Ref sig .tc := ⟨.hbm, 97, rfl⟩
abbrev main_v64_0 : Ref sig .tc := ⟨.hbm, 98, rfl⟩
abbrev main_call1_cst : Ref sig .tc := ⟨.hbm, 99, rfl⟩
abbrev main_v64_2 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_18 : Ref sig .tc := ⟨.hbm, 112, rfl⟩
abbrev main_v76 : Ref sig .tc := ⟨.hbm, 113, rfl⟩
abbrev main_v77 : Ref sig .tc := ⟨.hbm, 114, rfl⟩
abbrev main_cst_19 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call2_cst : Ref sig .tc := ⟨.hbm, 122, rfl⟩
abbrev main_call2_v0 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_20 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_21 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_26 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_cst_27 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_cst_28 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_cst_29 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩

abbrev nD : Nat := 1
abbrev τ : Topo := Topo.v7x

variable {F : FTy → Type} [FloatOps F]
-- ==== RmsBwd.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 18
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .bf16⟩
  | .hbm, ⟨17, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1, .f32⟩
  | .local _ .vmem, ⟨3, _⟩ => ⟨S256x1, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_15 : BitVec 32 := 0#32
  let v33 : BitVec 1 := Scalar.cmpi .ne v32 c0_i32_15
  v33

def k0_cond2 (i : grid0.Coords) : BitVec 1 :=
  let arg0 : BitVec 32 := BitVec.ofNat 32 (i 0).val
  let c0_i32_16 : BitVec 32 := 0#32
  let v34 : BitVec 1 := Scalar.cmpi .sgt arg0 c0_i32_16
  let v35 : BitVec 32 := Scalar.extui v34
  let c0_i32_17 : BitVec 32 := 0#32
  let v36 : BitVec 1 := Scalar.cmpi .ne v35 c0_i32_17
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RmsBwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 48
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== DH.lean ====
abbrev S2048x8960 : Shape := ⟨2, ![2048, 8960]⟩
abbrev S8960x2048 : Shape := ⟨2, ![8960, 2048]⟩
abbrev S2048x2048 : Shape := ⟨2, ![2048, 2048]⟩
abbrev S2048x1280 : Shape := ⟨2, ![2048, 1280]⟩
abbrev S1280x1024 : Shape := ⟨2, ![1280, 1024]⟩
abbrev S2048x1024 : Shape := ⟨2, ![2048, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x8960, .f32⟩
  | .hbm, ⟨1, _⟩ => ⟨S2048x8960, .f32⟩
  | .hbm, ⟨2, _⟩ => ⟨S2048x8960, .bf16⟩
  | .hbm, ⟨3, _⟩ => ⟨S8960x2048, .f32⟩
  | .hbm, ⟨4, _⟩ => ⟨S8960x2048, .bf16⟩
  | .hbm, ⟨5, _⟩ => ⟨S2048x2048, .f32⟩
  | .local _ .vmem, ⟨0, _⟩ => ⟨S2048x1280, .bf16⟩
  | .local _ .vmem, ⟨1, _⟩ => ⟨S2048x1280, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S2048x8960 : Shape := ⟨2, ![2048, 8960]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S2048x8960, .f32⟩
  | .hbm, ⟨2, _⟩ => ⟨S_, .f32⟩
  | .hbm, ⟨3, _⟩ => ⟨S2048x2048, .f32⟩
  | .hbm, ⟨4, _⟩ => ⟨S2048x8960, .f32⟩
  | .hbm, ⟨5, _⟩ => ⟨S2048x2048, .f32⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DAct.lean ====
abbrev S5632x2048 : Shape := ⟨2, ![5632, 2048]⟩
abbrev S2048x2048 : Shape := ⟨2, ![2048, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 5
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S2048x2048, .f32⟩
  | .hbm, ⟨2, _⟩ => ⟨S2048x2048, .bf16⟩
  | .hbm, ⟨3, _⟩ => ⟨S5632x2048, .bf16⟩
  | .hbm, ⟨4, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S5632x2048 : Shape := ⟨2, ![5632, 2048]⟩
abbrev S2048x2048 : Shape := ⟨2, ![2048, 2048]⟩
abbrev S_ : Shape := ⟨0, ![]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S2048x2048, .f32⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GDown.lean ====
abbrev S2048x5632 : Shape := ⟨2, ![2048, 5632]⟩
abbrev S2048x2048 : Shape := ⟨2, ![2048, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x5632, .bf16⟩
  | .hbm, ⟨3, _⟩ => ⟨S2048x2048, .bf16⟩
  | .hbm, ⟨4, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S_, .f32⟩
  | .hbm, ⟨3, _⟩ => ⟨S5632x2048, .f32⟩
  | .hbm, ⟨4, _⟩ => ⟨S2048x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GOut.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GBranchA.lean ====
abbrev S2048x512 : Shape := ⟨2, ![2048, 512]⟩
abbrev S2048x2048 : Shape := ⟨2, ![2048, 2048]⟩
abbrev S8x512x256 : Shape := ⟨3, ![8, 512, 256]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S2048x512, .bf16⟩
  | .hbm, ⟨3, _⟩ => ⟨S2048x2048, .bf16⟩
  | .hbm, ⟨4, _⟩ => ⟨S8x512x256, .bf16⟩
  | .local _ .vmem, ⟨0, _⟩ => ⟨S2048x512, .bf16⟩
  | .local _ .vmem, ⟨1, _⟩ => ⟨S2048x256, .bf16⟩
  | .local _ .vmem, ⟨2, _⟩ => ⟨S2048x256, .bf16⟩
  | .local _ .vmem, ⟨3, _⟩ => ⟨S1x512x256, .bf16⟩
  | .local _ .vmem, ⟨4, _⟩ => ⟨S1x512x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GBranchARefIdeal.lean ====
abbrev S2048x512 : Shape := ⟨2, ![2048, 512]⟩
abbrev S2048x2048 : Shape := ⟨2, ![2048, 2048]⟩
abbrev S_ : Shape := ⟨0, ![]⟩
abbrev S512x2048 : Shape := ⟨2, ![512, 2048]⟩
abbrev S512x8x256 : Shape := ⟨3, ![512, 8, 256]⟩
abbrev S8x512x256 : Shape := ⟨3, ![8, 512, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S_, .f32⟩
  | .hbm, ⟨3, _⟩ => ⟨S512x2048, .f32⟩
  | .hbm, ⟨4, _⟩ => ⟨S2048x2048, .f32⟩
  | .hbm, ⟨5, _⟩ => ⟨S2048x512, .f32⟩
  | .hbm, ⟨6, _⟩ => ⟨S512x2048, .f32⟩
  | .hbm, ⟨7, _⟩ => ⟨S512x8x256, .f32⟩
  | .hbm, ⟨8, _⟩ => ⟨S8x512x256, .f32⟩
  | .hbm, ⟨9, _⟩ => ⟨S8x512x256, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proj.lean ====
abbrev S2048x2048 : Shape := ⟨2, ![2048, 2048]⟩
abbrev S2048x8960 : Shape := ⟨2, ![2048, 8960]⟩
abbrev S8960x2048 : Shape := ⟨2, ![8960, 2048]⟩
abbrev S1024x2048 : Shape := ⟨2, ![1024, 2048]⟩
abbrev S1280x2048 : Shape := ⟨2, ![1280, 2048]⟩
abbrev S1024x1280 : Shape := ⟨2, ![1024, 1280]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8960, .f32⟩
  | .hbm, ⟨2, _⟩ => ⟨S2048x2048, .bf16⟩
  | .hbm, ⟨3, _⟩ => ⟨S8960x2048, .f32⟩
  | .hbm, ⟨4, _⟩ => ⟨S8960x2048, .bf16⟩
  | .hbm, ⟨5, _⟩ => ⟨S2048x8960, .f32⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1280x2048, .bf16⟩
  | .local _ .vmem, ⟨4, _⟩ => ⟨S1024x1280, .f32⟩
  | .local _ .vmem, ⟨5, _⟩ => ⟨S1024x1280, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x2048 : Shape := ⟨2, ![2048, 2048]⟩
abbrev S2048x8960 : Shape := ⟨2, ![2048, 8960]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8960, .f32⟩
  | .hbm, ⟨2, _⟩ => ⟨S2048x8960, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Up.lean ====
abbrev S2048x2048 : Shape := ⟨2, ![2048, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2x2048x5632 : Shape := ⟨3, ![2, 2048, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x2048, .bf16⟩
  | .hbm, ⟨3, _⟩ => ⟨S2048x11264, .bf16⟩
  | .hbm, ⟨4, _⟩ => ⟨S2048x8x1408, .bf16⟩
  | .hbm, ⟨5, _⟩ => ⟨S8x2048x1408, .bf16⟩
  | .hbm, ⟨6, _⟩ => ⟨S2x2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32_10 : BitVec 32 := 4#32
  let v27 : BitVec 32 := Scalar.divsi arg1 c4_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg1 c4_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c4_i32_17 : BitVec 32 := 4#32
  let c0_i32_18 : BitVec 32 := 0#32
  let v44 : BitVec 1 := Scalar.cmpi .eq c4_i32_17 c0_i32_18
  let c1_i32_19 : BitVec 32 := 1#32
  let v45 : BitVec 32 := Scalar.select v44 c1_i32_19 c4_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg0.toNat, v53.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S2048x11264 : Shape := ⟨2, ![2048, 11264]⟩
abbrev S2048x5632 : Shape := ⟨2, ![2048, 5632]⟩
abbrev S1x2048x5632 : Shape := ⟨3, ![1, 2048, 5632]⟩
abbrev S2x2048x5632 : Shape := ⟨3, ![2, 2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x11264, .f32⟩
  | .hbm, ⟨2, _⟩ => ⟨S2048x11264, .f32⟩
  | .hbm, ⟨3, _⟩ => ⟨S2048x5632, .f32⟩
  | .hbm, ⟨4, _⟩ => ⟨S2048x5632, .f32⟩
  | .hbm, ⟨5, _⟩ => ⟨S1x2048x5632, .f32⟩
  | .hbm, ⟨6, _⟩ => ⟨S1x2048x5632, .f32⟩
  | .hbm, ⟨7, _⟩ => ⟨S2x2048x5632, .f32⟩
  | .hbm, ⟨8, _⟩ => ⟨S2x2048x5632, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutLoss.lean ====
abbrev S2048x5632 : Shape := ⟨2, ![2048, 5632]⟩
abbrev S5632x2048 : Shape := ⟨2, ![5632, 2048]⟩
abbrev S2048x2048 : Shape := ⟨2, ![2048, 2048]⟩
abbrev S8x128 : Shape := ⟨2, ![8, 128]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x5632, .bf16⟩
  | .hbm, ⟨5, _⟩ => ⟨S5632x2048, .bf16⟩
  | .hbm, ⟨6, _⟩ => ⟨S2048x2048, .f32⟩
  | .hbm, ⟨7, _⟩ => ⟨S2048x2048, .bf16⟩
  | .hbm, ⟨8, _⟩ => ⟨S8x128, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S8x128, .f32⟩
  | .local _ .vmem, ⟨13, _⟩ => ⟨S1024x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v20 : BitVec 1 := Scalar.cmpi .eq arg2 c3_i32
  let v21 : BitVec 32 := Scalar.extui v20
  let c0_i32_12 : BitVec 32 := 0#32
  let v22 : BitVec 1 := Scalar.cmpi .ne v21 c0_i32_12
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== OutLossRefIdeal.lean ====
abbrev S2048x5632 : Shape := ⟨2, ![2048, 5632]⟩
abbrev S5632x2048 : Shape := ⟨2, ![5632, 2048]⟩
abbrev S2048x2048 : Shape := ⟨2, ![2048, 2048]⟩
abbrev S_ : Shape := ⟨0, ![]⟩
abbrev S2048 : Shape := ⟨1, ![2048]⟩
abbrev S8x128 : Shape := ⟨2, ![8, 128]⟩

abbrev nBuf : Space → Nat
  | .hbm => 31
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S5632x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048, .f32⟩
  | .hbm, ⟨13, _⟩ => ⟨S_, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S_, .f32⟩
  | .hbm, ⟨25, _⟩ => ⟨S2048, .f32⟩
  | .hbm, ⟨26, _⟩ => ⟨S2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S8x128, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== ResidualRms.lean ====
abbrev S2048x2048 : Shape := ⟨2, ![2048, 2048]⟩
abbrev S1x2048 : Shape := ⟨2, ![1, 2048]⟩
abbrev S2048x1 : Shape := ⟨2, ![2048, 1]⟩
abbrev S512x2048 : Shape := ⟨2, ![512, 2048]⟩
abbrev S512x1 : Shape := ⟨2, ![512, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .bf16⟩
  | .hbm, ⟨8, _⟩ => ⟨S2048x1, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S512x1, .f32⟩
  | .local _ .vmem, ⟨11, _⟩ => ⟨S512x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ResidualRmsRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== MergeFwd.lean ====
abbrev S2048x8960 : Shape := ⟨2, ![2048, 8960]⟩
abbrev S2048x512 : Shape := ⟨2, ![2048, 512]⟩
abbrev S2048x1024 : Shape := ⟨2, ![2048, 1024]⟩
abbrev S512x2048 : Shape := ⟨2, ![512, 2048]⟩
abbrev S1024x2048 : Shape := ⟨2, ![1024, 2048]⟩
abbrev S512x8x256 : Shape := ⟨3, ![512, 8, 256]⟩
abbrev S8x512x256 : Shape := ⟨3, ![8, 512, 256]⟩
abbrev S1024x8x256 : Shape := ⟨3, ![1024, 8, 256]⟩
abbrev S8x1024x256 : Shape := ⟨3, ![8, 1024, 256]⟩
abbrev S2048x2048 : Shape := ⟨2, ![2048, 2048]⟩
abbrev S2048x256 : Shape := ⟨2, ![2048, 256]⟩
abbrev S1x512x256 : Shape := ⟨3, ![1, 512, 256]⟩
abbrev S1x1024x256 : Shape := ⟨3, ![1, 1024, 256]⟩
abbrev S512x256 : Shape := ⟨2, ![512, 256]⟩
abbrev S1024x256 : Shape := ⟨2, ![1024, 256]⟩

abbrev nBuf : Space → Nat
  | .hbm => 23
  | .vmem => 23
  | .smem => 0
  | _ => 0

abbrev bufTy : (tb : Table) → Fin (tcTables nBuf tb) → BufTy
  | .hbm, ⟨0, _⟩ => ⟨S2048x8960, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S512x2048, .f32⟩
  | .hbm, ⟨5, _⟩ => ⟨S1024x2048, .f32⟩
  | .hbm, ⟨6, _⟩ => ⟨S512x2048, .f32⟩
  | .hbm, ⟨7, _⟩ => ⟨S2048x512, .bf16⟩
  | .hbm, ⟨8, _⟩ => ⟨S2048x1024, .bf16⟩
  | .hbm, ⟨9, _⟩ => ⟨S2048x512, .bf16⟩
  | .hbm, ⟨10, _⟩ => ⟨S512x2048, .bf16⟩
  | .hbm, ⟨11, _⟩ => ⟨S512x8x256, .bf16⟩
  | .hbm, ⟨12, _⟩ => ⟨S8x512x256, .bf16⟩
  | .hbm, ⟨13, _⟩ => ⟨S1024x2048, .bf16⟩
  | .hbm, ⟨14, _⟩ => ⟨S1024x8x256, .bf16⟩
  | .hbm, ⟨15, _⟩ => ⟨S8x1024x256, .bf16⟩
  | .hbm, ⟨16, _⟩ => ⟨S512x2048, .bf16⟩
  | .hbm, ⟨17, _⟩ => ⟨S512x8x256, .bf16⟩
  | .hbm, ⟨18, _⟩ => ⟨S8x512x256, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x512, .bf16⟩
  | .local _ .vmem, ⟨7, _⟩ => ⟨S2048x1024, .bf16⟩
  | .local _ .vmem, ⟨8, _⟩ => ⟨S2048x512, .bf16⟩
  | .local _ .vmem, ⟨9, _⟩ => ⟨S1x512x256, .bf16⟩
  | .local _ .vmem, ⟨10, _⟩ => ⟨S1x512x256, .bf16⟩
  | .local _ .vmem, ⟨11, _⟩ => ⟨S1x1024x256, .bf16⟩
  | .local _ .vmem, ⟨12, _⟩ => ⟨S1x1024x256, .bf16⟩
  | .local _ .vmem, ⟨13, _⟩ => ⟨S1x512x256, .bf16⟩
  | .local _ .vmem, ⟨14, _⟩ => ⟨S1x512x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c19_i32 : BitVec 32 := 19#32
  let v0 : BitVec 32 := Scalar.addi c19_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c27_i32 : BitVec 32 := 27#32
  let v0 : BitVec 32 := Scalar.addi c27_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MergeFwdRefIdeal.lean ====
abbrev S2048x8960 : Shape := ⟨2, ![2048, 8960]⟩
abbrev S2048x512 : Shape := ⟨2, ![2048, 512]⟩
abbrev S2048x1024 : Shape := ⟨2, ![2048, 1024]⟩
abbrev S512x2048 : Shape := ⟨2, ![512, 2048]⟩
abbrev S1024x2048 : Shape := ⟨2, ![1024, 2048]⟩
abbrev S2048x6144 : Shape := ⟨2, ![2048, 6144]⟩
abbrev S2048x3x2048 : Shape := ⟨3, ![2048, 3, 2048]⟩
abbrev S_ : Shape := ⟨0, ![]⟩
abbrev S2048x2048 : Shape := ⟨2, ![2048, 2048]⟩
abbrev S2048x1x2048 : Shape := ⟨3, ![2048, 1, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S2048x512, .f32⟩
  | .hbm, ⟨2, _⟩ => ⟨S2048x1024, .f32⟩
  | .hbm, ⟨3, _⟩ => ⟨S2048x512, .f32⟩
  | .hbm, ⟨4, _⟩ => ⟨S512x2048, .f32⟩
  | .hbm, ⟨5, _⟩ => ⟨S1024x2048, .f32⟩
  | .hbm, ⟨6, _⟩ => ⟨S512x2048, .f32⟩
  | .hbm, ⟨7, _⟩ => ⟨S2048x6144, .f32⟩
  | .hbm, ⟨8, _⟩ => ⟨S2048x3x2048, .f32⟩
  | .hbm, ⟨9, _⟩ => ⟨S2048x3x2048, .f32⟩
  | .hbm, ⟨10, _⟩ => ⟨S2048x3x2048, .f32⟩
  | .hbm, ⟨11, _⟩ => ⟨S_, .f32⟩
  | .hbm, ⟨12, _⟩ => ⟨S2048x3x2048, .f32⟩
  | .hbm, ⟨13, _⟩ => ⟨S2048x3x2048, .f32⟩
  | .hbm, ⟨14, _⟩ => ⟨S_, .f32⟩
  | .hbm, ⟨15, _⟩ => ⟨S2048x3x2048, .f32⟩
  | .hbm, ⟨16, _⟩ => ⟨S2048x3x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x1x2048, .f32⟩
  | .hbm, ⟨21, _⟩ => ⟨S2048x2048, .f32⟩
  | .hbm, ⟨22, _⟩ => ⟨S2048x2048, .f32⟩
  | .hbm, ⟨23, _⟩ => ⟨S2048x1x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .bf16⟩
  | .hbm, ⟨32, _⟩ => ⟨S2048x2048, .bf16⟩
  | .hbm, ⟨33, _⟩ => ⟨S2048x2048, .bf16⟩
  | .hbm, ⟨34, _⟩ => ⟨S2048x2048, .bf16⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== CBwd.lean ====
abbrev S2048x8960 : Shape := ⟨2, ![2048, 8960]⟩
abbrev S256x1024 : Shape := ⟨2, ![256, 1024]⟩
abbrev S1x128 : Shape := ⟨2, ![1, 128]⟩
abbrev S2048x512 : Shape := ⟨2, ![2048, 512]⟩
abbrev S256x512 : Shape := ⟨2, ![256, 512]⟩
abbrev S4x1x128 : Shape := ⟨3, ![4, 1, 128]⟩
abbrev S512x128 : Shape := ⟨2, ![512, 128]⟩
abbrev S256x128 : Shape := ⟨2, ![256, 128]⟩
abbrev S1x1x128 : Shape := ⟨3, ![1, 1, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩
abbrev S128x256 : Shape := ⟨2, ![128, 256]⟩
abbrev S128 : Shape := ⟨1, ![128]⟩

abbrev nBuf : Space → Nat
  | .hbm => 10
  | .vmem => 20
  | .smem => 0
  | _ => 0

abbrev bufTy : (tb : Table) → Fin (tcTables nBuf tb) → BufTy
  | .hbm, ⟨0, _⟩ => ⟨S2048x8960, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .f32⟩
  | .hbm, ⟨5, _⟩ => ⟨S2048x512, .bf16⟩
  | .hbm, ⟨6, _⟩ => ⟨S256x512, .f32⟩
  | .hbm, ⟨7, _⟩ => ⟨S256x512, .f32⟩
  | .hbm, ⟨8, _⟩ => ⟨S4x1x128, .f32⟩
  | .hbm, ⟨9, _⟩ => ⟨S4x1x128, .f32⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1x1x128, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v128 : BitVec 1 := Scalar.cmpi .eq arg1 c0_i32
  let v129 : BitVec 32 := Scalar.extui v128
  let c0_i32_42 : BitVec 32 := 0#32
  let v130 : BitVec 1 := Scalar.cmpi .ne v129 c0_i32_42
  v130

def k0_cond2 (i : grid0.Coords) : BitVec 1 :=
  let arg1 : BitVec 32 := BitVec.ofNat 32 (i 1).val
  let c0_i32_43 : BitVec 32 := 0#32
  let v131 : BitVec 1 := Scalar.cmpi .sgt arg1 c0_i32_43
  let v132 : BitVec 32 := Scalar.extui v131
  let c0_i32_44 : BitVec 32 := 0#32
  let v133 : BitVec 1 := Scalar.cmpi .ne v132 c0_i32_44
  v133

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== CBwdRefIdeal.lean ====
abbrev S2048x8960 : Shape := ⟨2, ![2048, 8960]⟩
abbrev S256x1024 : Shape := ⟨2, ![256, 1024]⟩
abbrev S1x128 : Shape := ⟨2, ![1, 128]⟩
abbrev S2048x512 : Shape := ⟨2, ![2048, 512]⟩
abbrev S4x128 : Shape := ⟨2, ![4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x4x128 : Shape := ⟨3, ![1, 4, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩
abbrev S256x512 : Shape := ⟨2, ![256, 512]⟩
abbrev S4x1x128 : Shape := ⟨3, ![4, 1, 128]⟩

abbrev nBuf : Space → Nat
  | .hbm => 189
  | .vmem => 0
  | .smem => 0
  | _ => 0

abbrev hbmTy0_0 (i : Nat) : BufTy := match i % 128 with
  | 0 => ⟨S2048x8960, .f32⟩
  | 1 => ⟨S256x1024, .f32⟩
  | 2 => ⟨S1x128, .f32⟩
  | 3 => ⟨S1x128, .f32⟩
  | 4 => ⟨S2048x512, .f32⟩
  | 5 => ⟨S2048x512, .f32⟩
  | 6 => ⟨S4x128, .f32⟩
  | 7 => ⟨S4x128, .f32⟩
  | 8 => ⟨S256x2x4x128, .f32⟩
  | 9 => ⟨S256x1x4x128, .f32⟩
  | 10 => ⟨S256x4x128, .f32⟩
  | 11 => ⟨S256x1x4x128, .f32⟩
  | 12 => ⟨S256x4x128, .f32⟩
  | 13 => ⟨S2048x4x128, .f32⟩
  | 14 => ⟨S2048x4x128, .f32⟩
  | 15 => ⟨S_, .f32⟩
  | 16 => ⟨S2048x4, .f32⟩
  | 17 => ⟨S2048x4x1, .f32⟩
  | 18 => ⟨S_, .f32⟩
  | 19 => ⟨S2048x4x1, .f32⟩
  | 20 => ⟨S2048x4x1, .f32⟩
  | 21 => ⟨S_, .f32⟩
  | 22 => ⟨S2048x4x1, .f32⟩
  | 23 => ⟨S2048x4x1, .f32⟩
  | 24 => ⟨S2048x4x1, .f32⟩
  | 25 => ⟨S2048x4x1, .f32⟩
  | 26 => ⟨S_, .f32⟩
  | 27 => ⟨S2048x4x1, .f32⟩
  | 28 => ⟨S2048x4x1, .f32⟩
  | 29 => ⟨S2048x4x128, .f32⟩
  | 30 => ⟨S2048x4x128, .f32⟩
  | 31 => ⟨S1x4x128, .f32⟩
  | 32 => ⟨S2048x4x128, .f32⟩
  | 33 => ⟨S2048x4x128, .f32⟩
  | 34 => ⟨S256x4x128, .f32⟩
  | 35 => ⟨S_, .f32⟩
  | 36 => ⟨S256x4, .f32⟩
  | 37 => ⟨S256x4x1, .f32⟩
  | 38 => ⟨S_, .f32⟩
  | 39 => ⟨S256x4x1, .f32⟩
  | 40 => ⟨S256x4x1, .f32⟩
  | 41 => ⟨S_, .f32⟩
  | 42 => ⟨S256x4x1, .f32⟩
  | 43 => ⟨S256x4x1, .f32⟩
  | 44 => ⟨S256x4x1, .f32⟩
  | 45 => ⟨S256x4x1, .f32⟩
  | 46 => ⟨S_, .f32⟩
  | 47 => ⟨S256x4x1, .f32⟩
  | 48 => ⟨S256x4x1, .f32⟩
  | 49 => ⟨S256x4x128, .f32⟩
  | 50 => ⟨S256x4x128, .f32⟩
  | 51 => ⟨S1x4x128, .f32⟩
  | 52 => ⟨S256x4x128, .f32⟩
  | 53 => ⟨S256x4x128, .f32⟩
  | 54 => ⟨S4x2048x256, .f32⟩
  | 55 => ⟨S_, .f32⟩
  | 56 => ⟨S4x2048x256, .f32⟩
  | 57 => ⟨S4x2048x256, .f32⟩
  | 58 => ⟨S_, .f32⟩
  | 59 => ⟨S4x2048, .f32⟩
  | 60 => ⟨S4x2048x1, .f32⟩
  | 61 => ⟨S4x2048x256, .f32⟩
  | 62 => ⟨S4x2048x256, .i1⟩
  | 63 => ⟨S4x2048x256, .f32⟩
  | 64 => ⟨S_, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .i1⟩
  | 72 => ⟨S_, .f32⟩
  | 73 => ⟨S4x2048, .f32⟩
  | 74 => ⟨S4x2048, .i1⟩
  | 75 => ⟨S_, .f32⟩
  | 76 => ⟨S4x2048, .f32⟩
  | 77 => ⟨S_, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S4x2048x1, .f32⟩
  | 84 => ⟨S4x2048x256, .f32⟩
  | 85 => ⟨S4x2048x256, .f32⟩
  | 86 => ⟨S4x2048x256, .f32⟩
  | 87 => ⟨S_, .f32⟩
  | 88 => ⟨S4x2048, .f32⟩
  | 89 => ⟨S4x2048x1, .f32⟩
  | 90 => ⟨S4x2048x256, .f32⟩
  | 91 => ⟨S4x2048x256, .f32⟩
  | 92 => ⟨S4x2048x1, .f32⟩
  | 93 => ⟨S_, .f32⟩
  | 94 => ⟨S4x2048x1, .f32⟩
  | 95 => ⟨S4x2048x1, .f32⟩
  | 96 => ⟨S4x128x2048, .f32⟩
  | 97 => ⟨S2048x4x128, .f32⟩
  | 98 => ⟨S2048x512, .f32⟩
  | 99 => ⟨S2048x4x128, .f32⟩
  | 100 => ⟨S4x128x2048, .f32⟩
  | 101 => ⟨S4x2048x256, .f32⟩
  | 102 => ⟨S4x128x256, .f32⟩
  | 103 => ⟨S256x4x128, .f32⟩
  | 104 => ⟨S4x2048x256, .f32⟩
  | 105 => ⟨S4x2048x256, .f32⟩
  | 106 => ⟨S4x2048x256, .f32⟩
  | 107 => ⟨S_, .f32⟩
  | 108 => ⟨S4x2048, .f32⟩
  | 109 => ⟨S4x2048x1, .f32⟩
  | 110 => ⟨S4x2048x1, .f32⟩
  | 111 => ⟨S4x2048x256, .f32⟩
  | 112 => ⟨S4x2048x256, .f32⟩
  | 113 => ⟨S_, .f32⟩
  | 114 => ⟨S4x2048, .f32⟩
  | 115 => ⟨S4x2048x256, .f32⟩
  | 116 => ⟨S4x2048x256, .f32⟩
  | 117 => ⟨S4x2048x256, .f32⟩
  | 118 => ⟨S_, .f32⟩
  | 119 => ⟨S4x2048x256, .f32⟩
  | 120 => ⟨S4x2048x256, .f32⟩
  | 121 => ⟨S4x256x128, .f32⟩
  | 122 => ⟨S256x4x128, .f32⟩
  | 123 => ⟨S4x2048x128, .f32⟩
  | 124 => ⟨S2048x4x128, .f32⟩
  | 125 => ⟨S256x4x128, .f32⟩
  | 126 => ⟨S_, .f32⟩
  | 127 => ⟨S4x128, .f32⟩
  | _ => ⟨S2048x8960, .f32⟩

abbrev hbmTy0_1 (i : Nat) : BufTy := match i % 128 with
  | 0 => ⟨S1x4x128, .f32⟩
  | 1 => ⟨S256x4x128, .f32⟩
  | 2 => ⟨S256x4x128, .f32⟩
  | 3 => ⟨S_, .f32⟩
  | 4 => ⟨S4x128, .f32⟩
  | 5 => ⟨S256x4x128, .f32⟩
  | 6 => ⟨S_, .f32⟩
  | 7 => ⟨S256x4, .f32⟩
  | 8 => ⟨S256x4x1, .f32⟩
  | 9 => ⟨S256x4x128, .f32⟩
  | 10 => ⟨S256x4x128, .f32⟩
  | 11 => ⟨S256x4x1, .f32⟩
  | 12 => ⟨S_, .f32⟩
  | 13 => ⟨S256x4x1, .f32⟩
  | 14 => ⟨S256x4x1, .f32⟩
  | 15 => ⟨S_, .f32⟩
  | 16 => ⟨S256x4, .f32⟩
  | 17 => ⟨S256x4x128, .f32⟩
  | 18 => ⟨S256x4x128, .f32⟩
  | 19 => ⟨S256x4x128, .f32⟩
  | 20 => ⟨S256x4x128, .f32⟩
  | 21 => ⟨S256x4x128, .f32⟩
  | 22 => ⟨S2048x4x128, .f32⟩
  | 23 => ⟨S_, .f32⟩
  | 24 => ⟨S4x128, .f32⟩
  | 25 => ⟨S1x4x128, .f32⟩
  | 26 => ⟨S2048x4x128, .f32⟩
  | 27 => ⟨S2048x4x128, .f32⟩
  | 28 => ⟨S_, .f32⟩
  | 29 => ⟨S4x128, .f32⟩
  | 30 => ⟨S2048x4x128, .f32⟩
  | 31 => ⟨S_, .f32⟩
  | 32 => ⟨S2048x4, .f32⟩
  | 33 => ⟨S2048x4x1, .f32⟩
  | 34 => ⟨S2048x4x128, .f32⟩
  | 35 => ⟨S2048x4x128, .f32⟩
  | 36 => ⟨S2048x4x1, .f32⟩
  | 37 => ⟨S_, .f32⟩
  | 38 => ⟨S2048x4x1, .f32⟩
  | 39 => ⟨S2048x4x1, .f32⟩
  | 40 => ⟨S_, .f32⟩
  | 41 => ⟨S2048x4, .f32⟩
  | 42 => ⟨S2048x4x128, .f32⟩
  | 43 => ⟨S2048x4x128, .f32⟩
  | 44 => ⟨S2048x4x128, .f32⟩
  | 45 => ⟨S2048x4x128, .f32⟩
  | 46 => ⟨S2048x4x128, .f32⟩
  | 47 => ⟨S2048x512, .f32⟩
  | 48 => ⟨S256x1x4x128, .f32⟩
  | 49 => ⟨S_, .f32⟩
  | 50 => ⟨S256x2x4x128, .f32⟩
  | 51 => ⟨S256x1x4x128, .f32⟩
  | 52 => ⟨S_, .f32⟩
  | 53 => ⟨S256x2x4x128, .f32⟩
  | 54 => ⟨S256x2x4x128, .f32⟩
  | 55 => ⟨S256x1024, .f32⟩
  | 56 => ⟨S2048x512, .bf16⟩
  | 57 => ⟨S256x512, .f32⟩
  | 58 => ⟨S256x512, .f32⟩
  | 59 => ⟨S4x1x128, .f32⟩
  | 60 => ⟨S4x1x128, .f32⟩
  | _ => ⟨S2048x8960, .f32⟩

abbrev hbmTy (i : Nat) : BufTy := match i / 128 with
  | 0 => hbmTy0_0 i
  | 1 => hbmTy0_1 i
  | _ => ⟨S2048x8960, .f32⟩

abbrev bufTy : (tb : Table) → Fin (tcTables nBuf tb) → BufTy
  | .hbm, ⟨i, _⟩ => hbmTy i
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_18 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_19 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_20 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_21 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_22 : Ref sig .tc := ⟨.hbm, 131, rfl⟩
abbrev main_v103 : Ref sig .tc := ⟨.hbm, 132, rfl⟩
abbrev main_v104 : Ref sig .tc := ⟨.hbm, 133, rfl⟩
abbrev main_cst_23 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_24 : Ref sig .tc := ⟨.hbm, 140, rfl⟩
abbrev main_v110 : Ref sig .tc := ⟨.hbm, 141, rfl⟩
abbrev main_v111 : Ref sig .tc := ⟨.hbm, 142, rfl⟩
abbrev main_cst_25 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_26 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_27 : Ref sig .tc := ⟨.hbm, 156, rfl⟩
abbrev main_v123 : Ref sig .tc := ⟨.hbm, 157, rfl⟩
abbrev main_v124 : Ref sig .tc := ⟨.hbm, 158, rfl⟩
abbrev main_cst_28 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_cst_29 : Ref sig .tc := ⟨.hbm, 165, rfl⟩
abbrev main_v130 : Ref sig .tc := ⟨.hbm, 166, rfl⟩
abbrev main_v131 : Ref sig .tc := ⟨.hbm, 167, rfl⟩
abbrev main_cst_30 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_cst_31 : Ref sig .tc := ⟨.hbm, 177, rfl⟩
abbrev main_v140 : Ref sig .tc := ⟨.hbm, 178, rfl⟩
abbrev main_v141 : Ref sig .tc := ⟨.hbm, 179, rfl⟩
abbrev main_cst_32 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩

abbrev nD : Nat := 1
abbrev τ : Topo := Topo.v7x

variable {F : FTy → Type} [FloatOps F]
-- ==== GBranchB.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S2048x1024, .bf16⟩
  | .hbm, ⟨3, _⟩ => ⟨S2048x2048, .bf16⟩
  | .hbm, ⟨4, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GBranchBRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S_, .f32⟩
  | .hbm, ⟨3, _⟩ => ⟨S1024x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GKv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x2048, .bf16⟩
  | .hbm, ⟨3, _⟩ => ⟨S256x1024, .bf16⟩
  | .hbm, ⟨4, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GKvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DMemH.lean ====
abbrev S2048x1024 : Shape := ⟨2, ![2048, 1024]⟩
abbrev S256x1024 : Shape := ⟨2, ![256, 1024]⟩
abbrev S256x2048 : Shape := ⟨2, ![256, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S256x1024, .bf16⟩
  | .hbm, ⟨3, _⟩ => ⟨S2048x1024, .bf16⟩
  | .hbm, ⟨4, _⟩ => ⟨S256x2048, .f32⟩
  | .local _ .vmem, ⟨0, _⟩ => ⟨S256x1024, .bf16⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemHRefIdeal.lean ====
abbrev S2048x1024 : Shape := ⟨2, ![2048, 1024]⟩
abbrev S256x1024 : Shape := ⟨2, ![256, 1024]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S256x1024, .f32⟩
  | .hbm, ⟨2, _⟩ => ⟨S_, .f32⟩
  | .hbm, ⟨3, _⟩ => ⟨S256x2048, .f32⟩
  | .hbm, ⟨4, _⟩ => ⟨S256x1024, .f32⟩
  | .hbm, ⟨5, _⟩ => ⟨S256x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MemBwd.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 17
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .bf16⟩
  | .hbm, ⟨16, _⟩ => ⟨S1x2048, .f32⟩
  | .local _ .vmem, ⟨0, _⟩ => ⟨S256x2048, .f32⟩
  | .local _ .vmem, ⟨1, _⟩ => ⟨S256x1, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .bf16⟩
  | .local _ .vmem, ⟨6, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_13 : BitVec 32 := 0#32
  let v31 : BitVec 1 := Scalar.cmpi .ne v30 c0_i32_13
  v31

def k0_cond2 (i : grid0.Coords) : BitVec 1 :=
  let arg0 : BitVec 32 := BitVec.ofNat 32 (i 0).val
  let c0_i32_14 : BitVec 32 := 0#32
  let v32 : BitVec 1 := Scalar.cmpi .sgt arg0 c0_i32_14
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MemBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== RmsFwd.lean ====
abbrev S2048x2048 : Shape := ⟨2, ![2048, 2048]⟩
abbrev S1x2048 : Shape := ⟨2, ![1, 2048]⟩
abbrev S2048x1 : Shape := ⟨2, ![2048, 1]⟩
abbrev S256x2048 : Shape := ⟨2, ![256, 2048]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .hbm, ⟨3, _⟩ => ⟨S2048x1, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsFwdRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .bf16⟩
  | .hbm, ⟨18, _⟩ => ⟨S2048x2048, .f32⟩
  | .hbm, ⟨19, _⟩ => ⟨S_, .f32⟩
  | .hbm, ⟨20, _⟩ => ⟨S2048, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MemFwd.lean ====
abbrev S256x2048 : Shape := ⟨2, ![256, 2048]⟩
abbrev S1x2048 : Shape := ⟨2, ![1, 2048]⟩
abbrev S256x1 : Shape := ⟨2, ![256, 1]⟩
abbrev S256 : Shape := ⟨1, ![256]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .hbm, ⟨3, _⟩ => ⟨S256x1, .f32⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | .local _ .vmem, ⟨3, _⟩ => ⟨S256x1, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== MemFwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 29
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .bf16⟩
  | .hbm, ⟨18, _⟩ => ⟨S256x2048, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KV.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x2048, .bf16⟩
  | .hbm, ⟨3, _⟩ => ⟨S2048x1024, .bf16⟩
  | .hbm, ⟨4, _⟩ => ⟨S256x1024, .f32⟩
  | .local _ .vmem, ⟨0, _⟩ => ⟨S256x2048, .bf16⟩
  | .local _ .vmem, ⟨1, _⟩ => ⟨S2048x1024, .bf16⟩
  | .local _ .vmem, ⟨2, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KVRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .f32⟩
  | .hbm, ⟨2, _⟩ => ⟨S256x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AFwd.lean ====
abbrev S2048x8960 : Shape := ⟨2, ![2048, 8960]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S2048x512 : Shape := ⟨2, ![2048, 512]⟩
abbrev S128x512 : Shape := ⟨2, ![128, 512]⟩
abbrev S128x128 : Shape := ⟨2, ![128, 128]⟩
abbrev S1x128 : Shape := ⟨2, ![1, 128]⟩
abbrev S1x128x128 : Shape := ⟨3, ![1, 128, 128]⟩
abbrev S128x1 : Shape := ⟨2, ![128, 1]⟩
abbrev S128 : Shape := ⟨1, ![128]⟩

abbrev nBuf : Space → Nat
  | .hbm => 6
  | .vmem => 9
  | .smem => 0
  | _ => 0

abbrev bufTy : (tb : Table) → Fin (tcTables nBuf tb) → BufTy
  | .hbm, ⟨0, _⟩ => ⟨S2048x8960, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S128x4, .f32⟩
  | .hbm, ⟨5, _⟩ => ⟨S2048x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S128x512, .bf16⟩
  | .local _ .vmem, ⟨8, _⟩ => ⟨S128x512, .bf16⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AFwdRefIdeal.lean ====
abbrev S2048x8960 : Shape := ⟨2, ![2048, 8960]⟩
abbrev S1x512 : Shape := ⟨2, ![1, 512]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S16x128x4x128 : Shape := ⟨4, ![16, 128, 4, 128]⟩
abbrev S128x128 : Shape := ⟨2, ![128, 128]⟩
abbrev S1x128x128 : Shape := ⟨3, ![1, 128, 128]⟩
abbrev S4x16x128x128 : Shape := ⟨4, ![4, 16, 128, 128]⟩
abbrev S128x4 : Shape := ⟨2, ![128, 4]⟩
abbrev S1x128x4x1 : Shape := ⟨4, ![1, 128, 4, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S1x512, .f32⟩
  | .hbm, ⟨2, _⟩ => ⟨S4x128x128, .f32⟩
  | .hbm, ⟨3, _⟩ => ⟨S4x128, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S_, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S16x128x4x128, .f32⟩
  | .hbm, ⟨56, _⟩ => ⟨S_, .i1⟩
  | .hbm, ⟨57, _⟩ => ⟨S128x128, .i1⟩
  | .hbm, ⟨58, _⟩ => ⟨S128x128, .i32⟩
  | .hbm, ⟨59, _⟩ => ⟨S_, .i32⟩
  | .hbm, ⟨60, _⟩ => ⟨S128x128, .i32⟩
  | .hbm, ⟨61, _⟩ => ⟨S128x128, .i32⟩
  | .hbm, ⟨62, _⟩ => ⟨S128x128, .i32⟩
  | .hbm, ⟨63, _⟩ => ⟨S128x128, .i1⟩
  | .hbm, ⟨64, _⟩ => ⟨S_, .i1⟩
  | .hbm, ⟨65, _⟩ => ⟨S128x128, .i1⟩
  | .hbm, ⟨66, _⟩ => ⟨S128x128, .i1⟩
  | .hbm, ⟨67, _⟩ => ⟨S1x128x128, .i1⟩
  | .hbm, ⟨68, _⟩ => ⟨S_, .f32⟩
  | .hbm, ⟨69, _⟩ => ⟨S4x128x128, .f32⟩
  | .hbm, ⟨70, _⟩ => ⟨S4x128x128, .i1⟩
  | .hbm, ⟨71, _⟩ => ⟨S4x128x128, .f32⟩
  | .hbm, ⟨72, _⟩ => ⟨S4x16x128x128, .f32⟩
  | .hbm, ⟨73, _⟩ => ⟨S16x128x4x128, .f32⟩
  | .hbm, ⟨74, _⟩ => ⟨S128x4, .f32⟩
  | .hbm, ⟨75, _⟩ => ⟨S1x128x4x1, .f32⟩
  | .hbm, ⟨76, _⟩ => ⟨S16x128x4x128, .f32⟩
  | .hbm, ⟨77, _⟩ => ⟨S16x128x4x128, .f32⟩
  | .hbm, ⟨78, _⟩ => ⟨S2048x512, .f32⟩
  | .hbm, ⟨79, _⟩ => ⟨S2048x512, .f32⟩
  | .hbm, ⟨80, _⟩ => ⟨S2048x512, .bf16⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c : Ref sig .tc := ⟨.hbm, 56, rfl⟩
abbrev main_v41 : Ref sig .tc := ⟨.hbm, 57, rfl⟩
abbrev main_call0_v0 : Ref sig .tc := ⟨.hbm, 58, rfl⟩
abbrev main_call0_c : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_c_0 : Ref sig .tc := ⟨.hbm, 64, rfl⟩
abbrev main_call0_v5 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_call1_v0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩

abbrev nD : Nat := 1
abbrev τ : Topo := Topo.v7x

variable {F : FTy → Type} [FloatOps F]
-- ==== CFwd.lean ====
abbrev S2048x8960 : Shape := ⟨2, ![2048, 8960]⟩
abbrev S256x1024 : Shape := ⟨2, ![256, 1024]⟩
abbrev S1x128 : Shape := ⟨2, ![1, 128]⟩
abbrev S2048x512 : Shape := ⟨2, ![2048, 512]⟩
abbrev S512x128 : Shape := ⟨2, ![512, 128]⟩
abbrev S256x128 : Shape := ⟨2, ![256, 128]⟩
abbrev S512 : Shape := ⟨1, ![512]⟩
abbrev S512x1 : Shape := ⟨2, ![512, 1]⟩
abbrev S256 : Shape := ⟨1, ![256]⟩
abbrev S256x1 : Shape := ⟨2, ![256, 1]⟩
abbrev S512x256 : Shape := ⟨2, ![512, 256]⟩

abbrev nBuf : Space → Nat
  | .hbm => 5
  | .vmem => 10
  | .smem => 0
  | _ => 0

abbrev bufTy : (tb : Table) → Fin (tcTables nBuf tb) → BufTy
  | .hbm, ⟨0, _⟩ => ⟨S2048x8960, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .bf16⟩
  | .local _ .vmem, ⟨0, _⟩ => ⟨S512x128, .f32⟩
  | .local _ .vmem, ⟨1, _⟩ => ⟨S512x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S512x128, .bf16⟩
  | .local _ .vmem, ⟨9, _⟩ => ⟨S512x128, .bf16⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CFwdRefIdeal.lean ====
abbrev S2048x8960 : Shape := ⟨2, ![2048, 8960]⟩
abbrev S256x1024 : Shape := ⟨2, ![256, 1024]⟩
abbrev S1x128 : Shape := ⟨2, ![1, 128]⟩
abbrev S2048x512 : Shape := ⟨2, ![2048, 512]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S2048x4x128 : Shape := ⟨3, ![2048, 4, 128]⟩
abbrev S_ : Shape := ⟨0, ![]⟩
abbrev S2048x4 : Shape := ⟨2, ![2048, 4]⟩
abbrev S2048x4x1 : Shape := ⟨3, ![2048, 4, 1]⟩
abbrev S1x1x128 : Shape := ⟨3, ![1, 1, 128]⟩
abbrev S256x4 : Shape := ⟨2, ![256, 4]⟩
abbrev S256x4x1 : Shape := ⟨3, ![256, 4, 1]⟩
abbrev S4x2048x256 : Shape := ⟨3, ![4, 2048, 256]⟩
abbrev S4x2048 : Shape := ⟨2, ![4, 2048]⟩
abbrev S4x2048x1 : Shape := ⟨3, ![4, 2048, 1]⟩
abbrev S4x128x2048 : Shape := ⟨3, ![4, 128, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S256x1024, .f32⟩
  | .hbm, ⟨2, _⟩ => ⟨S1x128, .f32⟩
  | .hbm, ⟨3, _⟩ => ⟨S1x128, .f32⟩
  | .hbm, ⟨4, _⟩ => ⟨S2048x512, .f32⟩
  | .hbm, ⟨5, _⟩ => ⟨S256x2x4x128, .f32⟩
  | .hbm, ⟨6, _⟩ => ⟨S256x1x4x128, .f32⟩
  | .hbm, ⟨7, _⟩ => ⟨S256x4x128, .f32⟩
  | .hbm, ⟨8, _⟩ => ⟨S256x1x4x128, .f32⟩
  | .hbm, ⟨9, _⟩ => ⟨S256x4x128, .f32⟩
  | .hbm, ⟨10, _⟩ => ⟨S2048x4x128, .f32⟩
  | .hbm, ⟨11, _⟩ => ⟨S2048x4x128, .f32⟩
  | .hbm, ⟨12, _⟩ => ⟨S_, .f32⟩
  | .hbm, ⟨13, _⟩ => ⟨S2048x4, .f32⟩
  | .hbm, ⟨14, _⟩ => ⟨S2048x4x1, .f32⟩
  | .hbm, ⟨15, _⟩ => ⟨S_, .f32⟩
  | .hbm, ⟨16, _⟩ => ⟨S2048x4x1, .f32⟩
  | .hbm, ⟨17, _⟩ => ⟨S2048x4x1, .f32⟩
  | .hbm, ⟨18, _⟩ => ⟨S_, .f32⟩
  | .hbm, ⟨19, _⟩ => ⟨S2048x4x1, .f32⟩
  | .hbm, ⟨20, _⟩ => ⟨S2048x4x1, .f32⟩
  | .hbm, ⟨21, _⟩ => ⟨S2048x4x1, .f32⟩
  | .hbm, ⟨22, _⟩ => ⟨S2048x4x128, .f32⟩
  | .hbm, ⟨23, _⟩ => ⟨S2048x4x128, .f32⟩
  | .hbm, ⟨24, _⟩ => ⟨S1x1x128, .f32⟩
  | .hbm, ⟨25, _⟩ => ⟨S2048x4x128, .f32⟩
  | .hbm, ⟨26, _⟩ => ⟨S2048x4x128, .f32⟩
  | .hbm, ⟨27, _⟩ => ⟨S256x4x128, .f32⟩
  | .hbm, ⟨28, _⟩ => ⟨S_, .f32⟩
  | .hbm, ⟨29, _⟩ => ⟨S256x4, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S_, .f32⟩
  | .hbm, ⟨35, _⟩ => ⟨S256x4x1, .f32⟩
  | .hbm, ⟨36, _⟩ => ⟨S256x4x1, .f32⟩
  | .hbm, ⟨37, _⟩ => ⟨S256x4x1, .f32⟩
  | .hbm, ⟨38, _⟩ => ⟨S256x4x128, .f32⟩
  | .hbm, ⟨39, _⟩ => ⟨S256x4x128, .f32⟩
  | .hbm, ⟨40, _⟩ => ⟨S1x1x128, .f32⟩
  | .hbm, ⟨41, _⟩ => ⟨S256x4x128, .f32⟩
  | .hbm, ⟨42, _⟩ => ⟨S256x4x128, .f32⟩
  | .hbm, ⟨43, _⟩ => ⟨S4x2048x256, .f32⟩
  | .hbm, ⟨44, _⟩ => ⟨S_, .f32⟩
  | .hbm, ⟨45, _⟩ => ⟨S4x2048x256, .f32⟩
  | .hbm, ⟨46, _⟩ => ⟨S4x2048x256, .f32⟩
  | .hbm, ⟨47, _⟩ => ⟨S_, .f32⟩
  | .hbm, ⟨48, _⟩ => ⟨S4x2048, .f32⟩
  | .hbm, ⟨49, _⟩ => ⟨S_, .f32⟩
  | .hbm, ⟨50, _⟩ => ⟨S4x2048, .f32⟩
  | .hbm, ⟨51, _⟩ => ⟨S4x2048, .f32⟩
  | .hbm, ⟨52, _⟩ => ⟨S4x2048x1, .f32⟩
  | .hbm, ⟨53, _⟩ => ⟨S4x2048x256, .f32⟩
  | .hbm, ⟨54, _⟩ => ⟨S4x2048x256, .f32⟩
  | .hbm, ⟨55, _⟩ => ⟨S4x2048x256, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S4x2048x256, .f32⟩
  | .hbm, ⟨60, _⟩ => ⟨S4x2048x256, .f32⟩
  | .hbm, ⟨61, _⟩ => ⟨S4x128x2048, .f32⟩
  | .hbm, ⟨62, _⟩ => ⟨S2048x4x128, .f32⟩
  | .hbm, ⟨63, _⟩ => ⟨S2048x512, .f32⟩
  | .hbm, ⟨64, _⟩ => ⟨S2048x512, .bf16⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== AdamPlain.lean ====
abbrev S3x1408 : Shape := ⟨2, ![3, 1408]⟩

abbrev nBuf : Space → Nat
  | .hbm => 7
  | .vmem => 7
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamPlainRefIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== BPre.lean ====
abbrev S2048x8960 : Shape := ⟨2, ![2048, 8960]⟩
abbrev S2048 : Shape := ⟨1, ![2048]⟩
abbrev S1x64 : Shape := ⟨2, ![1, 64]⟩
abbrev S8 : Shape := ⟨1, ![8]⟩
abbrev S_ : Shape := ⟨0, ![]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S2048x1024 : Shape := ⟨2, ![2048, 1024]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 47
  | .vmem => 16
  | .smem => 0
  | _ => 0

abbrev bufTy : (tb : Table) → Fin (tcTables nBuf tb) → BufTy
  | .hbm, ⟨0, _⟩ => ⟨S2048x8960, .f32⟩
  | .hbm, ⟨1, _⟩ => ⟨S2048, .i32⟩
  | .hbm, ⟨2, _⟩ => ⟨S1x64, .f32⟩
  | .hbm, ⟨3, _⟩ => ⟨S1x64, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S2048, .f32⟩
  | .hbm, ⟨13, _⟩ => ⟨S2048x1, .f32⟩
  | .hbm, ⟨14, _⟩ => ⟨S1x8, .f32⟩
  | .hbm, ⟨15, _⟩ => ⟨S2048x8, .f32⟩
  | .hbm, ⟨16, _⟩ => ⟨S2048x8, .f32⟩
  | .hbm, ⟨17, _⟩ => ⟨S2048x8, .f32⟩
  | .hbm, ⟨18, _⟩ => ⟨S2048x8, .f32⟩
  | .hbm, ⟨19, _⟩ => ⟨S2048x8, .f32⟩
  | .hbm, ⟨20, _⟩ => ⟨S_, .f32⟩
  | .hbm, ⟨21, _⟩ => ⟨S2048x48, .f32⟩
  | .hbm, ⟨22, _⟩ => ⟨S_, .f32⟩
  | .hbm, ⟨23, _⟩ => ⟨S2048x48, .f32⟩
  | .hbm, ⟨24, _⟩ => ⟨S_, .f32⟩
  | .hbm, ⟨25, _⟩ => ⟨S2048x8, .f32⟩
  | .hbm, ⟨26, _⟩ => ⟨S2048x64, .f32⟩
  | .hbm, ⟨27, _⟩ => ⟨S1x2048x1x64, .f32⟩
  | .hbm, ⟨28, _⟩ => ⟨S1x2048x2x64, .f32⟩
  | .hbm, ⟨29, _⟩ => ⟨S2048x128, .f32⟩
  | .hbm, ⟨30, _⟩ => ⟨S2048x8, .f32⟩
  | .hbm, ⟨31, _⟩ => ⟨S2048x64, .f32⟩
  | .hbm, ⟨32, _⟩ => ⟨S1x2048x1x64, .f32⟩
  | .hbm, ⟨33, _⟩ => ⟨S1x2048x2x64, .f32⟩
  | .hbm, ⟨34, _⟩ => ⟨S2048x128, .f32⟩
  | .hbm, ⟨35, _⟩ => ⟨S2048x64, .f32⟩
  | .hbm, ⟨36, _⟩ => ⟨S1x2048x1x64, .f32⟩
  | .hbm, ⟨37, _⟩ => ⟨S1x2048x2x64, .f32⟩
  | .hbm, ⟨38, _⟩ => ⟨S2048x128, .f32⟩
  | .hbm, ⟨39, _⟩ => ⟨S1x1x1x64, .f32⟩
  | .hbm, ⟨40, _⟩ => ⟨S1x1x2x64, .f32⟩
  | .hbm, ⟨41, _⟩ => ⟨S1x128, .f32⟩
  | .hbm, ⟨42, _⟩ => ⟨S1x1x1x64, .f32⟩
  | .hbm, ⟨43, _⟩ => ⟨S1x1x2x64, .f32⟩
  | .hbm, ⟨44, _⟩ => ⟨S1x128, .f32⟩
  | .hbm, ⟨45, _⟩ => ⟨S2048x1024, .bf16⟩
  | .hbm, ⟨46, _⟩ => ⟨S2048x128, .bf16⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x1024, .bf16⟩
  | .local _ .vmem, ⟨13, _⟩ => ⟨S256x1024, .bf16⟩
  | .local _ .vmem, ⟨14, _⟩ => ⟨S256x128, .bf16⟩
  | .local _ .vmem, ⟨15, _⟩ => ⟨S256x128, .bf16⟩
  | _, _ => ⟨S2048x8960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36_0 : Ref sig .tc := ⟨.hbm, 45, rfl⟩
abbrev main_v36_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BPreRefIdeal.lean ====
abbrev S2048x8960 : Shape := ⟨2, ![2048, 8960]⟩
abbrev S2048 : Shape := ⟨1, ![2048]⟩
abbrev S1x64 : Shape := ⟨2, ![1, 64]⟩
abbrev S2048x1024 : Shape := ⟨2, ![2048, 1024]⟩
abbrev S2048x16x64 : Shape := ⟨3, ![2048, 16, 64]⟩
abbrev S2048x128 : Shape := ⟨2, ![2048, 128]⟩
abbrev S2048x2x64 : Shape := ⟨3, ![2048, 2, 64]⟩
abbrev S_ : Shape := ⟨0, ![]⟩
abbrev S2048x16 : Shape := ⟨2, ![2048, 16]⟩
abbrev S2048x16x1 : Shape := ⟨3, ![2048, 16, 1]⟩
abbrev S1x1x64 : Shape := ⟨3, ![1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S2048x16x8 : Shape := ⟨3, ![2048, 16, 8]⟩
abbrev S2048x16x16 : Shape := ⟨3, ![2048, 16, 16]⟩
abbrev S2048x16x48 : Shape := ⟨3, ![2048, 16, 48]⟩
abbrev S2048x2 : Shape := ⟨2, ![2048, 2]⟩
abbrev S2048x2x1 : Shape := ⟨3, ![2048, 2, 1]⟩
abbrev S2048x2x8 : Shape := ⟨3, ![2048, 2, 8]⟩
abbrev S2048x2x16 : Shape := ⟨3, ![2048, 2, 16]⟩
abbrev S2048x2x48 : Shape := ⟨3, ![2048, 2, 48]⟩

abbrev nBuf : Space → Nat
  | .hbm => 110
  | .vmem => 0
  | .smem => 0
  | _ => 0

abbrev bufTy : (tb : Table) → Fin (tcTables nBuf tb) → BufTy
  | .hbm, ⟨0, _⟩ => ⟨S2048x8960, .f32⟩
  | .hbm, ⟨1, _⟩ => ⟨S2048, .i32⟩
  | .hbm, ⟨2, _⟩ => ⟨S1x64, .f32⟩
  | .hbm, ⟨3, _⟩ => ⟨S1x64, .f32⟩
  | .hbm, ⟨4, _⟩ => ⟨S2048x1024, .f32⟩
  | .hbm, ⟨5, _⟩ => ⟨S2048x16x64, .f32⟩
  | .hbm, ⟨6, _⟩ => ⟨S2048x128, .f32⟩
  | .hbm, ⟨7, _⟩ => ⟨S2048x2x64, .f32⟩
  | .hbm, ⟨8, _⟩ => ⟨S2048x16x64, .f32⟩
  | .hbm, ⟨9, _⟩ => ⟨S_, .f32⟩
  | .hbm, ⟨10, _⟩ => ⟨S2048x16, .f32⟩
  | .hbm, ⟨11, _⟩ => ⟨S2048x16x1, .f32⟩
  | .hbm, ⟨12, _⟩ => ⟨S_, .f32⟩
  | .hbm, ⟨13, _⟩ => ⟨S2048x16x1, .f32⟩
  | .hbm, ⟨14, _⟩ => ⟨S2048x16x1, .f32⟩
  | .hbm, ⟨15, _⟩ => ⟨S_, .f32⟩
  | .hbm, ⟨16, _⟩ => ⟨S2048x16x1, .f32⟩
  | .hbm, ⟨17, _⟩ => ⟨S2048x16x1, .f32⟩
  | .hbm, ⟨18, _⟩ => ⟨S2048x16x1, .f32⟩
  | .hbm, ⟨19, _⟩ => ⟨S2048x16x64, .f32⟩
  | .hbm, ⟨20, _⟩ => ⟨S2048x16x64, .f32⟩
  | .hbm, ⟨21, _⟩ => ⟨S1x1x64, .f32⟩
  | .hbm, ⟨22, _⟩ => ⟨S2048x16x64, .f32⟩
  | .hbm, ⟨23, _⟩ => ⟨S2048x16x64, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S2048, .f32⟩
  | .hbm, ⟨33, _⟩ => ⟨S2048x1, .f32⟩
  | .hbm, ⟨34, _⟩ => ⟨S1x8, .f32⟩
  | .hbm, ⟨35, _⟩ => ⟨S2048x8, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S2048x1x8, .f32⟩
  | .hbm, ⟨40, _⟩ => ⟨S2048x8, .f32⟩
  | .hbm, ⟨41, _⟩ => ⟨S2048x1x8, .f32⟩
  | .hbm, ⟨42, _⟩ => ⟨S2048x16x8, .f32⟩
  | .hbm, ⟨43, _⟩ => ⟨S2048x16x8, .f32⟩
  | .hbm, ⟨44, _⟩ => ⟨S2048x16x8, .f32⟩
  | .hbm, ⟨45, _⟩ => ⟨S2048x16x8, .f32⟩
  | .hbm, ⟨46, _⟩ => ⟨S2048x16x8, .f32⟩
  | .hbm, ⟨47, _⟩ => ⟨S2048x16x8, .f32⟩
  | .hbm, ⟨48, _⟩ => ⟨S2048x16x8, .f32⟩
  | .hbm, ⟨49, _⟩ => ⟨S2048x16x8, .f32⟩
  | .hbm, ⟨50, _⟩ => ⟨S2048x16x8, .f32⟩
  | .hbm, ⟨51, _⟩ => ⟨S2048x16x8, .f32⟩
  | .hbm, ⟨52, _⟩ => ⟨S2048x16x8, .f32⟩
  | .hbm, ⟨53, _⟩ => ⟨S2048x16x8, .f32⟩
  | .hbm, ⟨54, _⟩ => ⟨S2048x16x16, .f32⟩
  | .hbm, ⟨55, _⟩ => ⟨S2048x16x48, .f32⟩
  | .hbm, ⟨56, _⟩ => ⟨S2048x16x64, .f32⟩
  | .hbm, ⟨57, _⟩ => ⟨S2048x2x64, .f32⟩
  | .hbm, ⟨58, _⟩ => ⟨S_, .f32⟩
  | .hbm, ⟨59, _⟩ => ⟨S2048x2, .f32⟩
  | .hbm, ⟨60, _⟩ => ⟨S2048x2x1, .f32⟩
  | .hbm, ⟨61, _⟩ => ⟨S_, .f32⟩
  | .hbm, ⟨62, _⟩ => ⟨S2048x2x1, .f32⟩
  | .hbm, ⟨63, _⟩ => ⟨S2048x2x1, .f32⟩
  | .hbm, ⟨64, _⟩ => ⟨S_, .f32⟩
  | .hbm, ⟨65, _⟩ => ⟨S2048x2x1, .f32⟩
  | .hbm, ⟨66, _⟩ => ⟨S2048x2x1, .f32⟩
  | .hbm, ⟨67, _⟩ => ⟨S2048x2x1, .f32⟩
  | .hbm, ⟨68, _⟩ => ⟨S2048x2x64, .f32⟩
  | .hbm, ⟨69, _⟩ => ⟨S2048x2x64, .f32⟩
  | .hbm, ⟨70, _⟩ => ⟨S1x1x64, .f32⟩
  | .hbm, ⟨71, _⟩ => ⟨S2048x2x64, .f32⟩
  | .hbm, ⟨72, _⟩ => ⟨S2048x2x64, .f32⟩
  | .hbm, ⟨73, _⟩ => ⟨S8, .f32⟩
  | .hbm, ⟨74, _⟩ => ⟨S8, .f32⟩
  | .hbm, ⟨75, _⟩ => ⟨S_, .f32⟩
  | .hbm, ⟨76, _⟩ => ⟨S8, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S2048, .f32⟩
  | .hbm, ⟨82, _⟩ => ⟨S2048x1, .f32⟩
  | .hbm, ⟨83, _⟩ => ⟨S1x8, .f32⟩
  | .hbm, ⟨84, _⟩ => ⟨S2048x8, .f32⟩
  | .hbm, ⟨85, _⟩ => ⟨S2048x8, .f32⟩
  | .hbm, ⟨86, _⟩ => ⟨S2048x8, .f32⟩
  | .hbm, ⟨87, _⟩ => ⟨S2048x8, .f32⟩
  | .hbm, ⟨88, _⟩ => ⟨S2048x1x8, .f32⟩
  | .hbm, ⟨89, _⟩ => ⟨S2048x8, .f32⟩
  | .hbm, ⟨90, _⟩ => ⟨S2048x1x8, .f32⟩
  | .hbm, ⟨91, _⟩ => ⟨S2048x2x8, .f32⟩
  | .hbm, ⟨92, _⟩ => ⟨S2048x2x8, .f32⟩
  | .hbm, ⟨93, _⟩ => ⟨S2048x2x8, .f32⟩
  | .hbm, ⟨94, _⟩ => ⟨S2048x2x8, .f32⟩
  | .hbm, ⟨95, _⟩ => ⟨S2048x2x8, .f32⟩
  | .hbm, ⟨96, _⟩ => ⟨S2048x2x8, .f32⟩
  | .hbm, ⟨97, _⟩ => ⟨S2048x2x8, .f32⟩
  | .hbm, ⟨98, _⟩ => ⟨S2048x2x8, .f32⟩
  | .hbm, ⟨99, _⟩ => ⟨S2048x2x8, .f32⟩
  | .hbm, ⟨100, _⟩ => ⟨S2048x2x8, .f32⟩
  | .hbm, ⟨101, _⟩ => ⟨S2048x2x8, .f32⟩
  | .hbm, ⟨102, _⟩ => ⟨S2048x2x8, .f32⟩
  | .hbm, ⟨103, _⟩ => ⟨S2048x2x16, .f32⟩
  | .hbm, ⟨104, _⟩ => ⟨S2048x2x48, .f32⟩
  | .hbm, ⟨105, _⟩ => ⟨S2048x2x64, .f32⟩
  | .hbm, ⟨106, _⟩ => ⟨S2048x1024, .f32⟩
  | .hbm, ⟨107, _⟩ => ⟨S2048x1024, .bf16⟩
  | .hbm, ⟨108, _⟩ => ⟨S2048x128, .f32⟩
  | .hbm, ⟨109, _⟩ => ⟨S2048x128, .bf16⟩
  | _, _ => ⟨S2048x8960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_v63 : Ref sig .tc := ⟨.hbm, 76, rfl⟩
abbrev main_v64 : Ref sig .tc := ⟨.hbm, 77, rfl⟩
abbrev main_cst_8 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩

abbrev nD : Nat := 1
abbrev τ : Topo := Topo.v7x

variable {F : FTy → Type} [FloatOps F]
-- ==== Proof.MergeBwd.Spec.lean ====
/-
  The gradient of the gated merge, as plain sums over the whole arrays.

  `merged = σ(gᵃ)·(yᵃ wᵃ) + σ(gᵇ)·(yᵇ wᵇ) + σ(gᶜ)·(yᶜ wᶜ)`, where `σ` is the logistic function and the three gates are
  the columns of `proj` from 2816, 4864 and 6912 on. For the cotangent `dm` of `merged`, each branch has
  `dz = σ(g)·dm`, `dg = dm·z·σ(g)·(1 − σ(g))` and `dy = dz wᵀ`.
-/
module

public import Idealize.ShloMosaic.Lib.Pointwise

@[expose] public section

noncomputable section

namespace Cert.Proof.MergeBwd

open Idealize.ShloMosaic

/-- An array of extended reals with `a` rows and `b` columns. -/
abbrev Mat (a b : ℕ) : Type := (⟨2, ![a, b]⟩ : Shape).Idx → EReal

/-- Column `l` of the gate that begins at column `off` of `proj`. -/
abbrev col (off : ℕ) (h : off + 2048 ≤ 8960) (l : Fin 2048) : Fin 8960 := ⟨off + l, by omega⟩

variable {K : ℕ} (off : ℕ) (h : off + 2048 ≤ 8960) (proj : Mat 2048 8960) (dm : Mat 2048 2048)
  (y : Mat 2048 K) (w : Mat K 2048) (r l : Fin 2048)

/-- The gate at row `r`, column `l`. -/
def gate : EReal := Ideal.logistic (proj (ix2 r (col off h l)))

/-- The cotangent of a branch's output. -/
def dz : EReal := gate off h proj r l * dm (ix2 r l)

/-- The cotangent of a gate before the logistic function. -/
def dg : EReal :=
  dm (ix2 r l) * (∑ k : Fin K, y (ix2 r k) * w (ix2 k l)) * gate off h proj r l * (1 - gate off h proj r l)

/-- The cotangent of a branch's input. -/
def dy (j : Fin K) : EReal := ∑ l : Fin 2048, dz off h proj dm r l * w (ix2 j l)

/-- An array of two axes is known from its entries. -/
theorem ext2 {a b : ℕ} {x : Mat a b} {f : Fin a → Fin b → EReal} (h : ∀ r l, x (ix2 r l) = f r l) :
    x = fun i => f (i 0) (i 1) := by
  funext i
  have e : i = ix2 (i 0) (i 1) := by funext k; fin_cases k <;> rfl
  exact (congrArg x e).trans (h _ _)

end Cert.Proof.MergeBwd

end
-- ==== Proof.MergeBwd.Ref.lean ====
/-
  The gradient of the gated merge: the reference's nine results, read at an index.

  The reference pads the three gates' cotangents into one array and slices it again; at each index two of the three
  padded arrays hold zero.
-/
module

public import proofs.«01_k».proof.Proof.Gen.MergeBwdRefIdeal.Read
public import proofs.«01_k».proof.Proof.MergeBwd.Spec

@[expose] public section

set_option maxRecDepth 16384

noncomputable section

namespace Cert.Proof.MergeBwd

open Cert.MergeBwdRefIdeal Cert.MergeBwdRefIdeal.Read Idealize.ShloMosaic

variable (x0 : FVec Ideal S2048x8960 .f32) (x1 : FVec Ideal S2048x512 .f32) (x2 : FVec Ideal S2048x1024 .f32)
  (x3 : FVec Ideal S2048x512 .f32) (x4 : FVec Ideal S2048x2048 .f32)
  (x5 : FVec Ideal S512x2048 .f32) (x6 : FVec Ideal S1024x2048 .f32) (x7 : FVec Ideal S512x2048 .f32)

/-- The gate inside the reference, `1 / (1 + exp (-x))`. -/
theorem ref_gate (r : Fin 2048) (b : Fin 3) (l : Fin 2048) : val_main_v10 (F := Ideal) x0 (ix3 r b l) =
    gate (2816 + 2048 * b) (by omega) x0 r l := by
  pointwise [val_main_v10, val_main_v9, val_main_cst_0, val_main_v8, val_main_v7, val_main_cst, val_main_v6, val_main_v5,
    val_main_v1, val_main_v0]
  unfold gate Ideal.logistic col
  congr 6
  exact Fin.ext (by dsimp only; omega)

theorem ref_dza (r l : Fin 2048) : val_main_v45 (F := Ideal) x0 x4 (ix2 r l) = dz 2816 (by omega) x0 x4 r l := by
  pointwise [val_main_v45, val_main_v36, val_main_v15, val_main_v14, val_main_v25, ref_gate]
  rfl

theorem ref_dzb (r l : Fin 2048) : val_main_v46 (F := Ideal) x0 x4 (ix2 r l) = dz 4864 (by omega) x0 x4 r l := by
  pointwise [val_main_v46, val_main_v31, val_main_v18, val_main_v17, val_main_v25, ref_gate]
  rfl

theorem ref_dzc (r l : Fin 2048) : val_main_v47 (F := Ideal) x0 x4 (ix2 r l) = dz 6912 (by omega) x0 x4 r l := by
  pointwise [val_main_v47, val_main_v27, val_main_v22, val_main_v21, val_main_v26, ref_gate]
  rfl

theorem ref_dga (r l : Fin 2048) : val_main_v50 (F := Ideal) x0 x1 x2 x3 x4 x5 x6 x7 (ix2 r l) =
    dg 2816 (by omega) x0 x4 x1 x5 r l := by
  pointwise [val_main_v50, val_main_v49, val_main_v48, val_main_v41, val_main_v40, val_main_v39, val_main_v38, val_main_v37,
    val_main_v35, val_main_v34, val_main_v33, val_main_v32, val_main_v30, val_main_v29, val_main_v28, val_main_v13, val_main_v12,
    val_main_v11, val_main_v2, val_main_v25, val_main_v26, ref_gate, val_main_cst_1, val_main_cst_2, val_main_cst_3, val_main_cst_4]
  exact (mul_assoc _ _ _).symm

theorem ref_dgb (r l : Fin 2048) : val_main_v53 (F := Ideal) x0 x1 x2 x3 x4 x5 x6 x7 (ix2 r l) =
    dg 4864 (by omega) x0 x4 x2 x6 r l := by
  pointwise [val_main_v53, val_main_v52, val_main_v51, val_main_v41, val_main_v40, val_main_v39, val_main_v38, val_main_v37,
    val_main_v35, val_main_v34, val_main_v33, val_main_v32, val_main_v30, val_main_v29, val_main_v28, val_main_v13, val_main_v12,
    val_main_v11, val_main_v3, val_main_v25, val_main_v26, ref_gate, val_main_cst_1, val_main_cst_2, val_main_cst_3, val_main_cst_4]
  exact (mul_assoc _ _ _).symm

theorem ref_dgc (r l : Fin 2048) : val_main_v56 (F := Ideal) x0 x1 x2 x3 x4 x5 x6 x7 (ix2 r l) =
    dg 6912 (by omega) x0 x4 x3 x7 r l := by
  pointwise [val_main_v56, val_main_v55, val_main_v54, val_main_v41, val_main_v40, val_main_v39, val_main_v38, val_main_v37,
    val_main_v35, val_main_v34, val_main_v33, val_main_v32, val_main_v30, val_main_v29, val_main_v28, val_main_v13, val_main_v12,
    val_main_v11, val_main_v4, val_main_v25, val_main_v26, ref_gate, val_main_cst_1, val_main_cst_2, val_main_cst_3, val_main_cst_4]
  exact (mul_assoc _ _ _).symm

theorem ref_dya (r : Fin 2048) (j : Fin 512) : val_main_v44 (F := Ideal) x0 x4 x5 (ix2 r j) = dy 2816 (by omega) x0 x4 x5 r j := by
  pointwise [val_main_v44]
  exact Finset.sum_congr rfl fun l _ => congrArg (· * x5 (ix2 j l)) (ref_dza x0 x4 r l)

theorem ref_dyb (r : Fin 2048) (j : Fin 1024) : val_main_v43 (F := Ideal) x0 x4 x6 (ix2 r j) = dy 4864 (by omega) x0 x4 x6 r j := by
  pointwise [val_main_v43]
  exact Finset.sum_congr rfl fun l _ => congrArg (· * x6 (ix2 j l)) (ref_dzb x0 x4 r l)

theorem ref_dyc (r : Fin 2048) (j : Fin 512) : val_main_v42 (F := Ideal) x0 x4 x7 (ix2 r j) = dy 6912 (by omega) x0 x4 x7 r j := by
  pointwise [val_main_v42]
  exact Finset.sum_congr rfl fun l _ => congrArg (· * x7 (ix2 j l)) (ref_dzc x0 x4 r l)

end Cert.Proof.MergeBwd

end
-- ==== Proof.MergeBwd.Points.lean ====
/-
  The gradient of the gated merge: what one grid point leaves in its output buffers.

  A grid point reads a tile of each gate, of each branch's output `z`, of `dm` and a block of each stacked weight.
  It leaves six tiles (`dz` and `dg` of each branch) and adds a product to three buffers (`dy` of each branch);
  the first point of a row block starts these three buffers afresh.
-/
module

public import proofs.«01_k».proof.Proof.Gen.MergeBwdIdeal.Value
public import Idealize.ShloMosaic.Lib.Pipeline.Value

@[expose] public section

set_option maxRecDepth 16384

noncomputable section

namespace Cert.Proof.MergeBwd

open Cert.MergeBwdIdeal Cert.MergeBwdIdeal.Gen Idealize.ShloMosaic Idealize.ShloMosaic.TcCoe

variable {F : FTy → Type} [FloatOps F]
variable (m : (ℓ : Loc nD τ sig) → Buf (Elt F) ℓ)

theorem zero2 : (![0, 0] : Fin 2 → Nat) = fun _ => 0 := funext fun a => by fin_cases a <;> rfl
theorem zero3 : (![0, 0, 0] : Fin 3 → Nat) = fun _ => 0 := funext fun a => by fin_cases a <;> rfl

set_option maxHeartbeats 1000000 in
/-- What the first point of a row block leaves. -/
theorem outs_first (c : Dev nD) (t : Fin cfg0.N) (h : t.val % 8 = 0) : outsAt0 m c t.val t.isLt =
    (k0_pay4 (iblk m c 6 t) (iblk m c 0 t), k0_pay9 (iblk m c 6 t) (iblk m c 1 t), k0_pay14 (iblk m c 6 t) (iblk m c 2 t),
      k0_pay5 (iblk m c 6 t) (iblk m c 0 t) (iblk m c 3 t), k0_pay10 (iblk m c 6 t) (k0_pay8 (iblk m c 1 t)) (iblk m c 4 t),
      k0_pay15 (iblk m c 6 t) (iblk m c 2 t) (iblk m c 5 t),
      k0_pay6 (iblk m c 6 t) (iblk m c 0 t) (iblk m c 7 t), k0_pay11 (k0_pay9 (iblk m c 6 t) (iblk m c 1 t)) (iblk m c 8 t),
      k0_pay1 (k0_pay14 (iblk m c 6 t) (iblk m c 2 t)) (iblk m c 9 t)) := by
  have h' : ¬1 ≤ t.val % 8 := by omega
  rw [outsAt0_A m c t h h' h h' h h']
  unfold out0_A_10 out0_A_11 out0_A_12 out0_A_13 out0_A_14 out0_A_15 out0_A_16 out0_A_17 out0_A_18
  refine congrArg₂ Prod.mk ((View.read_writes_eq_canon _ _ _ (fun _ => cover0_A_10 ..)).trans ?_) <|
    congrArg₂ Prod.mk ((View.read_writes_eq_canon _ _ _ (fun _ => cover0_A_11 ..)).trans ?_) <|
    congrArg₂ Prod.mk ((View.read_writes_eq_canon _ _ _ (fun _ => cover0_A_12 ..)).trans ?_) <|
    congrArg₂ Prod.mk ((View.read_writes_eq_canon _ _ _ (fun _ => cover0_A_13 ..)).trans ?_) <|
    congrArg₂ Prod.mk ((View.read_writes_eq_canon _ _ _ (fun _ => cover0_A_14 ..)).trans ?_) <|
    congrArg₂ Prod.mk ((View.read_writes_eq_canon _ _ _ (fun _ => cover0_A_15 ..)).trans ?_) <|
    congrArg₂ Prod.mk ((View.read_writes_eq_canon _ _ _ (fun _ => cover0_A_16 ..)).trans ?_) <|
    congrArg₂ Prod.mk ((View.read_writes_eq_canon _ _ _ (fun _ => cover0_A_17 ..)).trans ?_) <|
    (View.read_writes_eq_canon _ _ _ (fun _ => cover0_A_18 ..)).trans ?_
  all_goals unfold kernelRun0_A
  all_goals dsimp only
  all_goals sl_unfold_words
  all_goals rw [View.canon_unit_zero zero2]
  all_goals simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, View.ld_unit_zero (S := S1024x256) zero2,
    View.ld_unit_zero (S := S1x512x256) zero3, View.ld_unit_zero (S := S1x1024x256) zero3]

set_option maxHeartbeats 1000000 in
/-- What a later point of a row block leaves: the six tiles as before, and its products added to what the point before left. -/
theorem outs_next (c : Dev nD) (t : Fin cfg0.N) (h : ¬t.val % 8 = 0) : outsAt0 m c t.val t.isLt =
    (k0_pay4 (iblk m c 6 t) (iblk m c 0 t), k0_pay9 (iblk m c 6 t) (iblk m c 1 t), k0_pay14 (iblk m c 6 t) (iblk m c 2 t),
      k0_pay5 (iblk m c 6 t) (iblk m c 0 t) (iblk m c 3 t), k0_pay10 (iblk m c 6 t) (k0_pay8 (iblk m c 1 t)) (iblk m c 4 t),
      k0_pay15 (iblk m c 6 t) (iblk m c 2 t) (iblk m c 5 t),
      k0_pay7 (iblk m c 6 t) (iblk m c 0 t) (iblk m c 7 t)
        (outsAt0 m c (t.val - 1) (Nat.lt_of_le_of_lt (Nat.sub_le _ _) t.isLt)).2.2.2.2.2.2.1,
      k0_pay12 (k0_pay9 (iblk m c 6 t) (iblk m c 1 t)) (iblk m c 8 t)
        (outsAt0 m c (t.val - 1) (Nat.lt_of_le_of_lt (Nat.sub_le _ _) t.isLt)).2.2.2.2.2.2.2.1,
      k0_pay2 (k0_pay14 (iblk m c 6 t) (iblk m c 2 t)) (iblk m c 9 t)
        (outsAt0 m c (t.val - 1) (Nat.lt_of_le_of_lt (Nat.sub_le _ _) t.isLt)).2.2.2.2.2.2.2.2) := by
  have h' : 1 ≤ t.val % 8 := by omega
  rw [outsAt0_B m c t h h' h h' h h']
  unfold out0_B_10 out0_B_11 out0_B_12 out0_B_13 out0_B_14 out0_B_15 out0_B_16 out0_B_17 out0_B_18
  refine congrArg₂ Prod.mk ((View.read_writes_eq_canon _ _ _ (fun _ => cover0_B_10 ..)).trans ?_) <|
    congrArg₂ Prod.mk ((View.read_writes_eq_canon _ _ _ (fun _ => cover0_B_11 ..)).trans ?_) <|
    congrArg₂ Prod.mk ((View.read_writes_eq_canon _ _ _ (fun _ => cover0_B_12 ..)).trans ?_) <|
    congrArg₂ Prod.mk ((View.read_writes_eq_canon _ _ _ (fun _ => cover0_B_13 ..)).trans ?_) <|
    congrArg₂ Prod.mk ((View.read_writes_eq_canon _ _ _ (fun _ => cover0_B_14 ..)).trans ?_) <|
    congrArg₂ Prod.mk ((View.read_writes_eq_canon _ _ _ (fun _ => cover0_B_15 ..)).trans ?_) <|
    congrArg₂ Prod.mk ((View.read_writes_eq_canon _ _ _ (fun _ => cover0_B_16 ..)).trans ?_) <|
    congrArg₂ Prod.mk ((View.read_writes_eq_canon _ _ _ (fun _ => cover0_B_17 ..)).trans ?_) <|
    (View.read_writes_eq_canon _ _ _ (fun _ => cover0_B_18 ..)).trans ?_
  all_goals unfold kernelRun0_B
  all_goals dsimp only
  all_goals sl_unfold_words
  all_goals rw [View.canon_unit_zero zero2]
  all_goals simp only [View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    (hs0_8 t).read_unread, (hs0_9 t).read_unread, (hs0_16 t).read_unread, (hs0_17 t).read_unread, (hs0_18 t).read_unread,
    View.ld_unit_zero (S := S1024x512) zero2, View.ld_unit_zero (S := S1024x1024) zero2, View.ld_unit_zero (S := S1024x256) zero2,
    View.ld_unit_zero (S := S1x512x256) zero3, View.ld_unit_zero (S := S1x1024x256) zero3]

end Cert.Proof.MergeBwd

end
-- ==== Proof.MergeBwd.Blocks.lean ====
/-
  The gradient of the gated merge: the blocks that a grid point reads, as entries of the argument arrays.

  The grid has 2 row blocks of 1024 rows and, inside each, 8 column tiles of 256 columns. Point `t` works on row
  block `t / 8` and column tile `t % 8`.
-/
module

public import proofs.«01_k».proof.Proof.Gen.MergeBwdIdeal.Value
public import Idealize.ShloMosaic.Lib.Pipeline.ValueKit
public import proofs.«01_k».proof.Proof.MergeBwd.Spec

@[expose] public section

set_option maxRecDepth 16384

noncomputable section

namespace Cert.Proof.MergeBwd

open Cert.MergeBwdIdeal Cert.MergeBwdIdeal.Gen Idealize.ShloMosaic Idealize.ShloMosaic.TcCoe

/-- The block that each window reads or writes at a grid point. -/
theorem idx : ∀ t : Fin cfg0.N, win0_0.index t = ![t.val / 8, 11 + t.val % 8] ∧ win0_1.index t = ![t.val / 8, 19 + t.val % 8]
    ∧ win0_2.index t = ![t.val / 8, 27 + t.val % 8] ∧ win0_3.index t = ![t.val / 8, t.val % 8]
    ∧ win0_4.index t = ![t.val / 8, t.val % 8] ∧ win0_5.index t = ![t.val / 8, t.val % 8]
    ∧ win0_6.index t = ![t.val / 8, t.val % 8] ∧ win0_7.index t = ![t.val % 8, 0, 0] ∧ win0_8.index t = ![t.val % 8, 0, 0]
    ∧ win0_9.index t = ![t.val % 8, 0, 0] ∧ win0_10.index t = ![t.val / 8, t.val % 8]
    ∧ win0_11.index t = ![t.val / 8, t.val % 8] ∧ win0_12.index t = ![t.val / 8, t.val % 8]
    ∧ win0_13.index t = ![t.val / 8, t.val % 8] ∧ win0_14.index t = ![t.val / 8, t.val % 8]
    ∧ win0_15.index t = ![t.val / 8, t.val % 8] ∧ win0_16.index t = ![t.val / 8, 0] ∧ win0_17.index t = ![t.val / 8, 0]
    ∧ win0_18.index t = ![t.val / 8, 0] ∧ t.val < 16 :=
  (by decide +kernel : ∀ t : Fin grid0.N, _)

/-- Row `r` of the point's row block, in the whole array. -/
def row (t : Fin cfg0.N) (r : Fin 1024) : Fin 2048 := ⟨t.val / 8 * 1024 + r, by have := (idx t).2.2.2.2.2.2.2.2.2.2.2.2.2.2.2.2.2.2.2; omega⟩

/-- Column `l` of the point's column tile, in the whole array. -/
def lane (t : Fin cfg0.N) (l : Fin 256) : Fin 2048 := ⟨t.val % 8 * 256 + l, by omega⟩

variable (m : (ℓ : Loc nD τ sig) → Buf (Elt Ideal) ℓ) (c : Dev nD)

/-! The argument arrays. -/
abbrev proj : Mat 2048 8960 := m ((c : Thread nD τ).loc main_arg0)
abbrev ya : Mat 2048 512 := m ((c : Thread nD τ).loc main_arg1)
abbrev yb : Mat 2048 1024 := m ((c : Thread nD τ).loc main_arg2)
abbrev yc : Mat 2048 512 := m ((c : Thread nD τ).loc main_arg3)
abbrev dm : Mat 2048 2048 := m ((c : Thread nD τ).loc main_arg4)
abbrev wa : Mat 512 2048 := m ((c : Thread nD τ).loc main_arg5)
abbrev wb : Mat 1024 2048 := m ((c : Thread nD τ).loc main_arg6)
abbrev wc : Mat 512 2048 := m ((c : Thread nD τ).loc main_arg7)

variable (t : Fin cfg0.N) (r : Fin 1024) (l : Fin 256)

theorem gate_a : iblk m c 0 t (ix2 r l) = proj m c (ix2 (row t r) (col 2816 (by omega) (lane t l))) := by
  blk_ext [iblk, V, idx t, row, lane, col]

theorem gate_b : iblk m c 1 t (ix2 r l) = proj m c (ix2 (row t r) (col 4864 (by omega) (lane t l))) := by
  blk_ext [iblk, V, idx t, row, lane, col]

theorem gate_c : iblk m c 2 t (ix2 r l) = proj m c (ix2 (row t r) (col 6912 (by omega) (lane t l))) := by
  blk_ext [iblk, V, idx t, row, lane, col]

theorem dm_tile : iblk m c 6 t (ix2 r l) = dm m c (ix2 (row t r) (lane t l)) := by
  blk_ext [iblk, V, idx t, row, lane]

theorem z_a : iblk m c 3 t (ix2 r l) = (∑ k : Fin 512, ya m c (ix2 (row t r) k) * wa m c (ix2 k (lane t l)) : EReal) := by
  blk_simp [iblk, idx t]
  entry_read
  pointwise
  blk_point [idx t, row, lane]

theorem z_b : iblk m c 4 t (ix2 r l) = (∑ k : Fin 1024, yb m c (ix2 (row t r) k) * wb m c (ix2 k (lane t l)) : EReal) := by
  blk_simp [iblk, idx t]
  entry_read
  pointwise
  blk_point [idx t, row, lane]

theorem z_c : iblk m c 5 t (ix2 r l) = (∑ k : Fin 512, yc m c (ix2 (row t r) k) * wc m c (ix2 k (lane t l)) : EReal) := by
  blk_simp [iblk, idx t]
  entry_read
  pointwise
  blk_point [idx t, row, lane]

theorem w_a (j : Fin 512) : iblk m c 7 t (ix3 0 j l) = wa m c (ix2 j (lane t l)) := by
  blk_ext! [iblk, V, idx t, row, lane]

theorem w_b (j : Fin 1024) : iblk m c 8 t (ix3 0 j l) = wb m c (ix2 j (lane t l)) := by
  blk_ext! [iblk, V, idx t, row, lane]

theorem w_c (j : Fin 512) : iblk m c 9 t (ix3 0 j l) = wc m c (ix2 j (lane t l)) := by
  blk_ext! [iblk, V, idx t, row, lane]

end Cert.Proof.MergeBwd

end
-- ==== Proof.MergeBwd.Kernel.lean ====
/-
  The gradient of the gated merge: the kernel's six tiled result arrays.

  They are what the point of their tile leaves.
-/
module

public import proofs.«01_k».proof.Proof.MergeBwd.Points
public import proofs.«01_k».proof.Proof.MergeBwd.Blocks

@[expose] public section

set_option maxRecDepth 16384

noncomputable section

namespace Cert.Proof.MergeBwd

open Cert.MergeBwdIdeal Cert.MergeBwdIdeal.Gen Idealize.ShloMosaic Idealize.ShloMosaic.TcCoe

variable (m : (ℓ : Loc nD τ sig) → Buf (Elt Ideal) ℓ) (c : Dev nD)

/-! What a grid point computes, at an index of its tile. -/

variable (t : Fin cfg0.N) (r : Fin 1024) (l : Fin 256)

theorem dza_at : k0_pay4 (iblk m c 6 t) (iblk m c 0 t) (ix2 r l) =
    dz 2816 (by omega) (proj m c) (dm m c) (row t r) (lane t l) := by
  pointwise [k0_pay4, k0_pay3]
  rw [gate_a, dm_tile]
  rfl

theorem dga_at : k0_pay5 (iblk m c 6 t) (iblk m c 0 t) (iblk m c 3 t) (ix2 r l) =
    dg 2816 (by omega) (proj m c) (dm m c) (ya m c) (wa m c) (row t r) (lane t l) := by
  pointwise [k0_pay5, k0_pay3]
  rw [gate_a, dm_tile, z_a]
  rfl

theorem dya_at (j : Fin 512) : k0_pay6 (iblk m c 6 t) (iblk m c 0 t) (iblk m c 7 t) (ix2 r j) =
    ∑ l : Fin 256, dz 2816 (by omega) (proj m c) (dm m c) (row t r) (lane t l) * wa m c (ix2 j (lane t l)) := by
  pointwise [k0_pay6]
  simp only [dza_at, w_a]

theorem dzb_at : k0_pay9 (iblk m c 6 t) (iblk m c 1 t) (ix2 r l) =
    dz 4864 (by omega) (proj m c) (dm m c) (row t r) (lane t l) := by
  pointwise [k0_pay9, k0_pay8]
  rw [gate_b, dm_tile]
  rfl

theorem dgb_at : k0_pay10 (iblk m c 6 t) (k0_pay8 (iblk m c 1 t)) (iblk m c 4 t) (ix2 r l) =
    dg 4864 (by omega) (proj m c) (dm m c) (yb m c) (wb m c) (row t r) (lane t l) := by
  pointwise [k0_pay10, k0_pay8]
  rw [gate_b, dm_tile, z_b]
  rfl

theorem dyb_at (j : Fin 1024) : k0_pay11 (k0_pay9 (iblk m c 6 t) (iblk m c 1 t)) (iblk m c 8 t) (ix2 r j) =
    ∑ l : Fin 256, dz 4864 (by omega) (proj m c) (dm m c) (row t r) (lane t l) * wb m c (ix2 j (lane t l)) := by
  pointwise [k0_pay11]
  simp only [dzb_at, w_b]

theorem dzc_at : k0_pay14 (iblk m c 6 t) (iblk m c 2 t) (ix2 r l) =
    dz 6912 (by omega) (proj m c) (dm m c) (row t r) (lane t l) := by
  pointwise [k0_pay14, k0_pay13]
  rw [gate_c, dm_tile]
  rfl

theorem dgc_at : k0_pay15 (iblk m c 6 t) (iblk m c 2 t) (iblk m c 5 t) (ix2 r l) =
    dg 6912 (by omega) (proj m c) (dm m c) (yc m c) (wc m c) (row t r) (lane t l) := by
  pointwise [k0_pay15, k0_pay13]
  rw [gate_c, dm_tile, z_c]
  rfl

theorem dyc_at (j : Fin 512) : k0_pay1 (k0_pay14 (iblk m c 6 t) (iblk m c 2 t)) (iblk m c 9 t) (ix2 r j) =
    ∑ l : Fin 256, dz 6912 (by omega) (proj m c) (dm m c) (row t r) (lane t l) * wc m c (ix2 j (lane t l)) := by
  pointwise [k0_pay1]
  simp only [dzc_at, w_c]

/-! The tiled results: every point of the grid writes its own tile. -/

theorem emb_10 : ((cfg0.win 10).blk t).view.emb (ix2 r l) = ix2 (row t r) (lane t l) := by
  blk_ext [idx t, row, lane]

theorem final_dza : (dats m 0 c).arrAt 10 cfg0.N = fun i => dz 2816 (by omega) (proj m c) (dm m c) (i 0) (i 1) := by
  refine (dats m 0 c).arrAt_eq_of_covers 10 _ (by decide +kernel) fun t hf y => ?_
  blk_simp
  rw [after0_10]
  idx_vars y
  refine Eq.trans ?_ (dza_at m c t y0 y1 |>.trans
    (congrArg₂ (dz 2816 (by omega) (proj m c) (dm m c)) (congrFun (emb_10 t y0 y1) 0).symm (congrFun (emb_10 t y0 y1) 1).symm))
  by_cases h : t.val % 8 = 0
  · rw [outs_first m c t h]
  · rw [outs_next m c t h]

theorem emb_11 : ((cfg0.win 11).blk t).view.emb (ix2 r l) = ix2 (row t r) (lane t l) := by
  blk_ext [idx t, row, lane]

theorem final_dzb : (dats m 0 c).arrAt 11 cfg0.N = fun i => dz 4864 (by omega) (proj m c) (dm m c) (i 0) (i 1) := by
  refine (dats m 0 c).arrAt_eq_of_covers 11 _ (by decide +kernel) fun t hf y => ?_
  blk_simp
  rw [after0_11]
  idx_vars y
  refine Eq.trans ?_ (dzb_at m c t y0 y1 |>.trans
    (congrArg₂ (dz 4864 (by omega) (proj m c) (dm m c)) (congrFun (emb_11 t y0 y1) 0).symm (congrFun (emb_11 t y0 y1) 1).symm))
  by_cases h : t.val % 8 = 0
  · rw [outs_first m c t h]
  · rw [outs_next m c t h]

theorem emb_12 : ((cfg0.win 12).blk t).view.emb (ix2 r l) = ix2 (row t r) (lane t l) := by
  blk_ext [idx t, row, lane]

theorem final_dzc : (dats m 0 c).arrAt 12 cfg0.N = fun i => dz 6912 (by omega) (proj m c) (dm m c) (i 0) (i 1) := by
  refine (dats m 0 c).arrAt_eq_of_covers 12 _ (by decide +kernel) fun t hf y => ?_
  blk_simp
  rw [after0_12]
  idx_vars y
  refine Eq.trans ?_ (dzc_at m c t y0 y1 |>.trans
    (congrArg₂ (dz 6912 (by omega) (proj m c) (dm m c)) (congrFun (emb_12 t y0 y1) 0).symm (congrFun (emb_12 t y0 y1) 1).symm))
  by_cases h : t.val % 8 = 0
  · rw [outs_first m c t h]
  · rw [outs_next m c t h]

theorem emb_13 : ((cfg0.win 13).blk t).view.emb (ix2 r l) = ix2 (row t r) (lane t l) := by
  blk_ext [idx t, row, lane]

theorem final_dga : (dats m 0 c).arrAt 13 cfg0.N = fun i => dg 2816 (by omega) (proj m c) (dm m c) (ya m c) (wa m c) (i 0) (i 1) := by
  refine (dats m 0 c).arrAt_eq_of_covers 13 _ (by decide +kernel) fun t hf y => ?_
  blk_simp
  rw [after0_13]
  idx_vars y
  refine Eq.trans ?_ (dga_at m c t y0 y1 |>.trans
    (congrArg₂ (dg 2816 (by omega) (proj m c) (dm m c) (ya m c) (wa m c)) (congrFun (emb_13 t y0 y1) 0).symm (congrFun (emb_13 t y0 y1) 1).symm))
  by_cases h : t.val % 8 = 0
  · rw [outs_first m c t h]
  · rw [outs_next m c t h]

theorem emb_14 : ((cfg0.win 14).blk t).view.emb (ix2 r l) = ix2 (row t r) (lane t l) := by
  blk_ext [idx t, row, lane]

theorem final_dgb : (dats m 0 c).arrAt 14 cfg0.N = fun i => dg 4864 (by omega) (proj m c) (dm m c) (yb m c) (wb m c) (i 0) (i 1) := by
  refine (dats m 0 c).arrAt_eq_of_covers 14 _ (by decide +kernel) fun t hf y => ?_
  blk_simp
  rw [after0_14]
  idx_vars y
  refine Eq.trans ?_ (dgb_at m c t y0 y1 |>.trans
    (congrArg₂ (dg 4864 (by omega) (proj m c) (dm m c) (yb m c) (wb m c)) (congrFun (emb_14 t y0 y1) 0).symm (congrFun (emb_14 t y0 y1) 1).symm))
  by_cases h : t.val % 8 = 0
  · rw [outs_first m c t h]
  · rw [outs_next m c t h]

theorem emb_15 : ((cfg0.win 15).blk t).view.emb (ix2 r l) = ix2 (row t r) (lane t l) := by
  blk_ext [idx t, row, lane]

theorem final_dgc : (dats m 0 c).arrAt 15 cfg0.N = fun i => dg 6912 (by omega) (proj m c) (dm m c) (yc m c) (wc m c) (i 0) (i 1) := by
  refine (dats m 0 c).arrAt_eq_of_covers 15 _ (by decide +kernel) fun t hf y => ?_
  blk_simp
  rw [after0_15]
  idx_vars y
  refine Eq.trans ?_ (dgc_at m c t y0 y1 |>.trans
    (congrArg₂ (dg 6912 (by omega) (proj m c) (dm m c) (yc m c) (wc m c)) (congrFun (emb_15 t y0 y1) 0).symm (congrFun (emb_15 t y0 y1) 1).symm))
  by_cases h : t.val % 8 = 0
  · rw [outs_first m c t h]
  · rw [outs_next m c t h]

end Cert.Proof.MergeBwd

end
-- ==== Proof.MergeBwd.Sums.lean ====
/-
  The gradient of the gated merge: the kernel's three accumulated result arrays.

  Each `dy` is the sum of the products that the eight points of a row block add into one buffer, that is, the sum over
  all 2048 columns taken tile by tile.
-/
module

public import proofs.«01_k».proof.Proof.MergeBwd.Kernel

@[expose] public section

set_option maxRecDepth 16384

noncomputable section

namespace Cert.Proof.MergeBwd

open Cert.MergeBwdIdeal Cert.MergeBwdIdeal.Gen Idealize.ShloMosaic Idealize.ShloMosaic.TcCoe

variable (m : (ℓ : Loc nD τ sig) → Buf (Elt Ideal) ℓ) (c : Dev nD)

variable (t : Fin cfg0.N) (r : Fin 1024)

/-! A later point of a row block adds its product to what the buffer held. -/

theorem acc_a (j : Fin 512) (acc : FVec Ideal S1024x512 .f32) : k0_pay7 (iblk m c 6 t) (iblk m c 0 t) (iblk m c 7 t) acc (ix2 r j) =
    acc (ix2 r j) + k0_pay6 (iblk m c 6 t) (iblk m c 0 t) (iblk m c 7 t) (ix2 r j) := by
  pointwise [k0_pay7]

theorem acc_b (j : Fin 1024) (acc : FVec Ideal S1024x1024 .f32) :
    k0_pay12 (k0_pay9 (iblk m c 6 t) (iblk m c 1 t)) (iblk m c 8 t) acc (ix2 r j) =
    acc (ix2 r j) + k0_pay11 (k0_pay9 (iblk m c 6 t) (iblk m c 1 t)) (iblk m c 8 t) (ix2 r j) := by
  pointwise [k0_pay12]

theorem acc_c (j : Fin 512) (acc : FVec Ideal S1024x512 .f32) :
    k0_pay2 (k0_pay14 (iblk m c 6 t) (iblk m c 2 t)) (iblk m c 9 t) acc (ix2 r j) =
    acc (ix2 r j) + k0_pay1 (k0_pay14 (iblk m c 6 t) (iblk m c 2 t)) (iblk m c 9 t) (ix2 r j) := by
  pointwise [k0_pay2]

/-- The point that writes a row block back, and the tile sums before it: they are the sum over all columns. -/
theorem sum_tiles (f : Fin 2048 → EReal) (hr : t.val % 8 = 7) :
    ∑ s : Fin 8, ∑ l : Fin 256, f (lane ⟨8 * (t.val / 8) + s.val, Pipeline.run_point_lt_of_flush t hr s⟩ l) = ∑ l, f l := by
  refine Fin.sum_mul_add_congr fun s l hl => congrArg f (Fin.ext ?_)
  show (8 * (t.val / 8) + s.val) % 8 * 256 + l.val = s.val * 256 + l.val
  omega

/-- The points of one run share their row block. -/
theorem row_run (hr : t.val % 8 = 7) (s : Fin 8) :
    row ⟨8 * (t.val / 8) + s.val, Pipeline.run_point_lt_of_flush t hr s⟩ r = row t r := by
  refine Fin.ext ?_
  show (8 * (t.val / 8) + s.val) / 8 * 1024 + r.val = t.val / 8 * 1024 + r.val
  omega

/-- What the buffer of `dy` holds when a row block is finished. -/
theorem run_a (hr : t.val % 8 = 7) (j : Fin 512) : (outsAt0 m c t.val t.isLt).2.2.2.2.2.2.1 (ix2 r j) =
    dy 2816 (by omega) (proj m c) (dm m c) (wa m c) (row t r) j := by
  rw [Pipeline.eq_sum_fin_of_reset_step_apply_of_flush (fun n h => (outsAt0 m c n h).2.2.2.2.2.2.1) 8 (fun _ => (0 : EReal))
    (fun t i => ∑ l : Fin 256, dz 2816 (by omega) (proj m c) (dm m c) (row t (i 0)) (lane t l) * wa m c (ix2 (i 1) (lane t l)))
    (fun t h i => by
      rw [outs_first m c t h]
      idx_vars i
      exact (dya_at m c t i0 i1).trans (zero_add _).symm)
    (fun t h i => by
      rw [outs_next m c t h]
      idx_vars i
      exact (acc_a m c t i0 i1 _).trans (congrArg _ (dya_at m c t i0 i1))) t hr (ix2 r j), zero_add]
  refine Eq.trans (Finset.sum_congr rfl fun s _ => Finset.sum_congr rfl fun l _ => ?_)
    (sum_tiles t (fun l => dz 2816 (by omega) (proj m c) (dm m c) (row t r) l * wa m c (ix2 j l)) hr)
  exact congrArg (fun r => dz 2816 (by omega) (proj m c) (dm m c) r _ * _) (row_run t r hr s)

theorem emb_16 (j : Fin 512) : ((cfg0.win 16).blk t).view.emb (ix2 r j) = ix2 (row t r) j := by
  blk_ext [idx t, row]

theorem final_dya : (dats m 0 c).arrAt 16 cfg0.N =
    fun i => dy 2816 (by omega) (proj m c) (dm m c) (wa m c) (i 0) (i 1) := by
  refine (dats m 0 c).arrAt_eq_of_covers 16 _ (by decide +kernel) fun t hf y => ?_
  blk_simp
  rw [after0_16]
  idx_vars y
  rw [run_a m c t y0 ((flush0_16 t).mp hf) y1]
  exact congrArg₂ (dy 2816 (by omega) (proj m c) (dm m c) (wa m c)) (congrFun (emb_16 t y0 y1) 0).symm (congrFun (emb_16 t y0 y1) 1).symm

/-- What the buffer of `dy` holds when a row block is finished. -/
theorem run_b (hr : t.val % 8 = 7) (j : Fin 1024) : (outsAt0 m c t.val t.isLt).2.2.2.2.2.2.2.1 (ix2 r j) =
    dy 4864 (by omega) (proj m c) (dm m c) (wb m c) (row t r) j := by
  rw [Pipeline.eq_sum_fin_of_reset_step_apply_of_flush (fun n h => (outsAt0 m c n h).2.2.2.2.2.2.2.1) 8 (fun _ => (0 : EReal))
    (fun t i => ∑ l : Fin 256, dz 4864 (by omega) (proj m c) (dm m c) (row t (i 0)) (lane t l) * wb m c (ix2 (i 1) (lane t l)))
    (fun t h i => by
      rw [outs_first m c t h]
      idx_vars i
      exact (dyb_at m c t i0 i1).trans (zero_add _).symm)
    (fun t h i => by
      rw [outs_next m c t h]
      idx_vars i
      exact (acc_b m c t i0 i1 _).trans (congrArg _ (dyb_at m c t i0 i1))) t hr (ix2 r j), zero_add]
  refine Eq.trans (Finset.sum_congr rfl fun s _ => Finset.sum_congr rfl fun l _ => ?_)
    (sum_tiles t (fun l => dz 4864 (by omega) (proj m c) (dm m c) (row t r) l * wb m c (ix2 j l)) hr)
  exact congrArg (fun r => dz 4864 (by omega) (proj m c) (dm m c) r _ * _) (row_run t r hr s)

theorem emb_17 (j : Fin 1024) : ((cfg0.win 17).blk t).view.emb (ix2 r j) = ix2 (row t r) j := by
  blk_ext [idx t, row]

theorem final_dyb : (dats m 0 c).arrAt 17 cfg0.N =
    fun i => dy 4864 (by omega) (proj m c) (dm m c) (wb m c) (i 0) (i 1) := by
  refine (dats m 0 c).arrAt_eq_of_covers 17 _ (by decide +kernel) fun t hf y => ?_
  blk_simp
  rw [after0_17]
  idx_vars y
  rw [run_b m c t y0 ((flush0_17 t).mp hf) y1]
  exact congrArg₂ (dy 4864 (by omega) (proj m c) (dm m c) (wb m c)) (congrFun (emb_17 t y0 y1) 0).symm (congrFun (emb_17 t y0 y1) 1).symm

/-- What the buffer of `dy` holds when a row block is finished. -/
theorem run_c (hr : t.val % 8 = 7) (j : Fin 512) : (outsAt0 m c t.val t.isLt).2.2.2.2.2.2.2.2 (ix2 r j) =
    dy 6912 (by omega) (proj m c) (dm m c) (wc m c) (row t r) j := by
  rw [Pipeline.eq_sum_fin_of_reset_step_apply_of_flush (fun n h => (outsAt0 m c n h).2.2.2.2.2.2.2.2) 8 (fun _ => (0 : EReal))
    (fun t i => ∑ l : Fin 256, dz 6912 (by omega) (proj m c) (dm m c) (row t (i 0)) (lane t l) * wc m c (ix2 (i 1) (lane t l)))
    (fun t h i => by
      rw [outs_first m c t h]
      idx_vars i
      exact (dyc_at m c t i0 i1).trans (zero_add _).symm)
    (fun t h i => by
      rw [outs_next m c t h]
      idx_vars i
      exact (acc_c m c t i0 i1 _).trans (congrArg _ (dyc_at m c t i0 i1))) t hr (ix2 r j), zero_add]
  refine Eq.trans (Finset.sum_congr rfl fun s _ => Finset.sum_congr rfl fun l _ => ?_)
    (sum_tiles t (fun l => dz 6912 (by omega) (proj m c) (dm m c) (row t r) l * wc m c (ix2 j l)) hr)
  exact congrArg (fun r => dz 6912 (by omega) (proj m c) (dm m c) r _ * _) (row_run t r hr s)

theorem emb_18 (j : Fin 512) : ((cfg0.win 18).blk t).view.emb (ix2 r j) = ix2 (row t r) j := by
  blk_ext [idx t, row]

theorem final_dyc : (dats m 0 c).arrAt 18 cfg0.N =
    fun i => dy 6912 (by omega) (proj m c) (dm m c) (wc m c) (i 0) (i 1) := by
  refine (dats m 0 c).arrAt_eq_of_covers 18 _ (by decide +kernel) fun t hf y => ?_
  blk_simp
  rw [after0_18]
  idx_vars y
  rw [run_c m c t y0 ((flush0_18 t).mp hf) y1]
  exact congrArg₂ (dy 6912 (by omega) (proj m c) (dm m c) (wc m c)) (congrFun (emb_18 t y0 y1) 0).symm (congrFun (emb_18 t y0 y1) 1).symm

end Cert.Proof.MergeBwd

end
-- ==== Proof.MergeBwd.Claim.lean ====
/-
  The gradient of the gated merge: its five claims.
-/
module

public import proofs.«01_k».proof.Defs
public import proofs.«01_k».proof.Proof.Gen.MergeBwd.Frame
public import proofs.«01_k».proof.Proof.Gen.MergeBwdRefIdeal.Run
public import proofs.«01_k».proof.Proof.MergeBwd.Ref
public import proofs.«01_k».proof.Proof.MergeBwd.Sums
public import Idealize.ShloMosaic.Lib.Quiescent

@[expose] public section

set_option maxRecDepth 16384

noncomputable section

namespace Cert.Proof.MergeBwd

open Idealize.ShloMosaic Idealize.ShloMosaic.TcCoe Idealize.SL.Sem

theorem frame_kernel : Cert.quiescent_MergeBwd := fun m ρ _ => Cert.MergeBwd.Gen.frame m ρ

theorem frame_ideal : Cert.quiescent_MergeBwdIdeal := fun m ρ _ => Cert.MergeBwdIdeal.Gen.frame m ρ

/-- The reference runs, leaves its arguments alone, and has no semaphore. -/
theorem frame_ref : Cert.quiescent_MergeBwdRefIdeal := fun m ρ _ =>
  (θ_run _ _ _).mono (fun _ h => ⟨fun c => (h c).2.2.2.2.2.2.2.2.2, sem_eq_zero_of_no_sems rfl _⟩)
    (Cert.MergeBwdRefIdeal.Value.run m ρ)

section
open Cert.MergeBwdIdeal Cert.MergeBwdIdeal.Gen Cert.MergeBwdRefIdeal.Read
variable (m : (ℓ : Loc nD τ sig) → Buf (Elt Ideal) ℓ) (c : Dev nD)

theorem agree_dza : val_main_v45 (F := Ideal) (proj m c) (dm m c) = (dats m 0 c).arrAt 10 cfg0.N :=
  (ext2 (ref_dza _ _)).trans (final_dza m c).symm

theorem agree_dzb : val_main_v46 (F := Ideal) (proj m c) (dm m c) = (dats m 0 c).arrAt 11 cfg0.N :=
  (ext2 (ref_dzb _ _)).trans (final_dzb m c).symm

theorem agree_dzc : val_main_v47 (F := Ideal) (proj m c) (dm m c) = (dats m 0 c).arrAt 12 cfg0.N :=
  (ext2 (ref_dzc _ _)).trans (final_dzc m c).symm

theorem agree_dga : val_main_v50 (F := Ideal) (proj m c) (ya m c) (yb m c) (yc m c) (dm m c) (wa m c) (wb m c) (wc m c) = (dats m 0 c).arrAt 13 cfg0.N :=
  (ext2 (ref_dga _ _ _ _ _ _ _ _)).trans (final_dga m c).symm

theorem agree_dgb : val_main_v53 (F := Ideal) (proj m c) (ya m c) (yb m c) (yc m c) (dm m c) (wa m c) (wb m c) (wc m c) = (dats m 0 c).arrAt 14 cfg0.N :=
  (ext2 (ref_dgb _ _ _ _ _ _ _ _)).trans (final_dgb m c).symm

theorem agree_dgc : val_main_v56 (F := Ideal) (proj m c) (ya m c) (yb m c) (yc m c) (dm m c) (wa m c) (wb m c) (wc m c) = (dats m 0 c).arrAt 15 cfg0.N :=
  (ext2 (ref_dgc _ _ _ _ _ _ _ _)).trans (final_dgc m c).symm

theorem agree_dya : val_main_v44 (F := Ideal) (proj m c) (dm m c) (wa m c) = (dats m 0 c).arrAt 16 cfg0.N :=
  (ext2 (ref_dya _ _ _)).trans (final_dya m c).symm

theorem agree_dyb : val_main_v43 (F := Ideal) (proj m c) (dm m c) (wb m c) = (dats m 0 c).arrAt 17 cfg0.N :=
  (ext2 (ref_dyb _ _ _)).trans (final_dyb m c).symm

theorem agree_dyc : val_main_v42 (F := Ideal) (proj m c) (dm m c) (wc m c) = (dats m 0 c).arrAt 18 cfg0.N :=
  (ext2 (ref_dyc _ _ _)).trans (final_dyc m c).symm

end

/-- Kernel and reference end with the same nine arrays. -/
theorem algebraic : Cert.algebraic_MergeBwdIdeal_MergeBwdRefIdeal := fun m ρ m' ρ' _ hm => by
  refine ⟨_, _, _, _, _, _, _, _, _, Cert.MergeBwdIdeal.Value.run_blocks m ρ,
    (θ_run _ _ _).mono (fun r h c => ?_) (Cert.MergeBwdRefIdeal.Value.run m' ρ')⟩
  obtain ⟨h0, h1, h2, h3, h4, h5, h6, h7, h8, ha⟩ := h c
  obtain ⟨a0, a1, a2, a3, a4, a5, a6, a7⟩ := hm c
  rw [a0, a4] at h0 h1 h2
  rw [a0, a1, a2, a3, a4, a5, a6, a7] at h3 h4 h5
  rw [a0, a4, a5] at h6
  rw [a0, a4, a6] at h7
  rw [a0, a4, a7] at h8
  exact ⟨h0.trans (agree_dza m c), h1.trans (agree_dzb m c), h2.trans (agree_dzc m c), h3.trans (agree_dga m c),
    h4.trans (agree_dgb m c), h5.trans (agree_dgc m c), h6.trans (agree_dya m c), h7.trans (agree_dyb m c),
    h8.trans (agree_dyc m c), ha⟩

end Cert.Proof.MergeBwd

end
-- ==== Proof.Mats.lean ====
/-
  Arrays of extended reals, as functions of a multi-index.
-/
module

public import Idealize.ShloMosaic.Lib.Pointwise

@[expose] public section

namespace Cert.Proof

open Idealize.ShloMosaic

/-- An array of extended reals with `a` rows and `b` columns. -/
abbrev Mat (a b : ℕ) : Type := (⟨2, ![a, b]⟩ : Shape).Idx → EReal

/-- An array of two axes is known from its entries. -/
theorem ext2 {a b : ℕ} {x : Mat a b} {f : Fin a → Fin b → EReal} (h : ∀ r l, x (ix2 r l) = f r l) :
    x = fun i => f (i 0) (i 1) := by
  funext i
  have e : i = ix2 (i 0) (i 1) := by funext k; fin_cases k <;> rfl
  exact (congrArg x e).trans (h _ _)

/-- An array of three axes is known from its entries. -/
theorem ext3 {a b d : ℕ} {x : (⟨3, ![a, b, d]⟩ : Shape).Idx → EReal} {f : Fin a → Fin b → Fin d → EReal}
    (h : ∀ p r l, x (ix3 p r l) = f p r l) : x = fun i => f (i 0) (i 1) (i 2) := by
  funext i
  have e : i = ix3 (i 0) (i 1) (i 2) := by funext k; fin_cases k <;> rfl
  exact (congrArg x e).trans (h _ _ _)

end Cert.Proof
-- ==== Proof.ABwd.Spec.lean ====
/-
  The gradient of the chunked spatial gating, for one chunk of 128 rows: four groups of 128 columns.

  An array of a chunk is a function of the group, the row and the column within the group.
-/
module

public import Idealize.ShloMosaic.Lib.Pointwise

@[expose] public section

noncomputable section

namespace Cert.Proof.ABwd

open Idealize.ShloMosaic

/-- The hyperbolic tangent in the gelu. -/
def th (x : EReal) : EReal :=
  Ideal.tanh (Ideal.ofBits .f32 0x3F4C422A#32 * (x + Ideal.ofBits .f32 0x3D372713#32 * (x * (x * x))))

/-- The factor that the gelu multiplies its argument by. -/
def half (x : EReal) : EReal := Ideal.ofBits .f32 0x3F000000#32 * (Ideal.ofBits .f32 0x3F800000#32 + th x)

/-- The gelu. -/
def ge (x : EReal) : EReal := x * half x

/-- The cotangent of the tangent's argument, up to the cubic term. -/
def inner (x d : EReal) : EReal := Ideal.ofBits .f32 0x3F4C422A#32 * (Ideal.ofBits .f32 0x3F000000#32 * (x * d) *
  ((Ideal.ofBits .f32 0x3F800000#32 + th x) * (Ideal.ofBits .f32 0x3F800000#32 - th x)))

/-- The gradient of the gelu at `x`, for the cotangent `d`. -/
def dge (x d : EReal) : EReal := d * half x + inner x d +
  Ideal.ofBits .f32 0x3D372713#32 * inner x d * (Ideal.ofBits .f32 0x40400000#32 * (x * x))

/-- An array of one chunk. -/
abbrev Arr : Type := Fin 4 → Fin 128 → Fin 128 → EReal

variable (u v d : Arr) (gv : Fin 4 → Fin 128 → EReal) (w : Arr) (b : Fin 4 → Fin 128 → EReal)

/-- The gelu of each entry. -/
def gel (x : Arr) : Arr := fun g r l => ge (x g r l)

/-- The mean of a row's squares, plus epsilon. -/
def ms (r : Fin 128) : EReal := Ideal.div (∑ g, ∑ l, gel v g r l * gel v g r l) (Ideal.ofBits .f32 0x44000000#32) +
  Ideal.ofBits .f32 0x358637BD#32

/-- One over the root of the mean of a row's squares. -/
def rr (r : Fin 128) : EReal := Ideal.rsqrt (ms v r)

/-- The derivative of one over the root. -/
def qq (r : Fin 128) : EReal := Ideal.ofBits .f32 0xBF000000#32 * Ideal.div (rr v r) (ms v r)

/-- The rows over their root. -/
def vr : Arr := fun g r l => gel v g r l * rr v r

/-- The normalised rows. -/
def vn : Arr := fun g r l => vr v g r l * gv g l

/-- The weights on and below the diagonal. -/
def wm : Arr := fun g r s => if s ≤ r then w g r s else 0

/-- The gate: each row's sum of the rows up to it. -/
def gate : Arr := fun g r l => (∑ s, wm w g r s * vn v gv g s l) + b g r

/-- The gate's cotangent. -/
def ds : Arr := fun g r l => gel u g r l * d g r l

/-- The first half's gradient. -/
def du : Arr := fun g r l => dge (u g r l) (d g r l * gate v gv w b g r l)

/-- The normalised rows' cotangent. -/
def dvn : Arr := fun g s l => ∑ r, ds u d g r l * wm w g r s

/-- The cotangent of the rows over their root. -/
def da : Arr := fun g s l => dvn u d w g s l * gv g l

/-- A row's products with its cotangent, summed up in one group. -/
def sp (g : Fin 4) (s : Fin 128) : EReal := ∑ l, gel v g s l * da u d gv w g s l

/-- The cotangent of a row's squares. -/
def z (s : Fin 128) : EReal := Ideal.div ((∑ g, sp u v d gv w g s) * qq v s) (Ideal.ofBits .f32 0x44000000#32)

/-- The cotangent of a row through its root, left as it is. -/
def dar : Arr := fun g s l => da u d gv w g s l * rr v s

/-- The cotangent of the second half's gelu. -/
def dvg : Arr := fun g s l => dar u v d gv w g s l + gel v g s l * z u v d gv w s + z u v d gv w s * gel v g s l

/-- The second half's gradient. -/
def dv : Arr := fun g s l => dge (v g s l) (dvg u v d gv w g s l)

/-- What the chunk adds to the scale's gradient. -/
def dg (g : Fin 4) (l : Fin 128) : EReal := ∑ s, vr v g s l * dvn u d w g s l

/-- What the chunk adds to the weights' gradient. -/
def dw : Arr := fun g r s => if s ≤ r then ∑ l, ds u d g r l * vn v gv g s l else 0

/-- What the chunk adds to the bias's gradient. -/
def db (g : Fin 4) (r : Fin 128) : EReal := ∑ l, ds u d g r l

end Cert.Proof.ABwd

end
-- ==== Proof.ABwd.Nodes.lean ====
/-
  What the kernel computes at one grid point, from its blocks' tiles: the gelus, the norm, the gate and their gradients.

  Each equation gives one intermediate array, a function of arrays already known.
-/
module

public import proofs.«01_k».proof.Proof.Gen.ABwdIdeal.Skeleton
public import proofs.«01_k».proof.Proof.ABwd.Spec
public import proofs.«01_k».proof.Proof.Mats
public import Idealize.ShloMosaic.Lib.WordCmp

@[expose] public section

set_option maxRecDepth 16384

noncomputable section

namespace Cert.Proof.ABwd

open Cert.ABwdIdeal Cert.ABwdIdeal.Gen Idealize.ShloMosaic

/-- A group's tile. -/
def tile (x : Arr) (g : Fin 4) : FVec Ideal S128x128 .f32 := fun i => x g (i 0) (i 1)

/-- A group's tile, in the short format. -/
def tileb (x : Arr) (g : Fin 4) : FVec Ideal S128x128 .bf16 := fun i => x g (i 0) (i 1)

/-- A column. -/
def colv (x : Fin 128 → EReal) : FVec Ideal S128x1 .f32 := fun i => x (i 0)

/-- A row. -/
def rowv (x : Fin 128 → EReal) : FVec Ideal S1x128 .f32 := fun i => x (i 1)

theorem tile_at (x : Arr) (g : Fin 4) (r l : Fin 128) : tile x g (ix2 r l) = x g r l := rfl

theorem tileb_at (x : Arr) (g : Fin 4) (r l : Fin 128) : tileb x g (ix2 r l) = x g r l := rfl

theorem colv_at (x : Fin 128 → EReal) (r : Fin 128) (k : Fin 1) : colv x (ix2 r k) = x r := rfl

theorem rowv_at (x : Fin 128 → EReal) (k : Fin 1) (l : Fin 128) : rowv x (ix2 k l) = x l := rfl

theorem tile_ext {y : FVec Ideal S128x128 .f32} {x : Arr} {g : Fin 4} (h : ∀ r l, y (ix2 r l) = x g r l) : y = tile x g :=
  ext2 h

theorem tileb_ext {y : FVec Ideal S128x128 .bf16} {x : Arr} {g : Fin 4} (h : ∀ r l, y (ix2 r l) = x g r l) : y = tileb x g :=
  ext2 h

theorem colv_ext {y : FVec Ideal S128x1 .f32} {x : Fin 128 → EReal} (h : ∀ r k, y (ix2 r k) = x r) : y = colv x :=
  ext2 (f := fun r _ => x r) h

theorem rowv_ext {y : FVec Ideal S1x128 .f32} {x : Fin 128 → EReal} (h : ∀ k l, y (ix2 k l) = x l) : y = rowv x :=
  ext2 (f := fun _ l => x l) h

variable (u v d : Arr) (gv : Fin 4 → Fin 128 → EReal) (w : Arr) (b : Fin 4 → Fin 128 → EReal)

/-! The gelus. -/

theorem v_0 : k0_pay14 (F := Ideal) (tile v 0) = tile (gel v) 0 := tile_ext fun r l => by
  pointwise [k0_pay14, k0_pay13, k0_pay11, gel, ge, half, th, tile_at]

theorem v_1 : k0_pay21 (F := Ideal) (tile v 1) (k0_pay15 (F := Ideal) (tile v 1)) = tile (gel v) 1 := tile_ext fun r l => by
  pointwise [k0_pay21, k0_pay20, k0_pay18, k0_pay15, gel, ge, half, th, tile_at]

theorem v_2 : k0_pay26 (F := Ideal) (tile v 2) = tile (gel v) 2 := tile_ext fun r l => by
  pointwise [k0_pay26, k0_pay25, k0_pay23, gel, ge, half, th, tile_at]

theorem v_3 : k0_pay33 (F := Ideal) (tile v 3) (k0_pay27 (F := Ideal) (tile v 3)) (k0_pay29 (F := Ideal)) = tile (gel v) 3 := tile_ext fun r l => by
  pointwise [k0_pay33, k0_pay32, k0_pay30, k0_pay29, k0_pay27, gel, ge, half, th, tile_at]

theorem u_0 : k0_pay47 (F := Ideal) (tile u 0) = tile (gel u) 0 := tile_ext fun r l => by
  pointwise [k0_pay47, k0_pay46, k0_pay44, gel, ge, half, th, tile_at]

theorem u_1 : k0_pay57 (F := Ideal) (tile u 1) (k0_pay53 (F := Ideal) (tile u 1)) = tile (gel u) 1 := tile_ext fun r l => by
  pointwise [k0_pay57, k0_pay56, k0_pay54, k0_pay53, gel, ge, half, th, tile_at]

theorem u_2 : k0_pay66 (F := Ideal) (tile u 2) = tile (gel u) 2 := tile_ext fun r l => by
  pointwise [k0_pay66, k0_pay65, k0_pay63, gel, ge, half, th, tile_at]

/-- A comparison of two positions. -/
theorem causal (r l : Fin 128) (x y : EReal) :
    Scalar.select (IntOp.cmpi CmpIPredicate.sge (BitVec.ofNat 32 r) (BitVec.ofNat 32 l)) x y = if l ≤ r then x else y := by
  rw [WordCmp.cmpi_sge_ofNat (by omega) (by omega), Scalar.select_ofBool]
  by_cases h : l ≤ r
  · rw [if_pos h]
    simp [Fin.le_def.mp h]
  · rw [if_neg h]
    simp [show ¬(l : ℕ) ≤ r from h]

theorem bits_512 : Ideal.ofBits .f32 0x44000000#32 = ((512 : ℝ) : EReal) := by
  simp [Ideal.ofBits, Ideal.ieee, -EReal.coe_mul]; norm_num

theorem bits_inv_512 : Ideal.ofBits .f32 0x3B000000#32 = ((1 / 512 : ℝ) : EReal) := by
  simp [Ideal.ofBits, Ideal.ieee, -EReal.coe_mul]; norm_num

theorem sum_four (a b c d : EReal) : a + b + c + d = d + c + b + a := by
  rw [add_comm a b, add_assoc (b + a), add_comm (b + a), add_comm c d, add_assoc, add_assoc, add_assoc]

/-- The products of a row with its cotangent. -/
def va : Arr := fun g s l => gel v g s l * da u d gv w g s l

/-- A row's products with its cotangent, summed up in all groups but the first. -/
def sp3 (s : Fin 128) : EReal := sp u v d gv w 3 s + sp u v d gv w 2 s + sp u v d gv w 1 s

/-! The norm. -/

theorem ms_at (r : Fin 128) (k : Fin 1) : k0_pay34 (F := Ideal) (tile v 3) (tile (gel v) 0) (tile (gel v) 1) (tile (gel v) 2)
    (k0_pay27 (F := Ideal) (tile v 3)) (k0_pay29 (F := Ideal)) (ix2 r k) = ms v r := by
  pointwise [k0_pay34, v_3, ms, tile_at]
  rw [Fin.sum_univ_four, bits_512, bits_inv_512, Ideal.div_coe (by norm_num)]

theorem rr_eq : k0_pay35 (F := Ideal) (tile v 3) (tile (gel v) 0) (tile (gel v) 1) (tile (gel v) 2) (k0_pay27 (F := Ideal) (tile v 3)) (k0_pay29 (F := Ideal)) = colv (rr v) := colv_ext fun r k => by
  pointwise [k0_pay35, ms_at, rr]

theorem qq_eq : k0_pay36 (F := Ideal) (tile v 3) (tile (gel v) 0) (tile (gel v) 1) (tile (gel v) 2) (k0_pay27 (F := Ideal) (tile v 3)) (k0_pay29 (F := Ideal)) = colv (qq v) := colv_ext fun r k => by
  pointwise [k0_pay36, rr_eq, ms_at, colv_at, qq]

theorem vr_0 : k0_pay37 (F := Ideal) (tile v 3) (tile (gel v) 0) (tile (gel v) 1) (tile (gel v) 2) (k0_pay27 (F := Ideal) (tile v 3)) (k0_pay29 (F := Ideal)) = tile (vr v) 0 := tile_ext fun r l => by
  pointwise [k0_pay37, rr_eq, colv_at, tile_at, vr]

theorem vn_0 : k0_pay38 (F := Ideal) (tile v 3) (rowv (gv 0)) (tile (gel v) 0) (tile (gel v) 1) (tile (gel v) 2) (k0_pay27 (F := Ideal) (tile v 3)) (k0_pay29 (F := Ideal)) = tile (vn v gv) 0 := tile_ext fun r l => by
  pointwise [k0_pay38, vr_0, rowv_at, tile_at, vn]

theorem vr_1 : k0_pay48 (F := Ideal) (tile (gel v) 1) (colv (rr v)) = tile (vr v) 1 := tile_ext fun r l => by
  pointwise [k0_pay48, colv_at, tile_at, vr]

theorem vr_2 : k0_pay58 (F := Ideal) (tile (gel v) 2) (colv (rr v)) = tile (vr v) 2 := tile_ext fun r l => by
  pointwise [k0_pay58, colv_at, tile_at, vr]

theorem vr_3 : k0_pay67 (F := Ideal) (tile (gel v) 3) (colv (rr v)) = tile (vr v) 3 := tile_ext fun r l => by
  pointwise [k0_pay67, colv_at, tile_at, vr]

theorem vnb_0 : k0_pay41 (F := Ideal) (tile (vn v gv) 0) = tileb (vn v gv) 0 := tileb_ext fun r l => by
  pointwise [k0_pay41, tile_at]

theorem vnb_1 : k0_pay50 (F := Ideal) (rowv (gv 1)) (tile (gel v) 1) (colv (rr v)) = tileb (vn v gv) 1 := tileb_ext fun r l => by
  pointwise [k0_pay50, vr_1, rowv_at, tile_at, vn]

theorem vnb_2 : k0_pay60 (F := Ideal) (rowv (gv 2)) (tile (gel v) 2) (colv (rr v)) = tileb (vn v gv) 2 := tileb_ext fun r l => by
  pointwise [k0_pay60, vr_2, rowv_at, tile_at, vn]

theorem vn_3 : k0_pay68 (F := Ideal) (rowv (gv 3)) (tile (gel v) 3) (colv (rr v)) = tile (vn v gv) 3 := tile_ext fun r l => by
  pointwise [k0_pay68, vr_3, rowv_at, tile_at, vn]

theorem vnb_3 : k0_pay70 (F := Ideal) (tile (vn v gv) 3) = tileb (vn v gv) 3 := tileb_ext fun r l => by
  pointwise [k0_pay70, tile_at]

/-! The gate. -/

theorem wm_0 : k0_pay39 (F := Ideal) (tile w 0) k0_pay9 = tile (wm w) 0 := tile_ext fun r l => by
  pointwise [k0_pay39, k0_pay9, wm, tile_at, causal]

theorem wmb_0 : k0_pay40 (F := Ideal) (tile (wm w) 0) = tileb (wm w) 0 := tileb_ext fun r l => by
  pointwise [k0_pay40, tile_at]

theorem wmb_1 : k0_pay49 (F := Ideal) (tile w 1) k0_pay9 = tileb (wm w) 1 := tileb_ext fun r l => by
  pointwise [k0_pay49, k0_pay9, wm, tile_at, causal]

theorem wmb_2 : k0_pay59 (F := Ideal) (tile w 2) k0_pay9 = tileb (wm w) 2 := tileb_ext fun r l => by
  pointwise [k0_pay59, k0_pay9, wm, tile_at, causal]

theorem wmb_3 : k0_pay69 (F := Ideal) (tile w 3) k0_pay9 = tileb (wm w) 3 := tileb_ext fun r l => by
  pointwise [k0_pay69, k0_pay9, wm, tile_at, causal]

theorem gate_0 : k0_pay42 (F := Ideal) (colv (b 0)) (tile (vn v gv) 0) (tile (wm w) 0) = tile (gate v gv w b) 0 := tile_ext fun r l => by
  pointwise [k0_pay42, wmb_0, vnb_0, tileb_at, colv_at, gate]

theorem gate_1 : k0_pay51 (F := Ideal) (rowv (gv 1)) (tile w 1) (colv (b 1)) k0_pay9 (tile (gel v) 1) (colv (rr v)) = tile (gate v gv w b) 1 := tile_ext fun r l => by
  pointwise [k0_pay51, wmb_1, vnb_1, tileb_at, colv_at, gate]

theorem gate_2 : k0_pay61 (F := Ideal) (rowv (gv 2)) (tile w 2) (colv (b 2)) k0_pay9 (tile (gel v) 2) (colv (rr v)) = tile (gate v gv w b) 2 := tile_ext fun r l => by
  pointwise [k0_pay61, wmb_2, vnb_2, tileb_at, colv_at, gate]

/-! The first half's gradient. -/

theorem du_0 : k0_pay105 (F := Ideal) (k0_pay43 (F := Ideal) (tile u 0)) (k0_pay103 (F := Ideal) (tile d 0) (tile (gate v gv w b) 0) (k0_pay46 (F := Ideal) (tile u 0))) (k0_pay104 (F := Ideal) (tile d 0) (tile u 0) (tile (gate v gv w b) 0) (k0_pay45 (F := Ideal) (tile u 0))) (Scalar.ofBits .f32 0x3F4C422A#32 : Ideal .f32) = tile (du u v d gv w b) 0 := tile_ext fun r l => by
  pointwise [k0_pay105, k0_pay104, k0_pay103, k0_pay102, k0_pay46, k0_pay45, k0_pay44, k0_pay43, tile_at, du, dge, inner, half, th]

theorem du_1 : k0_pay93 (F := Ideal) (tile d 1) (tile u 1) (tile (gate v gv w b) 1) (k0_pay52 (F := Ideal) (tile u 1)) (k0_pay55 (F := Ideal) (k0_pay53 (F := Ideal) (tile u 1))) (k0_pay56 (F := Ideal) (k0_pay53 (F := Ideal) (tile u 1))) = tile (du u v d gv w b) 1 := tile_ext fun r l => by
  pointwise [k0_pay93, k0_pay52, k0_pay55, k0_pay56, k0_pay54, k0_pay53, tile_at, du, dge, inner, half, th]

theorem du_2 : k0_pay84 (F := Ideal) (tile d 2) (tile u 2) (tile (gate v gv w b) 2) (k0_pay62 (F := Ideal) (tile u 2)) (k0_pay64 (F := Ideal) (tile u 2)) (k0_pay65 (F := Ideal) (tile u 2)) = tile (du u v d gv w b) 2 := tile_ext fun r l => by
  pointwise [k0_pay84, k0_pay62, k0_pay64, k0_pay65, k0_pay63, tile_at, du, dge, inner, half, th]

theorem du_3 : k0_pay74 (F := Ideal) (tile d 3) (tile u 3) (tile w 3) (colv (b 3)) k0_pay9 (tile (vn v gv) 3) = tile (du u v d gv w b) 3 := tile_ext fun r l => by
  pointwise [k0_pay74, k0_pay72, k0_pay71, wmb_3, vnb_3, tile_at, tileb_at, colv_at, gate, du, dge, inner, half, th]

/-! The gate's cotangent. -/

theorem ds_0 : k0_pay101 (F := Ideal) (tile d 0) (tile (gel u) 0) = tile (ds u d) 0 := tile_ext fun r l => by
  pointwise [k0_pay101, tile_at, ds]

theorem ds_1 : k0_pay92 (F := Ideal) (tile d 1) (tile (gel u) 1) = tile (ds u d) 1 := tile_ext fun r l => by
  pointwise [k0_pay92, tile_at, ds]

theorem ds_2 : k0_pay83 (F := Ideal) (tile d 2) (tile (gel u) 2) = tile (ds u d) 2 := tile_ext fun r l => by
  pointwise [k0_pay83, tile_at, ds]

theorem ds_3 : k0_pay73 (F := Ideal) (tile d 3) (tile u 3) = tile (ds u d) 3 := tile_ext fun r l => by
  pointwise [k0_pay73, k0_pay72, k0_pay71, tile_at, ds, gel, ge, half, th]

theorem db_0 : k0_pay106 (F := Ideal) (tile (ds u d) 0) = colv (db u d 0) := colv_ext fun r k => by
  pointwise [k0_pay106, tile_at, db]

theorem db_1 : k0_pay94 (F := Ideal) (tile d 1) (tile (gel u) 1) = colv (db u d 1) := colv_ext fun r k => by
  pointwise [k0_pay94, ds_1, tile_at, db]

theorem db_2 : k0_pay85 (F := Ideal) (tile d 2) (tile (gel u) 2) = colv (db u d 2) := colv_ext fun r k => by
  pointwise [k0_pay85, ds_2, tile_at, db]

theorem db_3 : k0_pay75 (F := Ideal) (tile d 3) (tile u 3) = colv (db u d 3) := colv_ext fun r k => by
  pointwise [k0_pay75, ds_3, tile_at, db]

theorem dvn_0 : k0_pay107 (F := Ideal) (tileb (wm w) 0) (tile (ds u d) 0) = tile (dvn u d w) 0 := tile_ext fun r l => by
  pointwise [k0_pay107, tile_at, tileb_at, dvn]

theorem dvn_1 : k0_pay95 (F := Ideal) (tile d 1) (tileb (wm w) 1) (tile (gel u) 1) = tile (dvn u d w) 1 := tile_ext fun r l => by
  pointwise [k0_pay95, ds_1, tile_at, tileb_at, dvn]

theorem dvn_2 : k0_pay86 (F := Ideal) (tile d 2) (tileb (wm w) 2) (tile (gel u) 2) = tile (dvn u d w) 2 := tile_ext fun r l => by
  pointwise [k0_pay86, ds_2, tile_at, tileb_at, dvn]

theorem dvn_3 : k0_pay76 (F := Ideal) (tile d 3) (tile u 3) (tile w 3) k0_pay9 = tile (dvn u d w) 3 := tile_ext fun r l => by
  pointwise [k0_pay76, ds_3, wmb_3, tile_at, tileb_at, dvn]

theorem dvn_3s : k0_pay77 (F := Ideal) (tile (dvn u d w) 3) = tile (dvn u d w) 3 := tile_ext fun r l => by
  pointwise [k0_pay77, tile_at]

/-! The weights' and the scale's gradients. -/

theorem dw_0 : k0_pay108 (F := Ideal) k0_pay9 (tileb (vn v gv) 0) (tile (ds u d) 0) = tile (dw u v d gv) 0 := tile_ext fun r l => by
  pointwise [k0_pay108, k0_pay9, tile_at, tileb_at, causal, dw]

theorem dw_1 : k0_pay96 (F := Ideal) (tile d 1) k0_pay9 (tileb (vn v gv) 1) (tile (gel u) 1) = tile (dw u v d gv) 1 := tile_ext fun r l => by
  pointwise [k0_pay96, k0_pay9, ds_1, tile_at, tileb_at, causal, dw]

theorem dw_2 : k0_pay87 (F := Ideal) (tile d 2) k0_pay9 (tileb (vn v gv) 2) (tile (gel u) 2) = tile (dw u v d gv) 2 := tile_ext fun r l => by
  pointwise [k0_pay87, k0_pay9, ds_2, tile_at, tileb_at, causal, dw]

theorem dw_3 : k0_pay78 (F := Ideal) k0_pay9 (tileb (vn v gv) 3) (tile (ds u d) 3) = tile (dw u v d gv) 3 := tile_ext fun r l => by
  pointwise [k0_pay78, k0_pay9, tile_at, tileb_at, causal, dw]

theorem dg_0 : k0_pay109 (F := Ideal) (tile (vr v) 0) (tileb (wm w) 0) (tile (ds u d) 0) = rowv (dg u v d w 0) := rowv_ext fun k l => by
  pointwise [k0_pay109, dvn_0, tile_at, dg]

theorem dg_1 : k0_pay97 (F := Ideal) (tile d 1) (tile (vr v) 1) (tileb (wm w) 1) (tile (gel u) 1) = rowv (dg u v d w 1) := rowv_ext fun k l => by
  pointwise [k0_pay97, dvn_1, tile_at, dg]

theorem dg_2 : k0_pay88 (F := Ideal) (tile d 2) (tile (vr v) 2) (tileb (wm w) 2) (tile (gel u) 2) = rowv (dg u v d w 2) := rowv_ext fun k l => by
  pointwise [k0_pay88, dvn_2, tile_at, dg]

theorem dg_3 : k0_pay79 (F := Ideal) (tile (vr v) 3) (tile (dvn u d w) 3) = rowv (dg u v d w 3) := rowv_ext fun k l => by
  pointwise [k0_pay79, dvn_3s, tile_at, dg]

/-! The rows' cotangent through the norm. -/

theorem da_0 : k0_pay110 (F := Ideal) (rowv (gv 0)) (tileb (wm w) 0) (tile (ds u d) 0) = tile (da u d gv w) 0 := tile_ext fun r l => by
  pointwise [k0_pay110, dvn_0, tile_at, rowv_at, da]

theorem da_1 : k0_pay98 (F := Ideal) (tile d 1) (rowv (gv 1)) (tileb (wm w) 1) (tile (gel u) 1) = tile (da u d gv w) 1 := tile_ext fun r l => by
  pointwise [k0_pay98, dvn_1, tile_at, rowv_at, da]

theorem da_2 : k0_pay89 (F := Ideal) (tile d 2) (rowv (gv 2)) (tileb (wm w) 2) (tile (gel u) 2) = tile (da u d gv w) 2 := tile_ext fun r l => by
  pointwise [k0_pay89, dvn_2, tile_at, rowv_at, da]

theorem da_3 : k0_pay80 (F := Ideal) (rowv (gv 3)) (tile (dvn u d w) 3) = tile (da u d gv w) 3 := tile_ext fun r l => by
  pointwise [k0_pay80, dvn_3s, tile_at, rowv_at, da]

theorem sp_3 : k0_pay81 (F := Ideal) (rowv (gv 3)) (tile (gel v) 3) (tile (dvn u d w) 3) = colv (sp u v d gv w 3) := colv_ext fun r k => by
  pointwise [k0_pay81, da_3, tile_at, sp]

theorem va_2 : k0_pay90 (F := Ideal) (tile d 2) (rowv (gv 2)) (tile (gel v) 2) (tileb (wm w) 2) (tile (gel u) 2) = tile (va u v d gv w) 2 := tile_ext fun r l => by
  pointwise [k0_pay90, da_2, tile_at, va]

theorem sp_1 : k0_pay99 (F := Ideal) (tile d 1) (rowv (gv 1)) (tile (gel v) 1) (tileb (wm w) 1) (tile (gel u) 1) (colv (sp u v d gv w 3)) (tile (va u v d gv w) 2) = colv (sp3 u v d gv w) := colv_ext fun r k => by
  pointwise [k0_pay99, da_1, tile_at, colv_at, sp3, sp, va]

theorem dar_0 : k0_pay111 (F := Ideal) (rowv (gv 0)) (colv (rr v)) (tileb (wm w) 0) (tile (ds u d) 0) = tile (dar u v d gv w) 0 := tile_ext fun r l => by
  pointwise [k0_pay111, da_0, tile_at, colv_at, dar]

theorem dar_1 : k0_pay100 (F := Ideal) (tile d 1) (rowv (gv 1)) (colv (rr v)) (tileb (wm w) 1) (tile (gel u) 1) = tile (dar u v d gv w) 1 := tile_ext fun r l => by
  pointwise [k0_pay100, da_1, tile_at, colv_at, dar]

theorem dar_2 : k0_pay91 (F := Ideal) (colv (rr v)) (tile (da u d gv w) 2) = tile (dar u v d gv w) 2 := tile_ext fun r l => by
  pointwise [k0_pay91, tile_at, colv_at, dar]

theorem dar_3 : k0_pay82 (F := Ideal) (rowv (gv 3)) (colv (rr v)) (tile (dvn u d w) 3) = tile (dar u v d gv w) 3 := tile_ext fun r l => by
  pointwise [k0_pay82, da_3, tile_at, colv_at, dar]

theorem z_eq : k0_pay112 (F := Ideal) (rowv (gv 0)) (tile (gel v) 0) (colv (qq v)) (tileb (wm w) 0) (colv (sp3 u v d gv w)) (tile (ds u d) 0) = colv (z u v d gv w) := colv_ext fun r k => by
  pointwise [k0_pay112, da_0, tile_at, colv_at, sp3, z]
  rw [Fin.sum_univ_four, bits_512, bits_inv_512, Ideal.div_coe (by norm_num), sum_four]
  rfl

theorem dvg_3 : k0_pay113 (F := Ideal) (rowv (gv 0)) (tile (gel v) 0) (tile (gel v) 3) (colv (qq v)) (tileb (wm w) 0) (tile (dar u v d gv w) 3) (colv (sp3 u v d gv w)) (tile (ds u d) 0) = tile (dvg u v d gv w) 3 := tile_ext fun r l => by
  pointwise [k0_pay113, z_eq, tile_at, colv_at, dvg]
  simp only [Finset.univ_unique, Finset.sum_singleton]

theorem dvg_2 : k0_pay114 (F := Ideal) (rowv (gv 0)) (tile (gel v) 0) (tile (gel v) 2) (colv (qq v)) (tileb (wm w) 0) (tile (dar u v d gv w) 2) (colv (sp3 u v d gv w)) (tile (ds u d) 0) = tile (dvg u v d gv w) 2 := tile_ext fun r l => by
  pointwise [k0_pay114, z_eq, tile_at, colv_at, dvg]
  simp only [Finset.univ_unique, Finset.sum_singleton]

theorem zt_eq : k0_pay115 (F := Ideal) (rowv (gv 0)) (tile (gel v) 0) (colv (qq v)) (tileb (wm w) 0) (colv (sp3 u v d gv w)) (tile (ds u d) 0) = tile (fun _ r _ => z u v d gv w r) 1 := tile_ext fun r l => by
  pointwise [k0_pay115, z_eq, colv_at]
  simp only [Finset.univ_unique, Finset.sum_singleton]

theorem dvg_0 : k0_pay116 (F := Ideal) (tile (gel v) 0) (tile (dar u v d gv w) 0) (colv (z u v d gv w)) = tile (dvg u v d gv w) 0 := tile_ext fun r l => by
  pointwise [k0_pay116, tile_at, colv_at, dvg]
  simp only [Finset.univ_unique, Finset.sum_singleton]

/-! The second half's gradient. -/

theorem dv_3 : k0_pay117 (F := Ideal) (tile v 3) (k0_pay28 (F := Ideal) (tile v 3)) (k0_pay31 (F := Ideal) (tile v 3) (k0_pay27 (F := Ideal) (tile v 3)) (k0_pay29 (F := Ideal))) (k0_pay32 (F := Ideal) (tile v 3) (k0_pay27 (F := Ideal) (tile v 3)) (k0_pay29 (F := Ideal))) (tile (dvg u v d gv w) 3) = tile (dv u v d gv w) 3 := tile_ext fun r l => by
  pointwise [k0_pay117, k0_pay28, k0_pay31, k0_pay32, k0_pay30, k0_pay29, k0_pay27, tile_at, dv, dge, inner, half, th]

theorem dv_2 : k0_pay118 (F := Ideal) (tile v 2) (k0_pay22 (F := Ideal) (tile v 2)) (k0_pay24 (F := Ideal) (tile v 2)) (k0_pay25 (F := Ideal) (tile v 2)) (tile (dvg u v d gv w) 2) = tile (dv u v d gv w) 2 := tile_ext fun r l => by
  pointwise [k0_pay118, k0_pay22, k0_pay24, k0_pay25, k0_pay23, tile_at, dv, dge, inner, half, th]

theorem dv_1 : k0_pay119 (F := Ideal) (tile v 1) (k0_pay17 (F := Ideal) (k0_pay16 (F := Ideal) (tile v 1)) (Scalar.ofBits .f32 0x40400000#32 : Ideal .f32)) (k0_pay19 (F := Ideal) (tile v 1) (k0_pay15 (F := Ideal) (tile v 1))) (k0_pay20 (F := Ideal) (tile v 1) (k0_pay15 (F := Ideal) (tile v 1))) (tile (gel v) 1) (tile (dar u v d gv w) 1) (tile (fun _ r _ => z u v d gv w r) 1) = tile (dv u v d gv w) 1 := tile_ext fun r l => by
  pointwise [k0_pay119, k0_pay17, k0_pay16, k0_pay19, k0_pay20, k0_pay18, k0_pay15, tile_at, dvg, dv, dge, inner, half, th]

theorem dv_0 : k0_pay126 (F := Ideal) (k0_pay10 (F := Ideal) (tile v 0)) (k0_pay12 (F := Ideal) (tile v 0)) (k0_pay120 (F := Ideal) (tile v 0) (tile (gel v) 0) (tile (dar u v d gv w) 0) (colv (z u v d gv w))) (k0_pay121 (F := Ideal) (k0_pay13 (F := Ideal) (tile v 0)) (tile (gel v) 0) (tile (dar u v d gv w) 0) (colv (z u v d gv w))) (Scalar.ofBits .f32 0x3F000000#32 : Ideal .f32) = tileb (dv u v d gv w) 0 := tileb_ext fun r l => by
  pointwise [k0_pay126, k0_pay120, k0_pay121, k0_pay10, k0_pay12, k0_pay13, k0_pay11, dvg_0, tile_at, dv, dge, inner, half, th]

/-! The casts before the stores. -/

theorem dub_0 : k0_pay125 (F := Ideal) (tile (du u v d gv w b) 0) = tileb (du u v d gv w b) 0 := tileb_ext fun r l => by
  pointwise [k0_pay125, tile_at]

theorem dub_1 : k0_pay130 (F := Ideal) (tile (du u v d gv w b) 1) = tileb (du u v d gv w b) 1 := tileb_ext fun r l => by
  pointwise [k0_pay130, tile_at]

theorem dub_2 : k0_pay135 (F := Ideal) (tile (du u v d gv w b) 2) = tileb (du u v d gv w b) 2 := tileb_ext fun r l => by
  pointwise [k0_pay135, tile_at]

theorem dub_3 : k0_pay140 (F := Ideal) (tile (du u v d gv w b) 3) = tileb (du u v d gv w b) 3 := tileb_ext fun r l => by
  pointwise [k0_pay140, tile_at]

theorem dvb_1 : k0_pay131 (F := Ideal) (tile (dv u v d gv w) 1) = tileb (dv u v d gv w) 1 := tileb_ext fun r l => by
  pointwise [k0_pay131, tile_at]

theorem dvb_2 : k0_pay136 (F := Ideal) (tile (dv u v d gv w) 2) = tileb (dv u v d gv w) 2 := tileb_ext fun r l => by
  pointwise [k0_pay136, tile_at]

theorem dvb_3 : k0_pay141 (F := Ideal) (tile (dv u v d gv w) 3) = tileb (dv u v d gv w) 3 := tileb_ext fun r l => by
  pointwise [k0_pay141, tile_at]

end Cert.Proof.ABwd

end
-- ==== Proof.ABwd.Blocks.lean ====
/-
  Reading the kernel's blocks: a point's tiles of the arguments.
-/
module

public import proofs.«01_k».proof.Defs
public import proofs.«01_k».proof.Proof.Gen.ABwd.Frame
public import proofs.«01_k».proof.Proof.Gen.ABwdIdeal.Value
public import proofs.«01_k».proof.Proof.ABwd.Nodes
public import Idealize.ShloMosaic.Lib.Pipeline.ValueKit
public import Idealize.ShloMosaic.Lib.Pipeline.ReadBack

@[expose] public section

set_option maxRecDepth 16384

noncomputable section

namespace Cert.Proof.ABwd

open Cert.ABwdIdeal Cert.ABwdIdeal.Gen Idealize.ShloMosaic Idealize.ShloMosaic.TcCoe Idealize.SL.Sem

/-- Each point's blocks: row block `t` of `u`, `v`, `dy` and the gradient of `u` and `v`; the rest is one block. -/
theorem idx : ∀ t : Fin cfg0.N, win0_0.index t = ![t.val, 0] ∧ win0_1.index t = ![t.val, 1]
    ∧ win0_2.index t = ![0, 0] ∧ win0_3.index t = ![0, 0, 0] ∧ win0_4.index t = ![0, 0] ∧ win0_5.index t = ![t.val, 0]
    ∧ win0_6.index t = ![t.val, 0] ∧ win0_7.index t = ![0, 0] ∧ win0_8.index t = ![0, 0, 0] ∧ win0_9.index t = ![0, 0]
    ∧ t.val < 16 :=
  (by decide +kernel : ∀ t : Fin grid0.N, _)

/-- Row `r` of chunk `n`. -/
def row (n : Fin 16) (r : Fin 128) : Fin 2048 := ⟨n * 128 + r, by omega⟩

/-- Column `l` of group `g`. -/
def lane (g : Fin 4) (l : Fin 128) : Fin 512 := ⟨g * 128 + l, by omega⟩

/-- Column `l` of the first half, in the projection. -/
def ucol (l : Fin 512) : Fin 8960 := ⟨l, by omega⟩

/-- Column `l` of the second half, in the projection. -/
def vcol (l : Fin 512) : Fin 8960 := ⟨512 + l, by omega⟩

/-- The point's chunk. -/
def chunk (t : Fin cfg0.N) : Fin 16 := ⟨t.val, (idx t).2.2.2.2.2.2.2.2.2.2⟩

variable (p : Mat 2048 8960) (y : Mat 2048 512) (n : Fin 16)

/-- A chunk of the first half. -/
def uOf : Arr := fun g r l => p (ix2 (row n r) (ucol (lane g l)))

/-- A chunk of the second half. -/
def vOf : Arr := fun g r l => p (ix2 (row n r) (vcol (lane g l)))

/-- A chunk of the cotangent. -/
def dOf : Arr := fun g r l => y (ix2 (row n r) (lane g l))

/-- The scale, by group and column. -/
def gOf (x : Mat 1 512) (g : Fin 4) (l : Fin 128) : EReal := x (ix2 0 (lane g l))

/-- The weights, by group, row and column. -/
def wOf (x : FVec Ideal S4x128x128 .f32) : Arr := fun g r s => x (ix3 g r s)

/-- The bias, by group and row. -/
def bOf (x : Mat 4 128) (g : Fin 4) (r : Fin 128) : EReal := x (ix2 g r)

variable (m : (ℓ : Loc nD τ sig) → Buf (Elt Ideal) ℓ) (c : Dev nD) (t : Fin cfg0.N)

/-! The argument arrays. -/
abbrev proj : Mat 2048 8960 := m ((c : Thread nD τ).loc main_arg0)
abbrev scale : Mat 1 512 := m ((c : Thread nD τ).loc main_arg1)
abbrev wts : FVec Ideal S4x128x128 .f32 := m ((c : Thread nD τ).loc main_arg2)
abbrev bias : Mat 4 128 := m ((c : Thread nD τ).loc main_arg3)
abbrev dy : Mat 2048 512 := m ((c : Thread nD τ).loc main_arg4)

/-! The point's arrays. -/
abbrev U : Arr := uOf (proj m c) (chunk t)
abbrev W : Arr := vOf (proj m c) (chunk t)
abbrev D : Arr := dOf (dy m c) (chunk t)
abbrev G : Fin 4 → Fin 128 → EReal := gOf (scale m c)
abbrev A : Arr := wOf (wts m c)
abbrev B : Fin 4 → Fin 128 → EReal := bOf (bias m c)

variable (r : Fin 128) (l : Fin 512)

theorem u_block : X0_0 m c t (ix2 r l) = proj m c (ix2 (row (chunk t) r) (ucol l)) := by
  unfold X0_0 Pipeline.Window.fill
  rw [dif_pos (moved0_0 t _)]
  blk_ext [iblk, V, idx t, row, chunk, ucol]

theorem v_block : X0_1 m c t (ix2 r l) = proj m c (ix2 (row (chunk t) r) (vcol l)) := by
  unfold X0_1 Pipeline.Window.fill
  rw [dif_pos (moved0_1 t _)]
  blk_ext [iblk, V, idx t, row, chunk, vcol]

theorem g_block : iblk m c 2 t (ix2 0 l) = scale m c (ix2 0 l) := by
  blk_ext [iblk, V, idx t]

theorem w_block (g : Fin 4) (s : Fin 128) : iblk m c 3 t (ix3 g r s) = wts m c (ix3 g r s) := by
  blk_ext [iblk, V, idx t]

theorem b_block (g : Fin 4) : iblk m c 4 t (ix2 r g) = bias m c (ix2 g r) := by
  blk_ext! [iblk, V, idx t]

theorem d_block : iblk m c 5 t (ix2 r l) = dy m c (ix2 (row (chunk t) r) l) := by
  blk_ext [iblk, V, idx t, row, chunk]

end Cert.Proof.ABwd

end
-- ==== Proof.ABwd.Loads.lean ====
/-
  The point's tiles, as the body loads them.
-/
module

public import proofs.«01_k».proof.Proof.ABwd.Blocks

@[expose] public section

set_option maxRecDepth 16384

noncomputable section

namespace Cert.Proof.ABwd

open Cert.ABwdIdeal Cert.ABwdIdeal.Gen Idealize.ShloMosaic Idealize.ShloMosaic.TcCoe Idealize.SL.Sem

/-! Loads of one group's columns. -/

theorem ld_tile (X : Vec Ideal S128x512 .f32) (g : Fin 4) {o : Nat} (ho : o = g.val * 128)
    (inb : ∀ a, (![0, o] : Fin 2 → Nat) a + (![128, 128] : Fin 2 → Nat) a ≤ S128x512.size a) (r l : Fin 128) :
    View.ld X (Rect.unit ![0, o] ![128, 128] inb) (ix2 r l) = X (ix2 r (lane g l)) :=
  View.ld_unit_apply_of _ _ _ _ _ _ fun a => by
    subst ho
    fin_cases a
    · exact (Nat.zero_add _).symm
    · rfl

theorem ld_row (X : Vec Ideal S1x512 .f32) (g : Fin 4) {o : Nat} (ho : o = g.val * 128)
    (inb : ∀ a, (![0, o] : Fin 2 → Nat) a + (![1, 128] : Fin 2 → Nat) a ≤ S1x512.size a) (k : Fin 1) (l : Fin 128) :
    View.ld X (Rect.unit ![0, o] ![1, 128] inb) (ix2 k l) = X (ix2 0 (lane g l)) :=
  View.ld_unit_apply_of _ _ _ _ _ _ fun a => by
    subst ho
    fin_cases a
    · exact (by omega : 0 = 0 + k.val)
    · rfl

variable (m : (ℓ : Loc nD τ sig) → Buf (Elt Ideal) ℓ) (c : Dev nD) (t : Fin cfg0.N)

/-! The loads. -/

theorem u_ld0 : View.ld (X0_0 m c t) (Rect.unit ![0, 0] ![128, 128] inb_S128x512_S128x128_0_0) = tile (U m c t) 0 :=
  tile_ext fun r l => (ld_tile _ 0 rfl _ r l).trans (u_block m c t r (lane 0 l))

theorem v_ld0 : View.ld (X0_1 m c t) (Rect.unit ![0, 0] ![128, 128] inb_S128x512_S128x128_0_0) = tile (W m c t) 0 :=
  tile_ext fun r l => (ld_tile _ 0 rfl _ r l).trans (v_block m c t r (lane 0 l))

theorem d_ld0 : View.ld (iblk m c 5 t) (Rect.unit ![0, 0] ![128, 128] inb_S128x512_S128x128_0_0) = tile (D m c t) 0 :=
  tile_ext fun r l => (ld_tile _ 0 rfl _ r l).trans (d_block m c t r (lane 0 l))

theorem g_ld0 : View.ld (iblk m c 2 t) (Rect.unit ![0, 0] ![1, 128] inb_S1x512_S1x128_0_0) = rowv (G m c 0) :=
  rowv_ext fun k l => (ld_row _ 0 rfl _ k l).trans (g_block m c t (lane 0 l))

theorem w_ld0 : k0_pay1 (View.ld (iblk m c 3 t) (Rect.unit ![0, 0, 0] ![1, 128, 128] inb_S4x128x128_S1x128x128_0_0_0)) = tile (A m c) 0 :=
  tile_ext fun r l => by
    refine Eq.trans ?_ (w_block m c t r 0 l)
    pointwise [k0_pay1]
    blk_ext

theorem b_ld0 : k0_pay5 (View.ld (iblk m c 4 t) (Rect.unit ![0, 0] ![128, 1] inb_S128x4_S128x1_0_0)) = colv (B m c 0) :=
  colv_ext fun r k => by
    refine Eq.trans ?_ (b_block m c t r 0)
    pointwise [k0_pay5]
    blk_ext

theorem u_ld1 : View.ld (X0_0 m c t) (Rect.unit ![0, 128] ![128, 128] inb_S128x512_S128x128_0_128) = tile (U m c t) 1 :=
  tile_ext fun r l => (ld_tile _ 1 rfl _ r l).trans (u_block m c t r (lane 1 l))

theorem v_ld1 : View.ld (X0_1 m c t) (Rect.unit ![0, 128] ![128, 128] inb_S128x512_S128x128_0_128) = tile (W m c t) 1 :=
  tile_ext fun r l => (ld_tile _ 1 rfl _ r l).trans (v_block m c t r (lane 1 l))

theorem d_ld1 : View.ld (iblk m c 5 t) (Rect.unit ![0, 128] ![128, 128] inb_S128x512_S128x128_0_128) = tile (D m c t) 1 :=
  tile_ext fun r l => (ld_tile _ 1 rfl _ r l).trans (d_block m c t r (lane 1 l))

theorem g_ld1 : View.ld (iblk m c 2 t) (Rect.unit ![0, 128] ![1, 128] inb_S1x512_S1x128_0_128) = rowv (G m c 1) :=
  rowv_ext fun k l => (ld_row _ 1 rfl _ k l).trans (g_block m c t (lane 1 l))

theorem w_ld1 : k0_pay2 (View.ld (iblk m c 3 t) (Rect.unit ![1, 0, 0] ![1, 128, 128] inb_S4x128x128_S1x128x128_1_0_0)) = tile (A m c) 1 :=
  tile_ext fun r l => by
    refine Eq.trans ?_ (w_block m c t r 1 l)
    pointwise [k0_pay2]
    blk_ext

theorem b_ld1 : k0_pay6 (View.ld (iblk m c 4 t) (Rect.unit ![0, 1] ![128, 1] inb_S128x4_S128x1_0_1)) = colv (B m c 1) :=
  colv_ext fun r k => by
    refine Eq.trans ?_ (b_block m c t r 1)
    pointwise [k0_pay6]
    blk_ext

theorem u_ld2 : View.ld (X0_0 m c t) (Rect.unit ![0, 256] ![128, 128] inb_S128x512_S128x128_0_256) = tile (U m c t) 2 :=
  tile_ext fun r l => (ld_tile _ 2 rfl _ r l).trans (u_block m c t r (lane 2 l))

theorem v_ld2 : View.ld (X0_1 m c t) (Rect.unit ![0, 256] ![128, 128] inb_S128x512_S128x128_0_256) = tile (W m c t) 2 :=
  tile_ext fun r l => (ld_tile _ 2 rfl _ r l).trans (v_block m c t r (lane 2 l))

theorem d_ld2 : View.ld (iblk m c 5 t) (Rect.unit ![0, 256] ![128, 128] inb_S128x512_S128x128_0_256) = tile (D m c t) 2 :=
  tile_ext fun r l => (ld_tile _ 2 rfl _ r l).trans (d_block m c t r (lane 2 l))

theorem g_ld2 : View.ld (iblk m c 2 t) (Rect.unit ![0, 256] ![1, 128] inb_S1x512_S1x128_0_256) = rowv (G m c 2) :=
  rowv_ext fun k l => (ld_row _ 2 rfl _ k l).trans (g_block m c t (lane 2 l))

theorem w_ld2 : k0_pay3 (View.ld (iblk m c 3 t) (Rect.unit ![2, 0, 0] ![1, 128, 128] inb_S4x128x128_S1x128x128_2_0_0)) = tile (A m c) 2 :=
  tile_ext fun r l => by
    refine Eq.trans ?_ (w_block m c t r 2 l)
    pointwise [k0_pay3]
    blk_ext

theorem b_ld2 : k0_pay7 (View.ld (iblk m c 4 t) (Rect.unit ![0, 2] ![128, 1] inb_S128x4_S128x1_0_2)) = colv (B m c 2) :=
  colv_ext fun r k => by
    refine Eq.trans ?_ (b_block m c t r 2)
    pointwise [k0_pay7]
    blk_ext

theorem u_ld3 : View.ld (X0_0 m c t) (Rect.unit ![0, 384] ![128, 128] inb_S128x512_S128x128_0_384) = tile (U m c t) 3 :=
  tile_ext fun r l => (ld_tile _ 3 rfl _ r l).trans (u_block m c t r (lane 3 l))

theorem v_ld3 : View.ld (X0_1 m c t) (Rect.unit ![0, 384] ![128, 128] inb_S128x512_S128x128_0_384) = tile (W m c t) 3 :=
  tile_ext fun r l => (ld_tile _ 3 rfl _ r l).trans (v_block m c t r (lane 3 l))

theorem d_ld3 : View.ld (iblk m c 5 t) (Rect.unit ![0, 384] ![128, 128] inb_S128x512_S128x128_0_384) = tile (D m c t) 3 :=
  tile_ext fun r l => (ld_tile _ 3 rfl _ r l).trans (d_block m c t r (lane 3 l))

theorem g_ld3 : View.ld (iblk m c 2 t) (Rect.unit ![0, 384] ![1, 128] inb_S1x512_S1x128_0_384) = rowv (G m c 3) :=
  rowv_ext fun k l => (ld_row _ 3 rfl _ k l).trans (g_block m c t (lane 3 l))

theorem w_ld3 : k0_pay4 (View.ld (iblk m c 3 t) (Rect.unit ![3, 0, 0] ![1, 128, 128] inb_S4x128x128_S1x128x128_3_0_0)) = tile (A m c) 3 :=
  tile_ext fun r l => by
    refine Eq.trans ?_ (w_block m c t r 3 l)
    pointwise [k0_pay4]
    blk_ext

theorem b_ld3 : k0_pay8 (View.ld (iblk m c 4 t) (Rect.unit ![0, 3] ![128, 1] inb_S128x4_S128x1_0_3)) = colv (B m c 3) :=
  colv_ext fun r k => by
    refine Eq.trans ?_ (b_block m c t r 3)
    pointwise [k0_pay8]
    blk_ext

end Cert.Proof.ABwd

end
-- ==== Proof.ABwd.Kernel.lean ====
/-
  The kernel's outputs, as sums and arrays over the chunks.
-/
module

public import proofs.«01_k».proof.Proof.ABwd.Loads

@[expose] public section

set_option maxRecDepth 16384

noncomputable section

namespace Cert.Proof.ABwd

open Cert.ABwdIdeal Cert.ABwdIdeal.Gen Idealize.ShloMosaic Idealize.ShloMosaic.TcCoe Idealize.SL.Sem

/-- The group of a column. -/
def grp (j : Fin 512) : Fin 4 := ⟨j.val / 128, by omega⟩

/-- A column's place in its group. -/
def pos (j : Fin 512) : Fin 128 := ⟨j.val % 128, by omega⟩

theorem grp_eq {j : Fin 512} {o : Nat} {x : Fin 128} (h : j.val = o + x.val) (ho : o % 128 = 0) :
    grp j = ⟨o / 128, by omega⟩ :=
  Fin.ext (by show j.val / 128 = o / 128; omega)

theorem pos_eq {j : Fin 512} {o : Nat} {x : Fin 128} (h : j.val = o + x.val) (ho : o % 128 = 0) : pos j = x :=
  Fin.ext (by show j.val % 128 = x.val; omega)

/-- What is stored under a cover does not show. -/
theorem canon_append {S : Shape} {φ : EltTy} {M : List (View.Piece (Elt Ideal) S φ)} {y : S.Idx} :
    ∀ L : List (View.Piece (Elt Ideal) S φ), (∃ a ∈ L, y ∈ a.1.set) → View.canon (L ++ M) y = View.canon L y
  | [], h => by obtain ⟨a, ha, _⟩ := h; exact absurd ha List.not_mem_nil
  | p :: L, h => by
    by_cases hm : y ∈ p.1.set
    · obtain ⟨x, rfl⟩ := p.1.exists_idx_of_mem hm
      exact (View.canon_cons_emb p.1 p.2 (L ++ M) x).trans (View.canon_cons_emb p.1 p.2 L x).symm
    · rw [List.cons_append, View.canon_cons_of_not_mem _ _ hm, View.canon_cons_of_not_mem _ _ hm]
      refine canon_append L ?_
      obtain ⟨q, hq, hyq⟩ := h
      rcases List.mem_cons.mp hq with rfl | hq'
      · exact absurd hyq hm
      · exact ⟨q, hq', hyq⟩

/-- A buffer filled first and then covered by four stores is what the four stores leave. -/
theorem canon_four {S : Shape} {φ : EltTy} (p q r s z : View.Piece (Elt Ideal) S φ) (y : S.Idx)
    (h : ∃ a ∈ [p, q, r, s], y ∈ a.1.set) : View.canon [p, q, r, s, z] y = View.canon [p, q, r, s] y :=
  canon_append [p, q, r, s] h

/-- The gradient of the two halves, at a row and a column of both. -/
def duv (u v d : Arr) (gv : Fin 4 → Fin 128 → EReal) (w : Arr) (b : Fin 4 → Fin 128 → EReal) (r : Fin 128) (j : Fin 1024) : EReal :=
  if h : j.val < 512 then du u v d gv w b (grp ⟨j, h⟩) r (pos ⟨j, h⟩)
  else dv u v d gv w (grp ⟨j - 512, by omega⟩) r (pos ⟨j - 512, by omega⟩)

theorem duv_eq (u v d : Arr) (gv : Fin 4 → Fin 128 → EReal) (w : Arr) (b : Fin 4 → Fin 128 → EReal) (r : Fin 128) {j : Fin 1024}
    {o : Nat} {x : Fin 128} (h : j.val = o + x.val) (ho : o % 128 = 0) : duv u v d gv w b r j
      = if o < 512 then du u v d gv w b ⟨o / 128 % 4, by omega⟩ r x else dv u v d gv w ⟨o / 128 % 4, by omega⟩ r x := by
  unfold duv
  by_cases hl : o < 512
  · rw [dif_pos (by omega), grp_eq (x := x) h ho, pos_eq (x := x) h ho, if_pos hl]
    congr 1
    exact Fin.ext (Nat.mod_eq_of_lt (by omega)).symm
  · have e : (⟨j - 512, by omega⟩ : Fin 512).val = o - 512 + x.val := by show j.val - 512 = _; omega
    rw [dif_neg (by omega), grp_eq (x := x) e (by omega), pos_eq (x := x) e (by omega), if_neg hl]
    congr 1
    exact Fin.ext (by show (o - 512) / 128 = o / 128 % 4; omega)

theorem one_eq {g : Fin 4} {o : Nat} {x : Fin 1} (h : g.val = o + x.val) (ho : o < 4) : g = ⟨o, ho⟩ :=
  Fin.ext (by show g.val = o; omega)

variable (m : (ℓ : Loc nD τ sig) → Buf (Elt Ideal) ℓ) (c : Dev nD) (t : Fin cfg0.N)

/-- The point before. -/
abbrev before (c : Dev nD) (t : Fin cfg0.N) := outsAt0 m c (t.val - 1) (Nat.lt_of_le_of_lt (Nat.sub_le _ _) t.isLt)

set_option maxHeartbeats 4000000 in
/-- Both halves' gradient, at every point. -/
theorem duv_at (r : Fin 128) (j : Fin 1024) : (outsAt0 m c t.val t.isLt).1 (ix2 r j)
    = duv (U m c t) (W m c t) (D m c t) (G m c) (A m c) (B m c) r j := by
  by_cases hz : t.val % 16 = 0
  case' pos => rw [outsAt0_A m c t hz]
  case' neg => rw [outsAt0_B m c t hz]
  all_goals
    frame_out
    simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
    canon_tiles x h
    all_goals
      obtain rfl : r = x 0 := Fin.ext h0
      first
      | refine Eq.trans ?_ (duv_eq _ _ _ _ _ _ _ (j := j) (x := x 1) h1 rfl).symm
      | refine Eq.trans ?_ (duv_eq _ _ _ _ _ _ _ (j := j) (x := x 1) (h1.trans (Nat.zero_add _).symm) rfl).symm
      first
      | refine Eq.trans ?_ (if_pos (by decide)).symm
        unfold tileb
        rfl
      | refine Eq.trans ?_ (if_neg (by decide)).symm
        unfold tileb
        rfl

set_option maxHeartbeats 4000000 in
theorem dg_next (hz : ¬ t.val % 16 = 0) (k : Fin 1) (j : Fin 512) : (outsAt0 m c t.val t.isLt).2.1 (ix2 k j)
    = (before m c t).2.1 (ix2 k j) + dg (U m c t) (W m c t) (D m c t) (A m c) (grp j) (pos j) := by
  rw [outsAt0_B m c t hz]
  frame_out
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  canon_tiles x h
  case' piece3 => replace h1 := h1.trans (Nat.zero_add _).symm
  all_goals
    rw [grp_eq (j := j) (x := x 1) h1 rfl, pos_eq (j := j) (x := x 1) h1 rfl]
    pointwise [k0_pay142, k0_pay137, k0_pay132, k0_pay127, rowv]
    refine congrArg (· + _) (congrArg _ (congrArg₂ ix2 (Subsingleton.elim _ _) (Fin.ext ?_)))
    first
    | exact h1.symm
    | exact (h1.trans (Nat.zero_add _)).symm

set_option maxHeartbeats 4000000 in
theorem dg_first (hz : t.val % 16 = 0) (k : Fin 1) (j : Fin 512) : (outsAt0 m c t.val t.isLt).2.1 (ix2 k j)
    = 0 + dg (U m c t) (W m c t) (D m c t) (A m c) (grp j) (pos j) := by
  rw [outsAt0_A m c t hz]
  frame_out
  simp (disch := decide) only [↓ View.readCov_skip, ↓ View.readCov_cons_toLoadRect, ↓ View.readCov_fill]
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  refine (canon_four _ _ _ _ _ _ (View.cover_of_tiled_head _ _ _ (by rfl) _)).trans ?_
  canon_tiles x h
  case' piece3 => replace h1 := h1.trans (Nat.zero_add _).symm
  all_goals
    rw [grp_eq (j := j) (x := x 1) h1 rfl, pos_eq (j := j) (x := x 1) h1 rfl]
    pointwise [k0_pay142, k0_pay137, k0_pay132, k0_pay127, k0_pay122, rowv]

set_option maxHeartbeats 4000000 in
theorem dw_next (hz : ¬ t.val % 16 = 0) (g : Fin 4) (r s : Fin 128) : (outsAt0 m c t.val t.isLt).2.2.1 (ix3 g r s)
    = (before m c t).2.2.1 (ix3 g r s) + dw (U m c t) (W m c t) (D m c t) (G m c) g r s := by
  rw [outsAt0_B m c t hz]
  frame_out
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  canon_tiles x h
  case' piece3 => replace h0 := h0.trans (Nat.zero_add _).symm
  all_goals
    obtain rfl : r = x 1 := Fin.ext h1
    obtain rfl : s = x 2 := Fin.ext h2
    obtain rfl := one_eq (x := x 0) h0 (by decide)
    pointwise [k0_pay143, k0_pay138, k0_pay133, k0_pay128, tile]

set_option maxHeartbeats 4000000 in
theorem dw_first (hz : t.val % 16 = 0) (g : Fin 4) (r s : Fin 128) : (outsAt0 m c t.val t.isLt).2.2.1 (ix3 g r s)
    = 0 + dw (U m c t) (W m c t) (D m c t) (G m c) g r s := by
  rw [outsAt0_A m c t hz]
  frame_out
  simp (disch := decide) only [↓ View.readCov_skip, ↓ View.readCov_cons_toLoadRect, ↓ View.readCov_fill]
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  refine (canon_four _ _ _ _ _ _ (View.cover_of_tiled_head _ _ _ (by rfl) _)).trans ?_
  canon_tiles x h
  case' piece3 => replace h0 := h0.trans (Nat.zero_add _).symm
  all_goals
    obtain rfl : r = x 1 := Fin.ext h1
    obtain rfl : s = x 2 := Fin.ext h2
    obtain rfl := one_eq (x := x 0) h0 (by decide)
    pointwise [k0_pay143, k0_pay138, k0_pay133, k0_pay128, k0_pay123, tile]

set_option maxHeartbeats 4000000 in
theorem db_next (hz : ¬ t.val % 16 = 0) (r : Fin 128) (g : Fin 4) : (outsAt0 m c t.val t.isLt).2.2.2 (ix2 r g)
    = (before m c t).2.2.2 (ix2 r g) + db (U m c t) (D m c t) g r := by
  rw [outsAt0_B m c t hz]
  frame_out
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  canon_tiles x h
  case' piece3 => replace h1 := h1.trans (Nat.zero_add _).symm
  all_goals
    obtain rfl : r = x 0 := Fin.ext h0
    obtain rfl := one_eq (x := x 1) h1 (by decide)
    pointwise [k0_pay144, k0_pay139, k0_pay134, k0_pay129, colv]

set_option maxHeartbeats 4000000 in
theorem db_first (hz : t.val % 16 = 0) (r : Fin 128) (g : Fin 4) : (outsAt0 m c t.val t.isLt).2.2.2 (ix2 r g)
    = 0 + db (U m c t) (D m c t) g r := by
  rw [outsAt0_A m c t hz]
  frame_out
  simp (disch := decide) only [↓ View.readCov_skip, ↓ View.readCov_cons_toLoadRect, ↓ View.readCov_fill]
  simp only [u_ld0, v_ld0, d_ld0, g_ld0, w_ld0, b_ld0, u_ld1, v_ld1, d_ld1, g_ld1, w_ld1, b_ld1, u_ld2, v_ld2, d_ld2, g_ld2, w_ld2, b_ld2, u_ld3, v_ld3, d_ld3, g_ld3, w_ld3, b_ld3, v_0, v_1, v_2, v_3, u_0, u_1, u_2, rr_eq, qq_eq, vr_0, vn_0, vr_1, vr_2, vr_3, vnb_0, vnb_1, vnb_2, vn_3, vnb_3, wm_0, wmb_0, wmb_1, wmb_2, wmb_3, gate_0, gate_1, gate_2, du_0, du_1, du_2, du_3, ds_0, ds_1, ds_2, ds_3, db_0, db_1, db_2, db_3, dvn_0, dvn_1, dvn_2, dvn_3, dvn_3s, dw_0, dw_1, dw_2, dw_3, dg_0, dg_1, dg_2, dg_3, da_0, da_1, da_2, da_3, sp_3, va_2, sp_1, dar_0, dar_1, dar_2, dar_3, z_eq, dvg_3, dvg_2, zt_eq, dvg_0, dv_3, dv_2, dv_1, dv_0, dub_0, dub_1, dub_2, dub_3, dvb_1, dvb_2, dvb_3]
  refine (canon_four _ _ _ _ _ _ (View.cover_of_tiled_head _ _ _ (by rfl) _)).trans ?_
  canon_tiles x h
  case' piece3 => replace h1 := h1.trans (Nat.zero_add _).symm
  all_goals
    obtain rfl : r = x 0 := Fin.ext h0
    obtain rfl := one_eq (x := x 1) h1 (by decide)
    pointwise [k0_pay144, k0_pay139, k0_pay134, k0_pay129, k0_pay124, colv]

end Cert.Proof.ABwd

end
-- ==== Proof.ABwd.Outputs.lean ====
/-
  The kernel's four results, as functions of its arguments.
-/
module

public import proofs.«01_k».proof.Proof.ABwd.Kernel

@[expose] public section

set_option maxRecDepth 16384

noncomputable section

namespace Cert.Proof.ABwd

open Cert.ABwdIdeal Cert.ABwdIdeal.Gen Idealize.ShloMosaic Idealize.ShloMosaic.TcCoe Idealize.SL.Sem

/-- A row's chunk. -/
def cnk (i : Fin 2048) : Fin 16 := ⟨i.val / 128, by omega⟩

/-- A row's place in its chunk. -/
def plc (i : Fin 2048) : Fin 128 := ⟨i.val % 128, by omega⟩

variable (p : Mat 2048 8960) (gv : Mat 1 512) (w : FVec Ideal S4x128x128 .f32) (b : Mat 4 128) (y : Mat 2048 512)

/-- Both halves' gradient. -/
def fDUV (i : Fin 2048) (j : Fin 1024) : EReal :=
  duv (uOf p (cnk i)) (vOf p (cnk i)) (dOf y (cnk i)) (gOf gv) (wOf w) (bOf b) (plc i) j

/-- The scale's gradient. -/
def fDG (j : Fin 512) : EReal := ∑ n, dg (uOf p n) (vOf p n) (dOf y n) (wOf w) (grp j) (pos j)

/-- The weights' gradient. -/
def fDW (g : Fin 4) (q : Fin 128 × Fin 128) : EReal := ∑ n, dw (uOf p n) (vOf p n) (dOf y n) (gOf gv) g q.1 q.2

/-- The bias's gradient. -/
def fDB (r : Fin 128) (g : Fin 4) : EReal := ∑ n, db (uOf p n) (dOf y n) g r

variable (m : (ℓ : Loc nD τ sig) → Buf (Elt Ideal) ℓ) (c : Dev nD) (t : Fin cfg0.N)

theorem run_dg (hr : t.val % 16 = 15) (k : Fin 1) (j : Fin 512) :
    (outsAt0 m c t.val t.isLt).2.1 (ix2 k j) = fDG (proj m c) (wts m c) (dy m c) j := by
  rw [Pipeline.eq_sum_fin_of_reset_step_apply_of_flush (fun n h => (outsAt0 m c n h).2.1) 16 (fun _ => (0 : EReal))
    (fun t i => dg (U m c t) (W m c t) (D m c t) (A m c) (grp (i 1)) (pos (i 1)))
    (fun t h i => by
      idx_vars i
      exact dg_first m c t h i0 i1)
    (fun t h i => by
      idx_vars i
      exact dg_next m c t h i0 i1) t hr (ix2 k j), zero_add]
  refine Finset.sum_congr rfl fun s _ => congrArg (fun n => dg (uOf (proj m c) n) (vOf (proj m c) n) (dOf (dy m c) n) (A m c) (grp j) (pos j)) (Fin.ext ?_)
  have := (chunk t).isLt
  show 16 * (t.val / 16) + s.val = s.val
  have e : t.val < 16 := this
  omega

theorem run_dw (hr : t.val % 16 = 15) (g : Fin 4) (r s : Fin 128) :
    (outsAt0 m c t.val t.isLt).2.2.1 (ix3 g r s) = fDW (proj m c) (scale m c) (dy m c) g (r, s) := by
  rw [Pipeline.eq_sum_fin_of_reset_step_apply_of_flush (fun n h => (outsAt0 m c n h).2.2.1) 16 (fun _ => (0 : EReal))
    (fun t i => dw (U m c t) (W m c t) (D m c t) (G m c) (i 0) (i 1) (i 2))
    (fun t h i => by
      idx_vars i
      exact dw_first m c t h i0 i1 i2)
    (fun t h i => by
      idx_vars i
      exact dw_next m c t h i0 i1 i2) t hr (ix3 g r s), zero_add]
  refine Finset.sum_congr rfl fun k _ => congrArg (fun n => dw (uOf (proj m c) n) (vOf (proj m c) n) (dOf (dy m c) n) (G m c) g r s) (Fin.ext ?_)
  have := (chunk t).isLt
  show 16 * (t.val / 16) + k.val = k.val
  have e : t.val < 16 := this
  omega

theorem run_db (hr : t.val % 16 = 15) (r : Fin 128) (g : Fin 4) :
    (outsAt0 m c t.val t.isLt).2.2.2 (ix2 r g) = fDB (proj m c) (dy m c) r g := by
  rw [Pipeline.eq_sum_fin_of_reset_step_apply_of_flush (fun n h => (outsAt0 m c n h).2.2.2) 16 (fun _ => (0 : EReal))
    (fun t i => db (U m c t) (D m c t) (i 1) (i 0))
    (fun t h i => by
      idx_vars i
      exact db_first m c t h i0 i1)
    (fun t h i => by
      idx_vars i
      exact db_next m c t h i0 i1) t hr (ix2 r g), zero_add]
  refine Finset.sum_congr rfl fun k _ => congrArg (fun n => db (uOf (proj m c) n) (dOf (dy m c) n) g r) (Fin.ext ?_)
  have := (chunk t).isLt
  show 16 * (t.val / 16) + k.val = k.val
  have e : t.val < 16 := this
  omega

/-! Where the blocks lie. -/

theorem emb6 (r : Fin 128) (j : Fin 1024) : ((cfg0.win 6).blk t).view.emb (ix2 r j) = ix2 (row (chunk t) r) j := by
  blk_ext [idx t, row, chunk]

theorem emb7 (k : Fin 1) (j : Fin 512) : ((cfg0.win 7).blk t).view.emb (ix2 k j) = ix2 k j := by
  blk_ext [idx t]

theorem emb8 (g : Fin 4) (r s : Fin 128) : ((cfg0.win 8).blk t).view.emb (ix3 g r s) = ix3 g r s := by
  blk_ext [idx t]

theorem emb9 (r : Fin 128) (g : Fin 4) : ((cfg0.win 9).blk t).view.emb (ix2 r g) = ix2 r g := by
  blk_ext [idx t]

theorem cnk_row (n : Fin 16) (r : Fin 128) : cnk (row n r) = n := Fin.ext (by show (n.val * 128 + r.val) / 128 = n.val; omega)

theorem plc_row (n : Fin 16) (r : Fin 128) : plc (row n r) = r := Fin.ext (by show (n.val * 128 + r.val) % 128 = r.val; omega)

theorem final_duv : (dats m 0 c).arrAt 6 cfg0.N
    = fun i => fDUV (proj m c) (scale m c) (wts m c) (bias m c) (dy m c) (i 0) (i 1) := by
  refine (dats m 0 c).arrAt_eq_of_covers 6 _ (by decide +kernel) fun t hf y => ?_
  blk_simp
  rw [after0_6]
  idx_vars y
  refine ((duv_at m c t y0 y1).trans ?_).trans
    (congrArg₂ (fDUV _ _ _ _ _) (congrFun (emb6 t y0 y1) 0).symm (congrFun (emb6 t y0 y1) 1).symm)
  show _ = fDUV _ _ _ _ _ (row (chunk t) y0) y1
  unfold fDUV
  rw [cnk_row, plc_row]

theorem final_dg : (dats m 0 c).arrAt 7 cfg0.N = fun i => fDG (proj m c) (wts m c) (dy m c) (i 1) := by
  refine (dats m 0 c).arrAt_eq_of_covers 7 _ (by decide +kernel) fun t hf y => ?_
  blk_simp
  rw [after0_7]
  idx_vars y
  exact (run_dg m c t ((flush0_7 t).mp hf) y0 y1).trans (congrArg (fDG _ _ _) (congrFun (emb7 t y0 y1) 1).symm)

theorem final_dw : (dats m 0 c).arrAt 8 cfg0.N = fun i => fDW (proj m c) (scale m c) (dy m c) (i 0) (i 1, i 2) := by
  refine (dats m 0 c).arrAt_eq_of_covers 8 _ (by decide +kernel) fun t hf y => ?_
  blk_simp
  rw [after0_8]
  idx_vars y
  have e := emb8 t y0 y1 y2
  exact (run_dw m c t ((flush0_8 t).mp hf) y0 y1 y2).trans (congrArg₂ (fDW _ _ _) (congrFun e 0).symm
    (Prod.ext (congrFun e 1).symm (congrFun e 2).symm : (y1, y2) = (_, _)))

theorem final_db : (dats m 0 c).arrAt 9 cfg0.N = fun i => fDB (proj m c) (dy m c) (i 0) (i 1) := by
  refine (dats m 0 c).arrAt_eq_of_covers 9 _ (by decide +kernel) fun t hf y => ?_
  blk_simp
  rw [after0_9]
  idx_vars y
  exact (run_db m c t ((flush0_9 t).mp hf) y0 y1).trans
    (congrArg₂ (fDB _ _) (congrFun (emb9 t y0 y1) 0).symm (congrFun (emb9 t y0 y1) 1).symm)

end Cert.Proof.ABwd

end
-- ==== Proof.ABwd.Ref.lean ====
/-
  What the reference computes, chunk by chunk.
-/
module

public import proofs.«01_k».proof.Defs
public import proofs.«01_k».proof.Proof.Gen.ABwdRefIdeal.Read
public import proofs.«01_k».proof.Proof.ABwd.Outputs

@[expose] public section

set_option maxRecDepth 16384

noncomputable section

namespace Cert.Proof.ABwd.Ref

open Cert.ABwdRefIdeal Cert.ABwdRefIdeal.Read Idealize.ShloMosaic Cert.Proof.ABwd

variable (p : Mat 2048 8960) (gv : Mat 1 512) (w : FVec Ideal S4x128x128 .f32) (b : Mat 4 128) (y : Mat 2048 512)
variable (n : Fin 16) (g : Fin 4) (r l : Fin 128)

theorem u_at : val_main_v0 (F := Ideal) p (ix2 (row n r) (lane g l)) = uOf p n g r l := by
  pointwise [val_main_v0, uOf]
  blk_ext [ucol]

theorem v_at : val_main_v1 (F := Ideal) p (ix2 (row n r) (lane g l)) = vOf p n g r l := by
  pointwise [val_main_v1, vOf]
  blk_ext [vcol]

/-! The gelus. -/

theorem tu_at : val_main_v12 (F := Ideal) p (ix2 (row n r) (lane g l)) = th (uOf p n g r l) := by
  pointwise [val_main_v12, val_main_v11, val_main_v10, val_main_v9, val_main_v8, val_main_v7, val_main_v3, val_main_v2,
    val_main_cst_0, val_main_cst_1, u_at, th, mul_assoc]

theorem tv_at : val_main_v33 (F := Ideal) p (ix2 (row n r) (lane g l)) = th (vOf p n g r l) := by
  pointwise [val_main_v33, val_main_v32, val_main_v31, val_main_v30, val_main_v29, val_main_v28, val_main_v24, val_main_v23,
    val_main_cst_7, val_main_cst_8, v_at, th, mul_assoc]

theorem hu_at : val_main_v21 (F := Ideal) p (ix2 (row n r) (lane g l)) = half (uOf p n g r l) := by
  pointwise [val_main_v21, val_main_v20, val_main_v19, val_main_v18, val_main_cst_4, val_main_cst_5, tu_at, half]

theorem hv_at : val_main_v42 (F := Ideal) p (ix2 (row n r) (lane g l)) = half (vOf p n g r l) := by
  pointwise [val_main_v42, val_main_v41, val_main_v40, val_main_v39, val_main_cst_11, val_main_cst_12, tv_at, half]

theorem gelu_at : val_main_v22 (F := Ideal) p (ix2 (row n r) (lane g l)) = gel (uOf p n) g r l := by
  pointwise [val_main_v22, hu_at, u_at, gel, ge]

theorem gelv_at : val_main_v43 (F := Ideal) p (ix2 (row n r) (lane g l)) = gel (vOf p n) g r l := by
  pointwise [val_main_v43, hv_at, v_at, gel, ge]

/-! The norm. -/

theorem ms_at (k : Fin 1) : val_main_v50 (F := Ideal) p (ix2 (row n r) k) = ms (vOf p n) r := by
  have e : (∑ g, ∑ l, gel (vOf p n) g r l * gel (vOf p n) g r l : EReal)
      = ∑ j, val_main_v43 (F := Ideal) p (ix2 (row n r) j) * val_main_v43 (F := Ideal) p (ix2 (row n r) j) :=
    Fin.sum_mul_add_congr fun g l _ => by
      rw [← gelv_at]
      rfl
  pointwise [val_main_v50, val_main_v49, val_main_v48, val_main_v47, val_main_v46, val_main_v45, val_main_v44, val_main_cst_13, val_main_cst_14, val_main_cst_15, ms, e]

theorem rr_at (k : Fin 1) : val_main_v51 (F := Ideal) p (ix2 (row n r) k) = rr (vOf p n) r := by
  pointwise [val_main_v51, ms_at, rr]

theorem qq_at (k : Fin 1) : val_main_v54 (F := Ideal) p (ix2 (row n r) k) = qq (vOf p n) r := by
  pointwise [val_main_v54, val_main_v53, val_main_v52, val_main_cst_16, rr_at, ms_at, qq]

theorem vr_at : val_main_v56 (F := Ideal) p (ix2 (row n r) (lane g l)) = vr (vOf p n) g r l := by
  pointwise [val_main_v56, val_main_v55, gelv_at, rr_at, vr]

theorem vn_at : val_main_v58 (F := Ideal) p gv (ix2 (row n r) (lane g l)) = vn (vOf p n) (gOf gv) g r l := by
  pointwise [val_main_v58, val_main_v57, vr_at, vn, gOf]

/-! Chunks, rows, groups and columns apart. -/

theorem apart (x : Mat 2048 512) (h : S2048x512.ShapeCasts S16x128x4x128) :
    shapeCast S16x128x4x128 x h (ix4 n r g l) = x (ix2 (row n r) (lane g l)) := by
  pointwise
  blk_ext [row, lane]

theorem together (x : FVec Ideal S16x128x4x128 .f32) (h : S16x128x4x128.ShapeCasts S2048x512) :
    shapeCast S2048x512 x h (ix2 (row n r) (lane g l)) = x (ix4 n r g l) := by
  pointwise
  blk_ext [row, lane]

theorem vn4 : val_main_v59 (F := Ideal) p gv (ix4 n r g l) = vn (vOf p n) (gOf gv) g r l :=
  (apart n g r l _ _).trans (vn_at p gv n g r l)

theorem tril (s : Fin 128) (x y : EReal) :
    Scalar.select (Scalar.select (IntOp.cmpi CmpIPredicate.sge (IntOp.addi (BitVec.ofNat 32 r) 0#32) (BitVec.ofNat 32 s)) (1#1) (0#1)) x y
      = if s ≤ r then x else y := by
  rw [← causal, show IntOp.addi (BitVec.ofNat 32 r) 0#32 = BitVec.ofNat 32 r from BitVec.add_zero _]
  rcases (IntOp.cmpi CmpIPredicate.sge (BitVec.ofNat 32 r) (BitVec.ofNat 32 s)).eq_zero_or_eq_one with h | h <;> rw [h] <;> rfl

theorem wm_at (s : Fin 128) : val_main_v64_0 (F := Ideal) w (ix3 g r s) = wm (wOf w) g r s := by
  pointwise [val_main_v64_0, val_main_v64_1, val_main_v63, val_main_v62, val_main_v61, val_main_v60, val_main_c, val_main_cst_17,
    val_main_call0_v5, val_main_call0_v4, val_main_call0_v3, val_main_call0_v2, val_main_call0_v1, val_main_call0_v0, val_main_call0_c, val_main_call0_c_0, wm, wOf]
  exact tril r s _ _

/-! The gate. -/

theorem gate4 : val_main_v70 (F := Ideal) p gv w b (ix4 n r g l) = gate (vOf p n) (gOf gv) (wOf w) (bOf b) g r l := by
  pointwise [val_main_v70, val_main_v69, val_main_v68, val_main_v67, val_main_v66, val_main_v65, vn4, wm_at, gate, bOf]
  exact congrArg (· + _) (Finset.sum_congr rfl fun s _ => mul_comm _ _)

theorem gate_at : val_main_v71 (F := Ideal) p gv w b (ix2 (row n r) (lane g l)) = gate (vOf p n) (gOf gv) (wOf w) (bOf b) g r l :=
  (together n g r l _ _).trans (gate4 p gv w b n g r l)

theorem ds_at : val_main_v73 (F := Ideal) p y (ix2 (row n r) (lane g l)) = ds (uOf p n) (dOf y n) g r l := by
  pointwise [val_main_v73, gelu_at, ds, dOf]

theorem du_at : val_main_v128 (F := Ideal) p gv w b y (ix2 (row n r) (lane g l)) = du (uOf p n) (vOf p n) (dOf y n) (gOf gv) (wOf w) (bOf b) g r l := by
  pointwise [val_main_v117, val_main_v118, val_main_v119, val_main_v120, val_main_v121, val_main_v122, val_main_v123, val_main_v124, val_main_v125, val_main_v126, val_main_v127, val_main_v128, val_main_v74, gate_at, hu_at, u_at, val_main_v17, val_main_v16, val_main_v15, val_main_v14, val_main_v13, val_main_v6, val_main_v5, val_main_v4,
    tu_at, val_main_cst, val_main_cst_2, val_main_cst_3, val_main_cst_27, val_main_cst_28, val_main_cst_29, du, dge, inner, dOf]

theorem ds4 : val_main_v75 (F := Ideal) p y (ix4 n r g l) = ds (uOf p n) (dOf y n) g r l :=
  (apart n g r l _ _).trans (ds_at p y n g r l)

theorem dvn4 (s : Fin 128) : val_main_v83 (F := Ideal) p w y (ix4 n s g l) = dvn (uOf p n) (dOf y n) (wOf w) g s l := by
  pointwise [val_main_v83, val_main_v82, val_main_v80, ds4, wm_at, dvn]

theorem dvn_at : val_main_v85 (F := Ideal) p w y (ix2 (row n r) (lane g l)) = dvn (uOf p n) (dOf y n) (wOf w) g r l :=
  (together n g r l _ _).trans (dvn4 p w y n g l r)

/-! The rows' cotangent through the norm. -/

theorem da_at : val_main_v90 (F := Ideal) p gv w y (ix2 (row n r) (lane g l)) = da (uOf p n) (dOf y n) (gOf gv) (wOf w) g r l := by
  pointwise [val_main_v90, val_main_v89, dvn_at, da, gOf]

theorem sp_at (k : Fin 1) : val_main_v93 (F := Ideal) p gv w y (ix2 (row n r) k) = (∑ g, sp (uOf p n) (vOf p n) (dOf y n) (gOf gv) (wOf w) g r : EReal) := by
  have e : (∑ g, sp (uOf p n) (vOf p n) (dOf y n) (gOf gv) (wOf w) g r : EReal)
      = ∑ j, val_main_v43 (F := Ideal) p (ix2 (row n r) j) * val_main_v90 (F := Ideal) p gv w y (ix2 (row n r) j) :=
    Fin.sum_mul_add_congr fun g l _ => by
      rw [← gelv_at, ← da_at]
      rfl
  pointwise [val_main_v93, val_main_v92, val_main_v91, val_main_cst_21, e]

theorem z_at : val_main_v100 (F := Ideal) p gv w y (ix2 (row n r) (lane g l)) = z (uOf p n) (vOf p n) (dOf y n) (gOf gv) (wOf w) r := by
  pointwise [val_main_v100, val_main_v99, val_main_v98, val_main_v97, val_main_v96, sp_at, qq_at, val_main_cst_22, val_main_cst_23, z]
  simp only [Finset.univ_unique, Finset.sum_singleton]

theorem dvg_at : val_main_v104 (F := Ideal) p gv w y (ix2 (row n r) (lane g l)) = dvg (uOf p n) (vOf p n) (dOf y n) (gOf gv) (wOf w) g r l := by
  pointwise [val_main_v104, val_main_v103, val_main_v102, val_main_v101, val_main_v95, val_main_v94, da_at, rr_at, gelv_at, z_at, dvg, dar]

theorem dv_at : val_main_v116 (F := Ideal) p gv w y (ix2 (row n r) (lane g l)) = dv (uOf p n) (vOf p n) (dOf y n) (gOf gv) (wOf w) g r l := by
  pointwise [val_main_v105, val_main_v106, val_main_v107, val_main_v108, val_main_v109, val_main_v110, val_main_v111, val_main_v112, val_main_v113, val_main_v114, val_main_v115, val_main_v116, val_main_v38, val_main_v37, val_main_v36, val_main_v35, val_main_v34, val_main_v27, val_main_v26, val_main_v25, tv_at, hv_at, v_at, dvg_at,
    val_main_cst_6, val_main_cst_9, val_main_cst_10, val_main_cst_24, val_main_cst_25, val_main_cst_26, dv, dge, inner]

/-! The results. -/

theorem sum_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (r : Fin n1) (g : Fin n2) :
    Ideal.hostReduceAdd h v init (ix2 r g) = init + ∑ a, ∑ d, v (ix4 a r g d) := by
  refine congrArg (init + ·) ((Finset.sum_filter_eq_sum_of_fiber _ (fun k : Fin n0 × Fin n3 => ix4 k.1 r g k.2)
    (fun _ _ e => Prod.ext (congrFun e 0) (congrFun e 3)) (fun i => ?_) v).trans (by simp only [Fintype.sum_prod_type]))
  constructor
  · intro e
    refine ⟨(i 0, i 3), funext fun a => Fin.ext ?_⟩
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    match b with
    | ⟨0, _⟩ => rfl
    | ⟨1, _⟩ => rfl

theorem dg_res (j : Fin 512) (k : Fin 1) : val_main_v88 (F := Ideal) p w y (ix2 k j) = fDG p w y j := by
  pointwise [val_main_v88, val_main_v87, val_main_v86, val_main_cst_20, fDG]
  refine (Fin.sum_mul_add_congr fun n s _ => ?_).symm
  have e : j = lane (grp j) (pos j) := Fin.ext (by show j.val = j.val / 128 * 128 + j.val % 128; omega)
  show vr _ _ _ _ * dvn _ _ _ _ _ _ = _
  rw [← vr_at, ← dvn_at, ← e]
  rfl

theorem dw_res (s : Fin 128) : val_main_v84 (F := Ideal) p gv y (ix3 g r s) = fDW p gv y g (r, s) := by
  pointwise [val_main_v84, val_main_v81, val_main_v80, vn4, ds4, val_main_call2_v0, val_main_call2_cst, fDW]
  pointwise [val_main_v64_1, val_main_v62, val_main_v61, val_main_v60, val_main_c, val_main_call0_v5, val_main_call0_v4, val_main_call0_v3, val_main_call0_v2, val_main_call0_v1, val_main_call0_v0, val_main_call0_c, val_main_call0_c_0]
  rw [tril]
  by_cases h : s ≤ r
  · rw [if_pos h]
    exact Finset.sum_congr rfl fun n _ => (if_pos h).symm
  · rw [if_neg h]
    exact (Finset.sum_eq_zero fun n _ => if_neg h).symm

theorem db_res : val_main_v131 (F := Ideal) p y (ix2 r g) = fDB p y r g := by
  pointwise [val_main_v131, val_main_v79, val_main_v78, val_main_v77, val_main_v76, val_main_cst_18, val_main_cst_19, fDB]
  refine (sum_outer _ _ _ _ _).trans ?_
  simp only [Finset.univ_unique, Finset.sum_singleton, zero_add]
  pointwise
  exact (sum_outer _ _ _ _ _).trans ((zero_add _).trans (Finset.sum_congr rfl fun n _ => Finset.sum_congr rfl fun l _ => ds4 p y n g r l))

theorem duv_res (i : Fin 2048) (j : Fin 1024) : val_main_v130 (F := Ideal) p gv w b y (ix2 i j) = fDUV p gv w b y i j := by
  pointwise [val_main_v130, val_main_v129, fDUV]
  have ei : i = row (cnk i) (plc i) := Fin.ext (by show i.val = i.val / 128 * 128 + i.val % 128; omega)
  have ej (j : Fin 512) : j = lane (grp j) (pos j) := Fin.ext (by show j.val = j.val / 128 * 128 + j.val % 128; omega)
  unfold duv
  by_cases h : j.val < 512
  · rw [dif_pos h, dif_pos h, ← du_at, ← ei, ← ej]
  · rw [dif_neg h, dif_neg h, ← dv_at, ← ei, ← ej]

end Cert.Proof.ABwd.Ref

end
-- ==== Proof.ABwd.Claim.lean ====
/-
  The gradient of the gated mixer: its five claims.
-/
module

public import proofs.«01_k».proof.Defs
public import proofs.«01_k».proof.Proof.Gen.ABwd.Frame
public import proofs.«01_k».proof.Proof.Gen.ABwdRefIdeal.Run
public import proofs.«01_k».proof.Proof.Mats
public import proofs.«01_k».proof.Proof.ABwd.Ref
public import Idealize.ShloMosaic.Lib.Quiescent

@[expose] public section

set_option maxRecDepth 16384

noncomputable section

namespace Cert.Proof.ABwd

open Idealize.ShloMosaic Idealize.ShloMosaic.TcCoe Idealize.SL.Sem

theorem frame_kernel : Cert.quiescent_ABwd := fun m ρ _ => Cert.ABwd.Gen.frame m ρ

theorem frame_ideal : Cert.quiescent_ABwdIdeal := fun m ρ _ => Cert.ABwdIdeal.Gen.frame m ρ

/-- The reference runs, leaves its arguments alone, and has no semaphore. -/
theorem frame_ref : Cert.quiescent_ABwdRefIdeal := fun m ρ _ =>
  (θ_run _ _ _).mono (fun _ h => ⟨fun c => (h c).2.2.2.2, sem_eq_zero_of_no_sems rfl _⟩)
    (Cert.ABwdRefIdeal.Value.run m ρ)

section
open Cert.ABwdIdeal Cert.ABwdIdeal.Gen Cert.ABwdRefIdeal.Read
variable (m : (ℓ : Loc nD τ sig) → Buf (Elt Ideal) ℓ) (c : Dev nD)

theorem agree_duv : val_main_v130 (F := Ideal) (proj m c) (scale m c) (wts m c) (bias m c) (dy m c) = (dats m 0 c).arrAt 6 cfg0.N :=
  (Cert.Proof.ext2 (Ref.duv_res _ _ _ _ _)).trans (final_duv m c).symm

theorem agree_dg : val_main_v88 (F := Ideal) (proj m c) (wts m c) (dy m c) = (dats m 0 c).arrAt 7 cfg0.N :=
  (Cert.Proof.ext2 (f := fun _ j => fDG (proj m c) (wts m c) (dy m c) j) fun k j => Ref.dg_res _ _ _ j k).trans (final_dg m c).symm

theorem agree_dw : val_main_v84 (F := Ideal) (proj m c) (scale m c) (dy m c) = (dats m 0 c).arrAt 8 cfg0.N :=
  (Cert.Proof.ext3 (f := fun g r s => fDW (proj m c) (scale m c) (dy m c) g (r, s)) fun g r s => Ref.dw_res _ _ _ g r s).trans (final_dw m c).symm

theorem agree_db : val_main_v131 (F := Ideal) (proj m c) (dy m c) = (dats m 0 c).arrAt 9 cfg0.N :=
  (Cert.Proof.ext2 (f := fun r g => fDB (proj m c) (dy m c) r g) fun r g => Ref.db_res _ _ g r).trans (final_db m c).symm

end

/-- Kernel and reference end with the same four arrays. -/
theorem algebraic : Cert.algebraic_ABwdIdeal_ABwdRefIdeal := fun m ρ m' ρ' _ hm => by
  refine ⟨_, _, _, _, Cert.ABwdIdeal.Value.run_blocks m ρ,
    (θ_run _ _ _).mono (fun r h c => ?_) (Cert.ABwdRefIdeal.Value.run m' ρ')⟩
  obtain ⟨h0, h1, h2, h3, ha⟩ := h c
  obtain ⟨a0, a1, a2, a3, a4⟩ := hm c
  rw [Cert.ABwdRefIdeal.Read.val_main_v130_eq] at h0
  rw [Cert.ABwdRefIdeal.Read.val_main_v88_eq] at h1
  rw [Cert.ABwdRefIdeal.Read.val_main_v84_eq] at h2
  replace h3 := h3.trans (Cert.ABwdRefIdeal.Read.val_main_v131_eq (F := Ideal) _ _)
  rw [a0, a1, a2, a3, a4] at h0
  rw [a0, a2, a4] at h1
  rw [a0, a1, a4] at h2
  rw [a0, a4] at h3
  exact ⟨h0.trans (agree_duv m c), h1.trans (agree_dg m c), h2.trans (agree_dw m c), h3.trans (agree_db m c), ha⟩

end Cert.Proof.ABwd

end
-- ==== Proof.Roots.lean ====
/-
  Extended reals: one over a root, its cube, and the two halves that a differentiated mean adds up.
-/
module

public import Idealize.ShloMosaic.Lib.Pointwise

@[expose] public section

namespace Cert.Proof

open Idealize.ShloMosaic

theorem bits_2048 : Ideal.ofBits .f32 0x45000000#32 = ((2048 : ℝ) : EReal) := by
  simp [Ideal.ofBits, Ideal.ieee, -EReal.coe_mul]; norm_num

theorem bits_inv_2048 : Ideal.ofBits .f32 0x3A000000#32 = ((1 / 2048 : ℝ) : EReal) := by
  simp [Ideal.ofBits, Ideal.ieee, -EReal.coe_mul]; norm_num

theorem bits_neg_half : Ideal.ofBits .f32 0xBF000000#32 = ((-1 / 2 : ℝ) : EReal) := by
  simp [Ideal.ofBits, Ideal.ieee, -EReal.coe_mul]; norm_num

theorem bits_eps : 0 < Ideal.ofBits .f32 0x358637BD#32 := by
  have e : Ideal.ofBits .f32 0x358637BD#32 = ((8796093 / 8796093022208 : ℝ) : EReal) := by
    simp [Ideal.ofBits, Ideal.ieee, -EReal.coe_mul]; norm_num
  rw [e]
  exact_mod_cast (by norm_num : (0 : ℝ) < 8796093 / 8796093022208)

theorem bits_half : Ideal.ofBits .f32 0x3F000000#32 = ((1 / 2 : ℝ) : EReal) := by
  simp [Ideal.ofBits, Ideal.ieee, -EReal.coe_mul]; norm_num

theorem bits_two : Ideal.ofBits .f32 0x40000000#32 = ((2 : ℝ) : EReal) := by
  simp [Ideal.ofBits, Ideal.ieee, -EReal.coe_mul]; norm_num

theorem bits_inv_4096 : Ideal.ofBits .f32 0x39800000#32 = ((1 / 4096 : ℝ) : EReal) := by
  simp [Ideal.ofBits, Ideal.ieee, -EReal.coe_mul]; norm_num

/-- A factor moves out of a sum of numbers that are not negative. -/
theorem sum_mul_of_nonneg {n : ℕ} (f : Fin n → EReal) (hf : ∀ i, 0 ≤ f i) (c : EReal) :
    ∑ i, f i * c = (∑ i, f i) * c := by
  suffices h : ∀ s : Finset (Fin n), ∑ i ∈ s, f i * c = (∑ i ∈ s, f i) * c from h _
  intro s
  induction s using Finset.cons_induction with
  | empty => simp
  | cons i s hi ih =>
    rw [Finset.sum_cons, Finset.sum_cons, ih, EReal.right_distrib_of_nonneg (hf i) (Finset.sum_nonneg fun k _ => hf k)]

theorem sq_nonneg (x : EReal) : 0 ≤ x * x := by
  induction x with
  | bot => simp
  | top => simp
  | coe x => exact_mod_cast mul_self_nonneg x

/-- A mean of squares plus a positive constant is positive. -/
theorem mean_pos {n : ℕ} (f : Fin n → EReal) {d : ℝ} (hd : 0 < d) {e : EReal} (he : 0 < e) :
    0 < Ideal.div (∑ k, f k * f k) (d : EReal) + e := by
  rw [Ideal.div_coe hd.ne']
  have h : 0 ≤ (∑ k, f k * f k) * ((1 / d : ℝ) : EReal) :=
    mul_nonneg (Finset.sum_nonneg fun k _ => sq_nonneg _) (by exact_mod_cast (one_div_pos.mpr hd).le)
  exact lt_of_lt_of_le he (by simpa using add_le_add_left h e)

theorem ms_pos {n : ℕ} (f : Fin n → EReal) :
    0 < Ideal.div (∑ k, f k * f k) (Ideal.ofBits .f32 0x45000000#32) + Ideal.ofBits .f32 0x358637BD#32 := by
  rw [bits_2048]
  exact mean_pos f (by norm_num) bits_eps

/-- One over the root, divided by the number, is the cube of one over the root. -/
theorem div_rsqrt {s : EReal} (h : 0 < s) : Ideal.div (Ideal.rsqrt s) s = Ideal.rsqrt s * Ideal.rsqrt s * Ideal.rsqrt s := by
  induction s with
  | bot => simp at h
  | top => simp [Ideal.div]
  | coe s =>
    have hs : 0 < s := by exact_mod_cast h
    rw [Ideal.rsqrt_coe, if_neg hs.not_gt, if_neg hs.ne', Ideal.div_coe hs.ne']
    have e : (Real.sqrt s)⁻¹ * (1 / s) = (Real.sqrt s)⁻¹ * (Real.sqrt s)⁻¹ * (Real.sqrt s)⁻¹ := by
      have := Real.mul_self_sqrt hs.le
      have h0 := (Real.sqrt_pos.mpr hs).ne'
      rw [one_div]
      nth_rewrite 2 [← this]
      rw [mul_inv, mul_assoc]
    exact_mod_cast e

/-- Minus one half of a number, twice. -/
theorem neg_halves (y : EReal) : ((-1 / 2 : ℝ) : EReal) * y + ((-1 / 2 : ℝ) : EReal) * y = -y := by
  induction y with
  | bot => rw [EReal.coe_mul_bot_of_neg (by norm_num)]; simp
  | top => rw [EReal.coe_mul_top_of_neg (by norm_num)]; simp
  | coe y =>
    have e : -1 / 2 * y + -1 / 2 * y = -y := by ring
    exact_mod_cast e

/-- The reverse derivative of a row divided by the root of its mean square: the two halves from the square make one
    whole, and the quotient by the mean square is a cube. -/
theorem norm_grad {s : EReal} (hs : 0 < s) (a x c : EReal) :
    a + x * Ideal.div (c * (Ideal.ofBits .f32 0xBF000000#32 * Ideal.div (Ideal.rsqrt s) s)) (Ideal.ofBits .f32 0x45000000#32)
      + Ideal.div (c * (Ideal.ofBits .f32 0xBF000000#32 * Ideal.div (Ideal.rsqrt s) s)) (Ideal.ofBits .f32 0x45000000#32) * x =
    a - x * (Ideal.rsqrt s * Ideal.rsqrt s * Ideal.rsqrt s) * (c * Ideal.ofBits .f32 0x3A000000#32) := by
  rw [div_rsqrt hs, bits_2048, bits_inv_2048, bits_neg_half, Ideal.div_coe (by norm_num), add_assoc, sub_eq_add_neg]
  generalize Ideal.rsqrt s * Ideal.rsqrt s * Ideal.rsqrt s = q
  rw [← neg_halves]
  congr 2 <;> ac_rfl

end Cert.Proof
-- ==== Proof.Products.RmsBwd.lean ====
/-
  The gradient of the first normalization, with the residual's gradient added to it.

  The kernel takes eight blocks of 256 rows. A block's rows of `dx` are known from the block; the gradient of the gains
  is added up over the blocks. The reference differentiates `x · (mean(x²) + ε)^(-1/2) · g` in reverse: it divides
  `(mean(x²) + ε)^(-1/2)` by `mean(x²) + ε` where the kernel takes a cube, and it adds one half of the mean's gradient
  twice.
-/
module

public import proofs.«01_k».proof.Defs
public import proofs.«01_k».proof.Proof.Gen.RmsBwd.Frame
public import proofs.«01_k».proof.Proof.Gen.RmsBwdIdeal.Value
public import proofs.«01_k».proof.Proof.Gen.RmsBwdRefIdeal.Read
public import proofs.«01_k».proof.Proof.Mats
public import proofs.«01_k».proof.Proof.Roots
public import Idealize.ShloMosaic.Lib.Pipeline.ValueKit
public import Idealize.ShloMosaic.Lib.Quiescent

@[expose] public section

set_option maxRecDepth 16384

noncomputable section

namespace Cert.Proof.RmsBwd

open Cert.RmsBwdIdeal Cert.RmsBwdIdeal.Gen Idealize.ShloMosaic Idealize.ShloMosaic.TcCoe Idealize.SL.Sem

/-- The mean of the squares of a row, plus the small constant. -/
def ms (x : Mat 2048 2048) (i : Fin 2048) : EReal :=
  Ideal.div (∑ k : Fin 2048, x (ix2 i k) * x (ix2 i k)) (Ideal.ofBits .f32 0x45000000#32) + Ideal.ofBits .f32 0x358637BD#32

/-- One over the root of the mean of the squares of a row. -/
def rs (x : Mat 2048 2048) (i : Fin 2048) : EReal := Ideal.rsqrt (ms x i)

/-- A row's inner product of its entries and the cotangents of the normalized entries. -/
def ip (x dh : Mat 2048 2048) (g : Mat 1 2048) (i : Fin 2048) : EReal :=
  ∑ k : Fin 2048, x (ix2 i k) * (dh (ix2 i k) * g (ix2 0 k))

/-- The gradient of the entries, as the kernel writes it. -/
def DX (x : Mat 2048 2048) (g : Mat 1 2048) (dh dres : Mat 2048 2048) (i j : Fin 2048) : EReal :=
  rs x i * (dh (ix2 i j) * g (ix2 0 j)) - x (ix2 i j) * (rs x i * rs x i * rs x i) * (ip x dh g i * Ideal.ofBits .f32 0x3A000000#32)
    + dres (ix2 i j)

/-- The gradient of the gains. -/
def DG (x dh : Mat 2048 2048) (j : Fin 2048) : EReal := ∑ i : Fin 2048, dh (ix2 i j) * x (ix2 i j) * rs x i

/-- The block that each window reads or writes at a grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![0, 0] ∧ t.val < 8 :=
  (by decide +kernel : ∀ t : Fin grid0.N, _)

/-- Row `r` of the point's block, in the whole array. -/
def row (t : Fin cfg0.N) (r : Fin 256) : Fin 2048 := ⟨t.val * 256 + r, by have := (idx t).2.2.2.2.2.2.2.2; omega⟩

variable (m : (ℓ : Loc nD τ sig) → Buf (Elt Ideal) ℓ) (c : Dev nD)

abbrev x : Mat 2048 2048 := m ((c : Thread nD τ).loc main_arg0)
abbrev g : Mat 1 2048 := m ((c : Thread nD τ).loc main_arg1)
abbrev dh : Mat 2048 2048 := m ((c : Thread nD τ).loc main_arg2)
abbrev dres : Mat 2048 2048 := m ((c : Thread nD τ).loc main_arg3)

variable (t : Fin cfg0.N) (r : Fin 256) (l : Fin 2048)

/-- The host computes the reciprocal roots that the kernel reads. -/
theorem rs_at (z : Fin 1) : iblk m c 1 t (ix2 r z) = rs (x m c) (row t r) := by
  blk_simp [iblk, idx t]
  entry_read
  pointwise [rs, ms]
  blk_point [idx t, row]

theorem dx_at : k0_pay3 (iblk m c 0 t) (iblk m c 1 t) (iblk m c 3 t) (iblk m c 2 t) (iblk m c 4 t) (ix2 r l) =
    DX (x m c) (g m c) (dh m c) (dres m c) (row t r) l := by
  pointwise [k0_pay3, k0_pay2, DX, ip]
  rw [rs_at]
  blk_point [iblk, V, idx t, row]

theorem part_at (z : Fin 1) : k0_pay5 (iblk m c 0 t) (iblk m c 1 t) (iblk m c 3 t) (ix2 z l) =
    ∑ r, dh m c (ix2 (row t r) l) * x m c (ix2 (row t r) l) * rs (x m c) (row t r) := by
  pointwise [k0_pay5, k0_pay2]
  simp only [rs_at]
  blk_point [iblk, V, idx t, row]

theorem emb5 : ((cfg0.win 5).blk t).view.emb (ix2 r l) = ix2 (row t r) l := by
  blk_ext [idx t, row]

theorem emb6 : ((cfg0.win 6).blk t).view.emb (ix2 r l) = ix2 (row t r) l := by
  blk_ext [idx t, row]

theorem emb7 (z : Fin 1) : ((cfg0.win 7).blk t).view.emb (ix2 z l) = ix2 z l := by
  blk_ext [idx t]

theorem outs_first (h : t.val % 8 = 0) : outsAt0 m c t.val t.isLt =
    (k0_pay3 (iblk m c 0 t) (iblk m c 1 t) (iblk m c 3 t) (iblk m c 2 t) (iblk m c 4 t),
      k0_pay4 (iblk m c 0 t) (iblk m c 1 t) (iblk m c 3 t) (iblk m c 2 t) (iblk m c 4 t),
      k0_pay5 (iblk m c 0 t) (iblk m c 1 t) (iblk m c 3 t)) := by
  rw [outsAt0_A m c t h (by have := (idx t).2.2.2.2.2.2.2.2; omega)]
  frame_out

theorem outs_next (h : ¬t.val % 8 = 0) : outsAt0 m c t.val t.isLt =
    (k0_pay3 (iblk m c 0 t) (iblk m c 1 t) (iblk m c 3 t) (iblk m c 2 t) (iblk m c 4 t),
      k0_pay4 (iblk m c 0 t) (iblk m c 1 t) (iblk m c 3 t) (iblk m c 2 t) (iblk m c 4 t),
      k0_pay1 (k0_pay5 (iblk m c 0 t) (iblk m c 1 t) (iblk m c 3 t))
        (outsAt0 m c (t.val - 1) (Nat.lt_of_le_of_lt (Nat.sub_le _ _) t.isLt)).2.2) := by
  rw [outsAt0_B m c t h (by omega)]
  frame_out

/-- What every point leaves for its rows. -/
theorem tiles : (outsAt0 m c t.val t.isLt).1 = k0_pay3 (iblk m c 0 t) (iblk m c 1 t) (iblk m c 3 t) (iblk m c 2 t) (iblk m c 4 t)
    ∧ (outsAt0 m c t.val t.isLt).2.1 = k0_pay4 (iblk m c 0 t) (iblk m c 1 t) (iblk m c 3 t) (iblk m c 2 t) (iblk m c 4 t) := by
  by_cases h : t.val % 8 = 0
  · rw [outs_first m c t h]; exact ⟨rfl, rfl⟩
  · rw [outs_next m c t h]; exact ⟨rfl, rfl⟩

theorem final_dx : (dats m 0 c).arrAt 5 cfg0.N = fun i => DX (x m c) (g m c) (dh m c) (dres m c) (i 0) (i 1) := by
  refine (dats m 0 c).arrAt_eq_of_covers 5 _ (by decide +kernel) fun t hf y => ?_
  blk_simp
  rw [after0_5, (tiles m c t).1]
  idx_vars y
  refine (dx_at m c t y0 y1).trans ?_
  exact congrArg₂ (DX _ _ _ _) (congrFun (emb5 t y0 y1) 0).symm (congrFun (emb5 t y0 y1) 1).symm

theorem final_dxb : (dats m 0 c).arrAt 6 cfg0.N = fun i => DX (x m c) (g m c) (dh m c) (dres m c) (i 0) (i 1) := by
  refine (dats m 0 c).arrAt_eq_of_covers 6 _ (by decide +kernel) fun t hf y => ?_
  blk_simp
  rw [after0_6, (tiles m c t).2]
  idx_vars y
  refine Eq.trans ?_ ((dx_at m c t y0 y1).trans ?_)
  · pointwise [k0_pay4]
  · exact congrArg₂ (DX _ _ _ _) (congrFun (emb6 t y0 y1) 0).symm (congrFun (emb6 t y0 y1) 1).symm

/-- What the buffer of the gains' gradient holds after the last block. -/
theorem run_dg (hr : t.val % 8 = 7) (z : Fin 1) : (outsAt0 m c t.val t.isLt).2.2 (ix2 z l) = DG (x m c) (dh m c) l := by
  rw [Pipeline.eq_sum_fin_of_reset_step_apply_of_flush (fun n h => (outsAt0 m c n h).2.2) 8 (fun _ => (0 : EReal))
    (fun t i => ∑ r : Fin 256, dh m c (ix2 (row t r) (i 1)) * x m c (ix2 (row t r) (i 1)) * rs (x m c) (row t r))
    (fun t h i => by
      rw [outs_first m c t h]
      idx_vars i
      exact (part_at m c t i1 i0).trans (zero_add _).symm)
    (fun t h i => by
      rw [outs_next m c t h]
      idx_vars i
      refine Eq.trans ?_ (congrArg _ (part_at m c t i1 i0))
      pointwise [k0_pay1]) t hr (ix2 z l), zero_add]
  refine Fin.sum_mul_add_congr fun s r k => congrArg (fun r => dh m c (ix2 r l) * x m c (ix2 r l) * rs (x m c) r) (Fin.ext ?_)
  have := (idx t).2.2.2.2.2.2.2.2
  show (8 * (t.val / 8) + s.val) * 256 + r.val = s.val * 256 + r.val
  omega

theorem final_dg : (dats m 0 c).arrAt 7 cfg0.N = fun i => DG (x m c) (dh m c) (i 1) := by
  refine (dats m 0 c).arrAt_eq_of_covers 7 _ (by decide +kernel) fun t hf y => ?_
  blk_simp
  rw [after0_7]
  idx_vars y
  rw [run_dg m c t y1 ((flush0_7 t).mp hf) y0]
  exact congrArg (DG _ _) (congrFun (emb7 t y1 y0) 1).symm

theorem frame_kernel : Cert.quiescent_RmsBwd := fun m ρ _ => Cert.RmsBwd.Gen.frame m ρ

theorem frame_ideal : Cert.quiescent_RmsBwdIdeal := fun m ρ _ => Cert.RmsBwdIdeal.Gen.frame m ρ

theorem frame_ref : Cert.quiescent_RmsBwdRefIdeal := fun m ρ _ =>
  (θ_run _ _ _).mono (fun _ h => ⟨fun c => (h c).2.2.2, sem_eq_zero_of_no_sems rfl _⟩) (Cert.RmsBwdRefIdeal.Value.run m ρ)

/-- The reference's gradient of the entries. -/
theorem agree_dx : Cert.RmsBwdRefIdeal.Read.val_main_v34 (F := Ideal) (x m c) (g m c) (dh m c) (dres m c) =
    fun i => DX (x m c) (g m c) (dh m c) (dres m c) (i 0) (i 1) := ext2 fun i j => by
  rw [← Cert.RmsBwdRefIdeal.Read.val_main_v34_eq]
  pointwise [DX, ip, rs, ms]
  simp only [Finset.univ_unique, Finset.sum_singleton]
  rw [norm_grad (ms_pos _), mul_comm (_ * _) (Ideal.rsqrt _)]

/-- The reference's gradient of the gains. -/
theorem agree_dg : Cert.RmsBwdRefIdeal.Read.val_main_v17 (F := Ideal) (x m c) (dh m c) = fun i => DG (x m c) (dh m c) (i 1) := by
  refine ext2 (f := fun _ j => DG (x m c) (dh m c) j) fun i j => ?_
  rw [← Cert.RmsBwdRefIdeal.Read.val_main_v17_eq]
  pointwise [DG, rs, ms]
  exact Finset.sum_congr rfl fun k _ => by ac_rfl

/-- Kernel and reference end with the same arrays. -/
theorem algebraic : Cert.algebraic_RmsBwdIdeal_RmsBwdRefIdeal := fun m ρ m' ρ' _ hm => by
  refine ⟨_, _, _, Cert.RmsBwdIdeal.Value.run_blocks m ρ, (θ_run _ _ _).mono (fun r h c => ?_) (Cert.RmsBwdRefIdeal.Value.run m' ρ')⟩
  obtain ⟨h0, h1, h2, ha⟩ := h c
  obtain ⟨a0, a1, a2, a3⟩ := hm c
  rw [a0, a1, a2, a3] at h0 h1
  rw [a0, a2] at h2
  exact ⟨h0.trans ((agree_dx m c).trans (final_dx m c).symm), h1.trans ((agree_dx m c).trans (final_dxb m c).symm),
    h2.trans ((agree_dg m c).trans (final_dg m c).symm), ha⟩

end Cert.Proof.RmsBwd

end
-- ==== Proof.Products.DH.lean ====
/-
  The cotangent of the normalized input before the combined projection: `dh[i, j] = ∑ k, dproj[i, k] · w_in[j, k]`.

  The kernel holds the transposed weight and computes 2 tiles of 2048 × 1024, each in seven steps of 1280 terms that it
  adds up in a scratch buffer.
-/
module

public import proofs.«01_k».proof.Defs
public import proofs.«01_k».proof.Proof.Gen.DH.Frame
public import proofs.«01_k».proof.Proof.Gen.DHIdeal.Value
public import proofs.«01_k».proof.Proof.Gen.DHRefIdeal.Run
public import proofs.«01_k».proof.Proof.Mats
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.DH

open Cert.DHIdeal Cert.DHIdeal.Gen Idealize.ShloMosaic Idealize.ShloMosaic.TcCoe Idealize.SL.Sem

/-- The product. -/
def G (w d : Mat 2048 8960) (i j : Fin 2048) : EReal := ∑ k : Fin 8960, d (ix2 i k) * w (ix2 j k)

/-- The block that each window reads or writes at a grid point. -/
theorem idx : ∀ t : Fin cfg0.N, win0_0.index t = ![0, t.val % 7] ∧ win0_1.index t = ![t.val % 7, t.val / 7]
    ∧ win0_2.index t = ![0, t.val / 7] ∧ t.val < 14 :=
  (by decide +kernel : ∀ t : Fin grid0.N, _)

/-- The terms that a grid point adds up, in the whole contracted axis. -/
def term (t : Fin cfg0.N) (l : Fin 1280) : Fin 8960 := ⟨t.val % 7 * 1280 + l, by omega⟩

/-- Column `l` of the point's tile, in the whole array. -/
def lane (t : Fin cfg0.N) (l : Fin 1024) : Fin 2048 := ⟨t.val / 7 * 1024 + l, by have := (idx t).2.2.2; omega⟩

variable (m : (ℓ : Loc nD τ sig) → Buf (Elt Ideal) ℓ) (c : Dev nD)

abbrev w : Mat 2048 8960 := m ((c : Thread nD τ).loc main_arg0)
abbrev d : Mat 2048 8960 := m ((c : Thread nD τ).loc main_arg1)

variable (t : Fin cfg0.N) (r : Fin 2048) (l : Fin 1024)

/-- One step: the buffer's entry plus the step's terms. -/
theorem step_at (acc : FVec Ideal S2048x1024 .f32) : k0_pay2 acc (iblk m c 0 t) (iblk m c 1 t) (ix2 r l) =
    acc (ix2 r l) + ∑ k, d m c (ix2 r (term t k)) * w m c (ix2 (lane t l) (term t k)) := by
  pointwise [k0_pay2]
  blk_point [iblk, V, idx t, term, lane]

theorem first (h : t.val % 7 = 0) : (outsAt0 m c t.val t.isLt).2 (ix2 r l) =
    0 + ∑ k, d m c (ix2 r (term t k)) * w m c (ix2 (lane t l) (term t k)) := by
  rw [outsAt0_A m c t h (by omega)]
  frame_out
  refine (step_at m c t r l _).trans ?_
  pointwise [k0_pay1]

theorem next (h : ¬t.val % 7 = 0) : (outsAt0 m c t.val t.isLt).2 (ix2 r l) =
    (outsAt0 m c (t.val - 1) (Nat.lt_of_le_of_lt (Nat.sub_le _ _) t.isLt)).2 (ix2 r l) +
      ∑ k, d m c (ix2 r (term t k)) * w m c (ix2 (lane t l) (term t k)) := by
  by_cases h6 : t.val % 7 = 6
  · rw [outsAt0_C m c t h h6]
    frame_out
    simp only [read_unread_whole]
    exact step_at m c t r l _
  · rw [outsAt0_B m c t h h6]
    frame_out
    simp only [read_unread_whole]
    exact step_at m c t r l _

/-- The last step of a tile writes back what the buffer holds. -/
theorem out_eq (h : t.val % 7 = 6) : (outsAt0 m c t.val t.isLt).1 (ix2 r l) = (outsAt0 m c t.val t.isLt).2 (ix2 r l) := by
  rw [outsAt0_C m c t (by omega) h]
  frame_out

/-- What the buffer holds after the last step of a tile. -/
theorem run_at (hr : t.val % 7 = 6) : (outsAt0 m c t.val t.isLt).2 (ix2 r l) = G (w m c) (d m c) r (lane t l) := by
  rw [Pipeline.eq_sum_fin_of_reset_step_apply_of_flush (fun n h => (outsAt0 m c n h).2) 7 (fun _ => (0 : EReal))
    (fun t i => ∑ k : Fin 1280, d m c (ix2 (i 0) (term t k)) * w m c (ix2 (lane t (i 1)) (term t k)))
    (fun t h i => by
      idx_vars i
      exact first m c t i0 i1 h)
    (fun t h i => by
      idx_vars i
      exact next m c t i0 i1 h) t hr (ix2 r l), zero_add]
  have el (s : Fin 7) : lane ⟨7 * (t.val / 7) + s.val, Pipeline.run_point_lt_of_flush t hr s⟩ l = lane t l := by
    refine Fin.ext ?_
    show (7 * (t.val / 7) + s.val) / 7 * 1024 + l.val = t.val / 7 * 1024 + l.val
    omega
  refine Eq.trans (Finset.sum_congr rfl fun s _ => Finset.sum_congr rfl fun k _ => congrArg (fun j => _ * w m c (ix2 j _)) (el s)) ?_
  refine Fin.sum_mul_add_congr fun s k hk => congrArg (fun k => d m c (ix2 r k) * w m c (ix2 (lane t l) k)) (Fin.ext ?_)
  show (7 * (t.val / 7) + s.val) % 7 * 1280 + k.val = s.val * 1280 + k.val
  omega

theorem emb : ((cfg0.win 2).blk t).view.emb (ix2 r l) = ix2 r (lane t l) := by
  blk_ext [idx t, lane]

/-- The result array after the run. -/
theorem final : (dats m 0 c).arrAt 2 cfg0.N = fun i => G (w m c) (d m c) (i 0) (i 1) := by
  refine (dats m 0 c).arrAt_eq_of_covers 2 _ (by decide +kernel) fun t hf y => ?_
  blk_simp
  rw [after0_2]
  idx_vars y
  rw [out_eq m c t y0 y1 ((flush0_2 t).mp hf), run_at m c t y0 y1 ((flush0_2 t).mp hf)]
  exact congrArg₂ (G _ _) (congrFun (emb t y0 y1) 0).symm (congrFun (emb t y0 y1) 1).symm

theorem frame_kernel : Cert.quiescent_DH := fun m ρ _ => Cert.DH.Gen.frame m ρ

theorem frame_ideal : Cert.quiescent_DHIdeal := fun m ρ _ => Cert.DHIdeal.Gen.frame m ρ

theorem frame_ref : Cert.quiescent_DHRefIdeal := fun m ρ _ =>
  (θ_run _ _ _).mono (fun _ h => ⟨fun c => (h c).2, sem_eq_zero_of_no_sems rfl _⟩) (Cert.DHRefIdeal.Value.run m ρ)

/-- Kernel and reference end with the same array. -/
theorem algebraic : Cert.algebraic_DHIdeal_DHRefIdeal := fun m ρ m' ρ' _ hm => by
  refine ⟨_, Cert.DHIdeal.Value.run_blocks m ρ, (θ_run _ _ _).mono (fun r h c => ?_) (Cert.DHRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]

end Cert.Proof.DH

end
-- ==== Proof.Products.DAct.lean ====
/-
  The cotangent of the activation before the down projection: `d_act[i, j] = ∑ k, dy[i, k] · w_down[j, k]`.

  The kernel computes it in a grid of 2 × 4 tiles of 1024 × 1408, each from whole rows of both operands.
-/
module

public import proofs.«01_k».proof.Defs
public import proofs.«01_k».proof.Proof.Gen.DAct.Frame
public import proofs.«01_k».proof.Proof.Gen.DActIdeal.Value
public import proofs.«01_k».proof.Proof.Gen.DActRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.DAct

open Cert.DActIdeal Cert.DActIdeal.Gen Idealize.ShloMosaic Idealize.ShloMosaic.TcCoe Idealize.SL.Sem

/-- The product. -/
def G (w : Mat 5632 2048) (dy : Mat 2048 2048) (i : Fin 2048) (j : Fin 5632) : EReal := ∑ k : Fin 2048, dy (ix2 i k) * w (ix2 j k)

/-- The block that each window reads or writes at a grid point. -/
theorem idx : ∀ t : Fin cfg0.N, win0_0.index t = ![t.val / 4, 0] ∧ win0_1.index t = ![t.val % 4, 0]
    ∧ win0_2.index t = ![t.val / 4, t.val % 4] ∧ t.val < 8 :=
  (by decide +kernel : ∀ t : Fin grid0.N, _)

/-- Row `r` of the point's tile, in the whole array. -/
def row (t : Fin cfg0.N) (r : Fin 1024) : Fin 2048 := ⟨t.val / 4 * 1024 + r, by have := (idx t).2.2.2; omega⟩

/-- Column `l` of the point's tile, in the whole array. -/
def lane (t : Fin cfg0.N) (l : Fin 1408) : Fin 5632 := ⟨t.val % 4 * 1408 + l, by omega⟩

variable (m : (ℓ : Loc nD τ sig) → Buf (Elt Ideal) ℓ) (c : Dev nD)

abbrev w : Mat 5632 2048 := m ((c : Thread nD τ).loc main_arg0)
abbrev dy : Mat 2048 2048 := m ((c : Thread nD τ).loc main_arg1)

variable (t : Fin cfg0.N) (r : Fin 1024) (l : Fin 1408)

/-- What a grid point computes, at an index of its tile. -/
theorem tile_at : k0_pay1 (iblk m c 0 t) (iblk m c 1 t) (ix2 r l) = G (w m c) (dy m c) (row t r) (lane t l) := by
  pointwise [k0_pay1, G]
  blk_point [iblk, V, idx t, row, lane]

theorem emb : ((cfg0.win 2).blk t).view.emb (ix2 r l) = ix2 (row t r) (lane t l) := by
  blk_ext [idx t, row, lane]

/-- The result array after the run. -/
theorem final : (dats m 0 c).arrAt 2 cfg0.N = fun i => G (w m c) (dy m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_DAct := fun m ρ _ => Cert.DAct.Gen.frame m ρ

theorem frame_ideal : Cert.quiescent_DActIdeal := fun m ρ _ => Cert.DActIdeal.Gen.frame m ρ

theorem frame_ref : Cert.quiescent_DActRefIdeal := fun m ρ _ =>
  (θ_run _ _ _).mono (fun _ h => ⟨fun c => (h c).2, sem_eq_zero_of_no_sems rfl _⟩) (Cert.DActRefIdeal.Value.run m ρ)

/-- Kernel and reference end with the same array. -/
theorem algebraic : Cert.algebraic_DActIdeal_DActRefIdeal := fun m ρ m' ρ' _ hm => by
  refine ⟨_, Cert.DActIdeal.Value.run_blocks m ρ, (θ_run _ _ _).mono (fun r h c => ?_) (Cert.DActRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]

end Cert.Proof.DAct

end
-- ==== Proof.Products.GDown.lean ====
/-
  The gradient of the down projection's weight: `g[i, j] = ∑ k, act[k, i] · dy[k, j]`.

  The kernel computes it in a grid of 4 × 2 tiles of 1408 × 1024, each from whole columns of both operands.
-/
module

public import proofs.«01_k».proof.Defs
public import proofs.«01_k».proof.Proof.Gen.GDown.Frame
public import proofs.«01_k».proof.Proof.Gen.GDownIdeal.Value
public import proofs.«01_k».proof.Proof.Gen.GDownRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.GDown

open Cert.GDownIdeal Cert.GDownIdeal.Gen Idealize.ShloMosaic Idealize.ShloMosaic.TcCoe Idealize.SL.Sem

/-- The product. -/
def G (a : Mat 2048 5632) (dy : Mat 2048 2048) (i : Fin 5632) (j : Fin 2048) : EReal := ∑ k : Fin 2048, a (ix2 k i) * dy (ix2 k j)

/-- The block that each window reads or writes at a grid point. -/
theorem idx : ∀ t : Fin cfg0.N, win0_0.index t = ![0, t.val / 2] ∧ win0_1.index t = ![0, t.val % 2]
    ∧ win0_2.index t = ![t.val / 2, t.val % 2] ∧ t.val < 8 :=
  (by decide +kernel : ∀ t : Fin grid0.N, _)

/-- Row `r` of the point's tile, in the whole array. -/
def row (t : Fin cfg0.N) (r : Fin 1408) : Fin 5632 := ⟨t.val / 2 * 1408 + r, by have := (idx t).2.2.2; omega⟩

/-- Column `l` of the point's tile, in the whole array. -/
def lane (t : Fin cfg0.N) (l : Fin 1024) : Fin 2048 := ⟨t.val % 2 * 1024 + l, by omega⟩

variable (m : (ℓ : Loc nD τ sig) → Buf (Elt Ideal) ℓ) (c : Dev nD)

abbrev act : Mat 2048 5632 := m ((c : Thread nD τ).loc main_arg0)
abbrev dy : Mat 2048 2048 := m ((c : Thread nD τ).loc main_arg1)

variable (t : Fin cfg0.N) (r : Fin 1408) (l : Fin 1024)

/-- What a grid point computes, at an index of its tile. -/
theorem tile_at : k0_pay1 (iblk m c 0 t) (iblk m c 1 t) (ix2 r l) = G (act m c) (dy m c) (row t r) (lane t l) := by
  pointwise [k0_pay1, G]
  blk_point [iblk, V, idx t, row, lane]

theorem emb : ((cfg0.win 2).blk t).view.emb (ix2 r l) = ix2 (row t r) (lane t l) := by
  blk_ext [idx t, row, lane]

/-- The result array after the run. -/
theorem final : (dats m 0 c).arrAt 2 cfg0.N = fun i => G (act m c) (dy m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_GDown := fun m ρ _ => Cert.GDown.Gen.frame m ρ

theorem frame_ideal : Cert.quiescent_GDownIdeal := fun m ρ _ => Cert.GDownIdeal.Gen.frame m ρ

theorem frame_ref : Cert.quiescent_GDownRefIdeal := fun m ρ _ =>
  (θ_run _ _ _).mono (fun _ h => ⟨fun c => (h c).2, sem_eq_zero_of_no_sems rfl _⟩) (Cert.GDownRefIdeal.Value.run m ρ)

/-- Kernel and reference end with the same array. -/
theorem algebraic : Cert.algebraic_GDownIdeal_GDownRefIdeal := fun m ρ m' ρ' _ hm => by
  refine ⟨_, Cert.GDownIdeal.Value.run_blocks m ρ, (θ_run _ _ _).mono (fun r h c => ?_) (Cert.GDownRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]
  exact Finset.sum_congr rfl fun k _ => mul_comm _ _

end Cert.Proof.GDown

end
-- ==== Proof.Products.GOut.lean ====
/-
  The gradient of the output projection's weight: `g[i, j] = ∑ k, merged[k, i] · dx1[k, j]`.

  The kernel computes it in a grid of 2 × 2 tiles of 1024 × 1024, each from whole columns of both operands.
-/
module

public import proofs.«01_k».proof.Defs
public import proofs.«01_k».proof.Proof.Gen.GOut.Frame
public import proofs.«01_k».proof.Proof.Gen.GOutIdeal.Value
public import proofs.«01_k».proof.Proof.Gen.GOutRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.GOut

open Cert.GOutIdeal Cert.GOutIdeal.Gen Idealize.ShloMosaic Idealize.ShloMosaic.TcCoe Idealize.SL.Sem

/-- The product. -/
def G (a b : Mat 2048 2048) (i j : Fin 2048) : EReal := ∑ k : Fin 2048, a (ix2 k i) * b (ix2 k j)

/-- The block that each window reads or writes at a grid point. -/
theorem idx : ∀ t : Fin cfg0.N, win0_0.index t = ![0, t.val / 2] ∧ win0_1.index t = ![0, t.val % 2]
    ∧ win0_2.index t = ![t.val / 2, t.val % 2] ∧ t.val < 4 :=
  (by decide +kernel : ∀ t : Fin grid0.N, _)

/-- Row `r` of the point's tile, in the whole array. -/
def row (t : Fin cfg0.N) (r : Fin 1024) : Fin 2048 := ⟨t.val / 2 * 1024 + r, by have := (idx t).2.2.2; omega⟩

/-- Column `l` of the point's tile, in the whole array. -/
def lane (t : Fin cfg0.N) (l : Fin 1024) : Fin 2048 := ⟨t.val % 2 * 1024 + l, by omega⟩

variable (m : (ℓ : Loc nD τ sig) → Buf (Elt Ideal) ℓ) (c : Dev nD)

abbrev merged : Mat 2048 2048 := m ((c : Thread nD τ).loc main_arg0)
abbrev dx1 : Mat 2048 2048 := m ((c : Thread nD τ).loc main_arg1)

variable (t : Fin cfg0.N)

/-- What a grid point computes, at an index of its tile. -/
theorem tile_at (r l : Fin 1024) : k0_pay1 (iblk m c 0 t) (iblk m c 1 t) (ix2 r l) =
    G (merged m c) (dx1 m c) (row t r) (lane t l) := by
  pointwise [k0_pay1, G]
  blk_point [iblk, V, idx t, row, lane]

theorem emb (r l : Fin 1024) : ((cfg0.win 2).blk t).view.emb (ix2 r l) = ix2 (row t r) (lane t l) := by
  blk_ext [idx t, row, lane]

/-- The result array after the run. -/
theorem final : (dats m 0 c).arrAt 2 cfg0.N = fun i => G (merged m c) (dx1 m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_GOut := fun m ρ _ => Cert.GOut.Gen.frame m ρ

theorem frame_ideal : Cert.quiescent_GOutIdeal := fun m ρ _ => Cert.GOutIdeal.Gen.frame m ρ

theorem frame_ref : Cert.quiescent_GOutRefIdeal := fun m ρ _ =>
  (θ_run _ _ _).mono (fun _ h => ⟨fun c => (h c).2, sem_eq_zero_of_no_sems rfl _⟩) (Cert.GOutRefIdeal.Value.run m ρ)

/-- Kernel and reference end with the same array. -/
theorem algebraic : Cert.algebraic_GOutIdeal_GOutRefIdeal := fun m ρ m' ρ' _ hm => by
  refine ⟨_, Cert.GOutIdeal.Value.run_blocks m ρ, (θ_run _ _ _).mono (fun r h c => ?_) (Cert.GOutRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]
  exact Finset.sum_congr rfl fun k _ => mul_comm _ _

end Cert.Proof.GOut

end
-- ==== Proof.Products.GBranchA.lean ====
/-
  The gradient of a branch's output projection, for a branch 512 wide, stacked by the device that owns the columns:
  `g[p, i, j] = ∑ k, y[k, i] · dz[k, 256 p + j]`.

  The kernel computes one owner's columns at a grid point.
-/
module

public import proofs.«01_k».proof.Defs
public import proofs.«01_k».proof.Proof.Gen.GBranchA.Frame
public import proofs.«01_k».proof.Proof.Gen.GBranchAIdeal.Value
public import proofs.«01_k».proof.Proof.Gen.GBranchARefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.GBranchA

open Cert.GBranchAIdeal Cert.GBranchAIdeal.Gen Idealize.ShloMosaic Idealize.ShloMosaic.TcCoe Idealize.SL.Sem

/-- Column `l` of the owner `p`'s columns. -/
abbrev col (p : Fin 8) (l : Fin 256) : Fin 2048 := ⟨p * 256 + l, by omega⟩

/-- The product. -/
def G (y : Mat 2048 512) (dz : Mat 2048 2048) (p : Fin 8) (i : Fin 512) (j : Fin 256) : EReal :=
  ∑ k : Fin 2048, y (ix2 k i) * dz (ix2 k (col p j))

/-- The block that each window reads or writes at a grid point. -/
theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

/-- The owner whose columns a grid point computes. -/
def own (t : Fin cfg0.N) : Fin 8 := ⟨t.val, (idx t).2.2.2⟩

variable (m : (ℓ : Loc nD τ sig) → Buf (Elt Ideal) ℓ) (c : Dev nD)

abbrev y : Mat 2048 512 := m ((c : Thread nD τ).loc main_arg0)
abbrev dz : Mat 2048 2048 := m ((c : Thread nD τ).loc main_arg1)

variable (t : Fin cfg0.N) (r : Fin 512) (l : Fin 256)

/-- What a grid point computes, at an index of its tile. -/
theorem tile_at (z : Fin 1) : k0_pay1 (iblk m c 0 t) (iblk m c 1 t) (ix3 z r l) = G (y m c) (dz m c) (own t) r l := by
  pointwise [k0_pay1, G]
  blk_point [iblk, V, idx t, own, col]

theorem emb (z : Fin 1) : ((cfg0.win 2).blk t).view.emb (ix3 z r l) = ix3 (own t) r l := by
  blk_ext [idx t, own]

/-- The result array after the run. -/
theorem final : (dats m 0 c).arrAt 2 cfg0.N = fun i => G (y m c) (dz m c) (i 0) (i 1) (i 2) := by
  refine (dats m 0 c).arrAt_eq_of_covers 2 _ (by decide +kernel) fun t hf y => ?_
  blk_simp
  rw [after0_2]
  frame_out
  idx_vars y
  refine (tile_at m c t y1 y2 y0).trans ?_
  have e := emb t y1 y2 y0
  exact (congrArg₂ (fun p q => G _ _ p q.1 q.2) (congrFun e 0).symm
    (Prod.ext (congrFun e 1).symm (congrFun e 2).symm : (y1, y2) = (_, _)))

theorem frame_kernel : Cert.quiescent_GBranchA := fun m ρ _ => Cert.GBranchA.Gen.frame m ρ

theorem frame_ideal : Cert.quiescent_GBranchAIdeal := fun m ρ _ => Cert.GBranchAIdeal.Gen.frame m ρ

theorem frame_ref : Cert.quiescent_GBranchARefIdeal := fun m ρ _ =>
  (θ_run _ _ _).mono (fun _ h => ⟨fun c => (h c).2, sem_eq_zero_of_no_sems rfl _⟩) (Cert.GBranchARefIdeal.Value.run m ρ)

/-- Kernel and reference end with the same array. -/
theorem algebraic : Cert.algebraic_GBranchAIdeal_GBranchARefIdeal := fun m ρ m' ρ' _ hm => by
  refine ⟨_, Cert.GBranchAIdeal.Value.run_blocks m ρ, (θ_run _ _ _).mono (fun r h c => ?_) (Cert.GBranchARefIdeal.Value.run m' ρ')⟩
  obtain ⟨h0, ha⟩ := h c
  obtain ⟨a0, a1⟩ := hm c
  rw [a0, a1] at h0
  refine ⟨h0.trans ((ext3 fun p i j => ?_).trans (final m c).symm), ha⟩
  pointwise [G]
  exact Finset.sum_congr rfl fun k _ => mul_comm _ _

end Cert.Proof.GBranchA

end
-- ==== Proof.Products.Proj.lean ====
/-
  The combined input projection: `proj[i, j] = ∑ k, h[i, k] · w_in[k, j]`.

  The kernel holds the transposed weight and computes a grid of 2 × 7 tiles of 1024 × 1280, each from whole rows of
  both operands.
-/
module

public import proofs.«01_k».proof.Defs
public import proofs.«01_k».proof.Proof.Gen.Proj.Frame
public import proofs.«01_k».proof.Proof.Gen.ProjIdeal.Value
public import proofs.«01_k».proof.Proof.Gen.ProjRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.Proj

open Cert.ProjIdeal Cert.ProjIdeal.Gen Idealize.ShloMosaic Idealize.ShloMosaic.TcCoe Idealize.SL.Sem

/-- The product. -/
def G (h : Mat 2048 2048) (w : Mat 2048 8960) (i : Fin 2048) (j : Fin 8960) : EReal := ∑ k : Fin 2048, h (ix2 i k) * w (ix2 k j)

/-- The block that each window reads or writes at a grid point. -/
theorem idx : ∀ t : Fin cfg0.N, win0_0.index t = ![t.val / 7, 0] ∧ win0_1.index t = ![t.val % 7, 0]
    ∧ win0_2.index t = ![t.val / 7, t.val % 7] ∧ t.val < 14 :=
  (by decide +kernel : ∀ t : Fin grid0.N, _)

/-- Row `r` of the point's tile, in the whole array. -/
def row (t : Fin cfg0.N) (r : Fin 1024) : Fin 2048 := ⟨t.val / 7 * 1024 + r, by have := (idx t).2.2.2; omega⟩

/-- Column `l` of the point's tile, in the whole array. -/
def lane (t : Fin cfg0.N) (l : Fin 1280) : Fin 8960 := ⟨t.val % 7 * 1280 + l, by omega⟩

variable (m : (ℓ : Loc nD τ sig) → Buf (Elt Ideal) ℓ) (c : Dev nD)

abbrev h : Mat 2048 2048 := m ((c : Thread nD τ).loc main_arg0)
abbrev w : Mat 2048 8960 := m ((c : Thread nD τ).loc main_arg1)

variable (t : Fin cfg0.N) (r : Fin 1024) (l : Fin 1280)

/-- What a grid point computes, at an index of its tile. -/
theorem tile_at : k0_pay1 (iblk m c 0 t) (iblk m c 1 t) (ix2 r l) = G (h m c) (w m c) (row t r) (lane t l) := by
  pointwise [k0_pay1, G]
  blk_point [iblk, V, idx t, row, lane]

theorem emb : ((cfg0.win 2).blk t).view.emb (ix2 r l) = ix2 (row t r) (lane t l) := by
  blk_ext [idx t, row, lane]

/-- The result array after the run. -/
theorem final : (dats m 0 c).arrAt 2 cfg0.N = fun i => G (h m c) (w m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_Proj := fun m ρ _ => Cert.Proj.Gen.frame m ρ

theorem frame_ideal : Cert.quiescent_ProjIdeal := fun m ρ _ => Cert.ProjIdeal.Gen.frame m ρ

theorem frame_ref : Cert.quiescent_ProjRefIdeal := fun m ρ _ =>
  (θ_run _ _ _).mono (fun _ h => ⟨fun c => (h c).2, sem_eq_zero_of_no_sems rfl _⟩) (Cert.ProjRefIdeal.Value.run m ρ)

/-- Kernel and reference end with the same array. -/
theorem algebraic : Cert.algebraic_ProjIdeal_ProjRefIdeal := fun m ρ m' ρ' _ hm => by
  refine ⟨_, Cert.ProjIdeal.Value.run_blocks m ρ, (θ_run _ _ _).mono (fun r h c => ?_) (Cert.ProjRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]

end Cert.Proof.Proj

end
-- ==== Proof.Products.Up.lean ====
/-
  The up projection, its two halves stacked: `up[p, i, j] = ∑ k, h[i, k] · w_up[k, 5632 p + j]`.

  The kernel reads the weight as eight slabs of 1408 columns and computes 2 × 8 tiles of 1024 × 1408.
-/
module

public import proofs.«01_k».proof.Defs
public import proofs.«01_k».proof.Proof.Gen.Up.Frame
public import proofs.«01_k».proof.Proof.Gen.UpIdeal.Value
public import proofs.«01_k».proof.Proof.Gen.UpRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.Up

open Cert.UpIdeal Cert.UpIdeal.Gen Idealize.ShloMosaic Idealize.ShloMosaic.TcCoe Idealize.SL.Sem

/-- Column `l` of the half `p`. -/
abbrev col (p : Fin 2) (l : Fin 5632) : Fin 11264 := ⟨p * 5632 + l, by omega⟩

/-- The product. -/
def G (h : Mat 2048 2048) (w : Mat 2048 11264) (p : Fin 2) (i : Fin 2048) (j : Fin 5632) : EReal :=
  ∑ k : Fin 2048, h (ix2 i k) * w (ix2 k (col p j))

/-- The block that each window reads or writes at a grid point. -/
theorem idx : ∀ t : Fin cfg0.N, win0_0.index t = ![t.val / 8, 0] ∧ win0_1.index t = ![t.val % 8, 0, 0]
    ∧ win0_2.index t = ![t.val % 8 / 4, t.val / 8, t.val % 4] ∧ t.val < 16 :=
  (by decide +kernel : ∀ t : Fin grid0.N, _)

/-- The half that a grid point computes a tile of. -/
def half (t : Fin cfg0.N) : Fin 2 := ⟨t.val % 8 / 4, by omega⟩

/-- Row `r` of the point's tile, in the whole array. -/
def row (t : Fin cfg0.N) (r : Fin 1024) : Fin 2048 := ⟨t.val / 8 * 1024 + r, by have := (idx t).2.2.2; omega⟩

/-- Column `l` of the point's tile, in its half. -/
def lane (t : Fin cfg0.N) (l : Fin 1408) : Fin 5632 := ⟨t.val % 4 * 1408 + l, by omega⟩

variable (m : (ℓ : Loc nD τ sig) → Buf (Elt Ideal) ℓ) (c : Dev nD)

abbrev h : Mat 2048 2048 := m ((c : Thread nD τ).loc main_arg0)
abbrev w : Mat 2048 11264 := m ((c : Thread nD τ).loc main_arg1)

variable (t : Fin cfg0.N) (r : Fin 1024) (l : Fin 1408)

/-- What a grid point computes, at an index of its tile. -/
theorem tile_at (z : Fin 1) : k0_pay1 (iblk m c 0 t) (iblk m c 1 t) (ix3 z r l) = G (h m c) (w m c) (half t) (row t r) (lane t l) := by
  pointwise [k0_pay1, G]
  blk_point [iblk, V, idx t, row, lane, half, col]

theorem emb (z : Fin 1) : ((cfg0.win 2).blk t).view.emb (ix3 z r l) = ix3 (half t) (row t r) (lane t l) := by
  blk_ext [idx t, row, lane, half]

/-- The result array after the run. -/
theorem final : (dats m 0 c).arrAt 2 cfg0.N = fun i => G (h m c) (w m c) (i 0) (i 1) (i 2) := by
  refine (dats m 0 c).arrAt_eq_of_covers 2 _ (by decide +kernel) fun t hf y => ?_
  blk_simp
  rw [after0_2]
  frame_out
  idx_vars y
  refine (tile_at m c t y1 y2 y0).trans ?_
  have e := emb t y1 y2 y0
  exact (congrArg₂ (fun p q => G _ _ p q.1 q.2) (congrFun e 0).symm
    (Prod.ext (congrFun e 1).symm (congrFun e 2).symm : (row t y1, lane t y2) = (_, _)))

theorem frame_kernel : Cert.quiescent_Up := fun m ρ _ => Cert.Up.Gen.frame m ρ

theorem frame_ideal : Cert.quiescent_UpIdeal := fun m ρ _ => Cert.UpIdeal.Gen.frame m ρ

theorem frame_ref : Cert.quiescent_UpRefIdeal := fun m ρ _ =>
  (θ_run _ _ _).mono (fun _ h => ⟨fun c => (h c).2, sem_eq_zero_of_no_sems rfl _⟩) (Cert.UpRefIdeal.Value.run m ρ)

/-- Kernel and reference end with the same array. -/
theorem algebraic : Cert.algebraic_UpIdeal_UpRefIdeal := fun m ρ m' ρ' _ hm => by
  refine ⟨_, Cert.UpIdeal.Value.run_blocks m ρ, (θ_run _ _ _).mono (fun r h c => ?_) (Cert.UpRefIdeal.Value.run m' ρ')⟩
  obtain ⟨h0, ha⟩ := h c
  obtain ⟨a0, a1⟩ := hm c
  rw [a0, a1] at h0
  refine ⟨h0.trans ((ext3 fun p i j => ?_).trans (final m c).symm), ha⟩
  fin_cases p
  all_goals pointwise [G]
  · exact Finset.sum_congr rfl fun k _ => congrArg (fun j => _ * w m c (ix2 k j)) (Fin.ext (show j.val = 0 * 5632 + j.val by omega))
  · exact Finset.sum_congr rfl fun k _ => congrArg (fun j => _ * w m c (ix2 k j)) (Fin.ext (show 5632 + j.val = 1 * 5632 + j.val by omega))

end Cert.Proof.Up

end
-- ==== Proof.Products.OutLoss.lean ====
/-
  The down projection, the residual added to it, the loss against the target, and the loss's gradient.

  The kernel computes 2 × 2 tiles of 1024 × 1024, each in four steps of 1408 terms that it adds up in a scratch buffer,
  and adds up the tiles' squared errors in one entry that all points share. The reference divides each row's sum of
  squares by the row's length, adds the rows up and halves the sum.
-/
module

public import proofs.«01_k».proof.Defs
public import proofs.«01_k».proof.Proof.Gen.OutLoss.Frame
public import proofs.«01_k».proof.Proof.Gen.OutLossIdeal.Value
public import proofs.«01_k».proof.Proof.Gen.OutLossRefIdeal.Read
public import proofs.«01_k».proof.Proof.Mats
public import proofs.«01_k».proof.Proof.Roots
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Proof.OutLoss

open Cert.OutLossIdeal Cert.OutLossIdeal.Gen Idealize.ShloMosaic Idealize.ShloMosaic.TcCoe Idealize.SL.Sem

/-- The error at an entry. -/
def err (a : Mat 2048 5632) (w : Mat 5632 2048) (x y : Mat 2048 2048) (i j : Fin 2048) : EReal :=
  (∑ k : Fin 5632, a (ix2 i k) * w (ix2 k j)) + x (ix2 i j) - y (ix2 i j)

/-- The gradient of the loss. -/
def DY (a : Mat 2048 5632) (w : Mat 5632 2048) (x y : Mat 2048 2048) (i j : Fin 2048) : EReal :=
  err a w x y i j * Ideal.ofBits .f32 0x3A000000#32

/-- The loss of the rows of one device. -/
def loss (a : Mat 2048 5632) (w : Mat 5632 2048) (x y : Mat 2048 2048) : EReal :=
  (∑ i : Fin 2048, ∑ j : Fin 2048, err a w x y i j * err a w x y i j) * Ideal.ofBits .f32 0x39800000#32

/-- The block that each window reads or writes at a grid point. -/
theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2]
    ∧ win0_4.index t = ![t.val / 8, t.val / 4 % 2] ∧ win0_5.index t = ![t.val / 8, t.val / 4 % 2]
    ∧ win0_6.index t = ![0, 0] ∧ t.val < 16 :=
  (by decide +kernel : ∀ t : Fin grid0.N, _)

/-- The terms that a grid point adds up, in the whole contracted axis. -/
def term (t : Fin cfg0.N) (k : Fin 1408) : Fin 5632 := ⟨t.val % 4 * 1408 + k, by omega⟩

/-- Row `r` of the point's tile, in the whole array. -/
def row (t : Fin cfg0.N) (r : Fin 1024) : Fin 2048 := ⟨t.val / 8 * 1024 + r, by have := (idx t).2.2.2.2.2.2.2; omega⟩

/-- Column `l` of the point's tile, in the whole array. -/
def lane (t : Fin cfg0.N) (l : Fin 1024) : Fin 2048 := ⟨t.val / 4 % 2 * 1024 + l, by omega⟩

variable (m : (ℓ : Loc nD τ sig) → Buf (Elt Ideal) ℓ) (c : Dev nD)

abbrev a : Mat 2048 5632 := m ((c : Thread nD τ).loc main_arg0)
abbrev w : Mat 5632 2048 := m ((c : Thread nD τ).loc main_arg1)
abbrev x : Mat 2048 2048 := m ((c : Thread nD τ).loc main_arg2)
abbrev y : Mat 2048 2048 := m ((c : Thread nD τ).loc main_arg3)

variable (t : Fin cfg0.N) (r l : Fin 1024)

/-! The scratch buffer. -/

/-- One step: the buffer's entry plus the step's terms. -/
theorem step_at (acc : FVec Ideal S1024x1024 .f32) : k0_pay3 acc (iblk m c 0 t) (iblk m c 1 t) (ix2 r l) =
    acc (ix2 r l) + ∑ k, a m c (ix2 (row t r) (term t k)) * w m c (ix2 (term t k) (lane t l)) := by
  pointwise [k0_pay3]
  blk_point [iblk, V, idx t, term, lane, row]

theorem first (h : t.val % 4 = 0) : (outsAt0 m c t.val t.isLt).2.2.2 (ix2 r l) =
    0 + ∑ k, a m c (ix2 (row t r) (term t k)) * w m c (ix2 (term t k) (lane t l)) := by
  by_cases h0 : t.val % 16 = 0
  · rw [outsAt0_A m c t h0 h (by omega)]
    frame_out
    refine (step_at m c t r l _).trans ?_
    pointwise [k0_pay2]
  · rw [outsAt0_D m c t h0 h (by omega)]
    frame_out
    refine (step_at m c t r l _).trans ?_
    pointwise [k0_pay2]

theorem next (h : ¬t.val % 4 = 0) : (outsAt0 m c t.val t.isLt).2.2.2 (ix2 r l) =
    (outsAt0 m c (t.val - 1) (Nat.lt_of_le_of_lt (Nat.sub_le _ _) t.isLt)).2.2.2 (ix2 r l) +
      ∑ k, a m c (ix2 (row t r) (term t k)) * w m c (ix2 (term t k) (lane t l)) := by
  by_cases h3 : t.val % 4 = 3
  · rw [outsAt0_C m c t (by omega) h h3]
    frame_out
    simp only [read_unread_whole]
    exact step_at m c t r l _
  · rw [outsAt0_B m c t (by omega) h h3]
    frame_out
    simp only [read_unread_whole]
    exact step_at m c t r l _

/-- What the buffer holds after the last step of a tile. -/
theorem acc_at (hr : t.val % 4 = 3) : (outsAt0 m c t.val t.isLt).2.2.2 (ix2 r l) =
    ∑ k, a m c (ix2 (row t r) k) * w m c (ix2 k (lane t l)) := by
  rw [Pipeline.eq_sum_fin_of_reset_step_apply_of_flush (fun n h => (outsAt0 m c n h).2.2.2) 4 (fun _ => (0 : EReal))
    (fun t i => ∑ k : Fin 1408, a m c (ix2 (row t (i 0)) (term t k)) * w m c (ix2 (term t k) (lane t (i 1))))
    (fun t h i => by
      idx_vars i
      exact first m c t i0 i1 h)
    (fun t h i => by
      idx_vars i
      exact next m c t i0 i1 h) t hr (ix2 r l), zero_add]
  have er (s : Fin 4) : row ⟨4 * (t.val / 4) + s.val, Pipeline.run_point_lt_of_flush t hr s⟩ r = row t r := by
    refine Fin.ext ?_
    show (4 * (t.val / 4) + s.val) / 8 * 1024 + r.val = t.val / 8 * 1024 + r.val
    omega
  have el (s : Fin 4) : lane ⟨4 * (t.val / 4) + s.val, Pipeline.run_point_lt_of_flush t hr s⟩ l = lane t l := by
    refine Fin.ext ?_
    show (4 * (t.val / 4) + s.val) / 4 % 2 * 1024 + l.val = t.val / 4 % 2 * 1024 + l.val
    omega
  refine Eq.trans (Finset.sum_congr rfl fun s _ => Finset.sum_congr rfl fun k _ =>
    congrArg₂ (fun i j => a m c (ix2 i _) * w m c (ix2 _ j)) (er s) (el s)) ?_
  refine Fin.sum_mul_add_congr fun s k hk => congrArg (fun k => a m c (ix2 (row t r) k) * w m c (ix2 k (lane t l))) (Fin.ext ?_)
  show (4 * (t.val / 4) + s.val) % 4 * 1408 + k.val = s.val * 1408 + k.val
  omega

/-! What the last step of a tile writes. -/

theorem last (h : t.val % 4 = 3) : (outsAt0 m c t.val t.isLt).1 = k0_pay5 (outsAt0 m c t.val t.isLt).2.2.2 (iblk m c 2 t) (iblk m c 3 t)
    ∧ (outsAt0 m c t.val t.isLt).2.1 = k0_pay6 (outsAt0 m c t.val t.isLt).2.2.2 (iblk m c 2 t) (iblk m c 3 t)
    ∧ (outsAt0 m c t.val t.isLt).2.2.1 = k0_pay7 (outsAt0 m c t.val t.isLt).2.2.2 (iblk m c 2 t) (iblk m c 3 t)
        (outsAt0 m c (t.val - 1) (Nat.lt_of_le_of_lt (Nat.sub_le _ _) t.isLt)).2.2.1 := by
  rw [outsAt0_C m c t (by omega) (by omega) h]
  refine ⟨?_, ?_, ?_⟩ <;> frame_out

theorem err_at (h : t.val % 4 = 3) : k0_pay4 (outsAt0 m c t.val t.isLt).2.2.2 (iblk m c 2 t) (iblk m c 3 t) (ix2 r l) =
    err (a m c) (w m c) (x m c) (y m c) (row t r) (lane t l) := by
  pointwise [k0_pay4, err]
  rw [acc_at m c t r l h]
  blk_point [iblk, V, idx t, row, lane]

theorem dy_at (h : t.val % 4 = 3) : k0_pay5 (outsAt0 m c t.val t.isLt).2.2.2 (iblk m c 2 t) (iblk m c 3 t) (ix2 r l) =
    DY (a m c) (w m c) (x m c) (y m c) (row t r) (lane t l) := by
  pointwise [k0_pay5, DY]
  rw [err_at m c t r l h]

theorem emb4 : ((cfg0.win 4).blk t).view.emb (ix2 r l) = ix2 (row t r) (lane t l) := by
  blk_ext [idx t, row, lane]

theorem emb5 : ((cfg0.win 5).blk t).view.emb (ix2 r l) = ix2 (row t r) (lane t l) := by
  blk_ext [idx t, row, lane]

theorem final_dy : (dats m 0 c).arrAt 4 cfg0.N = fun i => DY (a m c) (w m c) (x m c) (y m c) (i 0) (i 1) := by
  refine (dats m 0 c).arrAt_eq_of_covers 4 _ (by decide +kernel) fun t hf y => ?_
  have h := (flush0_4 t).mp hf
  blk_simp
  rw [after0_4, (last m c t h).1]
  idx_vars y
  refine (dy_at m c t y0 y1 h).trans ?_
  exact congrArg₂ (DY _ _ _ _) (congrFun (emb4 t y0 y1) 0).symm (congrFun (emb4 t y0 y1) 1).symm

theorem final_dyb : (dats m 0 c).arrAt 5 cfg0.N = fun i => DY (a m c) (w m c) (x m c) (y m c) (i 0) (i 1) := by
  refine (dats m 0 c).arrAt_eq_of_covers 5 _ (by decide +kernel) fun t hf y => ?_
  have h := (flush0_5 t).mp hf
  blk_simp
  rw [after0_5, (last m c t h).2.1]
  idx_vars y
  refine Eq.trans (by pointwise [k0_pay6]) ((dy_at m c t y0 y1 h).trans ?_)
  exact congrArg₂ (DY _ _ _ _) (congrFun (emb5 t y0 y1) 0).symm (congrFun (emb5 t y0 y1) 1).symm

/-! The loss. -/

/-- The sum of the squared errors of the point's tile. -/
def sq (t : Fin cfg0.N) : EReal := ∑ r : Fin 1024, ∑ l : Fin 1024,
  err (a m c) (w m c) (x m c) (y m c) (row t r) (lane t l) * err (a m c) (w m c) (x m c) (y m c) (row t r) (lane t l)

/-- What a point adds to the loss. -/
def part (t : Fin cfg0.N) : EReal := if t.val % 4 = 3 then sq m c t * Ideal.ofBits .f32 0x39800000#32 else 0

theorem loss_step (h : t.val % 4 = 3) (acc : FVec Ideal S8x128 .f32) (i : Fin 8) (j : Fin 128) :
    k0_pay7 (outsAt0 m c t.val t.isLt).2.2.2 (iblk m c 2 t) (iblk m c 3 t) acc (ix2 i j) =
    acc (ix2 i j) + sq m c t * Ideal.ofBits .f32 0x39800000#32 := by
  pointwise [k0_pay7, sq]
  simp only [err_at m c t _ _ h]

theorem loss_first (h : t.val % 16 = 0) (i : Fin 8) (j : Fin 128) : (outsAt0 m c t.val t.isLt).2.2.1 (ix2 i j) = 0 + part m c t := by
  rw [part, if_neg (by omega), outsAt0_A m c t h (by omega) (by omega)]
  frame_out
  pointwise [k0_pay1]

theorem loss_next (h : ¬t.val % 16 = 0) (i : Fin 8) (j : Fin 128) : (outsAt0 m c t.val t.isLt).2.2.1 (ix2 i j) =
    (outsAt0 m c (t.val - 1) (Nat.lt_of_le_of_lt (Nat.sub_le _ _) t.isLt)).2.2.1 (ix2 i j) + part m c t := by
  by_cases h3 : t.val % 4 = 3
  · rw [part, if_pos h3, (last m c t h3).2.2]
    exact loss_step m c t h3 _ i j
  · rw [part, if_neg h3, add_zero]
    by_cases h0 : t.val % 4 = 0
    · rw [outsAt0_D m c t h h0 h3]
      frame_out
      rfl
    · rw [outsAt0_B m c t h h0 h3]
      frame_out
      rfl

/-- The four tiles make up the whole array. -/
theorem sum_tiles (F : Fin 2048 → Fin 2048 → EReal) :
    ∑ q : Fin 4, ∑ r : Fin 1024, ∑ l : Fin 1024, F ⟨q.val / 2 * 1024 + r, by omega⟩ ⟨q.val % 2 * 1024 + l, by omega⟩ =
    ∑ i, ∑ j, F i j := by
  refine Eq.trans (Fin.sum_mul_add_congr (S := 2) (n := 2) (F := fun a b => ∑ r : Fin 1024, ∑ l : Fin 1024,
    F ⟨a.val * 1024 + r, by omega⟩ ⟨b.val * 1024 + l, by omega⟩) fun a b h => ?_).symm ?_
  · refine Finset.sum_congr rfl fun r _ => Finset.sum_congr rfl fun l _ => congrArg₂ F (Fin.ext ?_) (Fin.ext ?_)
    · show a.val * 1024 + r.val = (a.val * 2 + b.val) / 2 * 1024 + r.val
      omega
    · show b.val * 1024 + l.val = (a.val * 2 + b.val) % 2 * 1024 + l.val
      omega
  · refine Eq.trans (Finset.sum_congr rfl fun a _ => Finset.sum_comm) ?_
    exact Fin.sum_mul_add_congr fun a r h => Fin.sum_mul_add_congr fun b l h => rfl

/-- The loss after the last point. -/
theorem loss_at (hr : t.val % 16 = 15) (i : Fin 8) (j : Fin 128) : (outsAt0 m c t.val t.isLt).2.2.1 (ix2 i j) =
    loss (a m c) (w m c) (x m c) (y m c) := by
  rw [Pipeline.eq_sum_fin_of_reset_step_apply_of_flush (fun n h => (outsAt0 m c n h).2.2.1) 16 (fun _ => (0 : EReal))
    (fun t _ => part m c t)
    (fun t h i => by
      idx_vars i
      exact loss_first m c t h i0 i1)
    (fun t h i => by
      idx_vars i
      exact loss_next m c t h i0 i1) t hr (ix2 i j), zero_add]
  have ht := (idx t).2.2.2.2.2.2.2
  refine (Fin.sum_mul_add_congr (S := 4) (n := 4) (F := fun q k => if k.val = 3 then
    (∑ r : Fin 1024, ∑ l : Fin 1024,
      err (a m c) (w m c) (x m c) (y m c) ⟨q.val / 2 * 1024 + r, by omega⟩ ⟨q.val % 2 * 1024 + l, by omega⟩ *
      err (a m c) (w m c) (x m c) (y m c) ⟨q.val / 2 * 1024 + r, by omega⟩ ⟨q.val % 2 * 1024 + l, by omega⟩) *
        Ideal.ofBits .f32 0x39800000#32 else 0) fun q k h => ?_).symm.trans ?_
  · unfold part
    refine if_congr ?_ ?_ rfl
    · show k.val = 3 ↔ (16 * (t.val / 16) + (q.val * 4 + k.val)) % 4 = 3
      omega
    · unfold sq
      refine congrArg (· * Ideal.ofBits .f32 0x39800000#32) (Finset.sum_congr rfl fun r _ => Finset.sum_congr rfl fun l _ =>
        congrArg₂ (fun i j => err (a m c) (w m c) (x m c) (y m c) i j * err (a m c) (w m c) (x m c) (y m c) i j) (Fin.ext ?_) (Fin.ext ?_))
      · show q.val / 2 * 1024 + r.val = (16 * (t.val / 16) + (q.val * 4 + k.val)) / 8 * 1024 + r.val
        omega
      · show q.val % 2 * 1024 + l.val = (16 * (t.val / 16) + (q.val * 4 + k.val)) / 4 % 2 * 1024 + l.val
        omega
  · refine Eq.trans (Finset.sum_congr rfl fun q _ => ?_) ((sum_mul_of_nonneg _ (fun q => Finset.sum_nonneg fun r _ =>
      Finset.sum_nonneg fun l _ => sq_nonneg _) _).trans (congrArg (· * Ideal.ofBits .f32 0x39800000#32)
        (sum_tiles fun i j => err (a m c) (w m c) (x m c) (y m c) i j * err (a m c) (w m c) (x m c) (y m c) i j)))
    rw [Fin.sum_univ_four, if_neg (by decide), if_neg (by decide), if_neg (by decide), if_pos (by decide), zero_add, zero_add, zero_add]

theorem emb6 (i : Fin 8) (j : Fin 128) : ((cfg0.win 6).blk t).view.emb (ix2 i j) = ix2 i j := by
  blk_ext [idx t]

theorem final_loss : (dats m 0 c).arrAt 6 cfg0.N = fun _ => loss (a m c) (w m c) (x m c) (y m c) := by
  refine (dats m 0 c).arrAt_eq_of_covers 6 _ (by decide +kernel) fun t hf y => ?_
  blk_simp
  rw [after0_6]
  idx_vars y
  exact loss_at m c t ((flush0_6 t).mp hf) y0 y1

/-! The reference's results. -/

open Cert.OutLossRefIdeal.Read

theorem ref_err (i j : Fin 2048) : (val_main_v2 (F := Ideal) (a m c) (w m c) (x m c) (y m c) (ix2 i j) : EReal) =
    err (a m c) (w m c) (x m c) (y m c) i j := by
  pointwise [val_main_v2, val_main_v1, val_main_v0, err]
  rw [add_comm]

theorem agree_dy : val_main_v16 (F := Ideal) (a m c) (w m c) (x m c) (y m c) =
    fun i => DY (a m c) (w m c) (x m c) (y m c) (i 0) (i 1) := ext2 fun i j => by
  pointwise [val_main_v16, val_main_v15, val_main_v14, val_main_v13, val_main_v12, val_main_v11, val_main_cst_6, val_main_cst_5,
    val_main_cst_4, val_main_v5, val_main_v4, val_main_cst, ref_err, DY]
  rw [bits_half, bits_2048, bits_two, bits_inv_2048, Ideal.div_coe (by norm_num), ← mul_assoc, ← EReal.coe_mul, ← EReal.coe_mul,
    mul_comm]
  norm_num

theorem agree_loss : val_main_v18 (F := Ideal) (a m c) (w m c) (x m c) (y m c) =
    fun _ => loss (a m c) (w m c) (x m c) (y m c) := by
  refine ext2 (f := fun _ _ => loss (a m c) (w m c) (x m c) (y m c)) fun i j => ?_
  pointwise [val_main_v18, val_main_v10, val_main_cst_3, val_main_v9, val_main_cst_2, val_main_v8, val_main_v7, val_main_cst_1,
    val_main_v6, val_main_cst_0, val_main_v3, loss]
  simp only [ref_err]
  rw [bits_half, bits_2048, bits_inv_4096]
  simp only [Ideal.div_coe (show (2048 : ℝ) ≠ 0 by norm_num)]
  rw [sum_mul_of_nonneg _ (fun i => Finset.sum_nonneg fun j _ => sq_nonneg _), mul_comm, mul_assoc, ← EReal.coe_mul]
  norm_num

theorem frame_kernel : Cert.quiescent_OutLoss := fun m ρ _ => Cert.OutLoss.Gen.frame m ρ

theorem frame_ideal : Cert.quiescent_OutLossIdeal := fun m ρ _ => Cert.OutLossIdeal.Gen.frame m ρ

theorem frame_ref : Cert.quiescent_OutLossRefIdeal := fun m ρ _ =>
  (θ_run _ _ _).mono (fun _ h => ⟨fun c => (h c).2.2.2, sem_eq_zero_of_no_sems rfl _⟩) (Cert.OutLossRefIdeal.Value.run m ρ)

/-- Kernel and reference end with the same arrays. -/
theorem algebraic : Cert.algebraic_OutLossIdeal_OutLossRefIdeal := fun m ρ m' ρ' _ hm => by
  refine ⟨_, _, _, Cert.OutLossIdeal.Value.run_blocks m ρ, (θ_run _ _ _).mono (fun r h c => ?_) (Cert.OutLossRefIdeal.Value.run m' ρ')⟩
  obtain ⟨h0, h1, h2, ha⟩ := h c
  obtain ⟨a0, a1, a2, a3⟩ := hm c
  rw [a0, a1, a2, a3] at h0 h1 h2
  exact ⟨h0.trans ((agree_dy m c).trans (final_dy m c).symm), h1.trans ((agree_dy m c).trans (final_dyb m c).symm),
    h2.trans ((agree_loss m c).trans (final_loss m c).symm), ha⟩

end Cert.Proof.OutLoss

end
-- ==== Proof.Products.ResidualRms.lean ====
/-
  The mixer's output projection, the residual added to it, and the normalization after it.

  The kernel takes four blocks of 512 rows.
-/
module

public import proofs.«01_k».proof.Defs
public import proofs.«01_k».proof.Proof.Gen.ResidualRms.Frame
public import proofs.«01_k».proof.Proof.Gen.ResidualRmsIdeal.Value
public import proofs.«01_k».proof.Proof.Gen.ResidualRmsRefIdeal.Read
public import proofs.«01_k».proof.Proof.Mats
public import Idealize.ShloMosaic.Lib.Pipeline.ValueKit
public import Idealize.ShloMosaic.Lib.Quiescent

@[expose] public section

set_option maxRecDepth 16384

noncomputable section

namespace Cert.Proof.ResidualRms

open Cert.ResidualRmsIdeal Cert.ResidualRmsIdeal.Gen Idealize.ShloMosaic Idealize.ShloMosaic.TcCoe Idealize.SL.Sem

/-- The residual stream after the mixer. -/
def x1 (a w x : Mat 2048 2048) (i j : Fin 2048) : EReal := (∑ k : Fin 2048, a (ix2 i k) * w (ix2 k j)) + x (ix2 i j)

/-- One over the root of the mean of the squares of a row of it. -/
def rs (a w x : Mat 2048 2048) (i : Fin 2048) : EReal :=
  Ideal.rsqrt (Ideal.div (∑ k : Fin 2048, x1 a w x i k * x1 a w x i k) (Ideal.ofBits .f32 0x45000000#32) + Ideal.ofBits .f32 0x358637BD#32)

/-- The normalized row, times its gains. -/
def hn (a w x : Mat 2048 2048) (g : Mat 1 2048) (i j : Fin 2048) : EReal := x1 a w x i j * rs a w x i * g (ix2 0 j)

/-- The block that each window reads or writes at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0]
    ∧ t.val < 4 :=
  (by decide +kernel : ∀ t : Fin grid0.N, _)

/-- Row `r` of the point's block, in the whole array. -/
def row (t : Fin cfg0.N) (r : Fin 512) : Fin 2048 := ⟨t.val * 512 + r, by have := (idx t).2.2.2.2.2.2.2; omega⟩

variable (m : (ℓ : Loc nD τ sig) → Buf (Elt Ideal) ℓ) (c : Dev nD)

abbrev a : Mat 2048 2048 := m ((c : Thread nD τ).loc main_arg0)
abbrev w : Mat 2048 2048 := m ((c : Thread nD τ).loc main_arg1)
abbrev x : Mat 2048 2048 := m ((c : Thread nD τ).loc main_arg2)
abbrev g : Mat 1 2048 := m ((c : Thread nD τ).loc main_arg3)

variable (t : Fin cfg0.N) (r : Fin 512) (l : Fin 2048)

theorem x1_at : k0_pay1 (iblk m c 0 t) (iblk m c 1 t) (iblk m c 2 t) (ix2 r l) = x1 (a m c) (w m c) (x m c) (row t r) l := by
  pointwise [k0_pay1, x1]
  blk_point [iblk, V, idx t, row]

theorem rs_at (z : Fin 1) : k0_pay2 (iblk m c 0 t) (iblk m c 1 t) (iblk m c 2 t) (ix2 r z) = rs (a m c) (w m c) (x m c) (row t r) := by
  pointwise [k0_pay2, rs]
  simp only [x1_at]

theorem hn_at : k0_pay3 (iblk m c 0 t) (iblk m c 1 t) (iblk m c 2 t) (iblk m c 3 t) (ix2 r l) =
    hn (a m c) (w m c) (x m c) (g m c) (row t r) l := by
  pointwise [k0_pay3, hn]
  rw [x1_at, rs_at]
  blk_point [iblk, V, idx t]

theorem emb4 : ((cfg0.win 4).blk t).view.emb (ix2 r l) = ix2 (row t r) l := by
  blk_ext [idx t, row]

theorem emb5 : ((cfg0.win 5).blk t).view.emb (ix2 r l) = ix2 (row t r) l := by
  blk_ext [idx t, row]

theorem emb6 (z : Fin 1) : ((cfg0.win 6).blk t).view.emb (ix2 r z) = ix2 (row t r) z := by
  blk_ext [idx t, row]

theorem final_x1 : (dats m 0 c).arrAt 4 cfg0.N = fun i => x1 (a m c) (w m c) (x m c) (i 0) (i 1) := by
  refine (dats m 0 c).arrAt_eq_of_covers 4 _ (by decide +kernel) fun t hf y => ?_
  blk_simp
  rw [after0_4]
  frame_out
  idx_vars y
  refine (x1_at m c t y0 y1).trans ?_
  exact congrArg₂ (x1 _ _ _) (congrFun (emb4 t y0 y1) 0).symm (congrFun (emb4 t y0 y1) 1).symm

theorem final_h : (dats m 0 c).arrAt 5 cfg0.N = fun i => hn (a m c) (w m c) (x m c) (g m c) (i 0) (i 1) := by
  refine (dats m 0 c).arrAt_eq_of_covers 5 _ (by decide +kernel) fun t hf y => ?_
  blk_simp
  rw [after0_5]
  frame_out
  idx_vars y
  refine (hn_at m c t y0 y1).trans ?_
  exact congrArg₂ (hn _ _ _ _) (congrFun (emb5 t y0 y1) 0).symm (congrFun (emb5 t y0 y1) 1).symm

theorem final_rs : (dats m 0 c).arrAt 6 cfg0.N = fun i => rs (a m c) (w m c) (x m c) (i 0) := by
  refine (dats m 0 c).arrAt_eq_of_covers 6 _ (by decide +kernel) fun t hf y => ?_
  blk_simp
  rw [after0_6]
  frame_out
  idx_vars y
  refine (rs_at m c t y0 y1).trans ?_
  exact congrArg (rs _ _ _) (congrFun (emb6 t y0 y1) 0).symm

/-! The reference's results. -/

open Cert.ResidualRmsRefIdeal.Read

theorem ref_x1 (i j : Fin 2048) : (val_main_v1 (F := Ideal) (a m c) (w m c) (x m c) (ix2 i j) : EReal) = x1 (a m c) (w m c) (x m c) i j := by
  pointwise [val_main_v1, val_main_v0, x1]
  exact add_comm _ _

theorem agree_x1 : val_main_v1 (F := Ideal) (a m c) (w m c) (x m c) = fun i => x1 (a m c) (w m c) (x m c) (i 0) (i 1) :=
  ext2 fun i j => ref_x1 m c i j

theorem agree_rs : val_main_v22 (F := Ideal) (a m c) (w m c) (x m c) = fun i => rs (a m c) (w m c) (x m c) (i 0) := by
  refine ext2 (f := fun i _ => rs (a m c) (w m c) (x m c) i) fun i j => ?_
  pointwise [val_main_v22, val_main_v21, val_main_v20, val_main_v19, val_main_v18, val_main_v17, val_main_v16, val_main_v15,
    val_main_cst_2, val_main_cst_3, val_main_cst_4, rs]
  simp only [ref_x1]

theorem agree_h : val_main_v14 (F := Ideal) (a m c) (w m c) (x m c) (g m c) =
    fun i => hn (a m c) (w m c) (x m c) (g m c) (i 0) (i 1) := ext2 fun i j => by
  pointwise [val_main_v14, val_main_v13, val_main_v12, val_main_v11, val_main_v10, val_main_v9, val_main_v8, val_main_v7,
    val_main_v6, val_main_v5, val_main_v4, val_main_v3, val_main_v2, val_main_cst, val_main_cst_0, val_main_cst_1, hn, rs]
  simp only [ref_x1]

theorem frame_kernel : Cert.quiescent_ResidualRms := fun m ρ _ => Cert.ResidualRms.Gen.frame m ρ

theorem frame_ideal : Cert.quiescent_ResidualRmsIdeal := fun m ρ _ => Cert.ResidualRmsIdeal.Gen.frame m ρ

theorem frame_ref : Cert.quiescent_ResidualRmsRefIdeal := fun m ρ _ =>
  (θ_run _ _ _).mono (fun _ h => ⟨fun c => (h c).2.2.2, sem_eq_zero_of_no_sems rfl _⟩) (Cert.ResidualRmsRefIdeal.Value.run m ρ)

/-- Kernel and reference end with the same arrays. -/
theorem algebraic : Cert.algebraic_ResidualRmsIdeal_ResidualRmsRefIdeal := fun m ρ m' ρ' _ hm => by
  refine ⟨_, _, _, Cert.ResidualRmsIdeal.Value.run_blocks m ρ, (θ_run _ _ _).mono (fun r h c => ?_) (Cert.ResidualRmsRefIdeal.Value.run m' ρ')⟩
  obtain ⟨h0, h1, h2, ha⟩ := h c
  obtain ⟨a0, a1, a2, a3⟩ := hm c
  rw [a0, a1, a2] at h0 h2
  rw [a0, a1, a2, a3] at h1
  exact ⟨h0.trans ((agree_x1 m c).trans (final_x1 m c).symm), h1.trans ((agree_h m c).trans (final_h m c).symm),
    h2.trans ((agree_rs m c).trans (final_rs m c).symm), ha⟩

end Cert.Proof.ResidualRms

end
-- ==== Proof.Products.MergeFwd.lean ====
/-
  The gated merge of the three branches: each branch's output projection, and their sum weighted by the gates.

  The kernel computes eight tiles of 256 columns, each from all rows.
-/
module

public import proofs.«01_k».proof.Defs
public import proofs.«01_k».proof.Proof.Gen.MergeFwd.Frame
public import proofs.«01_k».proof.Proof.Gen.MergeFwdIdeal.Value
public import proofs.«01_k».proof.Proof.Gen.MergeFwdRefIdeal.Read
public import proofs.«01_k».proof.Proof.Mats
public import proofs.«01_k».proof.Proof.MergeBwd.Spec
public import Idealize.ShloMosaic.Lib.Pipeline.ValueKit
public import Idealize.ShloMosaic.Lib.Quiescent

@[expose] public section

set_option maxRecDepth 16384

noncomputable section

namespace Cert.Proof.MergeFwd

open Cert.MergeFwdIdeal Cert.MergeFwdIdeal.Gen Idealize.ShloMosaic Idealize.ShloMosaic.TcCoe Idealize.SL.Sem

open Cert.Proof.MergeBwd (gate col)

/-- A branch's output projection. -/
def z {K : ℕ} (y : Mat 2048 K) (w : Mat K 2048) (r l : Fin 2048) : EReal := ∑ k : Fin K, y (ix2 r k) * w (ix2 k l)

/-- The sum of the branches, weighted by their gates. -/
def merged (proj : Mat 2048 8960) (ya : Mat 2048 512) (yb : Mat 2048 1024) (yc : Mat 2048 512) (wa : Mat 512 2048)
    (wb : Mat 1024 2048) (wc : Mat 512 2048) (r l : Fin 2048) : EReal :=
  gate 2816 (by omega) proj r l * z ya wa r l + gate 4864 (by omega) proj r l * z yb wb r l
    + gate 6912 (by omega) proj r l * z yc wc r l

/-- The block that each window reads or writes at a grid point. -/
theorem idx : ∀ t : Fin cfg0.N, win0_0.index t = ![0, 11 + t.val] ∧ win0_1.index t = ![0, 19 + t.val]
    ∧ win0_2.index t = ![0, 27 + t.val] ∧ win0_3.index t = ![0, 0] ∧ win0_4.index t = ![0, 0] ∧ win0_5.index t = ![0, 0]
    ∧ win0_6.index t = ![t.val, 0, 0] ∧ win0_7.index t = ![t.val, 0, 0] ∧ win0_8.index t = ![t.val, 0, 0]
    ∧ win0_9.index t = ![0, t.val] ∧ win0_10.index t = ![0, t.val] ∧ win0_11.index t = ![0, t.val]
    ∧ win0_12.index t = ![0, t.val] ∧ t.val < 8 :=
  (by decide +kernel : ∀ t : Fin grid0.N, _)

/-- Column `l` of the point's tile, in the whole array. -/
def lane (t : Fin cfg0.N) (l : Fin 256) : Fin 2048 := ⟨t.val * 256 + l, by have := (idx t).2.2.2.2.2.2.2.2.2.2.2.2.2; omega⟩

variable (m : (ℓ : Loc nD τ sig) → Buf (Elt Ideal) ℓ) (c : Dev nD)

abbrev proj : Mat 2048 8960 := m ((c : Thread nD τ).loc main_arg0)
abbrev ya : Mat 2048 512 := m ((c : Thread nD τ).loc main_arg1)
abbrev yb : Mat 2048 1024 := m ((c : Thread nD τ).loc main_arg2)
abbrev yc : Mat 2048 512 := m ((c : Thread nD τ).loc main_arg3)
abbrev wa : Mat 512 2048 := m ((c : Thread nD τ).loc main_arg4)
abbrev wb : Mat 1024 2048 := m ((c : Thread nD τ).loc main_arg5)
abbrev wc : Mat 512 2048 := m ((c : Thread nD τ).loc main_arg6)

variable (t : Fin cfg0.N) (r : Fin 2048) (l : Fin 256)

theorem gate_a : iblk m c 0 t (ix2 r l) = proj m c (ix2 r (col 2816 (by omega) (lane t l))) := by
  blk_ext [iblk, V, idx t, lane, col]

theorem gate_b : iblk m c 1 t (ix2 r l) = proj m c (ix2 r (col 4864 (by omega) (lane t l))) := by
  blk_ext [iblk, V, idx t, lane, col]

theorem gate_c : iblk m c 2 t (ix2 r l) = proj m c (ix2 r (col 6912 (by omega) (lane t l))) := by
  blk_ext [iblk, V, idx t, lane, col]

theorem za_at : k0_pay2 (iblk m c 3 t) (iblk m c 6 t) (ix2 r l) = z (ya m c) (wa m c) r (lane t l) := by
  pointwise [k0_pay2, z]
  blk_point [iblk, V, idx t, lane]

theorem zb_at : k0_pay4 (iblk m c 4 t) (iblk m c 7 t) (ix2 r l) = z (yb m c) (wb m c) r (lane t l) := by
  pointwise [k0_pay4, z]
  blk_point [iblk, V, idx t, lane]

theorem zc_at : k0_pay7 (iblk m c 5 t) (iblk m c 8 t) (ix2 r l) = z (yc m c) (wc m c) r (lane t l) := by
  pointwise [k0_pay7, z]
  blk_point [iblk, V, idx t, lane]

theorem merged_at : k0_pay1 (k0_pay6 (iblk m c 3 t) (iblk m c 6 t) (iblk m c 0 t) (iblk m c 4 t) (iblk m c 7 t) (iblk m c 1 t))
    (k0_pay7 (iblk m c 5 t) (iblk m c 8 t)) (iblk m c 2 t) (ix2 r l) =
    merged (proj m c) (ya m c) (yb m c) (yc m c) (wa m c) (wb m c) (wc m c) r (lane t l) := by
  pointwise [k0_pay1, k0_pay6]
  rw [za_at, zb_at, zc_at, gate_a, gate_b, gate_c]
  rfl

theorem emb9 : ((cfg0.win 9).blk t).view.emb (ix2 r l) = ix2 r (lane t l) := by
  blk_ext [idx t, lane]

theorem emb10 : ((cfg0.win 10).blk t).view.emb (ix2 r l) = ix2 r (lane t l) := by
  blk_ext [idx t, lane]

theorem emb11 : ((cfg0.win 11).blk t).view.emb (ix2 r l) = ix2 r (lane t l) := by
  blk_ext [idx t, lane]

theorem emb12 : ((cfg0.win 12).blk t).view.emb (ix2 r l) = ix2 r (lane t l) := by
  blk_ext [idx t, lane]

theorem final_merged : (dats m 0 c).arrAt 9 cfg0.N =
    fun i => merged (proj m c) (ya m c) (yb m c) (yc m c) (wa m c) (wb m c) (wc m c) (i 0) (i 1) := by
  refine (dats m 0 c).arrAt_eq_of_covers 9 _ (by decide +kernel) fun t hf y => ?_
  blk_simp
  rw [after0_9]
  frame_out
  idx_vars y
  refine (merged_at m c t y0 y1).trans ?_
  exact congrArg₂ (merged _ _ _ _ _ _ _) (congrFun (emb9 t y0 y1) 0).symm (congrFun (emb9 t y0 y1) 1).symm

theorem final_za : (dats m 0 c).arrAt 10 cfg0.N = fun i => z (ya m c) (wa m c) (i 0) (i 1) := by
  refine (dats m 0 c).arrAt_eq_of_covers 10 _ (by decide +kernel) fun t hf y => ?_
  blk_simp
  rw [after0_10]
  frame_out
  idx_vars y
  refine Eq.trans (by pointwise [k0_pay3]) ((za_at m c t y0 y1).trans ?_)
  exact congrArg₂ (z _ _) (congrFun (emb10 t y0 y1) 0).symm (congrFun (emb10 t y0 y1) 1).symm

theorem final_zb : (dats m 0 c).arrAt 11 cfg0.N = fun i => z (yb m c) (wb m c) (i 0) (i 1) := by
  refine (dats m 0 c).arrAt_eq_of_covers 11 _ (by decide +kernel) fun t hf y => ?_
  blk_simp
  rw [after0_11]
  frame_out
  idx_vars y
  refine Eq.trans (by pointwise [k0_pay5]) ((zb_at m c t y0 y1).trans ?_)
  exact congrArg₂ (z _ _) (congrFun (emb11 t y0 y1) 0).symm (congrFun (emb11 t y0 y1) 1).symm

theorem final_zc : (dats m 0 c).arrAt 12 cfg0.N = fun i => z (yc m c) (wc m c) (i 0) (i 1) := by
  refine (dats m 0 c).arrAt_eq_of_covers 12 _ (by decide +kernel) fun t hf y => ?_
  blk_simp
  rw [after0_12]
  frame_out
  idx_vars y
  refine Eq.trans (by pointwise [k0_pay8]) ((zc_at m c t y0 y1).trans ?_)
  exact congrArg₂ (z _ _) (congrFun (emb12 t y0 y1) 0).symm (congrFun (emb12 t y0 y1) 1).symm

/-! The reference's results. -/

theorem gate_eq (p : Mat 2048 8960) (i : Fin 2048) {a b : Fin 8960} (h : a.val = b.val) :
    Ideal.div 1 (1 + Ideal.exp (-p (ix2 i a))) = Ideal.logistic (p (ix2 i b)) := by
  rw [Fin.ext h]
  rfl

open Cert.MergeFwdRefIdeal.Read in
theorem agree_merged : val_main_v22 (F := Ideal) (proj m c) (ya m c) (yb m c) (yc m c) (wa m c) (wb m c) (wc m c) =
    fun i => merged (proj m c) (ya m c) (yb m c) (yc m c) (wa m c) (wb m c) (wc m c) (i 0) (i 1) := ext2 fun i j => by
  rw [← val_main_v22_eq]
  pointwise [merged, z, gate]
  exact congrArg₂ (· + ·) (congrArg₂ (· + ·) (congrArg (· * _) (gate_eq _ _ rfl))
    (congrArg (· * _) (gate_eq _ _ (show 2816 + (2048 + j.val) = 4864 + j.val by omega))))
    (congrArg (· * _) (gate_eq _ _ (show 2816 + (4096 + j.val) = 6912 + j.val by omega)))

open Cert.MergeFwdRefIdeal.Read in
theorem agree_z (y : Mat 2048 512) (w : Mat 512 2048) : val_main_v23 (F := Ideal) y w = fun i => z y w (i 0) (i 1) := ext2 fun i j => by
  rw [← val_main_v23_eq]
  pointwise [z]

open Cert.MergeFwdRefIdeal.Read in
theorem agree_zb (y : Mat 2048 1024) (w : Mat 1024 2048) : val_main_v24 (F := Ideal) y w = fun i => z y w (i 0) (i 1) := ext2 fun i j => by
  rw [← val_main_v24_eq]
  pointwise [z]

theorem frame_kernel : Cert.quiescent_MergeFwd := fun m ρ _ => Cert.MergeFwd.Gen.frame m ρ

theorem frame_ideal : Cert.quiescent_MergeFwdIdeal := fun m ρ _ => Cert.MergeFwdIdeal.Gen.frame m ρ

theorem frame_ref : Cert.quiescent_MergeFwdRefIdeal := fun m ρ _ =>
  (θ_run _ _ _).mono (fun _ h => ⟨fun c => (h c).2.2.2.2, sem_eq_zero_of_no_sems rfl _⟩) (Cert.MergeFwdRefIdeal.Value.run m ρ)

/-- Kernel and reference end with the same arrays. -/
theorem algebraic : Cert.algebraic_MergeFwdIdeal_MergeFwdRefIdeal := fun m ρ m' ρ' _ hm => by
  refine ⟨_, _, _, _, Cert.MergeFwdIdeal.Value.run_blocks m ρ, (θ_run _ _ _).mono (fun r h c => ?_) (Cert.MergeFwdRefIdeal.Value.run m' ρ')⟩
  obtain ⟨h0, h1, h2, h3, ha⟩ := h c
  obtain ⟨a0, a1, a2, a3, a4, a5, a6⟩ := hm c
  rw [a0, a1, a2, a3, a4, a5, a6] at h0
  rw [a1, a4] at h1
  rw [a2, a5] at h2
  rw [a3, a6] at h3
  exact ⟨h0.trans ((agree_merged m c).trans (final_merged m c).symm), h1.trans ((agree_z _ _).trans (final_za m c).symm),
    h2.trans ((agree_zb _ _).trans (final_zb m c).symm), h3.trans ((agree_z _ _).trans (final_zc m c).symm), ha⟩

end Cert.Proof.MergeFwd

end
-- ==== Proof.CMix.Spec.lean ====
/-
  Attention to the memory, one head at a time: a row of queries against all keys.
-/
module

public import proofs.«01_k».proof.Proof.Mats

@[expose] public section

noncomputable section

namespace Cert.Proof.CMix

open Idealize.ShloMosaic

/-- Column `l` of head `h`, in the projection. -/
def qcol (h : Fin 4) (l : Fin 128) : Fin 8960 := ⟨2304 + h * 128 + l, by omega⟩

/-- Column `l` of head `h`'s keys. -/
def kcol (h : Fin 4) (l : Fin 128) : Fin 1024 := ⟨h * 128 + l, by omega⟩

/-- Column `l` of head `h`'s values. -/
def vcol (h : Fin 4) (l : Fin 128) : Fin 1024 := ⟨512 + h * 128 + l, by omega⟩

/-- Column `l` of head `h`, among the heads' columns. -/
def ycol (h : Fin 4) (l : Fin 128) : Fin 512 := ⟨h * 128 + l, by omega⟩

/-- A head's queries. -/
def qOf (p : Mat 2048 8960) (h : Fin 4) (i : Fin 2048) (l : Fin 128) : EReal := p (ix2 i (qcol h l))

/-- A head's keys. -/
def kOf (kv : Mat 256 1024) (h : Fin 4) (j : Fin 256) (l : Fin 128) : EReal := kv (ix2 j (kcol h l))

/-- A head's values. -/
def vOf (kv : Mat 256 1024) (h : Fin 4) (j : Fin 256) (l : Fin 128) : EReal := kv (ix2 j (vcol h l))

/-- A gain. -/
def gOf (g : Mat 1 128) (l : Fin 128) : EReal := g (ix2 0 l)

/-- The mean of a row's squares, plus epsilon. -/
def ms (x : Fin 128 → EReal) : EReal :=
  Ideal.div (∑ l, x l * x l) (Ideal.ofBits .f32 0x43000000#32) + Ideal.ofBits .f32 0x358637BD#32

/-- A row over the root of its mean square. -/
def hat (x : Fin 128 → EReal) (l : Fin 128) : EReal := x l * Ideal.rsqrt (ms x)

/-- A row over the root of its mean square, times the gain. -/
def nrm (x g : Fin 128 → EReal) (l : Fin 128) : EReal := hat x l * g l

variable (x : Fin 128 → EReal) (k v : Fin 256 → Fin 128 → EReal) (gq gk : Fin 128 → EReal)

/-- A row's scores. -/
def sc (j : Fin 256) : EReal := (∑ l, nrm x gq l * nrm (k j) gk l) * Ideal.ofBits .f32 0x3DB504F3#32

/-- A row's greatest score. -/
def mx : EReal :=
  max (Ideal.ofBits .f32 0xFF800000#32) ((Finset.univ : Finset (Fin 256)).fold max (Ideal.ofBits .f32 0xFF800000#32) (sc x k gq gk))

/-- The exponential of a score below the greatest. -/
def ex (j : Fin 256) : EReal := Ideal.exp (sc x k gq gk j - mx x k gq gk)

/-- The sum of a row's exponentials. -/
def den : EReal := ∑ j, ex x k gq gk j

/-- A row's weights. -/
def pr (j : Fin 256) : EReal := Ideal.div (ex x k gq gk j) (den x k gq gk)

/-- The weighted sum of the values. -/
def out (l : Fin 128) : EReal := ∑ j, pr x k gq gk j * v j l

/-- A host's maximum along the last of three axes, at an entry. -/
theorem row_max {n0 n1 n2 : ℕ} {u : Shape} (y : (⟨3, ![n0, n1, n2]⟩ : Shape).Idx → EReal) (z : u.Idx → EReal)
    (h : (⟨3, ![n0, n1, n2]⟩ : Shape).ReducesTo [2] ⟨2, ![n0, n1]⟩) (hu : 0 < u.numel) (a : Fin n0) (b : Fin n1) :
    Host.reduce (max : EReal → EReal → EReal) y z h hu (ix2 a b) =
      (Finset.univ : Finset (Fin n2)).fold max (z (Shape.Idx.first hu)) fun k => y (ix3 a b k) := by
  rw [Host.reduce_eq_fold, h.fold_fiber_r3_a2]
  rfl

end Cert.Proof.CMix

end
-- ==== Proof.CMix.Grad.lean ====
/-
  Gradients of the attention to the memory, one head at a time.
-/
module

public import proofs.«01_k».proof.Proof.CMix.Spec

@[expose] public section

noncomputable section

namespace Cert.Proof.CMix

open Idealize.ShloMosaic

/-- A head's cotangents. -/
def dOf (y : Mat 2048 512) (h : Fin 4) (i : Fin 2048) (l : Fin 128) : EReal := y (ix2 i (ycol h l))

/-- Minus one half of one over the root of the mean square, over the mean square. -/
def half (x : Fin 128 → EReal) : EReal := Ideal.ofBits .f32 0xBF000000#32 * Ideal.div (Ideal.rsqrt (ms x)) (ms x)

/-- What every entry of a row receives through the row's mean square. -/
def thru (x g d : Fin 128 → EReal) : EReal :=
  Ideal.div ((∑ l, x l * (d l * g l)) * half x) (Ideal.ofBits .f32 0x43000000#32)

/-- The gradient of a row, from the gradient of the row over the root of its mean square. -/
def ng (x g d : Fin 128 → EReal) (l : Fin 128) : EReal :=
  d l * g l * Ideal.rsqrt (ms x) + x l * thru x g d + thru x g d * x l

variable (x : Fin 128 → EReal) (k v : Fin 256 → Fin 128 → EReal) (gq gk dy : Fin 128 → EReal)

/-- The gradient of a row's weights. -/
def dp (j : Fin 256) : EReal := ∑ l, dy l * v j l

/-- The gradient of a row's scores, times the scale. -/
def ds (j : Fin 256) : EReal :=
  (Ideal.div (dp v dy j) (den x k gq gk)
    + -∑ i, dp v dy i * Ideal.div (Ideal.ofBits .f32 0x3F800000#32) (den x k gq gk * den x k gq gk) * ex x k gq gk i)
    * ex x k gq gk j * Ideal.ofBits .f32 0x3DB504F3#32

/-- The gradient of a normalized row of queries. -/
def dqn (l : Fin 128) : EReal := ∑ j, ds x k v gq gk dy j * nrm (k j) gk l

/-- The gradient of a row of queries. -/
def dq (l : Fin 128) : EReal := ng x gq (dqn x k v gq gk dy) l

variable {n : ℕ} (X DY : Fin n → Fin 128 → EReal)

/-- The gradient of the normalized keys, from `n` rows. -/
def dkn (j : Fin 256) (l : Fin 128) : EReal := ∑ i, ds (X i) k v gq gk (DY i) j * nrm (X i) gq l

/-- The gradient of the keys, from `n` rows. -/
def dk (j : Fin 256) (l : Fin 128) : EReal := ng (k j) gk (dkn k v gq gk X DY j) l

/-- The gradient of the values, from `n` rows. -/
def dv (j : Fin 256) (l : Fin 128) : EReal := ∑ i, DY i l * pr (X i) k gq gk j

/-- The gradient of the queries' gain, from `n` rows. -/
def dgq (l : Fin 128) : EReal := ∑ i, hat (X i) l * dqn (X i) k v gq gk (DY i) l

/-- The gradient of the keys' gain, from `n` rows. -/
def dgk (l : Fin 128) : EReal := ∑ j, hat (k j) l * dkn k v gq gk X DY j l

end Cert.Proof.CMix

end
-- ==== Proof.CMix.CBwd.Point.lean ====
/-
  The gradient of the attention to the memory: one grid point, from its blocks' entries.
-/
module

public import proofs.«01_k».proof.Proof.Gen.CBwdIdeal.Skeleton
public import proofs.«01_k».proof.Proof.CMix.Grad
public import Idealize.ShloMosaic.Lib.Pointwise

@[expose] public section

set_option maxRecDepth 16384

noncomputable section

namespace Cert.Proof.CBwd

open Cert.CBwdIdeal Cert.CBwdIdeal.Gen Idealize.ShloMosaic Cert.Proof.CMix

variable (Q D : Vec Ideal S512x128 .f32) (K W : Vec Ideal S256x128 .f32) (A B : Vec Ideal S1x128 .f32)
variable (r : Fin 512) (j : Fin 256) (l : Fin 128) (z : Fin 1)

/-- Row `r` of a block of queries. -/
abbrev qr (Q : Vec Ideal S512x128 .f32) (r : Fin 512) (l : Fin 128) : EReal := Q (ix2 r l)

/-- Row `j` of a block of keys. -/
abbrev kr (K : Vec Ideal S256x128 .f32) (j : Fin 256) (l : Fin 128) : EReal := K (ix2 j l)

/-- A gain's row. -/
abbrev gr (A : Vec Ideal S1x128 .f32) (l : Fin 128) : EReal := A (ix2 0 l)

/-- The scale of the scores. -/
abbrev cs : EReal := Ideal.ofBits .f32 0x3DB504F3#32

theorem msq_at : k0_pay7 (F := Ideal) Q (ix2 r z) = ms (qr Q r) := by
  pointwise [k0_pay7, ms]

theorem rq_at : k0_pay8 (F := Ideal) Q (ix2 r z) = Ideal.rsqrt (ms (qr Q r)) := by
  pointwise [k0_pay8, msq_at]

theorem hq_at : k0_pay9 (F := Ideal) Q (ix2 r z) = half (qr Q r) := by
  pointwise [k0_pay9, rq_at, msq_at, half]

theorem hatq_at : k0_pay10 (F := Ideal) Q (ix2 r l) = hat (qr Q r) l := by
  pointwise [k0_pay10, rq_at, hat]

theorem msk_at : k0_pay11 (F := Ideal) K (ix2 j z) = ms (kr K j) := by
  pointwise [k0_pay11, ms]

theorem rk_at : k0_pay12 (F := Ideal) K (ix2 j z) = Ideal.rsqrt (ms (kr K j)) := by
  pointwise [k0_pay12, msk_at]

theorem hk_at : k0_pay13 (F := Ideal) K (ix2 j z) = half (kr K j) := by
  pointwise [k0_pay13, rk_at, msk_at, half]

theorem hatk_at : k0_pay14 (F := Ideal) K (ix2 j l) = hat (kr K j) l := by
  pointwise [k0_pay14, rk_at, hat]

theorem qn_at : k0_pay15 (F := Ideal) Q A (ix2 r l) = nrm (qr Q r) (gr A) l := by
  pointwise [k0_pay15, hatq_at, nrm]

theorem kn_at : k0_pay16 (F := Ideal) K B (ix2 j l) = nrm (kr K j) (gr B) l := by
  pointwise [k0_pay16, hatk_at, nrm]

theorem s_at : k0_pay17 (F := Ideal) Q K A B (ix2 r j) = ∑ l, nrm (qr Q r) (gr A) l * nrm (kr K j) (gr B) l := by
  pointwise [k0_pay17, qn_at, kn_at]

theorem ex_at : k0_pay18 (F := Ideal) (k0_pay17 Q K A B) cs (ix2 r j) = ex (qr Q r) (kr K) (gr A) (gr B) j := by
  pointwise [k0_pay18, s_at, ex, mx, sc]

theorem den_at : k0_pay19 (F := Ideal) (k0_pay17 Q K A B) cs (ix2 r z) = den (qr Q r) (kr K) (gr A) (gr B) := by
  pointwise [k0_pay19, ex_at, den]

theorem dv_at : k0_pay20 (F := Ideal) (k0_pay17 Q K A B) cs D (ix2 j l) = dv (kr K) (gr A) (gr B) (qr Q) (qr D) j l := by
  pointwise [k0_pay20, ex_at, den_at, dv, pr]

theorem ds_at : k0_pay21 (F := Ideal) W (k0_pay17 Q K A B) cs D (ix2 r j) = ds (qr Q r) (kr K) (kr W) (gr A) (gr B) (qr D r) j := by
  pointwise [k0_pay21, ex_at, den_at, ds, dp] <;> simp only [Finset.univ_unique, Finset.sum_singleton, zero_sub]

theorem dkn_at : k0_pay22 (F := Ideal) W (k0_pay15 Q A) (k0_pay17 Q K A B) cs D (ix2 j l) =
    dkn (kr K) (kr W) (gr A) (gr B) (qr Q) (qr D) j l := by
  pointwise [k0_pay22, ds_at, qn_at, dkn]

theorem dqn_at : k0_pay23 (F := Ideal) W (k0_pay16 K B) (k0_pay17 Q K A B) cs D (ix2 r l) =
    dqn (qr Q r) (kr K) (kr W) (gr A) (gr B) (qr D r) l := by
  pointwise [k0_pay23, ds_at, kn_at, dqn]

theorem dgk_at : k0_pay26 (F := Ideal) (k0_pay14 K) (k0_pay22 W (k0_pay15 Q A) (k0_pay17 Q K A B) cs D) (ix2 z l) =
    dgk (kr K) (kr W) (gr A) (gr B) (qr Q) (qr D) l := by
  pointwise [k0_pay26, k0_pay24, dkn_at, hatk_at, dgk]

theorem dk_at : k0_pay27 (F := Ideal) K B (k0_pay12 K) (k0_pay13 K) (k0_pay22 W (k0_pay15 Q A) (k0_pay17 Q K A B) cs D) (ix2 j l) =
    dk (kr K) (kr W) (gr A) (gr B) (qr Q) (qr D) j l := by
  pointwise [k0_pay27, k0_pay24, dkn_at, rk_at, hk_at, dk, ng, thru] <;> simp only [Finset.univ_unique, Finset.sum_singleton]

theorem dgq_at : k0_pay28 (F := Ideal) (k0_pay10 Q) (k0_pay23 W (k0_pay16 K B) (k0_pay17 Q K A B) cs D) (ix2 z l) =
    dgq (kr K) (kr W) (gr A) (gr B) (qr Q) (qr D) l := by
  pointwise [k0_pay28, k0_pay25, dqn_at, hatq_at, dgq]

theorem dq_at : k0_pay29 (F := Ideal) Q A (k0_pay8 Q) (k0_pay9 Q) (k0_pay23 W (k0_pay16 K B) (k0_pay17 Q K A B) cs D) (ix2 r l) =
    dq (qr Q r) (kr K) (kr W) (gr A) (gr B) (qr D r) l := by
  pointwise [k0_pay29, k0_pay25, dqn_at, rq_at, hq_at, dq, ng, thru] <;> simp only [Finset.univ_unique, Finset.sum_singleton]

end Cert.Proof.CBwd

end
-- ==== Proof.CMix.CBwd.Kernel.lean ====
/-
  The gradient of the attention to the memory: what the kernel's grid leaves in its five results.

  The grid takes, for each of four heads, four blocks of 512 rows. The queries' gradient is written block by block;
  the other four results are sums over a head's blocks.
-/
module

public import proofs.«01_k».proof.Defs
public import proofs.«01_k».proof.Proof.Gen.CBwd.Frame
public import proofs.«01_k».proof.Proof.Gen.CBwdIdeal.Value
public import proofs.«01_k».proof.Proof.CMix.CBwd.Point
public import Idealize.ShloMosaic.Lib.Pipeline.ValueKit
public import Idealize.ShloMosaic.Lib.Quiescent

@[expose] public section

set_option maxRecDepth 16384

noncomputable section

namespace Cert.Proof.CBwd

open Cert.CBwdIdeal Cert.CBwdIdeal.Gen Idealize.ShloMosaic Idealize.ShloMosaic.TcCoe Idealize.SL.Sem Cert.Proof.CMix

/-- The block that each window reads or writes at a grid point. -/
theorem idx : ∀ t : Fin cfg0.N, win0_0.index t = ![t.val % 4, 18 + t.val / 4] ∧ win0_1.index t = ![0, t.val / 4]
    ∧ win0_2.index t = ![0, 4 + t.val / 4] ∧ win0_3.index t = ![0, 0] ∧ win0_4.index t = ![0, 0]
    ∧ win0_5.index t = ![t.val % 4, t.val / 4] ∧ win0_6.index t = ![t.val % 4, t.val / 4] ∧ win0_7.index t = ![0, t.val / 4]
    ∧ win0_8.index t = ![0, t.val / 4] ∧ win0_9.index t = ![t.val / 4, 0, 0] ∧ win0_10.index t = ![t.val / 4, 0, 0] ∧ t.val < 16 :=
  (by decide +kernel : ∀ t : Fin grid0.N, _)

theorem lt16 (t : Fin cfg0.N) : t.val < 16 := (idx t).2.2.2.2.2.2.2.2.2.2.2

/-- Row `r` of block `b` of 512 rows. -/
def row (b : Fin 4) (r : Fin 512) : Fin 2048 := ⟨b * 512 + r, by omega⟩

/-- The point's block of rows. -/
def blkOf (t : Fin cfg0.N) : Fin 4 := ⟨t.val % 4, by omega⟩

/-- The point's head. -/
def head (t : Fin cfg0.N) : Fin 4 := ⟨t.val / 4, by have := lt16 t; omega⟩

variable (m : (ℓ : Loc nD τ sig) → Buf (Elt Ideal) ℓ) (c : Dev nD)

abbrev p : Mat 2048 8960 := m ((c : Thread nD τ).loc main_arg0)
abbrev kv : Mat 256 1024 := m ((c : Thread nD τ).loc main_arg1)
abbrev gq : Mat 1 128 := m ((c : Thread nD τ).loc main_arg2)
abbrev gk : Mat 1 128 := m ((c : Thread nD τ).loc main_arg3)
abbrev dy : Mat 2048 512 := m ((c : Thread nD τ).loc main_arg4)

variable (t : Fin cfg0.N) (r : Fin 512) (j : Fin 256) (l : Fin 128)

theorem q_block : qr (iblk m c 0 t) = fun r => qOf (p m c) (head t) (row (blkOf t) r) := by
  funext r l
  show iblk m c 0 t (ix2 r l) = _
  blk_ext [iblk, V, idx t, row, blkOf, head, qOf, qcol]

theorem k_block : kr (iblk m c 1 t) = kOf (kv m c) (head t) := by
  funext j l
  show iblk m c 1 t (ix2 j l) = _
  blk_ext [iblk, V, idx t, head, kOf, kcol]

theorem v_block : kr (iblk m c 2 t) = vOf (kv m c) (head t) := by
  funext j l
  show iblk m c 2 t (ix2 j l) = _
  blk_ext [iblk, V, idx t, head, vOf, vcol]

theorem gq_block : gr (iblk m c 3 t) = gOf (gq m c) := by
  funext l
  show iblk m c 3 t (ix2 0 l) = _
  blk_ext [iblk, V, idx t, gOf]

theorem gk_block : gr (iblk m c 4 t) = gOf (gk m c) := by
  funext l
  show iblk m c 4 t (ix2 0 l) = _
  blk_ext [iblk, V, idx t, gOf]

theorem d_block : qr (iblk m c 5 t) = fun r => dOf (dy m c) (head t) (row (blkOf t) r) := by
  funext r l
  show iblk m c 5 t (ix2 r l) = _
  blk_ext [iblk, V, idx t, row, blkOf, head, dOf, ycol]

/-- A point's normalized keys' gradient. -/
abbrev tKn : FVec Ideal S256x128 .bf16 :=
  k0_pay22 (iblk m c 2 t) (k0_pay15 (iblk m c 0 t) (iblk m c 3 t))
    (k0_pay17 (iblk m c 0 t) (iblk m c 1 t) (iblk m c 3 t) (iblk m c 4 t)) cs (iblk m c 5 t)

/-- A point's normalized queries' gradient. -/
abbrev tQn : FVec Ideal S512x128 .bf16 :=
  k0_pay23 (iblk m c 2 t) (k0_pay16 (iblk m c 1 t) (iblk m c 4 t))
    (k0_pay17 (iblk m c 0 t) (iblk m c 1 t) (iblk m c 3 t) (iblk m c 4 t)) cs (iblk m c 5 t)

/-- A point's queries' gradient. -/
abbrev tQ : FVec Ideal S512x128 .bf16 :=
  k0_pay29 (iblk m c 0 t) (iblk m c 3 t) (k0_pay8 (iblk m c 0 t)) (k0_pay9 (iblk m c 0 t)) (tQn m c t)

/-- A point's keys' gradient. -/
abbrev tK : FVec Ideal S256x128 .f32 :=
  k0_pay27 (iblk m c 1 t) (iblk m c 4 t) (k0_pay12 (iblk m c 1 t)) (k0_pay13 (iblk m c 1 t)) (tKn m c t)

/-- A point's values' gradient. -/
abbrev tV : FVec Ideal S256x128 .f32 :=
  k0_pay20 (k0_pay17 (iblk m c 0 t) (iblk m c 1 t) (iblk m c 3 t) (iblk m c 4 t)) cs (iblk m c 5 t)

/-- A point's gradient of the queries' gain. -/
abbrev tA : FVec Ideal S1x128 .f32 := k0_pay28 (k0_pay10 (iblk m c 0 t)) (tQn m c t)

/-- A point's gradient of the keys' gain. -/
abbrev tB : FVec Ideal S1x128 .f32 := k0_pay26 (k0_pay14 (iblk m c 1 t)) (tKn m c t)

theorem outs_first (h : t.val % 4 = 0) : outsAt0 m c t.val t.isLt =
    (tQ m c t, tK m c t, tV m c t, k0_pay1 (tA m c t), k0_pay2 (tB m c t)) := by
  rw [outsAt0_A m c t h (by omega)]
  frame_out
  rfl

theorem outs_next (h : ¬t.val % 4 = 0) : outsAt0 m c t.val t.isLt =
    (tQ m c t, k0_pay3 (tK m c t) (outsAt0 m c (t.val - 1) (Nat.lt_of_le_of_lt (Nat.sub_le _ _) t.isLt)).2.1,
      k0_pay4 (tV m c t) (outsAt0 m c (t.val - 1) (Nat.lt_of_le_of_lt (Nat.sub_le _ _) t.isLt)).2.2.1,
      k0_pay5 (tA m c t) (outsAt0 m c (t.val - 1) (Nat.lt_of_le_of_lt (Nat.sub_le _ _) t.isLt)).2.2.2.1,
      k0_pay6 (tB m c t) (outsAt0 m c (t.val - 1) (Nat.lt_of_le_of_lt (Nat.sub_le _ _) t.isLt)).2.2.2.2) := by
  rw [outsAt0_B m c t h (by omega)]
  frame_out
  rfl

/-- What every point leaves for its rows. -/
theorem tiles : (outsAt0 m c t.val t.isLt).1 = tQ m c t := by
  by_cases h : t.val % 4 = 0
  · rw [outs_first m c t h]
  · rw [outs_next m c t h]

/-- Block `b` of a head's queries. -/
def qBlk (p : Mat 2048 8960) (h b : Fin 4) (r : Fin 512) : Fin 128 → EReal := qOf p h (row b r)

/-- Block `b` of a head's cotangents. -/
def dBlk (y : Mat 2048 512) (h b : Fin 4) (r : Fin 512) : Fin 128 → EReal := dOf y h (row b r)

theorem tQ_at : tQ m c t (ix2 r l) = dq (qOf (p m c) (head t) (row (blkOf t) r)) (kOf (kv m c) (head t)) (vOf (kv m c) (head t))
    (gOf (gq m c)) (gOf (gk m c)) (dOf (dy m c) (head t) (row (blkOf t) r)) l := by
  refine (dq_at _ _ _ _ _ _ _ _).trans ?_
  rw [q_block, k_block, v_block, gq_block, gk_block, d_block]

theorem tK_at : tK m c t (ix2 j l) = dk (kOf (kv m c) (head t)) (vOf (kv m c) (head t)) (gOf (gq m c)) (gOf (gk m c))
    (qBlk (p m c) (head t) (blkOf t)) (dBlk (dy m c) (head t) (blkOf t)) j l := by
  refine (dk_at _ _ _ _ _ _ _ _).trans ?_
  rw [q_block, k_block, v_block, gq_block, gk_block, d_block]
  rfl

theorem tV_at : tV m c t (ix2 j l) = dv (kOf (kv m c) (head t)) (gOf (gq m c)) (gOf (gk m c))
    (qBlk (p m c) (head t) (blkOf t)) (dBlk (dy m c) (head t) (blkOf t)) j l := by
  refine (dv_at _ _ _ _ _ _ _).trans ?_
  rw [q_block, k_block, gq_block, gk_block, d_block]
  rfl

theorem tA_at (z : Fin 1) : tA m c t (ix2 z l) = dgq (kOf (kv m c) (head t)) (vOf (kv m c) (head t)) (gOf (gq m c)) (gOf (gk m c))
    (qBlk (p m c) (head t) (blkOf t)) (dBlk (dy m c) (head t) (blkOf t)) l := by
  refine (dgq_at _ _ _ _ _ _ _ _).trans ?_
  rw [q_block, k_block, v_block, gq_block, gk_block, d_block]
  rfl

theorem tB_at (z : Fin 1) : tB m c t (ix2 z l) = dgk (kOf (kv m c) (head t)) (vOf (kv m c) (head t)) (gOf (gq m c)) (gOf (gk m c))
    (qBlk (p m c) (head t) (blkOf t)) (dBlk (dy m c) (head t) (blkOf t)) l := by
  refine (dgk_at _ _ _ _ _ _ _ _).trans ?_
  rw [q_block, k_block, v_block, gq_block, gk_block, d_block]
  rfl

/-! The sums over a head's blocks, after its last. -/

theorem last_head (hr : t.val % 4 = 3) (s : Fin 4) (hs : 4 * (t.val / 4) + s.val < cfg0.N) :
    head ⟨4 * (t.val / 4) + s.val, hs⟩ = head t ∧ blkOf ⟨4 * (t.val / 4) + s.val, hs⟩ = s := by
  constructor <;> apply Fin.ext <;> simp only [head, blkOf] <;> omega

theorem run_dk (hr : t.val % 4 = 3) : (outsAt0 m c t.val t.isLt).2.1 (ix2 j l) =
    ∑ b, dk (kOf (kv m c) (head t)) (vOf (kv m c) (head t)) (gOf (gq m c)) (gOf (gk m c))
      (qBlk (p m c) (head t) b) (dBlk (dy m c) (head t) b) j l := by
  rw [Pipeline.eq_sum_fin_of_reset_step_apply_of_flush (fun n h => (outsAt0 m c n h).2.1) 4 (fun _ => (0 : EReal))
    (fun t i => dk (kOf (kv m c) (head t)) (vOf (kv m c) (head t)) (gOf (gq m c)) (gOf (gk m c))
      (qBlk (p m c) (head t) (blkOf t)) (dBlk (dy m c) (head t) (blkOf t)) (i 0) (i 1))
    (fun t h i => by
      rw [outs_first m c t h]
      idx_vars i
      exact (tK_at m c t i0 i1).trans (zero_add _).symm)
    (fun t h i => by
      rw [outs_next m c t h]
      idx_vars i
      refine Eq.trans ?_ (congrArg _ (tK_at m c t i0 i1))
      pointwise [k0_pay3]) t hr (ix2 j l), zero_add]
  refine Finset.sum_congr rfl fun s _ => ?_
  rw [(last_head t hr s _).1, (last_head t hr s _).2]
  rfl

theorem run_dv (hr : t.val % 4 = 3) : (outsAt0 m c t.val t.isLt).2.2.1 (ix2 j l) =
    ∑ b, dv (kOf (kv m c) (head t)) (gOf (gq m c)) (gOf (gk m c))
      (qBlk (p m c) (head t) b) (dBlk (dy m c) (head t) b) j l := by
  rw [Pipeline.eq_sum_fin_of_reset_step_apply_of_flush (fun n h => (outsAt0 m c n h).2.2.1) 4 (fun _ => (0 : EReal))
    (fun t i => dv (kOf (kv m c) (head t)) (gOf (gq m c)) (gOf (gk m c))
      (qBlk (p m c) (head t) (blkOf t)) (dBlk (dy m c) (head t) (blkOf t)) (i 0) (i 1))
    (fun t h i => by
      rw [outs_first m c t h]
      idx_vars i
      exact (tV_at m c t i0 i1).trans (zero_add _).symm)
    (fun t h i => by
      rw [outs_next m c t h]
      idx_vars i
      refine Eq.trans ?_ (congrArg _ (tV_at m c t i0 i1))
      pointwise [k0_pay4]) t hr (ix2 j l), zero_add]
  refine Finset.sum_congr rfl fun s _ => ?_
  rw [(last_head t hr s _).1, (last_head t hr s _).2]
  rfl

theorem run_dgq (hr : t.val % 4 = 3) (y z : Fin 1) : (outsAt0 m c t.val t.isLt).2.2.2.1 (ix3 y z l) =
    ∑ b, dgq (kOf (kv m c) (head t)) (vOf (kv m c) (head t)) (gOf (gq m c)) (gOf (gk m c))
      (qBlk (p m c) (head t) b) (dBlk (dy m c) (head t) b) l := by
  rw [Pipeline.eq_sum_fin_of_reset_step_apply_of_flush (fun n h => (outsAt0 m c n h).2.2.2.1) 4 (fun _ => (0 : EReal))
    (fun t i => dgq (kOf (kv m c) (head t)) (vOf (kv m c) (head t)) (gOf (gq m c)) (gOf (gk m c))
      (qBlk (p m c) (head t) (blkOf t)) (dBlk (dy m c) (head t) (blkOf t)) (i 2))
    (fun t h i => by
      rw [outs_first m c t h]
      idx_vars i
      refine Eq.trans ?_ ((tA_at m c t i2 0).trans (zero_add _).symm)
      pointwise [k0_pay1])
    (fun t h i => by
      rw [outs_next m c t h]
      idx_vars i
      refine Eq.trans ?_ (congrArg _ (tA_at m c t i2 0))
      pointwise [k0_pay5]
      rw [Subsingleton.elim i0 0, Subsingleton.elim i1 0]) t hr (ix3 y z l), zero_add]
  refine Finset.sum_congr rfl fun s _ => ?_
  rw [(last_head t hr s _).1, (last_head t hr s _).2]
  rfl

theorem run_dgk (hr : t.val % 4 = 3) (y z : Fin 1) : (outsAt0 m c t.val t.isLt).2.2.2.2 (ix3 y z l) =
    ∑ b, dgk (kOf (kv m c) (head t)) (vOf (kv m c) (head t)) (gOf (gq m c)) (gOf (gk m c))
      (qBlk (p m c) (head t) b) (dBlk (dy m c) (head t) b) l := by
  rw [Pipeline.eq_sum_fin_of_reset_step_apply_of_flush (fun n h => (outsAt0 m c n h).2.2.2.2) 4 (fun _ => (0 : EReal))
    (fun t i => dgk (kOf (kv m c) (head t)) (vOf (kv m c) (head t)) (gOf (gq m c)) (gOf (gk m c))
      (qBlk (p m c) (head t) (blkOf t)) (dBlk (dy m c) (head t) (blkOf t)) (i 2))
    (fun t h i => by
      rw [outs_first m c t h]
      idx_vars i
      refine Eq.trans ?_ ((tB_at m c t i2 0).trans (zero_add _).symm)
      pointwise [k0_pay2])
    (fun t h i => by
      rw [outs_next m c t h]
      idx_vars i
      refine Eq.trans ?_ (congrArg _ (tB_at m c t i2 0))
      pointwise [k0_pay6]
      rw [Subsingleton.elim i0 0, Subsingleton.elim i1 0]) t hr (ix3 y z l), zero_add]
  refine Finset.sum_congr rfl fun s _ => ?_
  rw [(last_head t hr s _).1, (last_head t hr s _).2]
  rfl

/-! The five results. -/

/-- A column's head. -/
def hd (l : Fin 512) : Fin 4 := ⟨l.val / 128, by omega⟩

/-- A column's place in its head. -/
def pl (l : Fin 512) : Fin 128 := ⟨l.val % 128, by omega⟩

theorem hd_ycol (h : Fin 4) (l : Fin 128) : hd (ycol h l) = h := by ext; simp only [hd, ycol]; omega

theorem pl_ycol (h : Fin 4) (l : Fin 128) : pl (ycol h l) = l := by ext; simp only [pl, ycol]; omega

theorem ycol_hd (l : Fin 512) : ycol (hd l) (pl l) = l := by ext; simp only [hd, pl, ycol]; omega

section whole
variable (P : Mat 2048 8960) (KV : Mat 256 1024) (GQ GK : Mat 1 128) (Y : Mat 2048 512)

/-- The queries' gradient. -/
def fQ (i : Fin 2048) (h : Fin 4) (l : Fin 128) : EReal :=
  dq (qOf P h i) (kOf KV h) (vOf KV h) (gOf GQ) (gOf GK) (dOf Y h i) l

/-- The keys' gradient, a sum over the blocks. -/
def fK (j : Fin 256) (h : Fin 4) (l : Fin 128) : EReal :=
  ∑ b, dk (kOf KV h) (vOf KV h) (gOf GQ) (gOf GK) (qBlk P h b) (dBlk Y h b) j l

/-- The values' gradient, a sum over the blocks. -/
def fV (j : Fin 256) (h : Fin 4) (l : Fin 128) : EReal :=
  ∑ b, dv (kOf KV h) (gOf GQ) (gOf GK) (qBlk P h b) (dBlk Y h b) j l

/-- The gradient of the queries' gain, a sum over the blocks. -/
def fA (h : Fin 4) (l : Fin 128) : EReal :=
  ∑ b, dgq (kOf KV h) (vOf KV h) (gOf GQ) (gOf GK) (qBlk P h b) (dBlk Y h b) l

/-- The gradient of the keys' gain, a sum over the blocks. -/
def fB (h : Fin 4) (l : Fin 128) : EReal :=
  ∑ b, dgk (kOf KV h) (vOf KV h) (gOf GQ) (gOf GK) (qBlk P h b) (dBlk Y h b) l

end whole

theorem emb6 : ((cfg0.win 6).blk t).view.emb (ix2 r l) = ix2 (row (blkOf t) r) (ycol (head t) l) := by
  blk_ext [idx t, row, blkOf, head, ycol]

theorem emb7 : ((cfg0.win 7).blk t).view.emb (ix2 j l) = ix2 j (ycol (head t) l) := by
  blk_ext [idx t, head, ycol]

theorem emb8 : ((cfg0.win 8).blk t).view.emb (ix2 j l) = ix2 j (ycol (head t) l) := by
  blk_ext [idx t, head, ycol]

theorem emb9 (y z : Fin 1) : ((cfg0.win 9).blk t).view.emb (ix3 y z l) = ix3 (head t) z l := by
  blk_ext [idx t, head]

theorem emb10 (y z : Fin 1) : ((cfg0.win 10).blk t).view.emb (ix3 y z l) = ix3 (head t) z l := by
  blk_ext [idx t, head]

theorem final_dq : (dats m 0 c).arrAt 6 cfg0.N =
    fun i => fQ (p m c) (kv m c) (gq m c) (gk m c) (dy m c) (i 0) (hd (i 1)) (pl (i 1)) := by
  refine (dats m 0 c).arrAt_eq_of_covers 6 _ (by decide +kernel) fun t hf y => ?_
  blk_simp
  rw [after0_6, tiles m c t]
  idx_vars y
  refine (tQ_at m c t y0 y1).trans ?_
  rw [emb6]
  show _ = fQ _ _ _ _ _ (row (blkOf t) y0) (hd (ycol (head t) y1)) (pl (ycol (head t) y1))
  rw [hd_ycol, pl_ycol]
  rfl

theorem final_dk : (dats m 0 c).arrAt 7 cfg0.N =
    fun i => fK (p m c) (kv m c) (gq m c) (gk m c) (dy m c) (i 0) (hd (i 1)) (pl (i 1)) := by
  refine (dats m 0 c).arrAt_eq_of_covers 7 _ (by decide +kernel) fun t hf y => ?_
  blk_simp
  rw [after0_7]
  idx_vars y
  refine (run_dk m c t y0 y1 ((flush0_7 t).mp hf)).trans ?_
  rw [emb7]
  show _ = fK _ _ _ _ _ y0 (hd (ycol (head t) y1)) (pl (ycol (head t) y1))
  rw [hd_ycol, pl_ycol]
  rfl

theorem final_dv : (dats m 0 c).arrAt 8 cfg0.N =
    fun i => fV (p m c) (kv m c) (gq m c) (gk m c) (dy m c) (i 0) (hd (i 1)) (pl (i 1)) := by
  refine (dats m 0 c).arrAt_eq_of_covers 8 _ (by decide +kernel) fun t hf y => ?_
  blk_simp
  rw [after0_8]
  idx_vars y
  refine (run_dv m c t y0 y1 ((flush0_8 t).mp hf)).trans ?_
  rw [emb8]
  show _ = fV _ _ _ _ _ y0 (hd (ycol (head t) y1)) (pl (ycol (head t) y1))
  rw [hd_ycol, pl_ycol]
  rfl

theorem final_dgq : (dats m 0 c).arrAt 9 cfg0.N =
    fun i => fA (p m c) (kv m c) (gq m c) (gk m c) (dy m c) (i 0) (i 2) := by
  refine (dats m 0 c).arrAt_eq_of_covers 9 _ (by decide +kernel) fun t hf y => ?_
  blk_simp
  rw [after0_9]
  idx_vars y
  refine (run_dgq m c t y2 ((flush0_9 t).mp hf) y0 y1).trans ?_
  rw [emb9]
  rfl

theorem final_dgk : (dats m 0 c).arrAt 10 cfg0.N =
    fun i => fB (p m c) (kv m c) (gq m c) (gk m c) (dy m c) (i 0) (i 2) := by
  refine (dats m 0 c).arrAt_eq_of_covers 10 _ (by decide +kernel) fun t hf y => ?_
  blk_simp
  rw [after0_10]
  idx_vars y
  refine (run_dgk m c t y2 ((flush0_10 t).mp hf) y0 y1).trans ?_
  rw [emb10]
  rfl

end Cert.Proof.CBwd

end
-- ==== Proof.CMix.CBwd.Ref.lean ====
/-
  The gradient of the attention to the memory: the reference, entry by entry.
-/
module

public import proofs.«01_k».proof.Proof.Gen.CBwdRefIdeal.Read
public import proofs.«01_k».proof.Proof.CMix.Grad
public import Idealize.ShloMosaic.Lib.Pipeline.ValueKit

@[expose] public section

set_option maxRecDepth 16384

noncomputable section

namespace Cert.Proof.CBwd

open Cert.CBwdRefIdeal.Read Idealize.ShloMosaic Cert.Proof.CMix

variable (P : Mat 2048 8960) (KV : Mat 256 1024) (GQ GK : Mat 1 128) (Y : Mat 2048 512)
variable (h : Fin 4) (i : Fin 2048) (j : Fin 256) (l : Fin 128)

theorem ref_q : val_main_v8 (F := Ideal) P (ix3 i h l) = qOf P h i l := by
  pointwise [val_main_v8, val_main_v0, qOf]
  blk_ext [qcol]

theorem ref_k : val_main_v5 (F := Ideal) KV (ix3 j h l) = kOf KV h j l := by
  pointwise [val_main_v5, val_main_v4, val_main_v3, kOf]
  blk_ext [kcol]

theorem ref_v : val_main_v7 (F := Ideal) KV (ix3 j h l) = vOf KV h j l := by
  pointwise [val_main_v7, val_main_v6, val_main_v3, vOf]
  blk_ext [vcol]

theorem ref_d : val_main_v76 (F := Ideal) Y (ix3 h l i) = dOf Y h i l := by
  pointwise [val_main_v76, val_main_v75, dOf]
  blk_ext [ycol]

theorem ref_msq (z : Fin 1) : val_main_v15 (F := Ideal) P (ix3 i h z) = ms (qOf P h i) := by
  pointwise [val_main_v15, val_main_v14, val_main_v13, val_main_v12, val_main_v11, val_main_v10, val_main_v9, val_main_cst,
    val_main_cst_0, val_main_cst_1, ref_q, ms]

theorem ref_rq (z : Fin 1) : val_main_v16 (F := Ideal) P (ix3 i h z) = Ideal.rsqrt (ms (qOf P h i)) := by
  pointwise [val_main_v16, ref_msq]

theorem ref_hq (z : Fin 1) : val_main_v19 (F := Ideal) P (ix3 i h z) = half (qOf P h i) := by
  pointwise [val_main_v19, val_main_v18, val_main_v17, val_main_cst_2, ref_rq, ref_msq, half]

theorem ref_hatq : val_main_v21 (F := Ideal) P (ix3 i h l) = hat (qOf P h i) l := by
  pointwise [val_main_v21, val_main_v20, ref_q, ref_rq, hat]

theorem ref_qn : val_main_v24 (F := Ideal) P GQ (ix3 i h l) = nrm (qOf P h i) (gOf GQ) l := by
  pointwise [val_main_v24, val_main_v23, val_main_v22, val_main_v1, ref_hatq, nrm, gOf]

theorem ref_msk (z : Fin 1) : val_main_v31 (F := Ideal) KV (ix3 j h z) = ms (kOf KV h j) := by
  pointwise [val_main_v31, val_main_v30, val_main_v29, val_main_v28, val_main_v27, val_main_v26, val_main_v25, val_main_cst_3,
    val_main_cst_4, val_main_cst_5, ref_k, ms]

theorem ref_rk (z : Fin 1) : val_main_v32 (F := Ideal) KV (ix3 j h z) = Ideal.rsqrt (ms (kOf KV h j)) := by
  pointwise [val_main_v32, ref_msk]

theorem ref_hk (z : Fin 1) : val_main_v35 (F := Ideal) KV (ix3 j h z) = half (kOf KV h j) := by
  pointwise [val_main_v35, val_main_v34, val_main_v33, val_main_cst_6, ref_rk, ref_msk, half]

theorem ref_hatk : val_main_v37 (F := Ideal) KV (ix3 j h l) = hat (kOf KV h j) l := by
  pointwise [val_main_v37, val_main_v36, ref_k, ref_rk, hat]

theorem ref_kn : val_main_v40 (F := Ideal) KV GK (ix3 j h l) = nrm (kOf KV h j) (gOf GK) l := by
  pointwise [val_main_v40, val_main_v39, val_main_v38, val_main_v2, ref_hatk, nrm, gOf]

theorem ref_sc : val_main_v43 (F := Ideal) P KV GQ GK (ix3 h i j) = sc (qOf P h i) (kOf KV h) (gOf GQ) (gOf GK) j := by
  pointwise [val_main_v43, val_main_v42, val_main_v41, val_main_cst_7, ref_qn, ref_kn, sc]

theorem ref_mx : val_main_v51 (F := Ideal) P KV GQ GK (ix2 h i) = mx (qOf P h i) (kOf KV h) (gOf GQ) (gOf GK) := by
  have e : val_main_v44 (F := Ideal) P KV GQ GK (ix2 h i) =
      (Finset.univ : Finset (Fin 256)).fold max (Ideal.ofBits .f32 0xFF800000#32) (sc (qOf P h i) (kOf KV h) (gOf GQ) (gOf GK)) := by
    refine (row_max (val_main_v43 (F := Ideal) P KV GQ GK) _ _ _ h i).trans ?_
    simp only [ref_sc]
    rfl
  rw [val_main_v51_apply, e, val_main_v50_apply]
  rfl

theorem ref_ex : val_main_v64 (F := Ideal) P KV GQ GK (ix3 h i j) = ex (qOf P h i) (kOf KV h) (gOf GQ) (gOf GK) j := by
  pointwise [val_main_v64, val_main_v63, val_main_v62, val_main_v61, ref_sc, ref_mx, ex]

theorem ref_den (z : Fin 1) : val_main_v66 (F := Ideal) P KV GQ GK (ix3 h i z) = den (qOf P h i) (kOf KV h) (gOf GQ) (gOf GK) := by
  pointwise [val_main_v66, val_main_v65, val_main_cst_16, ref_ex, den]

theorem ref_pr : val_main_v68 (F := Ideal) P KV GQ GK (ix3 h i j) = pr (qOf P h i) (kOf KV h) (gOf GQ) (gOf GK) j := by
  pointwise [val_main_v68, val_main_v67, ref_den, ref_ex, pr]

theorem ref_dp : val_main_v77 (F := Ideal) KV Y (ix3 h i j) = dp (vOf KV h) (dOf Y h i) j := by
  pointwise [val_main_v77, ref_d, ref_v, dp]

theorem ref_dv : val_main_v79 (F := Ideal) P KV GQ GK Y (ix3 j h l) = dv (kOf KV h) (gOf GQ) (gOf GK) (qOf P h) (dOf Y h) j l := by
  pointwise [val_main_v79, val_main_v78, ref_d, ref_pr, dv]

theorem ref_cross (z : Fin 1) : val_main_v85 (F := Ideal) P KV GQ GK Y (ix3 h i z) =
    -∑ j, dp (vOf KV h) (dOf Y h i) j * Ideal.div (Ideal.ofBits .f32 0x3F800000#32)
      (den (qOf P h i) (kOf KV h) (gOf GQ) (gOf GK) * den (qOf P h i) (kOf KV h) (gOf GQ) (gOf GK))
      * ex (qOf P h i) (kOf KV h) (gOf GQ) (gOf GK) j := by
  pointwise [val_main_v85, val_main_v84, val_main_v83, val_main_v82, val_main_v81, val_main_v80, val_main_v71, val_main_v70,
    val_main_v69, val_main_cst_17, val_main_cst_18, ref_dp, ref_den, ref_ex]

theorem ref_ds : val_main_v93 (F := Ideal) P KV GQ GK Y (ix3 h i j) =
    ds (qOf P h i) (kOf KV h) (vOf KV h) (gOf GQ) (gOf GK) (dOf Y h i) j := by
  pointwise [val_main_v93, val_main_v92, val_main_v91, val_main_v90, val_main_v89, val_main_v88, val_main_v87, val_main_v86,
    val_main_cst_19, val_main_cst_20, ref_cross, ref_dp, ref_den, ref_ex, ds] <;> simp only [Finset.univ_unique, Finset.sum_singleton]

theorem ref_dkn : val_main_v95 (F := Ideal) P KV GQ GK Y (ix3 j h l) =
    dkn (kOf KV h) (vOf KV h) (gOf GQ) (gOf GK) (qOf P h) (dOf Y h) j l := by
  pointwise [val_main_v95, val_main_v94, ref_ds, ref_qn, dkn]

theorem ref_dqn : val_main_v97 (F := Ideal) P KV GQ GK Y (ix3 i h l) =
    dqn (qOf P h i) (kOf KV h) (vOf KV h) (gOf GQ) (gOf GK) (dOf Y h i) l := by
  pointwise [val_main_v97, val_main_v96, ref_ds, ref_kn, dqn]

theorem ref_dgk (z : Fin 1) : val_main_v149 (F := Ideal) P KV GQ GK Y (ix3 h z l) =
    dgk (kOf KV h) (vOf KV h) (gOf GQ) (gOf GK) (qOf P h) (dOf Y h) l := by
  pointwise [val_main_v149, val_main_v103, val_main_v100, val_main_v99, val_main_v98, val_main_cst_21, val_main_cst_22, ref_dkn,
    ref_hatk, dgk] <;> simp only [Finset.univ_unique, Finset.sum_singleton]

theorem ref_dgq (z : Fin 1) : val_main_v148 (F := Ideal) P KV GQ GK Y (ix3 h z l) =
    dgq (kOf KV h) (vOf KV h) (gOf GQ) (gOf GK) (qOf P h) (dOf Y h) l := by
  pointwise [val_main_v148, val_main_v123, val_main_v120, val_main_v119, val_main_v118, val_main_cst_26, val_main_cst_27, ref_dqn,
    ref_hatq, dgq] <;> simp only [Finset.univ_unique, Finset.sum_singleton]

theorem ref_gk : val_main_v101 (F := Ideal) GK (ix3 j h l) = gOf GK l := by
  pointwise [val_main_v101, val_main_v38, val_main_v2, gOf]

theorem ref_gq : val_main_v121 (F := Ideal) GQ (ix3 i h l) = gOf GQ l := by
  pointwise [val_main_v121, val_main_v22, val_main_v1, gOf]

theorem ref_thruk : val_main_v113 (F := Ideal) P KV GQ GK Y (ix3 j h l) =
    thru (kOf KV h j) (gOf GK) (dkn (kOf KV h) (vOf KV h) (gOf GQ) (gOf GK) (qOf P h) (dOf Y h) j) := by
  pointwise [val_main_v113, val_main_v112, val_main_v111, val_main_v110, val_main_v109, val_main_v106, val_main_v105, val_main_v104,
    val_main_v102, val_main_cst_23, val_main_cst_24, val_main_cst_25, ref_gk, ref_dkn, ref_hk, ref_k, thru]
    <;> simp only [Finset.univ_unique, Finset.sum_singleton]

theorem ref_dk : val_main_v117 (F := Ideal) P KV GQ GK Y (ix3 j h l) =
    dk (kOf KV h) (vOf KV h) (gOf GQ) (gOf GK) (qOf P h) (dOf Y h) j l := by
  pointwise [val_main_v117, val_main_v116, val_main_v115, val_main_v114, val_main_v108, val_main_v107, val_main_v102, ref_thruk, ref_gk,
    ref_dkn, ref_rk, ref_k, dk, ng]

theorem ref_thruq : val_main_v133 (F := Ideal) P KV GQ GK Y (ix3 i h l) =
    thru (qOf P h i) (gOf GQ) (dqn (qOf P h i) (kOf KV h) (vOf KV h) (gOf GQ) (gOf GK) (dOf Y h i)) := by
  pointwise [val_main_v133, val_main_v132, val_main_v131, val_main_v130, val_main_v129, val_main_v126, val_main_v125, val_main_v124,
    val_main_v122, val_main_cst_28, val_main_cst_29, val_main_cst_30, ref_gq, ref_dqn, ref_hq, ref_q, thru]
    <;> simp only [Finset.univ_unique, Finset.sum_singleton]

theorem ref_dq3 : val_main_v137 (F := Ideal) P KV GQ GK Y (ix3 i h l) =
    dq (qOf P h i) (kOf KV h) (vOf KV h) (gOf GQ) (gOf GK) (dOf Y h i) l := by
  pointwise [val_main_v137, val_main_v136, val_main_v135, val_main_v134, val_main_v128, val_main_v127, val_main_v122, ref_thruq, ref_gq,
    ref_dqn, ref_rq, ref_q, dq, ng]

end Cert.Proof.CBwd

end
-- ==== Proof.CMix.Finite.lean ====
/-
  Finite arguments leave everything in the attention's gradient finite, and its last, linear steps may then be taken block by
  block.
-/
module

public import proofs.«01_k».proof.Proof.CMix.Grad
public import proofs.«01_k».proof.Proof.Roots

@[expose] public section

noncomputable section

namespace Cert.Proof.CMix

open Idealize.ShloMosaic

/-- A real number among the extended ones. -/
def IsReal (x : EReal) : Prop := ∃ r : ℝ, x = (r : EReal)

/-- A positive real number among the extended ones. -/
def Pos (x : EReal) : Prop := ∃ r : ℝ, 0 < r ∧ x = (r : EReal)

theorem fin_coe (r : ℝ) : IsReal (r : EReal) := ⟨r, rfl⟩

theorem Pos.fin {x : EReal} (h : Pos x) : IsReal x := by obtain ⟨r, _, e⟩ := h; exact ⟨r, e⟩

theorem fin_of_lt {x : EReal} (h : x ≠ ⊤) (h' : x ≠ ⊥) : IsReal x := by
  induction x with
  | bot => exact absurd rfl h'
  | top => exact absurd rfl h
  | coe r => exact ⟨r, rfl⟩

section ops
variable {x y : EReal}

theorem IsReal.add (hx : IsReal x) (hy : IsReal y) : IsReal (x + y) := by
  obtain ⟨a, rfl⟩ := hx; obtain ⟨b, rfl⟩ := hy; exact ⟨a + b, by norm_cast⟩

theorem IsReal.mul (hx : IsReal x) (hy : IsReal y) : IsReal (x * y) := by
  obtain ⟨a, rfl⟩ := hx; obtain ⟨b, rfl⟩ := hy; exact ⟨a * b, by norm_cast⟩

theorem IsReal.neg (hx : IsReal x) : IsReal (-x) := by
  obtain ⟨a, rfl⟩ := hx; exact ⟨-a, by norm_cast⟩

theorem IsReal.sub (hx : IsReal x) (hy : IsReal y) : IsReal (x - y) := by
  obtain ⟨a, rfl⟩ := hx; obtain ⟨b, rfl⟩ := hy; exact ⟨a - b, by norm_cast⟩

theorem IsReal.max (hx : IsReal x) (hy : IsReal y) : IsReal (max x y) := by
  rcases max_choice x y with h | h <;> rw [h] <;> assumption

theorem IsReal.exp (hx : IsReal x) : Pos (Ideal.exp x) := by
  obtain ⟨a, rfl⟩ := hx; exact ⟨Real.exp a, Real.exp_pos a, rfl⟩

theorem IsReal.div (hx : IsReal x) (hy : Pos y) : IsReal (Ideal.div x y) := by
  obtain ⟨b, hb, rfl⟩ := hy
  rw [Ideal.div_coe hb.ne']
  exact hx.mul (fin_coe _)

theorem Pos.rsqrt (hx : Pos x) : IsReal (Ideal.rsqrt x) := by
  obtain ⟨a, ha, rfl⟩ := hx
  rw [Ideal.rsqrt_coe, if_neg ha.not_gt, if_neg ha.ne']
  exact fin_coe _

theorem Pos.mul (hx : Pos x) (hy : Pos y) : Pos (x * y) := by
  obtain ⟨a, ha, rfl⟩ := hx; obtain ⟨b, hb, rfl⟩ := hy; exact ⟨a * b, mul_pos ha hb, by norm_cast⟩

theorem fin_sum {ι : Type} (s : Finset ι) (f : ι → EReal) (h : ∀ i, IsReal (f i)) : IsReal (∑ i ∈ s, f i) := by
  induction s using Finset.cons_induction with
  | empty => exact ⟨0, by simp⟩
  | cons i s hi ih => rw [Finset.sum_cons]; exact (h i).add ih

theorem pos_of_fin (hx : IsReal x) (h : 0 < x) : Pos x := by
  obtain ⟨a, rfl⟩ := hx; exact ⟨a, by exact_mod_cast h, rfl⟩

theorem pos_sum {n : ℕ} (f : Fin (n + 1) → EReal) (h : ∀ i, Pos (f i)) : Pos (∑ i, f i) := by
  refine pos_of_fin (fin_sum _ _ fun i => (h i).fin) ?_
  have h0 : ∀ i, 0 ≤ f i := fun i => by obtain ⟨r, hr, e⟩ := h i; rw [e]; exact_mod_cast hr.le
  have h1 : 0 < f 0 := by obtain ⟨r, hr, e⟩ := h 0; rw [e]; exact_mod_cast hr
  exact h1.trans_le (Finset.single_le_sum (fun i _ => h0 i) (Finset.mem_univ 0))

end ops

theorem bits_128 : Ideal.ofBits .f32 0x43000000#32 = ((128 : ℝ) : EReal) := by
  simp [Ideal.ofBits, Ideal.ieee, -EReal.coe_mul]; norm_num

theorem bits_eps_fin : IsReal (Ideal.ofBits .f32 0x358637BD#32) :=
  ⟨8796093 / 8796093022208, by simp [Ideal.ofBits, Ideal.ieee, -EReal.coe_mul]; norm_num⟩

theorem bits_scale_fin : IsReal (Ideal.ofBits .f32 0x3DB504F3#32) := by
  simp [Ideal.ofBits, Ideal.ieee, -EReal.coe_mul]; exact fin_coe _

theorem bits_bot : Ideal.ofBits .f32 0xFF800000#32 = ⊥ := by
  simp [Ideal.ofBits, Ideal.ieee]

theorem pos_128 : Pos (Ideal.ofBits .f32 0x43000000#32) := ⟨128, by norm_num, bits_128⟩

/-- A greatest entry of finitely many real ones is real. -/
theorem fin_fold {n : ℕ} (f : Fin (n + 1) → EReal) (h : ∀ i, IsReal (f i)) :
    IsReal ((Finset.univ : Finset (Fin (n + 1))).fold max ⊥ f) := by
  have key : ∀ s : Finset (Fin (n + 1)), s = ∅ ∨ IsReal (s.fold max ⊥ f) := by
    intro s
    induction s using Finset.cons_induction with
    | empty => exact Or.inl rfl
    | cons i s hi ih =>
      right
      rw [Finset.fold_cons]
      rcases ih with rfl | ih
      · simpa using h i
      · exact (h i).max ih
  rcases key Finset.univ with h | h
  · exact absurd h (Finset.univ_nonempty).ne_empty
  · exact h

section heads
variable {x gq gk dy : Fin 128 → EReal} {k v : Fin 256 → Fin 128 → EReal}
  (hx : ∀ l, IsReal (x l)) (hk : ∀ j l, IsReal (k j l)) (hv : ∀ j l, IsReal (v j l)) (hq : ∀ l, IsReal (gq l)) (hg : ∀ l, IsReal (gk l))
  (hd : ∀ l, IsReal (dy l))

include hx in
theorem pos_ms : Pos (ms x) := by
  refine pos_of_fin (((fin_sum _ _ fun l => (hx l).mul (hx l)).div pos_128).add bits_eps_fin) ?_
  unfold ms
  rw [bits_128]
  exact mean_pos x (by norm_num) bits_eps

include hx in
theorem fin_hat (l : Fin 128) : IsReal (hat x l) := (hx l).mul (pos_ms hx).rsqrt

include hx hq in
theorem fin_nrm (l : Fin 128) : IsReal (nrm x gq l) := (fin_hat hx l).mul (hq l)

include hx hk hq hg in
theorem fin_sc (j : Fin 256) : IsReal (sc x k gq gk j) :=
  (fin_sum _ _ fun l => (fin_nrm hx hq l).mul (fin_nrm (hk j) hg l)).mul bits_scale_fin

include hx hk hq hg in
theorem fin_mx : IsReal (mx x k gq gk) := by
  unfold mx
  rw [bits_bot, max_eq_right bot_le]
  exact fin_fold _ (fin_sc hx hk hq hg)

include hx hk hq hg in
theorem pos_ex (j : Fin 256) : Pos (ex x k gq gk j) := ((fin_sc hx hk hq hg j).sub (fin_mx hx hk hq hg)).exp

include hx hk hq hg in
theorem pos_den : Pos (den x k gq gk) := pos_sum _ (pos_ex hx hk hq hg)

include hv hd in
theorem fin_dp (j : Fin 256) : IsReal (dp v dy j) := fin_sum _ _ fun l => (hd l).mul (hv j l)

include hx hk hv hq hg hd in
theorem fin_ds (j : Fin 256) : IsReal (ds x k v gq gk dy j) := by
  have hz := pos_den hx hk hq hg
  have one : IsReal (Ideal.ofBits .f32 0x3F800000#32) := ⟨1, by simp⟩
  exact ((((fin_dp hv hd j).div hz).add (fin_sum _ _ fun i =>
    ((fin_dp hv hd i).mul (one.div (hz.mul hz))).mul (pos_ex hx hk hq hg i).fin).neg).mul (pos_ex hx hk hq hg j).fin).mul
    bits_scale_fin

end heads

section keys
variable {n : ℕ} {gq gk : Fin 128 → EReal} {k v : Fin 256 → Fin 128 → EReal} {X DY : Fin n → Fin 128 → EReal}
  (hX : ∀ i l, IsReal (X i l)) (hk : ∀ j l, IsReal (k j l)) (hv : ∀ j l, IsReal (v j l)) (hq : ∀ l, IsReal (gq l))
  (hg : ∀ l, IsReal (gk l)) (hD : ∀ i l, IsReal (DY i l))

include hX hk hv hq hg hD in
theorem fin_dkn (j : Fin 256) (l : Fin 128) : IsReal (dkn k v gq gk X DY j l) :=
  fin_sum _ _ fun i => (fin_ds (hX i) hk hv hq hg (hD i) j).mul (fin_nrm (hX i) hq l)

end keys

theorem coe_sum {ι : Type} (s : Finset ι) (f : ι → ℝ) : ∑ i ∈ s, (f i : EReal) = ((∑ i ∈ s, f i : ℝ) : EReal) := by
  induction s using Finset.cons_induction with
  | empty => simp
  | cons i s hi ih => rw [Finset.sum_cons, Finset.sum_cons, ih, EReal.coe_add]

/-- The gradient of a row of real numbers, in real numbers. -/
theorem ng_coe (x g : Fin 128 → ℝ) : ∃ s c : ℝ, ∀ (d : Fin 128 → ℝ) (l : Fin 128),
    ng (fun l => (x l : EReal)) (fun l => (g l : EReal)) (fun l => (d l : EReal)) l =
      ((d l * g l * s + x l * ((∑ l, x l * (d l * g l)) * c) + (∑ l, x l * (d l * g l)) * c * x l : ℝ) : EReal) := by
  obtain ⟨a, ha, e⟩ := pos_ms (x := fun l => (x l : EReal)) fun l => fin_coe _
  obtain ⟨s, hs⟩ := (pos_ms (x := fun l => (x l : EReal)) fun l => fin_coe _).rsqrt
  refine ⟨s, -1 / 2 * (s * (1 / a)) * (1 / 128), fun d l => ?_⟩
  have hsum : (∑ l, (x l : EReal) * ((d l : EReal) * (g l : EReal))) = ((∑ l, x l * (d l * g l) : ℝ) : EReal) := by
    rw [← coe_sum]
    rfl
  unfold ng thru half
  rw [hs, hsum, e, bits_128, bits_neg_half, Ideal.div_coe ha.ne', Ideal.div_coe (by norm_num)]
  simp only [← EReal.coe_mul, ← EReal.coe_add]
  refine congrArg Real.toEReal ?_
  ring

/-- The gradient of a row is linear: it may be taken of each of four parts. -/
theorem ng_sum {x g : Fin 128 → EReal} {D : Fin 4 → Fin 128 → EReal} (hx : ∀ l, IsReal (x l)) (hg : ∀ l, IsReal (g l))
    (hD : ∀ b l, IsReal (D b l)) (l : Fin 128) : ng x g (fun l => ∑ b, D b l) l = ∑ b, ng x g (D b) l := by
  choose x' ex using hx
  choose g' eg using hg
  choose D' eD using hD
  obtain rfl : x = fun l => (x' l : EReal) := funext ex
  obtain rfl : g = fun l => (g' l : EReal) := funext eg
  obtain rfl : D = fun b l => (D' b l : EReal) := funext fun b => funext (eD b)
  obtain ⟨s, c, h⟩ := ng_coe x' g'
  have e : (fun l => ∑ b, (D' b l : EReal)) = fun l => ((∑ b, D' b l : ℝ) : EReal) := by
    funext l
    simp only [Fin.sum_univ_four]
    norm_cast
  rw [e, h]
  simp only [h, Fin.sum_univ_four, ← EReal.coe_add]
  refine congrArg Real.toEReal ?_
  simp only [add_mul, mul_add, Finset.sum_add_distrib]
  ring

/-- A product with a real number is taken of each of four parts. -/
theorem mul_sum4 {a : EReal} {D : Fin 4 → EReal} (ha : IsReal a) (hD : ∀ b, IsReal (D b)) : a * ∑ b, D b = ∑ b, a * D b := by
  obtain ⟨a, rfl⟩ := ha
  choose D' eD using hD
  obtain rfl : D = fun b => (D' b : EReal) := funext eD
  simp only [Fin.sum_univ_four]
  norm_cast
  rw [mul_add, mul_add, mul_add]

end Cert.Proof.CMix

end
-- ==== Proof.CMix.CBwd.Claim.lean ====
/-
  The gradient of the attention to the memory: kernel and reference agree.
-/
module

public import proofs.«01_k».proof.Proof.CMix.CBwd.Kernel
public import proofs.«01_k».proof.Proof.CMix.CBwd.Ref
public import proofs.«01_k».proof.Proof.CMix.Finite
public import proofs.«01_k».proof.Proof.Gen.CBwdRefIdeal.Run
public import proofs.«01_k».proof.Proof.Gen.Pre_finite
public import Idealize.ShloMosaic.Lib.KernelVsHost
public import Idealize.ShloMosaic.Lib.ReduceAll

@[expose] public section

set_option maxRecDepth 16384

noncomputable section

namespace Cert.Proof.CBwd

open Idealize.ShloMosaic Idealize.ShloMosaic.TcCoe Idealize.SL.Sem Cert.Proof.CMix

/-! What the precondition says. -/

theorem entry_finite {s t u : Shape} {axes : List (Fin s.rank)} [Subsingleton t.Idx] (x : s.Idx → EReal) (b : s.Idx → EReal)
    (hb : ∀ i, b i = Ideal.ofBits .f32 0x7F800000#32) (init : u.Idx → BitVec 1) (h : s.ReducesTo axes t) (hu : 0 < u.numel)
    (j : t.Idx) (e : Host.reduce IntOp.andi (cmpf (F := Ideal) (φ := .f32) .olt (Host.absf (F := Ideal) (φ := .f32) x) b) init h hu j = 1#1)
    (i : s.Idx) : IsReal (x i) := by
  have h := Host.reduce_andi_all _ _ _ _ _ e i
  have top : Ideal.ofBits .f32 0x7F800000#32 = ⊤ := by simp [Ideal.ofBits, Ideal.ieee]
  have h' : FloatOps.cmpf (F := Ideal) (φ := .f32) .olt (FloatOps.absf (F := Ideal) (φ := .f32) (x i)) (b i) = 1#1 := h
  rw [hb, top] at h'
  generalize x i = y at h'
  induction y with
  | bot => exact absurd h' (by show ¬Ideal.cmp .olt (max ⊥ (-⊥)) ⊤ = 1#1; simp [Ideal.cmp])
  | top => exact absurd h' (by show ¬Ideal.cmp .olt (max ⊤ (-⊤)) ⊤ = 1#1; simp [Ideal.cmp])
  | coe r => exact ⟨r, rfl⟩

section
variable (P : Mat 2048 8960) (KV : Mat 256 1024) (GQ GK : Mat 1 128) (Y : Mat 2048 512)

theorem args_finite (e : Cert.Pre_finite.fn (F := Ideal) P KV GQ GK Y = fun _ => 1#1) :
    (∀ i, IsReal (P i)) ∧ (∀ i, IsReal (KV i)) ∧ (∀ i, IsReal (GQ i)) ∧ (∀ i, IsReal (GK i)) ∧ ∀ i, IsReal (Y i) := by
  have e := congrFun e (Shape.Idx.first Cert.Pre_finite.Gen.h_S_)
  simp only [Cert.Pre_finite.fn, Cert.Pre_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  haveI : Subsingleton Cert.Pre_finite.S_.Idx := ⟨fun a b => funext fun k => k.elim0⟩
  exact ⟨entry_finite _ _ (fun _ => rfl) _ _ _ _ e0, entry_finite _ _ (fun _ => rfl) _ _ _ _ e1,
    entry_finite _ _ (fun _ => rfl) _ _ _ _ e2, entry_finite _ _ (fun _ => rfl) _ _ _ _ e3,
    entry_finite _ _ (fun _ => rfl) _ _ _ _ e4⟩

end

/-! Sums over a head's blocks are sums over its rows. -/

section
variable (P : Mat 2048 8960) (KV : Mat 256 1024) (GQ GK : Mat 1 128) (Y : Mat 2048 512)
variable (h : Fin 4) (i : Fin 2048) (j : Fin 256) (l : Fin 128)

theorem whole_dv : fV P KV GQ GK Y j h l = dv (kOf KV h) (gOf GQ) (gOf GK) (qOf P h) (dOf Y h) j l :=
  Fin.sum_mul_add_congr fun _ _ _ => rfl

theorem whole_dgq : fA P KV GQ GK Y h l = dgq (kOf KV h) (vOf KV h) (gOf GQ) (gOf GK) (qOf P h) (dOf Y h) l :=
  Fin.sum_mul_add_congr fun _ _ _ => rfl

theorem whole_dkn : ∑ b, dkn (kOf KV h) (vOf KV h) (gOf GQ) (gOf GK) (qBlk P h b) (dBlk Y h b) j l =
    dkn (kOf KV h) (vOf KV h) (gOf GQ) (gOf GK) (qOf P h) (dOf Y h) j l :=
  Fin.sum_mul_add_congr fun _ _ _ => rfl

section
variable (hP : ∀ i, IsReal (P i)) (hKV : ∀ i, IsReal (KV i)) (hQ : ∀ i, IsReal (GQ i)) (hK : ∀ i, IsReal (GK i))
  (hY : ∀ i, IsReal (Y i))

include hP hKV hQ hK hY in
theorem blk_finite (b : Fin 4) (j : Fin 256) (l : Fin 128) :
    IsReal (dkn (kOf KV h) (vOf KV h) (gOf GQ) (gOf GK) (qBlk P h b) (dBlk Y h b) j l) :=
  fin_dkn (fun _ _ => hP _) (fun _ _ => hKV _) (fun _ _ => hKV _) (fun _ => hQ _) (fun _ => hK _) (fun _ _ => hY _) j l

include hP hKV hQ hK hY in
theorem whole_dk : fK P KV GQ GK Y j h l = dk (kOf KV h) (vOf KV h) (gOf GQ) (gOf GK) (qOf P h) (dOf Y h) j l := by
  unfold fK dk
  rw [← ng_sum (x := kOf KV h j) (g := gOf GK) (fun _ => hKV _) (fun _ => hK _) (fun b l => blk_finite P KV GQ GK Y h hP hKV hQ hK hY b j l)]
  exact congrArg (fun d => ng (kOf KV h j) (gOf GK) d l) (funext fun l => whole_dkn P KV GQ GK Y h j l)

include hP hKV hQ hK hY in
theorem whole_dgk : fB P KV GQ GK Y h l = dgk (kOf KV h) (vOf KV h) (gOf GQ) (gOf GK) (qOf P h) (dOf Y h) l := by
  unfold fB dgk
  rw [Finset.sum_comm]
  refine Finset.sum_congr rfl fun j _ => ?_
  rw [← whole_dkn, mul_sum4 (fin_hat (x := kOf KV h j) (fun _ => hKV _) l) fun b => blk_finite P KV GQ GK Y h hP hKV hQ hK hY b j l]

end
end

/-! The reference's results. -/

section
open Cert.CBwdRefIdeal Cert.CBwdRefIdeal.Gen Cert.CBwdRefIdeal.Read
variable (P : Mat 2048 8960) (KV : Mat 256 1024) (GQ GK : Mat 1 128) (Y : Mat 2048 512)
variable (h : Fin 4) (i : Fin 2048) (j : Fin 256) (l : Fin 128)

theorem ref_dq : val_main_v145 (F := Ideal) P KV GQ GK Y (ix2 i (ycol h l)) = fQ P KV GQ GK Y i h l := by
  pointwise [val_main_v145, val_main_v138]
  refine Eq.trans ?_ (ref_dq3 P KV GQ GK Y h i l)
  blk_ext [ycol]

/-- An entry of the keys' half. -/
theorem half_k (i : S256x2x4x128.Idx) (hi : (i 1).val = 0) :
    val_main_v143 (F := Ideal) P KV GQ GK Y i = val_main_v117 (F := Ideal) P KV GQ GK Y (ix3 (i 0) (i 2) (i 3)) := by
  have e0 : val_main_v140 (F := Ideal) P KV GQ GK Y i = 0 :=
    (pad_apply_of_not_inside _ _ _ _ _ _ _ i 1 (by simp [hi])).trans Ideal.ofBits_zero_f32
  have e1 : val_main_v142 (F := Ideal) P KV GQ GK Y i = val_main_v141 (F := Ideal) P KV GQ GK Y
      (fun a => match a with | ⟨0, _⟩ => i 0 | ⟨1, _⟩ => (0 : Fin 1) | ⟨2, _⟩ => i 2 | ⟨3, _⟩ => i 3) :=
    pad_apply_of_inside _ _ _ _ _ _ _ i _ (fun a => by fin_cases a <;> simp [hi])
  rw [val_main_v143_apply, e0, e1, val_main_v141_apply]
  refine (zero_add _).trans (congrArg _ (funext fun a => ?_))
  fin_cases a <;> rfl

/-- An entry of the values' half. -/
theorem half_v (i : S256x2x4x128.Idx) (hi : (i 1).val = 1) :
    val_main_v143 (F := Ideal) P KV GQ GK Y i = val_main_v79 (F := Ideal) P KV GQ GK Y (ix3 (i 0) (i 2) (i 3)) := by
  have e0 : val_main_v142 (F := Ideal) P KV GQ GK Y i = 0 :=
    (pad_apply_of_not_inside _ _ _ _ _ _ _ i 1 (by simp [hi])).trans Ideal.ofBits_zero_f32
  have e1 : val_main_v140 (F := Ideal) P KV GQ GK Y i = val_main_v139 (F := Ideal) P KV GQ GK Y
      (fun a => match a with | ⟨0, _⟩ => i 0 | ⟨1, _⟩ => (0 : Fin 1) | ⟨2, _⟩ => i 2 | ⟨3, _⟩ => i 3) :=
    pad_apply_of_inside _ _ _ _ _ _ _ i _ (fun a => by fin_cases a <;> simp [hi])
  rw [val_main_v143_apply, e0, e1, val_main_v139_apply]
  refine (add_zero _).trans (congrArg _ (funext fun a => ?_))
  fin_cases a <;> rfl

theorem ref_dk2 : val_main_v146 (F := Ideal) P KV GQ GK Y (ix2 j (ycol h l)) =
    dk (kOf KV h) (vOf KV h) (gOf GQ) (gOf GK) (qOf P h) (dOf Y h) j l := by
  pointwise [val_main_v146, val_main_v144]
  rw [half_k]
  · refine Eq.trans ?_ (ref_dk P KV GQ GK Y h j l)
    blk_ext [ycol]
  · simp [ycol]
    omega

theorem ref_dv2 : val_main_v147 (F := Ideal) P KV GQ GK Y (ix2 j (ycol h l)) =
    dv (kOf KV h) (gOf GQ) (gOf GK) (qOf P h) (dOf Y h) j l := by
  pointwise [val_main_v147, val_main_v144]
  rw [half_v]
  · refine Eq.trans ?_ (ref_dv P KV GQ GK Y h j l)
    blk_ext [ycol]
  · simp [ycol]
    omega

end

/-! The claims. -/

theorem frame_kernel : Cert.quiescent_CBwd := fun m ρ _ => Cert.CBwd.Gen.frame m ρ

theorem frame_ideal : Cert.quiescent_CBwdIdeal := fun m ρ _ => Cert.CBwdIdeal.Gen.frame m ρ

theorem frame_ideal_pre : Cert.quiescent_CBwdIdeal_pre_finite := fun m ρ _ => Cert.CBwdIdeal.Gen.frame m ρ

theorem frame_ref : Cert.quiescent_CBwdRefIdeal := fun m ρ _ =>
  (θ_run _ _ _).mono (fun _ h => ⟨fun c => (h c).2.2.2.2.2, sem_eq_zero_of_no_sems rfl _⟩) (Cert.CBwdRefIdeal.Value.run m ρ)

theorem frame_ref_pre : Cert.quiescent_CBwdRefIdeal_pre_finite := fun m ρ _ =>
  (θ_run _ _ _).mono (fun _ h => ⟨fun c => (h c).2.2.2.2.2, sem_eq_zero_of_no_sems rfl _⟩) (Cert.CBwdRefIdeal.Value.run m ρ)

section
open Cert.CBwdIdeal Cert.CBwdIdeal.Gen Cert.CBwdRefIdeal.Read
variable (m : (ℓ : Loc nD τ sig) → Buf (Elt Ideal) ℓ) (c : Dev nD)

theorem agree_dq : val_main_v145 (F := Ideal) (p m c) (kv m c) (gq m c) (gk m c) (dy m c) = (dats m 0 c).arrAt 6 cfg0.N :=
  (Cert.Proof.ext2 (f := fun i l => fQ (p m c) (kv m c) (gq m c) (gk m c) (dy m c) i (hd l) (pl l)) fun i l => by
    rw [← ref_dq, ycol_hd]).trans (final_dq m c).symm

theorem agree_dv : val_main_v147 (F := Ideal) (p m c) (kv m c) (gq m c) (gk m c) (dy m c) = (dats m 0 c).arrAt 8 cfg0.N :=
  (Cert.Proof.ext2 (f := fun i l => fV (p m c) (kv m c) (gq m c) (gk m c) (dy m c) i (hd l) (pl l)) fun i l => by
    rw [whole_dv, ← ref_dv2, ycol_hd]).trans (final_dv m c).symm

theorem agree_dgq : val_main_v148 (F := Ideal) (p m c) (kv m c) (gq m c) (gk m c) (dy m c) = (dats m 0 c).arrAt 9 cfg0.N :=
  (Cert.Proof.ext3 (f := fun h _ l => fA (p m c) (kv m c) (gq m c) (gk m c) (dy m c) h l) fun h z l => by
    rw [whole_dgq, ref_dgq]).trans (final_dgq m c).symm

variable (hf : Cert.Pre_finite.fn (F := Ideal) (p m c) (kv m c) (gq m c) (gk m c) (dy m c) = fun _ => 1#1)

include hf in
theorem agree_dk : val_main_v146 (F := Ideal) (p m c) (kv m c) (gq m c) (gk m c) (dy m c) = (dats m 0 c).arrAt 7 cfg0.N := by
  obtain ⟨h0, h1, h2, h3, h4⟩ := args_finite _ _ _ _ _ hf
  exact (Cert.Proof.ext2 (f := fun i l => fK (p m c) (kv m c) (gq m c) (gk m c) (dy m c) i (hd l) (pl l)) fun i l => by
    rw [whole_dk _ _ _ _ _ _ _ _ h0 h1 h2 h3 h4, ← ref_dk2, ycol_hd]).trans (final_dk m c).symm

include hf in
theorem agree_dgk : val_main_v149 (F := Ideal) (p m c) (kv m c) (gq m c) (gk m c) (dy m c) = (dats m 0 c).arrAt 10 cfg0.N := by
  obtain ⟨h0, h1, h2, h3, h4⟩ := args_finite _ _ _ _ _ hf
  exact (Cert.Proof.ext3 (f := fun h _ l => fB (p m c) (kv m c) (gq m c) (gk m c) (dy m c) h l) fun h z l => by
    rw [whole_dgk _ _ _ _ _ _ _ h0 h1 h2 h3 h4, ref_dgk]).trans (final_dgk m c).symm

end

/-- Of finite arguments, kernel and reference end with the same five arrays. -/
theorem algebraic : Cert.algebraic_CBwdIdeal_CBwdRefIdeal_pre_finite := fun m ρ m' ρ' hf hm => by
  refine ⟨_, _, _, _, _, Cert.CBwdIdeal.Value.run_blocks m ρ,
    (θ_run _ _ _).mono (fun r h c => ?_) (Cert.CBwdRefIdeal.Value.run m' ρ')⟩
  obtain ⟨h0, h1, h2, h3, h4, ha⟩ := h c
  obtain ⟨a0, a1, a2, a3, a4⟩ := hm c
  replace a0 : StableHlo.launchContents m' c (Proc.tc.devRef Cert.CBwdRefIdeal.main_arg0) = p m c := a0
  replace a1 : StableHlo.launchContents m' c (Proc.tc.devRef Cert.CBwdRefIdeal.main_arg1) = kv m c := a1
  replace a2 : StableHlo.launchContents m' c (Proc.tc.devRef Cert.CBwdRefIdeal.main_arg2) = gq m c := a2
  replace a3 : StableHlo.launchContents m' c (Proc.tc.devRef Cert.CBwdRefIdeal.main_arg3) = gk m c := a3
  replace a4 : StableHlo.launchContents m' c (Proc.tc.devRef Cert.CBwdRefIdeal.main_arg4) = dy m c := a4
  rw [Cert.CBwdRefIdeal.Read.val_main_v145_eq, a0, a1, a2, a3, a4] at h0
  rw [Cert.CBwdRefIdeal.Read.val_main_v146_eq, a0, a1, a2, a3, a4] at h1
  rw [Cert.CBwdRefIdeal.Read.val_main_v147_eq, a0, a1, a2, a3, a4] at h2
  rw [Cert.CBwdRefIdeal.Read.val_main_v148_eq, a0, a1, a2, a3, a4] at h3
  rw [Cert.CBwdRefIdeal.Read.val_main_v149_eq, a0, a1, a2, a3, a4] at h4
  exact ⟨h0.trans (agree_dq m c), h1.trans (agree_dk m c (hf c)), h2.trans (agree_dv m c), h3.trans (agree_dgq m c),
    h4.trans (agree_dgk m c (hf c)), ha⟩

end Cert.Proof.CBwd

end
-- ==== Proof.Products.GBranchB.lean ====
/-
  The gradient of a branch's output projection, for a branch 1024 wide, stacked by the device that owns the columns:
  `g[p, i, j] = ∑ k, y[k, i] · dz[k, 256 p + j]`.

  The kernel computes one owner's columns at a grid point.
-/
module

public import proofs.«01_k».proof.Defs
public import proofs.«01_k».proof.Proof.Gen.GBranchB.Frame
public import proofs.«01_k».proof.Proof.Gen.GBranchBIdeal.Value
public import proofs.«01_k».proof.Proof.Gen.GBranchBRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.GBranchB

open Cert.GBranchBIdeal Cert.GBranchBIdeal.Gen Idealize.ShloMosaic Idealize.ShloMosaic.TcCoe Idealize.SL.Sem

/-- Column `l` of the owner `p`'s columns. -/
abbrev col (p : Fin 8) (l : Fin 256) : Fin 2048 := ⟨p * 256 + l, by omega⟩

/-- The product. -/
def G (y : Mat 2048 1024) (dz : Mat 2048 2048) (p : Fin 8) (i : Fin 1024) (j : Fin 256) : EReal :=
  ∑ k : Fin 2048, y (ix2 k i) * dz (ix2 k (col p j))

/-- The block that each window reads or writes at a grid point. -/
theorem idx : ∀ t : Fin cfg0.N, win0_0.index t = ![0, 0] ∧ win0_1.index t = ![0, t.val]
    ∧ win0_2.index t = ![t.val, 0, 0] ∧ t.val < 8 :=
  (by decide +kernel : ∀ t : Fin grid0.N, _)

/-- The owner whose columns a grid point computes. -/
def own (t : Fin cfg0.N) : Fin 8 := ⟨t.val, (idx t).2.2.2⟩

variable (m : (ℓ : Loc nD τ sig) → Buf (Elt Ideal) ℓ) (c : Dev nD)

abbrev y : Mat 2048 1024 := m ((c : Thread nD τ).loc main_arg0)
abbrev dz : Mat 2048 2048 := m ((c : Thread nD τ).loc main_arg1)

variable (t : Fin cfg0.N) (r : Fin 1024) (l : Fin 256)

/-- What a grid point computes, at an index of its tile. -/
theorem tile_at (z : Fin 1) : k0_pay1 (iblk m c 0 t) (iblk m c 1 t) (ix3 z r l) = G (y m c) (dz m c) (own t) r l := by
  pointwise [k0_pay1, G]
  blk_point [iblk, V, idx t, own, col]

theorem emb (z : Fin 1) : ((cfg0.win 2).blk t).view.emb (ix3 z r l) = ix3 (own t) r l := by
  blk_ext [idx t, own]

/-- The result array after the run. -/
theorem final : (dats m 0 c).arrAt 2 cfg0.N = fun i => G (y m c) (dz m c) (i 0) (i 1) (i 2) := by
  refine (dats m 0 c).arrAt_eq_of_covers 2 _ (by decide +kernel) fun t hf y => ?_
  blk_simp
  rw [after0_2]
  frame_out
  idx_vars y
  refine (tile_at m c t y1 y2 y0).trans ?_
  have e := emb t y1 y2 y0
  exact (congrArg₂ (fun p q => G _ _ p q.1 q.2) (congrFun e 0).symm
    (Prod.ext (congrFun e 1).symm (congrFun e 2).symm : (y1, y2) = (_, _)))

theorem frame_kernel : Cert.quiescent_GBranchB := fun m ρ _ => Cert.GBranchB.Gen.frame m ρ

theorem frame_ideal : Cert.quiescent_GBranchBIdeal := fun m ρ _ => Cert.GBranchBIdeal.Gen.frame m ρ

theorem frame_ref : Cert.quiescent_GBranchBRefIdeal := fun m ρ _ =>
  (θ_run _ _ _).mono (fun _ h => ⟨fun c => (h c).2, sem_eq_zero_of_no_sems rfl _⟩) (Cert.GBranchBRefIdeal.Value.run m ρ)

/-- Kernel and reference end with the same array. -/
theorem algebraic : Cert.algebraic_GBranchBIdeal_GBranchBRefIdeal := fun m ρ m' ρ' _ hm => by
  refine ⟨_, Cert.GBranchBIdeal.Value.run_blocks m ρ, (θ_run _ _ _).mono (fun r h c => ?_) (Cert.GBranchBRefIdeal.Value.run m' ρ')⟩
  obtain ⟨h0, ha⟩ := h c
  obtain ⟨a0, a1⟩ := hm c
  rw [a0, a1] at h0
  refine ⟨h0.trans ((ext3 fun p i j => ?_).trans (final m c).symm), ha⟩
  pointwise [G]
  exact Finset.sum_congr rfl fun k _ => mul_comm _ _

end Cert.Proof.GBranchB

end
-- ==== Proof.Products.GKv.lean ====
/-
  The gradient of the weight of the memory's keys and values: `g[i, j] = ∑ k, mem_h[k, i] · dkv[k, j]`.

  The kernel computes it in two tiles of 1024 rows.
-/
module

public import proofs.«01_k».proof.Defs
public import proofs.«01_k».proof.Proof.Gen.GKv.Frame
public import proofs.«01_k».proof.Proof.Gen.GKvIdeal.Value
public import proofs.«01_k».proof.Proof.Gen.GKvRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.GKv

open Cert.GKvIdeal Cert.GKvIdeal.Gen Idealize.ShloMosaic Idealize.ShloMosaic.TcCoe Idealize.SL.Sem

/-- The product. -/
def G (a : Mat 256 2048) (b : Mat 256 1024) (i : Fin 2048) (j : Fin 1024) : EReal := ∑ k : Fin 256, a (ix2 k i) * b (ix2 k j)

/-- The block that each window reads or writes at a grid point. -/
theorem idx : ∀ t : Fin cfg0.N, win0_0.index t = ![0, t.val] ∧ win0_1.index t = ![0, 0]
    ∧ win0_2.index t = ![t.val, 0] ∧ t.val < 2 :=
  (by decide +kernel : ∀ t : Fin grid0.N, _)

/-- Row `r` of the point's tile, in the whole array. -/
def row (t : Fin cfg0.N) (r : Fin 1024) : Fin 2048 := ⟨t.val * 1024 + r, by have := (idx t).2.2.2; omega⟩

variable (m : (ℓ : Loc nD τ sig) → Buf (Elt Ideal) ℓ) (c : Dev nD)

abbrev memh : Mat 256 2048 := m ((c : Thread nD τ).loc main_arg0)
abbrev dkv : Mat 256 1024 := m ((c : Thread nD τ).loc main_arg1)

variable (t : Fin cfg0.N)

/-- What a grid point computes, at an index of its tile. -/
theorem tile_at (r l : Fin 1024) : k0_pay1 (iblk m c 0 t) (iblk m c 1 t) (ix2 r l) =
    G (memh m c) (dkv m c) (row t r) l := by
  pointwise [k0_pay1, G]
  blk_point [iblk, V, idx t, row]

theorem emb (r l : Fin 1024) : ((cfg0.win 2).blk t).view.emb (ix2 r l) = ix2 (row t r) l := by
  blk_ext [idx t, row]

/-- The result array after the run. -/
theorem final : (dats m 0 c).arrAt 2 cfg0.N = fun i => G (memh m c) (dkv m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_GKv := fun m ρ _ => Cert.GKv.Gen.frame m ρ

theorem frame_ideal : Cert.quiescent_GKvIdeal := fun m ρ _ => Cert.GKvIdeal.Gen.frame m ρ

theorem frame_ref : Cert.quiescent_GKvRefIdeal := fun m ρ _ =>
  (θ_run _ _ _).mono (fun _ h => ⟨fun c => (h c).2, sem_eq_zero_of_no_sems rfl _⟩) (Cert.GKvRefIdeal.Value.run m ρ)

/-- Kernel and reference end with the same array. -/
theorem algebraic : Cert.algebraic_GKvIdeal_GKvRefIdeal := fun m ρ m' ρ' _ hm => by
  refine ⟨_, Cert.GKvIdeal.Value.run_blocks m ρ, (θ_run _ _ _).mono (fun r h c => ?_) (Cert.GKvRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]
  exact Finset.sum_congr rfl fun k _ => mul_comm _ _

end Cert.Proof.GKv

end
-- ==== Proof.Products.DMemH.lean ====
/-
  The cotangent of the normed memory: `d_mem[i, j] = ∑ k, dkv[i, k] · w_mem_kv[j, k]`.

  The kernel computes it in two tiles of 1024 columns.
-/
module

public import proofs.«01_k».proof.Defs
public import proofs.«01_k».proof.Proof.Gen.DMemH.Frame
public import proofs.«01_k».proof.Proof.Gen.DMemHIdeal.Value
public import proofs.«01_k».proof.Proof.Gen.DMemHRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.DMemH

open Cert.DMemHIdeal Cert.DMemHIdeal.Gen Idealize.ShloMosaic Idealize.ShloMosaic.TcCoe Idealize.SL.Sem

/-- The product. -/
def G (w : Mat 2048 1024) (dy : Mat 256 1024) (i : Fin 256) (j : Fin 2048) : EReal := ∑ k : Fin 1024, dy (ix2 i k) * w (ix2 j k)

/-- The block that each window reads or writes at a grid point. -/
theorem idx : ∀ t : Fin cfg0.N, win0_0.index t = ![0, 0] ∧ win0_1.index t = ![t.val, 0]
    ∧ win0_2.index t = ![0, t.val] ∧ t.val < 2 :=
  (by decide +kernel : ∀ t : Fin grid0.N, _)

/-- Column `l` of the point's tile, in the whole array. -/
def lane (t : Fin cfg0.N) (l : Fin 1024) : Fin 2048 := ⟨t.val * 1024 + l, by have := (idx t).2.2.2; omega⟩

variable (m : (ℓ : Loc nD τ sig) → Buf (Elt Ideal) ℓ) (c : Dev nD)

abbrev w : Mat 2048 1024 := m ((c : Thread nD τ).loc main_arg0)
abbrev dkv : Mat 256 1024 := m ((c : Thread nD τ).loc main_arg1)

variable (t : Fin cfg0.N) (r : Fin 256) (l : Fin 1024)

/-- What a grid point computes, at an index of its tile. -/
theorem tile_at : k0_pay1 (iblk m c 0 t) (iblk m c 1 t) (ix2 r l) = G (w m c) (dkv m c) r (lane t l) := by
  pointwise [k0_pay1, G]
  blk_point [iblk, V, idx t, lane]

theorem emb : ((cfg0.win 2).blk t).view.emb (ix2 r l) = ix2 r (lane t l) := by
  blk_ext [idx t, lane]

/-- The result array after the run. -/
theorem final : (dats m 0 c).arrAt 2 cfg0.N = fun i => G (w m c) (dkv m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_DMemH := fun m ρ _ => Cert.DMemH.Gen.frame m ρ

theorem frame_ideal : Cert.quiescent_DMemHIdeal := fun m ρ _ => Cert.DMemHIdeal.Gen.frame m ρ

theorem frame_ref : Cert.quiescent_DMemHRefIdeal := fun m ρ _ =>
  (θ_run _ _ _).mono (fun _ h => ⟨fun c => (h c).2, sem_eq_zero_of_no_sems rfl _⟩) (Cert.DMemHRefIdeal.Value.run m ρ)

/-- Kernel and reference end with the same array. -/
theorem algebraic : Cert.algebraic_DMemHIdeal_DMemHRefIdeal := fun m ρ m' ρ' _ hm => by
  refine ⟨_, Cert.DMemHIdeal.Value.run_blocks m ρ, (θ_run _ _ _).mono (fun r h c => ?_) (Cert.DMemHRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]

end Cert.Proof.DMemH

end
-- ==== Proof.Products.MemBwd.lean ====
/-
  The gradient of the memory's normalization.

  The kernel takes all rows at one grid point. The reference differentiates the normalization in reverse, as for the
  residual stream's first one.
-/
module

public import proofs.«01_k».proof.Defs
public import proofs.«01_k».proof.Proof.Gen.MemBwd.Frame
public import proofs.«01_k».proof.Proof.Gen.MemBwdIdeal.Value
public import proofs.«01_k».proof.Proof.Gen.MemBwdRefIdeal.Run
public import proofs.«01_k».proof.Proof.Mats
public import proofs.«01_k».proof.Proof.Roots
public import Idealize.ShloMosaic.Lib.Pipeline.ValueKit
public import Idealize.ShloMosaic.Lib.Quiescent

@[expose] public section

set_option maxRecDepth 16384

noncomputable section

namespace Cert.Proof.MemBwd

open Cert.MemBwdIdeal Cert.MemBwdIdeal.Gen Idealize.ShloMosaic Idealize.ShloMosaic.TcCoe Idealize.SL.Sem

/-- The mean of the squares of a row, plus the small constant. -/
def ms (x : Mat 256 2048) (i : Fin 256) : EReal :=
  Ideal.div (∑ k : Fin 2048, x (ix2 i k) * x (ix2 i k)) (Ideal.ofBits .f32 0x45000000#32) + Ideal.ofBits .f32 0x358637BD#32

/-- One over the root of the mean of the squares of a row. -/
def rs (x : Mat 256 2048) (i : Fin 256) : EReal := Ideal.rsqrt (ms x i)

/-- A row's inner product of its entries and the cotangents of the normalized entries. -/
def ip (x dh : Mat 256 2048) (g : Mat 1 2048) (i : Fin 256) : EReal :=
  ∑ k : Fin 2048, x (ix2 i k) * (dh (ix2 i k) * g (ix2 0 k))

/-- The gradient of the entries, as the kernel writes it. -/
def DX (x : Mat 256 2048) (g : Mat 1 2048) (dh : Mat 256 2048) (i : Fin 256) (j : Fin 2048) : EReal :=
  rs x i * (dh (ix2 i j) * g (ix2 0 j)) - x (ix2 i j) * (rs x i * rs x i * rs x i) * (ip x dh g i * Ideal.ofBits .f32 0x3A000000#32)

/-- The gradient of the gains. -/
def DG (x dh : Mat 256 2048) (j : Fin 2048) : EReal := ∑ i : Fin 256, dh (ix2 i j) * x (ix2 i j) * rs x i

/-- The block that each window reads or writes at a grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ) (c : Dev nD)

abbrev x : Mat 256 2048 := m ((c : Thread nD τ).loc main_arg0)
abbrev g : Mat 1 2048 := m ((c : Thread nD τ).loc main_arg1)
abbrev dh : Mat 256 2048 := m ((c : Thread nD τ).loc main_arg2)

variable (t : Fin cfg0.N) (r : Fin 256) (l : Fin 2048)

/-- The host computes the reciprocal roots that the kernel reads. -/
theorem rs_at (z : Fin 1) : iblk m c 1 t (ix2 r z) = rs (x m c) r := by
  blk_simp [iblk, idx t]
  entry_read
  pointwise [rs, ms]
  blk_point [idx t]

theorem dx_at : k0_pay2 (iblk m c 0 t) (iblk m c 1 t) (iblk m c 3 t) (iblk m c 2 t) (ix2 r l) =
    DX (x m c) (g m c) (dh m c) r l := by
  pointwise [k0_pay2, k0_pay1, DX, ip]
  rw [rs_at]
  blk_point [iblk, V, idx t]

theorem dg_at (z : Fin 1) : k0_pay4 (iblk m c 0 t) (iblk m c 1 t) (iblk m c 3 t) (ix2 z l) = DG (x m c) (dh m c) l := by
  pointwise [k0_pay4, k0_pay1, DG]
  simp only [rs_at]
  blk_point [iblk, V, idx t]

theorem emb4 : ((cfg0.win 4).blk t).view.emb (ix2 r l) = ix2 r l := by
  blk_ext [idx t]

theorem emb5 : ((cfg0.win 5).blk t).view.emb (ix2 r l) = ix2 r l := by
  blk_ext [idx t]

theorem emb6 (z : Fin 1) : ((cfg0.win 6).blk t).view.emb (ix2 z l) = ix2 z l := by
  blk_ext [idx t]

/-- What the grid point leaves. -/
theorem outs : outsAt0 m c t =
    (k0_pay2 (iblk m c 0 t) (iblk m c 1 t) (iblk m c 3 t) (iblk m c 2 t),
      k0_pay3 (iblk m c 0 t) (iblk m c 1 t) (iblk m c 3 t) (iblk m c 2 t),
      k0_pay4 (iblk m c 0 t) (iblk m c 1 t) (iblk m c 3 t)) := by
  unfold outsAt0
  frame_out

theorem final_dx : (dats m 0 c).arrAt 4 cfg0.N = fun i => DX (x m c) (g m c) (dh m c) (i 0) (i 1) := by
  refine (dats m 0 c).arrAt_eq_of_covers 4 _ (by decide +kernel) fun t hf y => ?_
  blk_simp
  rw [after0_4, outs]
  idx_vars y
  refine (dx_at m c t y0 y1).trans ?_
  exact congrArg₂ (DX _ _ _) (congrFun (emb4 t y0 y1) 0).symm (congrFun (emb4 t y0 y1) 1).symm

theorem final_dxb : (dats m 0 c).arrAt 5 cfg0.N = fun i => DX (x m c) (g m c) (dh m c) (i 0) (i 1) := by
  refine (dats m 0 c).arrAt_eq_of_covers 5 _ (by decide +kernel) fun t hf y => ?_
  blk_simp
  rw [after0_5, outs]
  idx_vars y
  refine Eq.trans ?_ ((dx_at m c t y0 y1).trans ?_)
  · pointwise [k0_pay3]
  · exact congrArg₂ (DX _ _ _) (congrFun (emb5 t y0 y1) 0).symm (congrFun (emb5 t y0 y1) 1).symm

theorem final_dg : (dats m 0 c).arrAt 6 cfg0.N = fun i => DG (x m c) (dh m c) (i 1) := by
  refine (dats m 0 c).arrAt_eq_of_covers 6 _ (by decide +kernel) fun t hf y => ?_
  blk_simp
  rw [after0_6, outs]
  idx_vars y
  refine (dg_at m c t y1 y0).trans ?_
  exact congrArg (DG _ _) (congrFun (emb6 t y1 y0) 1).symm

theorem frame_kernel : Cert.quiescent_MemBwd := fun m ρ _ => Cert.MemBwd.Gen.frame m ρ

theorem frame_ideal : Cert.quiescent_MemBwdIdeal := fun m ρ _ => Cert.MemBwdIdeal.Gen.frame m ρ

theorem frame_ref : Cert.quiescent_MemBwdRefIdeal := fun m ρ _ =>
  (θ_run _ _ _).mono (fun _ h => ⟨fun c => (h c).2.2.2, sem_eq_zero_of_no_sems rfl _⟩) (Cert.MemBwdRefIdeal.Value.run m ρ)

/-- Kernel and reference end with the same arrays. -/
theorem algebraic : Cert.algebraic_MemBwdIdeal_MemBwdRefIdeal := fun m ρ m' ρ' _ hm => by
  refine ⟨_, _, _, Cert.MemBwdIdeal.Value.run_blocks m ρ, (θ_run _ _ _).mono (fun r h c => ?_) (Cert.MemBwdRefIdeal.Value.run m' ρ')⟩
  obtain ⟨h0, h1, h2, ha⟩ := h c
  obtain ⟨a0, a1, a2⟩ := hm c
  rw [a0, a1, a2] at h0 h1
  rw [a0, a2] at h2
  refine ⟨h0.trans ((ext2 fun i j => ?_).trans (final_dx m c).symm), h1.trans ((ext2 fun i j => ?_).trans (final_dxb m c).symm),
    h2.trans ((ext2 (f := fun _ j => DG (x m c) (dh m c) j) fun i j => ?_).trans (final_dg m c).symm), ha⟩
  · pointwise [DX, ip, rs, ms]
    simp only [Finset.univ_unique, Finset.sum_singleton]
    rw [norm_grad (ms_pos _), mul_comm (_ * _) (Ideal.rsqrt _)]
  · pointwise [DX, ip, rs, ms]
    simp only [Finset.univ_unique, Finset.sum_singleton]
    rw [norm_grad (ms_pos _), mul_comm (_ * _) (Ideal.rsqrt _)]
  · pointwise [DG, rs, ms, MemBwd.x, MemBwd.dh]
    exact Finset.sum_congr rfl fun k _ => by ac_rfl

end Cert.Proof.MemBwd

end
-- ==== Proof.Products.RmsFwd.lean ====
/-
  The first normalization, and the factors of its rows.

  The kernel takes eight blocks of 256 rows.
-/
module

public import proofs.«01_k».proof.Defs
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.RmsFwd

open Cert.RmsFwdIdeal Cert.RmsFwdIdeal.Gen Idealize.ShloMosaic Idealize.ShloMosaic.TcCoe Idealize.SL.Sem

/-- One over the root of the mean of the squares of a row. -/
def rs (x : Mat 2048 2048) (i : Fin 2048) : EReal :=
  Ideal.rsqrt (Ideal.div (∑ k : Fin 2048, x (ix2 i k) * x (ix2 i k)) (Ideal.ofBits .f32 0x45000000#32) + Ideal.ofBits .f32 0x358637BD#32)

/-- The normalized row, times its gains. -/
def hn (x : Mat 2048 2048) (g : Mat 1 2048) (i : Fin 2048) (j : Fin 2048) : EReal := x (ix2 i j) * rs x i * g (ix2 0 j)

/-- The block that each window reads or writes at a grid point. -/
theorem idx : ∀ t : Fin cfg0.N, win0_0.index t = ![t.val, 0] ∧ win0_1.index t = ![0, 0] ∧ win0_2.index t = ![t.val, 0]
    ∧ win0_3.index t = ![t.val, 0] ∧ t.val < 8 :=
  (by decide +kernel : ∀ t : Fin grid0.N, _)

/-- Row `r` of the point's block, in the whole array. -/
def row (t : Fin cfg0.N) (r : Fin 256) : Fin 2048 := ⟨t.val * 256 + r, by have := (idx t).2.2.2.2; omega⟩

variable (m : (ℓ : Loc nD τ sig) → Buf (Elt Ideal) ℓ) (c : Dev nD)

abbrev x : Mat 2048 2048 := m ((c : Thread nD τ).loc main_arg0)
abbrev g : Mat 1 2048 := m ((c : Thread nD τ).loc main_arg1)

variable (t : Fin cfg0.N) (r : Fin 256) (l : Fin 2048)

theorem rs_at (z : Fin 1) : k0_pay1 (iblk m c 0 t) (ix2 r z) = rs (x m c) (row t r) := by
  pointwise [k0_pay1, rs]
  blk_point [iblk, V, idx t, row]

theorem hn_at : k0_pay2 (iblk m c 0 t) (iblk m c 1 t) (ix2 r l) = hn (x m c) (g m c) (row t r) l := by
  pointwise [k0_pay2, hn]
  rw [rs_at]
  blk_point [iblk, V, idx t, row]

theorem emb2 : ((cfg0.win 2).blk t).view.emb (ix2 r l) = ix2 (row t r) l := by
  blk_ext [idx t, row]

theorem emb3 (z : Fin 1) : ((cfg0.win 3).blk t).view.emb (ix2 r z) = ix2 (row t r) z := by
  blk_ext [idx t, row]

theorem final_h : (dats m 0 c).arrAt 2 cfg0.N = fun i => hn (x m c) (g m c) (i 0) (i 1) := by
  refine (dats m 0 c).arrAt_eq_of_covers 2 _ (by decide +kernel) fun t hf y => ?_
  blk_simp
  rw [after0_2]
  frame_out
  idx_vars y
  refine (hn_at m c t y0 y1).trans ?_
  exact congrArg₂ (hn _ _) (congrFun (emb2 t y0 y1) 0).symm (congrFun (emb2 t y0 y1) 1).symm

theorem final_rs : (dats m 0 c).arrAt 3 cfg0.N = fun i => rs (x m c) (i 0) := by
  refine (dats m 0 c).arrAt_eq_of_covers 3 _ (by decide +kernel) fun t hf y => ?_
  blk_simp
  rw [after0_3]
  frame_out
  idx_vars y
  refine (rs_at m c t y0 y1).trans ?_
  exact congrArg (rs _) (congrFun (emb3 t y0 y1) 0).symm

theorem frame_kernel : Cert.quiescent_RmsFwd := fun m ρ _ => Cert.RmsFwd.Gen.frame m ρ

theorem frame_ideal : Cert.quiescent_RmsFwdIdeal := fun m ρ _ => Cert.RmsFwdIdeal.Gen.frame m ρ

theorem frame_ref : Cert.quiescent_RmsFwdRefIdeal := fun m ρ _ =>
  (θ_run _ _ _).mono (fun _ h => ⟨fun c => (h c).2.2, sem_eq_zero_of_no_sems rfl _⟩) (Cert.RmsFwdRefIdeal.Value.run m ρ)

/-- Kernel and reference end with the same arrays. -/
theorem algebraic : Cert.algebraic_RmsFwdIdeal_RmsFwdRefIdeal := fun m ρ m' ρ' _ hm => by
  refine ⟨_, _, Cert.RmsFwdIdeal.Value.run_blocks m ρ, (θ_run _ _ _).mono (fun r h c => ?_) (Cert.RmsFwdRefIdeal.Value.run m' ρ')⟩
  obtain ⟨h0, h1, ha⟩ := h c
  obtain ⟨a0, a1⟩ := hm c
  rw [a0, a1] at h0
  rw [a0] at h1
  refine ⟨h0.trans ((ext2 fun i j => ?_).trans (final_h m c).symm),
    h1.trans ((ext2 (f := fun i _ => rs (x m c) i) fun i j => ?_).trans (final_rs m c).symm), ha⟩
  · pointwise [hn, rs]
  · pointwise [rs]

end Cert.Proof.RmsFwd

end
-- ==== Proof.Products.MemFwd.lean ====
/-
  The memory's normalization, and the factors of its rows.

  The kernel takes all rows at one grid point.
-/
module

public import proofs.«01_k».proof.Defs
public import proofs.«01_k».proof.Proof.Gen.MemFwd.Frame
public import proofs.«01_k».proof.Proof.Gen.MemFwdIdeal.Value
public import proofs.«01_k».proof.Proof.Gen.MemFwdRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.MemFwd

open Cert.MemFwdIdeal Cert.MemFwdIdeal.Gen Idealize.ShloMosaic Idealize.ShloMosaic.TcCoe Idealize.SL.Sem

/-- One over the root of the mean of the squares of a row. -/
def rs (x : Mat 256 2048) (i : Fin 256) : EReal :=
  Ideal.rsqrt (Ideal.div (∑ k : Fin 2048, x (ix2 i k) * x (ix2 i k)) (Ideal.ofBits .f32 0x45000000#32) + Ideal.ofBits .f32 0x358637BD#32)

/-- The normalized row, times its gains. -/
def hn (x : Mat 256 2048) (g : Mat 1 2048) (i : Fin 256) (j : Fin 2048) : EReal := x (ix2 i j) * rs x i * g (ix2 0 j)

/-- The block that each window reads or writes at a grid point. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

variable (m : (ℓ : Loc nD τ sig) → Buf (Elt Ideal) ℓ) (c : Dev nD)

abbrev x : Mat 256 2048 := m ((c : Thread nD τ).loc main_arg0)
abbrev g : Mat 1 2048 := m ((c : Thread nD τ).loc main_arg1)

variable (t : Fin cfg0.N) (r : Fin 256) (l : Fin 2048)

theorem rs_at (z : Fin 1) : k0_pay1 (iblk m c 0 t) (ix2 r z) = rs (x m c) r := by
  pointwise [k0_pay1, rs]
  blk_point [iblk, V, idx t]

theorem hn_at : k0_pay2 (iblk m c 0 t) (iblk m c 1 t) (ix2 r l) = hn (x m c) (g m c) r l := by
  pointwise [k0_pay2, hn]
  rw [rs_at]
  blk_point [iblk, V, idx t]

theorem emb2 : ((cfg0.win 2).blk t).view.emb (ix2 r l) = ix2 r l := by
  blk_ext [idx t]

theorem emb3 (z : Fin 1) : ((cfg0.win 3).blk t).view.emb (ix2 r z) = ix2 r z := by
  blk_ext [idx t]

theorem final_h : (dats m 0 c).arrAt 2 cfg0.N = fun i => hn (x m c) (g m c) (i 0) (i 1) := by
  refine (dats m 0 c).arrAt_eq_of_covers 2 _ (by decide +kernel) fun t hf y => ?_
  blk_simp
  rw [after0_2]
  frame_out
  idx_vars y
  refine (hn_at m c t y0 y1).trans ?_
  exact congrArg₂ (hn _ _) (congrFun (emb2 t y0 y1) 0).symm (congrFun (emb2 t y0 y1) 1).symm

theorem final_rs : (dats m 0 c).arrAt 3 cfg0.N = fun i => rs (x m c) (i 0) := by
  refine (dats m 0 c).arrAt_eq_of_covers 3 _ (by decide +kernel) fun t hf y => ?_
  blk_simp
  rw [after0_3]
  frame_out
  idx_vars y
  refine (rs_at m c t y0 y1).trans ?_
  exact congrArg (rs _) (congrFun (emb3 t y0 y1) 0).symm

theorem frame_kernel : Cert.quiescent_MemFwd := fun m ρ _ => Cert.MemFwd.Gen.frame m ρ

theorem frame_ideal : Cert.quiescent_MemFwdIdeal := fun m ρ _ => Cert.MemFwdIdeal.Gen.frame m ρ

theorem frame_ref : Cert.quiescent_MemFwdRefIdeal := fun m ρ _ =>
  (θ_run _ _ _).mono (fun _ h => ⟨fun c => (h c).2.2, sem_eq_zero_of_no_sems rfl _⟩) (Cert.MemFwdRefIdeal.Value.run m ρ)

/-- Kernel and reference end with the same arrays. -/
theorem algebraic : Cert.algebraic_MemFwdIdeal_MemFwdRefIdeal := fun m ρ m' ρ' _ hm => by
  refine ⟨_, _, Cert.MemFwdIdeal.Value.run_blocks m ρ, (θ_run _ _ _).mono (fun r h c => ?_) (Cert.MemFwdRefIdeal.Value.run m' ρ')⟩
  obtain ⟨h0, h1, ha⟩ := h c
  obtain ⟨a0, a1⟩ := hm c
  rw [a0, a1] at h0
  rw [a0] at h1
  refine ⟨h0.trans ((ext2 fun i j => ?_).trans (final_h m c).symm),
    h1.trans ((ext2 (f := fun i _ => rs (x m c) i) fun i j => ?_).trans (final_rs m c).symm), ha⟩
  · pointwise [hn, rs]
  · pointwise [rs]

end Cert.Proof.MemFwd

end
-- ==== Proof.Products.KV.lean ====
/-
  The memory's keys and values: `kv[i, j] = ∑ k, mem_h[i, k] · w_mem_kv[k, j]`.

  The kernel computes them at one grid point.
-/
module

public import proofs.«01_k».proof.Defs
public import proofs.«01_k».proof.Proof.Gen.KV.Frame
public import proofs.«01_k».proof.Proof.Gen.KVIdeal.Value
public import proofs.«01_k».proof.Proof.Gen.KVRefIdeal.Run
public import proofs.«01_k».proof.Proof.Mats
public import Idealize.ShloMosaic.Lib.Pipeline.ValueKit
public import Idealize.ShloMosaic.Lib.Quiescent

@[expose] public section

set_option maxRecDepth 16384

noncomputable section

namespace Cert.Proof.KV

open Cert.KVIdeal Cert.KVIdeal.Gen Idealize.ShloMosaic Idealize.ShloMosaic.TcCoe Idealize.SL.Sem

/-- The product. -/
def G (h : Mat 256 2048) (w : Mat 2048 1024) (i : Fin 256) (j : Fin 1024) : EReal := ∑ k : Fin 2048, h (ix2 i k) * w (ix2 k j)

/-- The block that each window reads or writes at a grid point. -/
theorem idx : ∀ t : Fin cfg0.N, win0_0.index t = ![0, 0] ∧ win0_1.index t = ![0, 0]
    ∧ win0_2.index t = ![0, 0] :=
  (by decide +kernel : ∀ t : Fin grid0.N, _)

variable (m : (ℓ : Loc nD τ sig) → Buf (Elt Ideal) ℓ) (c : Dev nD)

abbrev h : Mat 256 2048 := m ((c : Thread nD τ).loc main_arg0)
abbrev w : Mat 2048 1024 := m ((c : Thread nD τ).loc main_arg1)

variable (t : Fin cfg0.N) (r : Fin 256) (l : Fin 1024)

/-- What a grid point computes, at an index of its tile. -/
theorem tile_at : k0_pay1 (iblk m c 0 t) (iblk m c 1 t) (ix2 r l) = G (h m c) (w m c) r l := by
  pointwise [k0_pay1, G]
  blk_point [iblk, V, idx t]

theorem emb : ((cfg0.win 2).blk t).view.emb (ix2 r l) = ix2 r l := by
  blk_ext [idx t]

/-- The result array after the run. -/
theorem final : (dats m 0 c).arrAt 2 cfg0.N = fun i => G (h m c) (w m c) (i 0) (i 1) := by
  refine (dats m 0 c).arrAt_eq_of_covers 2 _ (by decide +kernel) fun t hf y => ?_
  blk_simp
  rw [after0_2]
  frame_out
  idx_vars y
  refine (tile_at m c t y0 y1).trans ?_
  exact congrArg₂ (G _ _) (congrFun (emb t y0 y1) 0).symm (congrFun (emb t y0 y1) 1).symm

theorem frame_kernel : Cert.quiescent_KV := fun m ρ _ => Cert.KV.Gen.frame m ρ

theorem frame_ideal : Cert.quiescent_KVIdeal := fun m ρ _ => Cert.KVIdeal.Gen.frame m ρ

theorem frame_ref : Cert.quiescent_KVRefIdeal := fun m ρ _ =>
  (θ_run _ _ _).mono (fun _ h => ⟨fun c => (h c).2, sem_eq_zero_of_no_sems rfl _⟩) (Cert.KVRefIdeal.Value.run m ρ)

/-- Kernel and reference end with the same array. -/
theorem algebraic : Cert.algebraic_KVIdeal_KVRefIdeal := fun m ρ m' ρ' _ hm => by
  refine ⟨_, Cert.KVIdeal.Value.run_blocks m ρ, (θ_run _ _ _).mono (fun r h c => ?_) (Cert.KVRefIdeal.Value.run m' ρ')⟩
  obtain ⟨h0, ha⟩ := h c
  obtain ⟨a0, a1⟩ := hm c
  rw [a0, a1] at h0
  refine ⟨h0.trans ((ext2 fun i j => ?_).trans (final m c).symm), ha⟩
  pointwise [G]

end Cert.Proof.KV

end
-- ==== Proof.AFwd.Kernel.lean ====
/-
  The forward pass of the gated mixer: what the kernel computes, chunk by chunk of 128 rows.

  The arrays of a chunk are those of the gradient's specification.
-/
module

public import proofs.«01_k».proof.Defs
public import proofs.«01_k».proof.Proof.Gen.AFwd.Frame
public import proofs.«01_k».proof.Proof.Gen.AFwdIdeal.Value
public import proofs.«01_k».proof.Proof.ABwd.Outputs
public import Idealize.ShloMosaic.Lib.Pipeline.ValueKit
public import Idealize.ShloMosaic.Lib.Pipeline.ReadBack

@[expose] public section

set_option maxRecDepth 16384

noncomputable section

namespace Cert.Proof.AFwd

open Cert.AFwdIdeal Cert.AFwdIdeal.Gen Idealize.ShloMosaic Idealize.ShloMosaic.TcCoe Idealize.SL.Sem
open Cert.Proof.ABwd (Arr th half ge gel ms rr vr vn wm gate tile tileb colv rowv tile_at tileb_at colv_at rowv_at tile_ext tileb_ext colv_ext
  rowv_ext causal bits_512 bits_inv_512 row lane ucol vcol uOf vOf gOf wOf bOf grp pos grp_eq pos_eq cnk plc cnk_row plc_row ld_tile ld_row)

variable (u v : Arr) (gv : Fin 4 → Fin 128 → EReal) (w : Arr) (b : Fin 4 → Fin 128 → EReal)

/-- The gated rows. -/
def out : Arr := fun g r l => gel u g r l * gate v gv w b g r l

/-! One point's intermediate arrays. -/

theorem v_0 : k0_pay13 (F := Ideal) (tile v 0) = tile (gel v) 0 := tile_ext fun r l => by
  pointwise [k0_pay13, gel, ge, half, th, tile_at]

theorem v_1 : k0_pay14 (F := Ideal) (tile v 1) = tile (gel v) 1 := tile_ext fun r l => by
  pointwise [k0_pay14, gel, ge, half, th, tile_at]

theorem v_2 : k0_pay16 (F := Ideal) (tile v 2) (k0_pay15 (F := Ideal) (tile v 2)) = tile (gel v) 2 := tile_ext fun r l => by
  pointwise [k0_pay16, k0_pay15, gel, ge, half, th, tile_at]

theorem v_3 : k0_pay17 (F := Ideal) (tile v 3) = tile (gel v) 3 := tile_ext fun r l => by
  pointwise [k0_pay17, gel, ge, half, th, tile_at]

theorem rr_eq : k0_pay18 (F := Ideal) (tile v 2) (tile v 3) (tile (gel v) 0) (tile (gel v) 1) (k0_pay15 (F := Ideal) (tile v 2))
    = colv (rr v) := colv_ext fun r k => by
  pointwise [k0_pay18, v_2, v_3, rr, ms, tile_at]
  rw [Fin.sum_univ_four, bits_512, bits_inv_512, Ideal.div_coe (by norm_num)]

theorem vn_0 : k0_pay19 (F := Ideal) (tile v 2) (tile v 3) (rowv (gv 0)) (tile (gel v) 0) (tile (gel v) 1) (k0_pay15 (F := Ideal) (tile v 2))
    = tile (vn v gv) 0 := tile_ext fun r l => by
  pointwise [k0_pay19, rr_eq, colv_at, rowv_at, tile_at, vn, vr]

theorem vn_2 : k0_pay23 (F := Ideal) (rowv (gv 2)) (tile (gel v) 2) (colv (rr v)) = tile (vn v gv) 2 := tile_ext fun r l => by
  pointwise [k0_pay23, colv_at, rowv_at, tile_at, vn, vr]

theorem wm_0 : k0_pay20 (F := Ideal) (tile w 0) k0_pay12 = tile (wm w) 0 := tile_ext fun r l => by
  pointwise [k0_pay20, k0_pay12, wm, tile_at, causal]

theorem y_0 : k0_pay26 (F := Ideal) (k0_pay21 (F := Ideal) (tile u 0) (colv (b 0)) (tile (vn v gv) 0) (tile (wm w) 0))
    = tileb (out u v gv w b) 0 := tileb_ext fun r l => by
  pointwise [k0_pay26, k0_pay21, tile_at, colv_at, out, gate, gel, ge, half, th]

theorem y_1 : k0_pay1 (F := Ideal) (k0_pay22 (F := Ideal) (tile u 1) (rowv (gv 1)) (tile w 1) (colv (b 1)) k0_pay12 (tile (gel v) 1) (colv (rr v)))
    = tileb (out u v gv w b) 1 := tileb_ext fun r l => by
  pointwise [k0_pay1, k0_pay22, k0_pay12, tile_at, colv_at, rowv_at, causal, out, gate, wm, vn, vr, gel, ge, half, th]

theorem y_2 : k0_pay2 (F := Ideal) (k0_pay24 (F := Ideal) (tile u 2) (tile w 2) (colv (b 2)) k0_pay12 (tile (vn v gv) 2)
    (Scalar.ofBits .f32 0x00000000#32 : Ideal .f32)) = tileb (out u v gv w b) 2 := tileb_ext fun r l => by
  pointwise [k0_pay2, k0_pay24, k0_pay12, tile_at, colv_at, causal, out, gate, wm, gel, ge, half, th]

theorem y_3 : k0_pay3 (F := Ideal) (k0_pay25 (F := Ideal) (tile u 3) (rowv (gv 3)) (tile w 3) (colv (b 3)) k0_pay12 (tile (gel v) 3) (colv (rr v)))
    = tileb (out u v gv w b) 3 := tileb_ext fun r l => by
  pointwise [k0_pay3, k0_pay25, k0_pay12, tile_at, colv_at, rowv_at, causal, out, gate, wm, vn, vr, gel, ge, half, th]

/-! The blocks. -/

/-- Each point's blocks: row block `t` of both halves and of the result; the rest is one block. -/
theorem idx : ∀ t : Fin cfg0.N, win0_0.index t = ![t.val, 0] ∧ win0_1.index t = ![t.val, 1]
    ∧ win0_2.index t = ![0, 0] ∧ win0_3.index t = ![0, 0, 0] ∧ win0_4.index t = ![0, 0] ∧ win0_5.index t = ![t.val, 0] ∧ t.val < 16 :=
  (by decide +kernel : ∀ t : Fin grid0.N, _)

/-- The point's chunk. -/
def chunk (t : Fin cfg0.N) : Fin 16 := ⟨t.val, (idx t).2.2.2.2.2.2⟩

variable (m : (ℓ : Loc nD τ sig) → Buf (Elt Ideal) ℓ) (c : Dev nD) (t : Fin cfg0.N)

/-! The argument arrays. -/
abbrev proj : Mat 2048 8960 := m ((c : Thread nD τ).loc main_arg0)
abbrev scale : Mat 1 512 := m ((c : Thread nD τ).loc main_arg1)
abbrev wts : FVec Ideal S4x128x128 .f32 := m ((c : Thread nD τ).loc main_arg2)
abbrev bias : Mat 4 128 := m ((c : Thread nD τ).loc main_arg3)

/-! The point's arrays. -/
abbrev U : Arr := uOf (proj m c) (chunk t)
abbrev W : Arr := vOf (proj m c) (chunk t)
abbrev G : Fin 4 → Fin 128 → EReal := gOf (scale m c)
abbrev A : Arr := wOf (wts m c)
abbrev B : Fin 4 → Fin 128 → EReal := bOf (bias m c)

section
variable (r : Fin 128) (l : Fin 512)

theorem u_block : X0_0 m c t (ix2 r l) = proj m c (ix2 (row (chunk t) r) (ucol l)) := by
  unfold X0_0 Pipeline.Window.fill
  rw [dif_pos (moved0_0 t _)]
  blk_ext [iblk, V, idx t, row, chunk, ucol]

theorem v_block : X0_1 m c t (ix2 r l) = proj m c (ix2 (row (chunk t) r) (vcol l)) := by
  unfold X0_1 Pipeline.Window.fill
  rw [dif_pos (moved0_1 t _)]
  blk_ext [iblk, V, idx t, row, chunk, vcol]

theorem g_block : iblk m c 2 t (ix2 0 l) = scale m c (ix2 0 l) := by
  blk_ext [iblk, V, idx t]

theorem w_block (g : Fin 4) (s : Fin 128) : iblk m c 3 t (ix3 g r s) = wts m c (ix3 g r s) := by
  blk_ext [iblk, V, idx t]

theorem b_block (g : Fin 4) : iblk m c 4 t (ix2 r g) = bias m c (ix2 g r) := by
  blk_ext! [iblk, V, idx t]

theorem emb5 : ((cfg0.win 5).blk t).view.emb (ix2 r l) = ix2 (row (chunk t) r) l := by
  blk_ext [idx t, row, chunk]

end

/-! The loads. -/

theorem u_ld0 : View.ld (X0_0 m c t) (Rect.unit ![0, 0] ![128, 128] inb_S128x512_S128x128_0_0) = tile (U m c t) 0 :=
  tile_ext fun r l => (ld_tile _ 0 rfl _ r l).trans (u_block m c t r (lane 0 l))

theorem v_ld0 : View.ld (X0_1 m c t) (Rect.unit ![0, 0] ![128, 128] inb_S128x512_S128x128_0_0) = tile (W m c t) 0 :=
  tile_ext fun r l => (ld_tile _ 0 rfl _ r l).trans (v_block m c t r (lane 0 l))

theorem g_ld0 : View.ld (iblk m c 2 t) (Rect.unit ![0, 0] ![1, 128] inb_S1x512_S1x128_0_0) = rowv (G m c 0) :=
  rowv_ext fun k l => (ld_row _ 0 rfl _ k l).trans (g_block m c t (lane 0 l))

theorem w_ld0 : k0_pay4 (View.ld (iblk m c 3 t) (Rect.unit ![0, 0, 0] ![1, 128, 128] inb_S4x128x128_S1x128x128_0_0_0)) = tile (A m c) 0 :=
  tile_ext fun r l => by
    refine Eq.trans ?_ (w_block m c t r 0 l)
    pointwise [k0_pay4]
    blk_ext

theorem b_ld0 : k0_pay8 (View.ld (iblk m c 4 t) (Rect.unit ![0, 0] ![128, 1] inb_S128x4_S128x1_0_0)) = colv (B m c 0) :=
  colv_ext fun r k => by
    refine Eq.trans ?_ (b_block m c t r 0)
    pointwise [k0_pay8]
    blk_ext

theorem u_ld1 : View.ld (X0_0 m c t) (Rect.unit ![0, 128] ![128, 128] inb_S128x512_S128x128_0_128) = tile (U m c t) 1 :=
  tile_ext fun r l => (ld_tile _ 1 rfl _ r l).trans (u_block m c t r (lane 1 l))

theorem v_ld1 : View.ld (X0_1 m c t) (Rect.unit ![0, 128] ![128, 128] inb_S128x512_S128x128_0_128) = tile (W m c t) 1 :=
  tile_ext fun r l => (ld_tile _ 1 rfl _ r l).trans (v_block m c t r (lane 1 l))

theorem g_ld1 : View.ld (iblk m c 2 t) (Rect.unit ![0, 128] ![1, 128] inb_S1x512_S1x128_0_128) = rowv (G m c 1) :=
  rowv_ext fun k l => (ld_row _ 1 rfl _ k l).trans (g_block m c t (lane 1 l))

theorem w_ld1 : k0_pay5 (View.ld (iblk m c 3 t) (Rect.unit ![1, 0, 0] ![1, 128, 128] inb_S4x128x128_S1x128x128_1_0_0)) = tile (A m c) 1 :=
  tile_ext fun r l => by
    refine Eq.trans ?_ (w_block m c t r 1 l)
    pointwise [k0_pay5]
    blk_ext

theorem b_ld1 : k0_pay9 (View.ld (iblk m c 4 t) (Rect.unit ![0, 1] ![128, 1] inb_S128x4_S128x1_0_1)) = colv (B m c 1) :=
  colv_ext fun r k => by
    refine Eq.trans ?_ (b_block m c t r 1)
    pointwise [k0_pay9]
    blk_ext

theorem u_ld2 : View.ld (X0_0 m c t) (Rect.unit ![0, 256] ![128, 128] inb_S128x512_S128x128_0_256) = tile (U m c t) 2 :=
  tile_ext fun r l => (ld_tile _ 2 rfl _ r l).trans (u_block m c t r (lane 2 l))

theorem v_ld2 : View.ld (X0_1 m c t) (Rect.unit ![0, 256] ![128, 128] inb_S128x512_S128x128_0_256) = tile (W m c t) 2 :=
  tile_ext fun r l => (ld_tile _ 2 rfl _ r l).trans (v_block m c t r (lane 2 l))

theorem g_ld2 : View.ld (iblk m c 2 t) (Rect.unit ![0, 256] ![1, 128] inb_S1x512_S1x128_0_256) = rowv (G m c 2) :=
  rowv_ext fun k l => (ld_row _ 2 rfl _ k l).trans (g_block m c t (lane 2 l))

theorem w_ld2 : k0_pay6 (View.ld (iblk m c 3 t) (Rect.unit ![2, 0, 0] ![1, 128, 128] inb_S4x128x128_S1x128x128_2_0_0)) = tile (A m c) 2 :=
  tile_ext fun r l => by
    refine Eq.trans ?_ (w_block m c t r 2 l)
    pointwise [k0_pay6]
    blk_ext

theorem b_ld2 : k0_pay10 (View.ld (iblk m c 4 t) (Rect.unit ![0, 2] ![128, 1] inb_S128x4_S128x1_0_2)) = colv (B m c 2) :=
  colv_ext fun r k => by
    refine Eq.trans ?_ (b_block m c t r 2)
    pointwise [k0_pay10]
    blk_ext

theorem u_ld3 : View.ld (X0_0 m c t) (Rect.unit ![0, 384] ![128, 128] inb_S128x512_S128x128_0_384) = tile (U m c t) 3 :=
  tile_ext fun r l => (ld_tile _ 3 rfl _ r l).trans (u_block m c t r (lane 3 l))

theorem v_ld3 : View.ld (X0_1 m c t) (Rect.unit ![0, 384] ![128, 128] inb_S128x512_S128x128_0_384) = tile (W m c t) 3 :=
  tile_ext fun r l => (ld_tile _ 3 rfl _ r l).trans (v_block m c t r (lane 3 l))

theorem g_ld3 : View.ld (iblk m c 2 t) (Rect.unit ![0, 384] ![1, 128] inb_S1x512_S1x128_0_384) = rowv (G m c 3) :=
  rowv_ext fun k l => (ld_row _ 3 rfl _ k l).trans (g_block m c t (lane 3 l))

theorem w_ld3 : k0_pay7 (View.ld (iblk m c 3 t) (Rect.unit ![3, 0, 0] ![1, 128, 128] inb_S4x128x128_S1x128x128_3_0_0)) = tile (A m c) 3 :=
  tile_ext fun r l => by
    refine Eq.trans ?_ (w_block m c t r 3 l)
    pointwise [k0_pay7]
    blk_ext

theorem b_ld3 : k0_pay11 (View.ld (iblk m c 4 t) (Rect.unit ![0, 3] ![128, 1] inb_S128x4_S128x1_0_3)) = colv (B m c 3) :=
  colv_ext fun r k => by
    refine Eq.trans ?_ (b_block m c t r 3)
    pointwise [k0_pay11]
    blk_ext

/-! The result. -/

theorem out_eq (r : Fin 128) {j : Fin 512} {o : Nat} {x : Fin 128} (h : j.val = o + x.val) (ho : o % 128 = 0) :
    out u v gv w b (grp j) r (pos j) = out u v gv w b ⟨o / 128, by omega⟩ r x := by
  rw [grp_eq (x := x) h ho, pos_eq (x := x) h ho]

set_option maxHeartbeats 4000000 in
theorem out_at (r : Fin 128) (j : Fin 512) : outsAt0 m c t (ix2 r j) = out (U m c t) (W m c t) (G m c) (A m c) (B m c) (grp j) r (pos j) := by
  unfold outsAt0
  frame_out
  simp only [u_ld0, v_ld0, g_ld0, w_ld0, b_ld0, u_ld1, v_ld1, g_ld1, w_ld1, b_ld1, u_ld2, v_ld2, g_ld2, w_ld2, b_ld2, u_ld3, v_ld3, g_ld3, w_ld3, b_ld3, v_0, v_1, v_2, v_3, rr_eq, vn_0, vn_2, wm_0, y_0, y_1, y_2, y_3]
  canon_tiles x h
  all_goals
    obtain rfl : r = x 0 := Fin.ext h0
    first
    | refine Eq.trans ?_ (out_eq _ _ _ _ _ _ (j := j) (x := x 1) h1 rfl).symm
    | refine Eq.trans ?_ (out_eq _ _ _ _ _ _ (j := j) (x := x 1) (h1.trans (Nat.zero_add _).symm) rfl).symm
    unfold tileb
    rfl

/-- The whole result. -/
def fOut (p : Mat 2048 8960) (s : Mat 1 512) (x : FVec Ideal S4x128x128 .f32) (y : Mat 4 128) (i : Fin 2048) (j : Fin 512) : EReal :=
  out (uOf p (cnk i)) (vOf p (cnk i)) (gOf s) (wOf x) (bOf y) (grp j) (plc i) (pos j)

theorem final_out : (dats m 0 c).arrAt 5 cfg0.N = fun i => fOut (proj m c) (scale m c) (wts m c) (bias m c) (i 0) (i 1) := by
  refine (dats m 0 c).arrAt_eq_of_covers 5 _ (by decide +kernel) fun t hf y => ?_
  blk_simp
  rw [after0_5]
  idx_vars y
  refine ((out_at m c t y0 y1).trans ?_).trans
    (congrArg₂ (fOut _ _ _ _) (congrFun (emb5 t y0 y1) 0).symm (congrFun (emb5 t y0 y1) 1).symm)
  show _ = fOut _ _ _ _ (row (chunk t) y0) y1
  unfold fOut
  rw [cnk_row, plc_row]

end Cert.Proof.AFwd

end
-- ==== Proof.AFwd.Claim.lean ====
/-
  The forward pass of the gated mixer: what the reference computes, and the five claims.
-/
module

public import proofs.«01_k».proof.Proof.Gen.AFwdRefIdeal.Read
public import proofs.«01_k».proof.Proof.Gen.AFwdRefIdeal.Run
public import proofs.«01_k».proof.Proof.AFwd.Kernel
public import Idealize.ShloMosaic.Lib.Quiescent

@[expose] public section

set_option maxRecDepth 16384

noncomputable section

namespace Cert.Proof.AFwd

open Idealize.ShloMosaic Idealize.ShloMosaic.TcCoe Idealize.SL.Sem

namespace Ref

open Cert.AFwdRefIdeal Cert.AFwdRefIdeal.Read
open Cert.Proof.ABwd (th half ge gel ms rr vr vn wm gate row lane ucol vcol uOf vOf gOf wOf bOf grp pos cnk plc cnk_row plc_row causal)

variable (p : Mat 2048 8960) (gv : Mat 1 512) (w : FVec Ideal S4x128x128 .f32) (b : Mat 4 128)
variable (n : Fin 16) (g : Fin 4) (r l : Fin 128)

theorem u_at : val_main_v0 (F := Ideal) p (ix2 (row n r) (lane g l)) = uOf p n g r l := by
  pointwise [val_main_v0, uOf]
  blk_ext [ucol]

theorem v_at : val_main_v1 (F := Ideal) p (ix2 (row n r) (lane g l)) = vOf p n g r l := by
  pointwise [val_main_v1, vOf]
  blk_ext [vcol]

theorem tu_at : val_main_v9 (F := Ideal) p (ix2 (row n r) (lane g l)) = th (uOf p n g r l) := by
  pointwise [val_main_v9, val_main_v8, val_main_v7, val_main_v6, val_main_v5, val_main_v4, val_main_v3, val_main_v2,
    val_main_cst, val_main_cst_0, u_at, th, mul_assoc]

theorem tv_at : val_main_v22 (F := Ideal) p (ix2 (row n r) (lane g l)) = th (vOf p n g r l) := by
  pointwise [val_main_v22, val_main_v21, val_main_v20, val_main_v19, val_main_v18, val_main_v17, val_main_v16, val_main_v15,
    val_main_cst_3, val_main_cst_4, v_at, th, mul_assoc]

theorem gelu_at : val_main_v14 (F := Ideal) p (ix2 (row n r) (lane g l)) = gel (uOf p n) g r l := by
  pointwise [val_main_v14, val_main_v13, val_main_v12, val_main_v11, val_main_v10, val_main_cst_1, val_main_cst_2, tu_at, u_at, gel, ge, half]

theorem gelv_at : val_main_v27 (F := Ideal) p (ix2 (row n r) (lane g l)) = gel (vOf p n) g r l := by
  pointwise [val_main_v27, val_main_v26, val_main_v25, val_main_v24, val_main_v23, val_main_cst_5, val_main_cst_6, tv_at, v_at, gel, ge, half]

theorem ms_at (k : Fin 1) : val_main_v34 (F := Ideal) p (ix2 (row n r) k) = ms (vOf p n) r := by
  have e : (∑ g, ∑ l, gel (vOf p n) g r l * gel (vOf p n) g r l : EReal)
      = ∑ j, val_main_v27 (F := Ideal) p (ix2 (row n r) j) * val_main_v27 (F := Ideal) p (ix2 (row n r) j) :=
    Fin.sum_mul_add_congr fun g l _ => by
      rw [← gelv_at]
      rfl
  pointwise [val_main_v34, val_main_v33, val_main_v32, val_main_v31, val_main_v30, val_main_v29, val_main_v28, val_main_cst_7, val_main_cst_8, val_main_cst_9, ms, e]

theorem vn_at : val_main_v39 (F := Ideal) p gv (ix2 (row n r) (lane g l)) = vn (vOf p n) (gOf gv) g r l := by
  pointwise [val_main_v39, val_main_v38, val_main_v37, val_main_v36, val_main_v35, gelv_at, ms_at, rr, vr, vn, gOf]

/-! Chunks, rows, groups and columns apart, and together. -/

theorem apart (x : Mat 2048 512) (h : S2048x512.ShapeCasts S16x128x4x128) :
    shapeCast S16x128x4x128 x h (ix4 n r g l) = x (ix2 (row n r) (lane g l)) := by
  pointwise
  blk_ext [row, lane]

theorem together (x : FVec Ideal S16x128x4x128 .f32) (h : S16x128x4x128.ShapeCasts S2048x512) :
    shapeCast S2048x512 x h (ix2 (row n r) (lane g l)) = x (ix4 n r g l) := by
  pointwise
  blk_ext [row, lane]

theorem vn4 : val_main_v40 (F := Ideal) p gv (ix4 n r g l) = vn (vOf p n) (gOf gv) g r l :=
  (apart n g r l _ _).trans (vn_at p gv n g r l)

theorem tril (s : Fin 128) (x y : EReal) :
    Scalar.select (Scalar.select (IntOp.cmpi CmpIPredicate.sge (IntOp.addi (BitVec.ofNat 32 r) 0#32) (BitVec.ofNat 32 s)) (1#1) (0#1)) x y
      = if s ≤ r then x else y := by
  rw [← causal, show IntOp.addi (BitVec.ofNat 32 r) 0#32 = BitVec.ofNat 32 r from BitVec.add_zero _]
  rcases (IntOp.cmpi CmpIPredicate.sge (BitVec.ofNat 32 r) (BitVec.ofNat 32 s)).eq_zero_or_eq_one with h | h <;> rw [h] <;> rfl

theorem wm_at (s : Fin 128) : val_main_v45 (F := Ideal) w (ix3 g r s) = wm (wOf w) g r s := by
  pointwise [val_main_v45, val_main_call1_v0, val_main_v44, val_main_v43, val_main_v42, val_main_v41, val_main_c, val_main_cst_10,
    val_main_call0_v5, val_main_call0_v4, val_main_call0_v3, val_main_call0_v2, val_main_call0_v1, val_main_call0_v0, val_main_call0_c, val_main_call0_c_0, wm, wOf]
  exact tril r s _ _

theorem gate4 : val_main_v51 (F := Ideal) p gv w b (ix4 n r g l) = gate (vOf p n) (gOf gv) (wOf w) (bOf b) g r l := by
  pointwise [val_main_v51, val_main_v50, val_main_v49, val_main_v48, val_main_v47, val_main_v46, vn4, wm_at, gate, bOf]
  exact congrArg (· + _) (Finset.sum_congr rfl fun s _ => mul_comm _ _)

theorem gate_at : val_main_v52 (F := Ideal) p gv w b (ix2 (row n r) (lane g l)) = gate (vOf p n) (gOf gv) (wOf w) (bOf b) g r l :=
  (together n g r l _ _).trans (gate4 p gv w b n g r l)

theorem out_at : val_main_v54 (F := Ideal) p gv w b (ix2 (row n r) (lane g l)) = out (uOf p n) (vOf p n) (gOf gv) (wOf w) (bOf b) g r l := by
  pointwise [val_main_v54, val_main_v53, gelu_at, gate_at, out]

theorem out_res (i : Fin 2048) (j : Fin 512) : val_main_v54 (F := Ideal) p gv w b (ix2 i j) = fOut p gv w b i j := by
  have ei : i = row (cnk i) (plc i) := by ext; simp only [row, cnk, plc]; omega
  have ej : j = lane (grp j) (pos j) := by ext; simp only [lane, grp, pos]; omega
  exact (congrArg _ (congrArg₂ ix2 ei ej)).trans (out_at p gv w b (cnk i) (grp j) (plc i) (pos j))

end Ref

theorem frame_kernel : Cert.quiescent_AFwd := fun m ρ _ => Cert.AFwd.Gen.frame m ρ

theorem frame_ideal : Cert.quiescent_AFwdIdeal := fun m ρ _ => Cert.AFwdIdeal.Gen.frame m ρ

theorem frame_ref : Cert.quiescent_AFwdRefIdeal := fun m ρ _ =>
  (θ_run _ _ _).mono (fun _ h => ⟨fun c => (h c).2, sem_eq_zero_of_no_sems rfl _⟩) (Cert.AFwdRefIdeal.Value.run m ρ)

section
open Cert.AFwdIdeal Cert.AFwdIdeal.Gen Cert.AFwdRefIdeal.Read

theorem agree (m : (ℓ : Loc nD τ sig) → Buf (Elt Ideal) ℓ) (c : Dev nD) :
    val_main_v54 (F := Ideal) (proj m c) (scale m c) (wts m c) (bias m c) = (dats m 0 c).arrAt 5 cfg0.N :=
  (Cert.Proof.ext2 (Ref.out_res _ _ _ _)).trans (final_out m c).symm

end

/-- Kernel and reference end with the same array. -/
theorem algebraic : Cert.algebraic_AFwdIdeal_AFwdRefIdeal := fun m ρ m' ρ' _ hm => by
  refine ⟨_, Cert.AFwdIdeal.Value.run_blocks m ρ, (θ_run _ _ _).mono (fun r h c => ?_) (Cert.AFwdRefIdeal.Value.run m' ρ')⟩
  obtain ⟨h0, ha⟩ := h c
  obtain ⟨a0, a1, a2, a3⟩ := hm c
  rw [Cert.AFwdRefIdeal.Read.val_main_v54_eq, a0, a1, a2, a3] at h0
  exact ⟨h0.trans (agree m c), ha⟩

end Cert.Proof.AFwd

end
-- ==== Proof.CMix.CFwd.lean ====
/-
  The attention to the memory: norms of queries and keys, scores, softmax, weighted sum of the values.

  The kernel takes, for each of four heads, four blocks of 512 rows.
-/
module

public import proofs.«01_k».proof.Defs
public import proofs.«01_k».proof.Proof.Gen.CFwd.Frame
public import proofs.«01_k».proof.Proof.Gen.CFwdIdeal.Value
public import proofs.«01_k».proof.Proof.Gen.CFwdRefIdeal.Read
public import proofs.«01_k».proof.Proof.CMix.Spec
public import Idealize.ShloMosaic.Lib.Pipeline.ValueKit
public import Idealize.ShloMosaic.Lib.Quiescent

@[expose] public section

set_option maxRecDepth 16384

noncomputable section

namespace Cert.Proof.CFwd

open Cert.CFwdIdeal Cert.CFwdIdeal.Gen Idealize.ShloMosaic Idealize.ShloMosaic.TcCoe Idealize.SL.Sem Cert.Proof.CMix

/-- The block that each window reads or writes at a grid point. -/
theorem idx : ∀ t : Fin cfg0.N, win0_0.index t = ![t.val % 4, 18 + t.val / 4] ∧ win0_1.index t = ![0, t.val / 4]
    ∧ win0_2.index t = ![0, 4 + t.val / 4] ∧ win0_3.index t = ![0, 0] ∧ win0_4.index t = ![0, 0]
    ∧ win0_5.index t = ![t.val % 4, t.val / 4] ∧ t.val < 16 :=
  (by decide +kernel : ∀ t : Fin grid0.N, _)

/-- Row `r` of the point's block, in the whole array. -/
def row (t : Fin cfg0.N) (r : Fin 512) : Fin 2048 := ⟨t.val % 4 * 512 + r, by omega⟩

/-- The point's head. -/
def head (t : Fin cfg0.N) : Fin 4 := ⟨t.val / 4, by have := (idx t).2.2.2.2.2.2; omega⟩

variable (m : (ℓ : Loc nD τ sig) → Buf (Elt Ideal) ℓ) (c : Dev nD)

abbrev p : Mat 2048 8960 := m ((c : Thread nD τ).loc main_arg0)
abbrev kv : Mat 256 1024 := m ((c : Thread nD τ).loc main_arg1)
abbrev gq : Mat 1 128 := m ((c : Thread nD τ).loc main_arg2)
abbrev gk : Mat 1 128 := m ((c : Thread nD τ).loc main_arg3)

/-- What the call returns at row `i`, column `l` of head `h`. -/
def res (p : Mat 2048 8960) (kv : Mat 256 1024) (gq gk : Mat 1 128) (h : Fin 4) (i : Fin 2048) (l : Fin 128) : EReal :=
  out (qOf p h i) (kOf kv h) (vOf kv h) (gOf gq) (gOf gk) l

variable (t : Fin cfg0.N) (r : Fin 512) (j : Fin 256) (l : Fin 128)

theorem q_block : iblk m c 0 t (ix2 r l) = qOf (p m c) (head t) (row t r) l := by
  blk_ext [iblk, V, idx t, row, head, qOf, qcol]

theorem k_block : iblk m c 1 t (ix2 j l) = kOf (kv m c) (head t) j l := by
  blk_ext [iblk, V, idx t, head, kOf, kcol]

theorem v_block : iblk m c 2 t (ix2 j l) = vOf (kv m c) (head t) j l := by
  blk_ext [iblk, V, idx t, head, vOf, vcol]

theorem gq_block : iblk m c 3 t (ix2 0 l) = gOf (gq m c) l := by
  blk_ext [iblk, V, idx t, gOf]

theorem gk_block : iblk m c 4 t (ix2 0 l) = gOf (gk m c) l := by
  blk_ext [iblk, V, idx t, gOf]

/-! One point, from its blocks' entries. -/

section point
variable (Q : Vec Ideal S512x128 .f32) (K W : Vec Ideal S256x128 .f32) (A B : Vec Ideal S1x128 .f32)

theorem sc_at : k0_pay2 (F := Ideal) Q K A B (ix2 r j) =
    sc (fun l => Q (ix2 r l)) (fun j l => K (ix2 j l)) (fun l => A (ix2 0 l)) (fun l => B (ix2 0 l)) j := by
  pointwise [k0_pay2, sc, nrm, hat, ms]

theorem mx_at (z : Fin 1) : k0_pay3 (F := Ideal) Q K A B (ix2 r z) =
    mx (fun l => Q (ix2 r l)) (fun j l => K (ix2 j l)) (fun l => A (ix2 0 l)) (fun l => B (ix2 0 l)) := by
  pointwise [k0_pay3, sc_at, mx]

theorem out_at : k0_pay1 (F := Ideal) W (k0_pay2 Q K A B) (k0_pay3 Q K A B) (ix2 r l) =
    out (fun l => Q (ix2 r l)) (fun j l => K (ix2 j l)) (fun j l => W (ix2 j l)) (fun l => A (ix2 0 l)) (fun l => B (ix2 0 l)) l := by
  pointwise [k0_pay1, sc_at, mx_at, out, pr, den, ex]

end point

theorem emb5 : ((cfg0.win 5).blk t).view.emb (ix2 r l) = ix2 (row t r) (ycol (head t) l) := by
  blk_ext [idx t, row, head, ycol]

theorem ycol_div (h : Fin 4) (l : Fin 128) : (⟨(ycol h l).val / 128, by omega⟩ : Fin 4) = h := by
  ext; simp only [ycol]; omega

theorem ycol_mod (h : Fin 4) (l : Fin 128) : (⟨(ycol h l).val % 128, by omega⟩ : Fin 128) = l := by
  ext; simp only [ycol]; omega

/-- The whole result. -/
def whole (p : Mat 2048 8960) (kv : Mat 256 1024) (gq gk : Mat 1 128) : Mat 2048 512 := fun i =>
  res p kv gq gk ⟨(i 1).val / 128, Nat.div_lt_of_lt_mul (i 1).isLt⟩ (i 0) ⟨(i 1).val % 128, Nat.mod_lt _ (by omega)⟩

theorem whole_at (p : Mat 2048 8960) (kv : Mat 256 1024) (gq gk : Mat 1 128) (h : Fin 4) (i : Fin 2048) (l : Fin 128) :
    whole p kv gq gk (ix2 i (ycol h l)) = res p kv gq gk h i l :=
  congrArg₂ (res p kv gq gk · i ·) (ycol_div h l) (ycol_mod h l)

theorem final_y : (dats m 0 c).arrAt 5 cfg0.N = whole (p m c) (kv m c) (gq m c) (gk m c) := by
  refine (dats m 0 c).arrAt_eq_of_covers 5 _ (by decide +kernel) fun t hf y => ?_
  blk_simp
  rw [after0_5]
  frame_out
  idx_vars y
  refine (out_at y0 y1 _ _ _ _ _).trans ?_
  simp only [q_block, k_block, v_block, gq_block, gk_block]
  rw [emb5, whole_at]
  rfl

/-! The reference. -/

open Cert.CFwdRefIdeal.Read

variable (P : Mat 2048 8960) (KV : Mat 256 1024) (GQ GK : Mat 1 128) (h : Fin 4) (i : Fin 2048)

theorem ref_q : val_main_v6 (F := Ideal) P (ix3 i h l) = qOf P h i l := by
  pointwise [val_main_v6, val_main_v0, qOf]
  blk_ext [qcol]

theorem ref_k : val_main_v3 (F := Ideal) KV (ix3 j h l) = kOf KV h j l := by
  pointwise [val_main_v3, val_main_v2, val_main_v1, kOf]
  blk_ext [kcol]

theorem ref_v : val_main_v5 (F := Ideal) KV (ix3 j h l) = vOf KV h j l := by
  pointwise [val_main_v5, val_main_v4, val_main_v1, vOf]
  blk_ext [vcol]

theorem ref_qn : val_main_v19 (F := Ideal) P GQ (ix3 i h l) = nrm (qOf P h i) (gOf GQ) l := by
  pointwise [val_main_v19, val_main_v18, val_main_v17, val_main_v16, val_main_v15, val_main_v14, val_main_v13, val_main_v12, val_main_v11,
    val_main_v10, val_main_v9, val_main_v8, val_main_v7, val_main_cst, val_main_cst_0, val_main_cst_1, ref_q, nrm, hat, ms, gOf]

theorem ref_kn : val_main_v32 (F := Ideal) KV GK (ix3 j h l) = nrm (kOf KV h j) (gOf GK) l := by
  pointwise [val_main_v32, val_main_v31, val_main_v30, val_main_v29, val_main_v28, val_main_v27, val_main_v26, val_main_v25, val_main_v24,
    val_main_v23, val_main_v22, val_main_v21, val_main_v20, val_main_cst_2, val_main_cst_3, val_main_cst_4, ref_k, nrm, hat, ms, gOf]

theorem ref_sc : val_main_v35 (F := Ideal) P KV GQ GK (ix3 h i j) = sc (qOf P h i) (kOf KV h) (gOf GQ) (gOf GK) j := by
  pointwise [val_main_v35, val_main_v34, val_main_v33, val_main_cst_5, ref_qn, ref_kn, sc]

theorem ref_mx : val_main_v38 (F := Ideal) P KV GQ GK (ix2 h i) = mx (qOf P h i) (kOf KV h) (gOf GQ) (gOf GK) := by
  have e : val_main_v36 (F := Ideal) P KV GQ GK (ix2 h i) =
      (Finset.univ : Finset (Fin 256)).fold max (Ideal.ofBits .f32 0xFF800000#32) (sc (qOf P h i) (kOf KV h) (gOf GQ) (gOf GK)) := by
    refine (row_max (val_main_v35 (F := Ideal) P KV GQ GK) _ _ _ h i).trans ?_
    simp only [ref_sc]
    rfl
  rw [val_main_v38_apply, e, val_main_v37_apply]
  rfl

theorem ref_ex : val_main_v42 (F := Ideal) P KV GQ GK (ix3 h i j) = ex (qOf P h i) (kOf KV h) (gOf GQ) (gOf GK) j := by
  pointwise [val_main_v42, val_main_v41, val_main_v40, val_main_v39, ref_sc, ref_mx, ex]

theorem ref_pr : val_main_v46 (F := Ideal) P KV GQ GK (ix3 h i j) = pr (qOf P h i) (kOf KV h) (gOf GQ) (gOf GK) j := by
  pointwise [val_main_v46, val_main_v45, val_main_v44, val_main_v43, val_main_cst_8, ref_ex, pr, den]

theorem ref_out : val_main_v48 (F := Ideal) P KV GQ GK (ix3 i h l) = res P KV GQ GK h i l := by
  pointwise [val_main_v48, val_main_v47, ref_pr, ref_v, res, out]
  exact Finset.sum_congr rfl fun _ _ => mul_comm _ _

theorem ref_at : val_main_v50 (F := Ideal) P KV GQ GK (ix2 i (ycol h l)) = res P KV GQ GK h i l := by
  pointwise [val_main_v50, val_main_v49]
  refine Eq.trans ?_ (ref_out l P KV GQ GK h i)
  blk_ext [ycol]

theorem agree : val_main_v50 (F := Ideal) P KV GQ GK = whole P KV GQ GK := by
  refine ext2 (f := fun i l => whole P KV GQ GK (ix2 i l)) (fun i l => ?_) |>.trans (ext2 fun _ _ => rfl).symm
  have e : l = ycol ⟨l.val / 128, by omega⟩ ⟨l.val % 128, by omega⟩ := by ext; simp only [ycol]; omega
  rw [e, ref_at, whole_at]

theorem frame_kernel : Cert.quiescent_CFwd := fun m ρ _ => Cert.CFwd.Gen.frame m ρ

theorem frame_ideal : Cert.quiescent_CFwdIdeal := fun m ρ _ => Cert.CFwdIdeal.Gen.frame m ρ

theorem frame_ref : Cert.quiescent_CFwdRefIdeal := fun m ρ _ =>
  (θ_run _ _ _).mono (fun _ h => ⟨fun c => (h c).2, sem_eq_zero_of_no_sems rfl _⟩) (Cert.CFwdRefIdeal.Value.run m ρ)

/-- Kernel and reference end with the same array. -/
theorem algebraic : Cert.algebraic_CFwdIdeal_CFwdRefIdeal := fun m ρ m' ρ' _ hm => by
  refine ⟨_, Cert.CFwdIdeal.Value.run_blocks m ρ, (θ_run _ _ _).mono (fun r h c => ?_) (Cert.CFwdRefIdeal.Value.run m' ρ')⟩
  obtain ⟨h0, ha⟩ := h c
  obtain ⟨a0, a1, a2, a3⟩ := hm c
  rw [Cert.CFwdRefIdeal.Read.val_main_v50_eq, a0, a1, a2, a3] at h0
  exact ⟨h0.trans ((agree _ _ _ _).trans (final_y m c).symm), ha⟩

end Cert.Proof.CFwd

end
-- ==== Proof.Optimiser.AdamPlain.lean ====
/-
  The optimiser's step for the convolution's weight: its change and its two moments, from its gradient.
-/
module

public import proofs.«01_k».proof.Defs
public import proofs.«01_k».proof.Proof.Gen.AdamPlain.Frame
public import proofs.«01_k».proof.Proof.Gen.AdamPlainIdeal.Value
public import proofs.«01_k».proof.Proof.Gen.AdamPlainRefIdeal.Run
public import proofs.«01_k».proof.Proof.Mats
public import Idealize.ShloMosaic.Lib.Quiescent

@[expose] public section

set_option maxRecDepth 16384

noncomputable section

namespace Cert.Proof.AdamPlain

open Idealize.ShloMosaic Idealize.ShloMosaic.TcCoe Idealize.SL.Sem

theorem frame_kernel : Cert.quiescent_AdamPlain := fun m ρ _ => Cert.AdamPlain.Gen.frame m ρ

theorem frame_ideal : Cert.quiescent_AdamPlainIdeal := fun m ρ _ => Cert.AdamPlainIdeal.Gen.frame m ρ

theorem frame_ref : Cert.quiescent_AdamPlainRefIdeal := fun m ρ _ =>
  (θ_run _ _ _).mono (fun _ h => ⟨fun c => (h c).2.2.2, sem_eq_zero_of_no_sems rfl _⟩) (Cert.AdamPlainRefIdeal.Value.run m ρ)

/-- Kernel and reference end with the same change and moments. -/
theorem algebraic : Cert.algebraic_AdamPlainIdeal_AdamPlainRefIdeal := fun m ρ m' ρ' _ hm => by
  refine ⟨_, _, _, Cert.AdamPlainIdeal.Value.run m ρ, (θ_run _ _ _).mono (fun r h c => ?_) (Cert.AdamPlainRefIdeal.Value.run m' ρ')⟩
  obtain ⟨h0, h1, h2, ha⟩ := h c
  obtain ⟨a0, a1, a2, a3⟩ := hm c
  rw [a0, a1, a2, a3] at h0
  rw [a0, a2] at h1
  rw [a0, a3] at h2
  refine ⟨h0.trans (funext fun i => ?_), h1.trans (funext fun i => ?_), h2.trans (funext fun i => ?_), ha⟩
  all_goals
    idx_vars i
    pointwise [Cert.AdamPlainIdeal.Value.G4, Cert.AdamPlainIdeal.Value.G5, Cert.AdamPlainIdeal.Value.G6]

end Cert.Proof.AdamPlain

end
-- ==== Proof.BMix.BPre.lean ====
/-
  The queries' and keys' normalisation and rotary embedding: one tile of two heads.
-/
module

public import proofs.«01_k».proof.Defs
public import proofs.«01_k».proof.Proof.Gen.BPre.Frame
public import proofs.«01_k».proof.Proof.Gen.BPreIdeal.Value
public import proofs.«01_k».proof.Proof.Mats
public import Idealize.ShloMosaic.Lib.Pipeline.ValueKit
public import Idealize.ShloMosaic.Lib.Pipeline.ReadBack

@[expose] public section

set_option maxRecDepth 16384

noncomputable section

namespace Cert.Proof.BPre

open Cert.BPreIdeal Cert.BPreIdeal.Gen Idealize.ShloMosaic Idealize.ShloMosaic.TcCoe Idealize.SL.Sem

/-- Lane `e` of head `h` of a tile. -/
def hl (h : Fin 2) (e : Fin 64) : Fin 128 := ⟨h * 64 + e, by omega⟩

/-- The factor of the mean. -/
abbrev c64 : EReal := (Scalar.ofBits .f32 0x3C800000#32 : Ideal .f32)
/-- The term under the root. -/
abbrev eps : EReal := (Scalar.ofBits .f32 0x358637BD#32 : Ideal .f32)

/-- One head's normalised row. -/
def nrm (x g : Fin 64 → EReal) (e : Fin 64) : EReal := x e * Ideal.rsqrt ((∑ j, x j * x j) * c64 + eps) * g e

/-- One head's rotated row. -/
def rope (n : Fin 64 → EReal) (co si : Fin 8 → EReal) (e : Fin 64) : EReal :=
  if h : e.val < 8 then n e * co ⟨e, h⟩ - n ⟨e + 8, by omega⟩ * si ⟨e, h⟩
  else if h' : e.val < 16 then n e * co ⟨e - 8, by omega⟩ + n ⟨e - 8, by omega⟩ * si ⟨e - 8, by omega⟩
  else n e

/-- A tile's result. -/
abbrev T (ct sa sb x : FVec Ideal S256x128 .f32) (g : FVec Ideal S1x128 .f32) : FVec Ideal S256x128 .bf16 :=
  k0_pay39 ct sa sb x g k0_pay37 k0_pay38

/-- A tile's normalised rows. -/
abbrev Y (x : FVec Ideal S256x128 .f32) (g : FVec Ideal S1x128 .f32) : FVec Ideal S256x128 .f32 :=
  k0_pay40 x g (iota .tc S256x128 32 [1] iota_S256x128_d1_w32)

theorem mask (l : Fin 128) : IntOp.xori (IntOp.xori (IntOp.cmpi CmpIPredicate.sge (BitVec.ofNat 32 l) 64#32) 0#1) 1#1
    = if l.val < 64 then 1#1 else 0#1 := by
  revert l
  decide +kernel

variable (ct sa sb x : FVec Ideal S256x128 .f32) (g : FVec Ideal S1x128 .f32)

theorem T_eq : T ct sa sb x g = k0_pay1 sb (k0_pay41 ct sa x g (iota .tc S256x128 32 [1] iota_S256x128_d1_w32))
    (k0_pay42 x g (iota .tc S256x128 32 [1] iota_S256x128_d1_w32)) := rfl

theorem T_at (r : Fin 256) (l : Fin 128) : T ct sa sb x g (ix2 r l)
    = Y x g (ix2 r l) * ct (ix2 r l) + Y x g (ix2 r ⟨(l + 128 - 120) % 128, by omega⟩) * sa (ix2 r l)
      + Y x g (ix2 r ⟨(l + 128 - 8) % 128, by omega⟩) * sb (ix2 r l) := by
  rw [T_eq]
  pointwise [k0_pay1, k0_pay41, k0_pay42]

theorem Y_at (r : Fin 256) (h : Fin 2) (e : Fin 64) : Y x g (ix2 r (hl h e))
    = nrm (fun j => x (ix2 r (hl h j))) (fun j => g (ix2 0 (hl h j))) e := by
  unfold Y nrm
  pointwise [k0_pay40, mask]
  fin_cases h
  · rw [if_pos (by simp only [hl]; omega), show ∀ a b : EReal, Scalar.select 1#1 a b = a from fun _ _ => rfl, Finset.sum_const_zero, add_zero]
    simp only [hl, Nat.zero_mul, Nat.zero_add]
  · rw [if_neg (by simp only [hl]; omega), show ∀ a b : EReal, Scalar.select 0#1 a b = b from fun _ _ => rfl, Finset.sum_const_zero, zero_add]
    simp only [hl, Nat.one_mul]

/-- What the tables hold, on the lanes of one head. -/
structure Tab (r : Fin 256) (h : Fin 2) (co si : Fin 8 → EReal) : Prop where
  c0 : ∀ e : Fin 8, ct (ix2 r (hl h ⟨e, by omega⟩)) = co e
  c1 : ∀ e : Fin 8, ct (ix2 r (hl h ⟨e + 8, by omega⟩)) = co e
  c2 : ∀ e : Fin 48, ct (ix2 r (hl h ⟨e + 16, by omega⟩)) = 1
  a0 : ∀ e : Fin 8, sa (ix2 r (hl h ⟨e, by omega⟩)) = -si e
  a1 : ∀ e : Fin 8, sa (ix2 r (hl h ⟨e + 8, by omega⟩)) = 0
  a2 : ∀ e : Fin 48, sa (ix2 r (hl h ⟨e + 16, by omega⟩)) = 0
  b0 : ∀ e : Fin 8, sb (ix2 r (hl h ⟨e, by omega⟩)) = 0
  b1 : ∀ e : Fin 8, sb (ix2 r (hl h ⟨e + 8, by omega⟩)) = si e
  b2 : ∀ e : Fin 48, sb (ix2 r (hl h ⟨e + 16, by omega⟩)) = 0

theorem T_rope (r : Fin 256) (h : Fin 2) (co si : Fin 8 → EReal) (H : Tab ct sa sb r h co si) (e : Fin 64) :
    T ct sa sb x g (ix2 r (hl h e))
      = rope (nrm (fun j => x (ix2 r (hl h j))) (fun j => g (ix2 0 (hl h j)))) co si e := by
  rw [T_at]
  unfold rope
  split_ifs with h0 h1
  · have k0 : hl h e = hl h ⟨(⟨e, h0⟩ : Fin 8), by omega⟩ := rfl
    have k1 : (⟨((hl h e : Fin 128) + 128 - 120) % 128, by omega⟩ : Fin 128) = hl h ⟨e + 8, by omega⟩ := by
      ext; simp only [hl]; omega
    rw [k1, Y_at, Y_at, k0, H.c0, H.a0, H.b0, mul_zero, add_zero, mul_neg, ← sub_eq_add_neg]
  · have k0 : hl h e = hl h ⟨(⟨e - 8, by omega⟩ : Fin 8) + 8, by simp only []; omega⟩ := by
      ext; simp only [hl]; omega
    have k1 : (⟨((hl h e : Fin 128) + 128 - 8) % 128, by omega⟩ : Fin 128) = hl h ⟨e - 8, by omega⟩ := by
      ext; simp only [hl]; omega
    rw [k1, Y_at, Y_at, k0, H.c1, H.a1, H.b1, mul_zero, add_zero]
  · have k0 : hl h e = hl h ⟨(⟨e - 16, by omega⟩ : Fin 48) + 16, by simp only []; omega⟩ := by
      ext; simp only [hl]; omega
    rw [Y_at, k0, H.c2, H.a2, H.b2, mul_zero, mul_zero, add_zero, add_zero, mul_one]

end Cert.Proof.BPre

end
-- ==== Proof.BMix.Tables.lean ====
/-
  The queries' and keys' normalisation and rotary embedding: the tables of cosines and sines.
-/
module

public import proofs.«01_k».proof.Proof.BMix.BPre
public import proofs.«01_k».proof.Proof.Gen.BPreRefIdeal.Read
public import Idealize.ShloMosaic.Lib.StableHlo.RunRead
public import Idealize.ShloMosaic.Lib.Claim

@[expose] public section

set_option maxRecDepth 16384

noncomputable section

namespace Cert.Proof.BPre

open Cert.BPreIdeal Cert.BPreIdeal.Gen Idealize.ShloMosaic Idealize.ShloMosaic.TcCoe Idealize.SL.Sem

variable (m : (ℓ : Loc nD τ sig) → Buf (Elt Ideal) ℓ) (c : Dev nD)

/-! The argument arrays. -/
abbrev proj : Mat 2048 8960 := m ((c : Thread nD τ).loc main_arg0)
abbrev posn : IVec S2048 32 := m ((c : Thread nD τ).loc main_arg1)
abbrev gq : Mat 1 64 := m ((c : Thread nD τ).loc main_arg2)
abbrev gk : Mat 1 64 := m ((c : Thread nD τ).loc main_arg3)

/-- The cosines. -/
abbrev cosT (p : IVec S2048 32) : Mat 2048 8 := Cert.BPreRefIdeal.Read.val_main_v29 (F := Ideal) p
/-- The sines. -/
abbrev sinT (p : IVec S2048 32) : Mat 2048 8 := Cert.BPreRefIdeal.Read.val_main_v31 (F := Ideal) p

/-- A buffer that no later operation writes. -/
theorem keep {ops : List (HloOp τ sig (Elt Ideal))} (i : ℕ) (W : List (Ref sig .tc)) {r : Ref sig .tc}
    (hW : (ops.drop i).map HloOp.writes = W.map fun w => {Proc.devRef (τ := τ) .tc w}) (hr : r ∉ W) (U : Valuation τ sig (Elt Ideal)) :
    StableHlo.upto ops U i (Proc.devRef .tc r) = StableHlo.after ops U (Proc.devRef .tc r) := by
  have h := StableHlo.after_append (ops.take i) (ops.drop i) U
  rw [List.take_append_drop] at h
  rw [h, StableHlo.after_unwritten W hW hr]
  rfl

/-- Three tables side by side. -/
def cat (a b : Mat 2048 8) (d : Mat 2048 48) : Mat 2048 64 :=
  concatenate S2048x64 1 [⟨S2048x8, a⟩, ⟨S2048x8, b⟩, ⟨S2048x48, d⟩] concatenates_S2048x8_S2048x8_S2048x48_S2048x64_d1

theorem cat_0 (a b : Mat 2048 8) (d : Mat 2048 48) (r : Fin 2048) (e : Fin 8) : cat a b d (ix2 r ⟨e, by omega⟩) = a (ix2 r e) := by
  unfold cat
  refine concatenate_apply_piece (t := S2048x64) 1 _ _ _ 0 (by simp) S2048x8 a rfl rfl 0 rfl (ix2 r e) (fun b hb => ?_) ?_
  · fin_cases b
    · rfl
    · exact absurd rfl hb
  · exact Nat.zero_add _

theorem cat_1 (a b : Mat 2048 8) (d : Mat 2048 48) (r : Fin 2048) (e : Fin 8) : cat a b d (ix2 r ⟨e + 8, by omega⟩) = b (ix2 r e) := by
  unfold cat
  refine concatenate_apply_piece (t := S2048x64) 1 _ _ _ 1 (by simp) S2048x8 b rfl rfl 8 rfl (ix2 r e) (fun b hb => ?_) ?_
  · fin_cases b
    · rfl
    · exact absurd rfl hb
  · exact Nat.add_comm _ _

theorem cat_2 (a b : Mat 2048 8) (d : Mat 2048 48) (r : Fin 2048) (e : Fin 48) : cat a b d (ix2 r ⟨e + 16, by omega⟩) = d (ix2 r e) := by
  unfold cat
  refine concatenate_apply_piece (t := S2048x64) 1 _ _ _ 2 (by simp) S2048x48 d rfl rfl 16 rfl (ix2 r e) (fun b hb => ?_) ?_
  · fin_cases b
    · rfl
    · exact absurd rfl hb
  · exact Nat.add_comm _ _

/-- A table twice, side by side. -/
def twice (a : Mat 2048 64) : Mat 2048 128 :=
  shapeCast S2048x128 (broadcastInDim S1x2048x2x64 ![0, 1, 2, 3] bcast_S1x2048x1x64_S1x2048x2x64_0_1_2_3
    (shapeCast S1x2048x1x64 a shapeCasts_S2048x64_S1x2048x1x64)) shapeCasts_S1x2048x2x64_S2048x128

theorem twice_at (a : Mat 2048 64) (r : Fin 2048) (h : Fin 2) (e : Fin 64) : twice a (ix2 r (hl h e)) = a (ix2 r e) := by
  unfold twice
  pointwise
  blk_ext [hl]

theorem v17_eq : V m c main_v17 = cat (V m c main_v12) (V m c main_v12) (V m c main_v14) := by
  have e := StableHlo.after_last_write (ops := hostOps0 (F := Ideal)) (i := 22) (r := main_v17)
    [main_v18, main_v19, main_v20, main_v21, main_v22, main_v23, main_v24, main_v25, main_v26, main_v27, main_v28, main_v29, main_v30, main_v31, main_v32, main_v33, main_v34, main_v35] rfl rfl (by decide) (fun b => m (c, b))
  rw [StableHlo.nary_result] at e
  have k : ∀ r : Ref sig .tc, r ∉ [main_v17, main_v18, main_v19, main_v20, main_v21, main_v22, main_v23, main_v24, main_v25, main_v26, main_v27, main_v28, main_v29, main_v30, main_v31, main_v32, main_v33, main_v34, main_v35] →
      StableHlo.upto (hostOps0 (F := Ideal)) (fun b => m (c, b)) 22 (Proc.devRef .tc r) = V m c r := fun r hr => keep 22 _ rfl hr _
  refine Eq.trans ?_ (congr (congr (congrArg cat (k main_v12 (by decide))) (k main_v12 (by decide))) (k main_v14 (by decide)))
  exact e

theorem v20_eq : V m c main_v20 = twice (V m c main_v17) := by
  have e := StableHlo.after_last_write (ops := hostOps0 (F := Ideal)) (i := 23) (r := main_v18)
    [main_v19, main_v20, main_v21, main_v22, main_v23, main_v24, main_v25, main_v26, main_v27, main_v28, main_v29, main_v30, main_v31, main_v32, main_v33, main_v34, main_v35] rfl rfl (by decide) (fun b => m (c, b))
  have f := StableHlo.after_last_write (ops := hostOps0 (F := Ideal)) (i := 24) (r := main_v19)
    [main_v20, main_v21, main_v22, main_v23, main_v24, main_v25, main_v26, main_v27, main_v28, main_v29, main_v30, main_v31, main_v32, main_v33, main_v34, main_v35] rfl rfl (by decide) (fun b => m (c, b))
  have g := StableHlo.after_last_write (ops := hostOps0 (F := Ideal)) (i := 25) (r := main_v20)
    [main_v21, main_v22, main_v23, main_v24, main_v25, main_v26, main_v27, main_v28, main_v29, main_v30, main_v31, main_v32, main_v33, main_v34, main_v35] rfl rfl (by decide) (fun b => m (c, b))
  rw [StableHlo.reshape_result] at e g
  rw [StableHlo.unary_result] at f
  rw [keep 23 [main_v18, main_v19, main_v20, main_v21, main_v22, main_v23, main_v24, main_v25, main_v26, main_v27, main_v28, main_v29, main_v30, main_v31, main_v32, main_v33, main_v34, main_v35] rfl (by decide)] at e
  rw [keep 24 [main_v19, main_v20, main_v21, main_v22, main_v23, main_v24, main_v25, main_v26, main_v27, main_v28, main_v29, main_v30, main_v31, main_v32, main_v33, main_v34, main_v35] rfl (by decide), e] at f
  rw [keep 25 [main_v20, main_v21, main_v22, main_v23, main_v24, main_v25, main_v26, main_v27, main_v28, main_v29, main_v30, main_v31, main_v32, main_v33, main_v34, main_v35] rfl (by decide), f] at g
  exact g

theorem v22_eq : V m c main_v22 = cat (V m c main_v21) (V m c main_v16) (V m c main_v15) := by
  have e := StableHlo.after_last_write (ops := hostOps0 (F := Ideal)) (i := 27) (r := main_v22)
    [main_v23, main_v24, main_v25, main_v26, main_v27, main_v28, main_v29, main_v30, main_v31, main_v32, main_v33, main_v34, main_v35] rfl rfl (by decide) (fun b => m (c, b))
  rw [StableHlo.nary_result] at e
  have k : ∀ r : Ref sig .tc, r ∉ [main_v22, main_v23, main_v24, main_v25, main_v26, main_v27, main_v28, main_v29, main_v30, main_v31, main_v32, main_v33, main_v34, main_v35] →
      StableHlo.upto (hostOps0 (F := Ideal)) (fun b => m (c, b)) 27 (Proc.devRef .tc r) = V m c r := fun r hr => keep 27 _ rfl hr _
  refine Eq.trans ?_ (congr (congr (congrArg cat (k main_v21 (by decide))) (k main_v16 (by decide))) (k main_v15 (by decide)))
  exact e

theorem v25_eq : V m c main_v25 = twice (V m c main_v22) := by
  have e := StableHlo.after_last_write (ops := hostOps0 (F := Ideal)) (i := 28) (r := main_v23)
    [main_v24, main_v25, main_v26, main_v27, main_v28, main_v29, main_v30, main_v31, main_v32, main_v33, main_v34, main_v35] rfl rfl (by decide) (fun b => m (c, b))
  have f := StableHlo.after_last_write (ops := hostOps0 (F := Ideal)) (i := 29) (r := main_v24)
    [main_v25, main_v26, main_v27, main_v28, main_v29, main_v30, main_v31, main_v32, main_v33, main_v34, main_v35] rfl rfl (by decide) (fun b => m (c, b))
  have g := StableHlo.after_last_write (ops := hostOps0 (F := Ideal)) (i := 30) (r := main_v25)
    [main_v26, main_v27, main_v28, main_v29, main_v30, main_v31, main_v32, main_v33, main_v34, main_v35] rfl rfl (by decide) (fun b => m (c, b))
  rw [StableHlo.reshape_result] at e g
  rw [StableHlo.unary_result] at f
  rw [keep 28 [main_v23, main_v24, main_v25, main_v26, main_v27, main_v28, main_v29, main_v30, main_v31, main_v32, main_v33, main_v34, main_v35] rfl (by decide)] at e
  rw [keep 29 [main_v24, main_v25, main_v26, main_v27, main_v28, main_v29, main_v30, main_v31, main_v32, main_v33, main_v34, main_v35] rfl (by decide), e] at f
  rw [keep 30 [main_v25, main_v26, main_v27, main_v28, main_v29, main_v30, main_v31, main_v32, main_v33, main_v34, main_v35] rfl (by decide), f] at g
  exact g

theorem v26_eq : V m c main_v26 = cat (V m c main_v16) (V m c main_v13) (V m c main_v15) := by
  have e := StableHlo.after_last_write (ops := hostOps0 (F := Ideal)) (i := 31) (r := main_v26)
    [main_v27, main_v28, main_v29, main_v30, main_v31, main_v32, main_v33, main_v34, main_v35] rfl rfl (by decide) (fun b => m (c, b))
  rw [StableHlo.nary_result] at e
  have k : ∀ r : Ref sig .tc, r ∉ [main_v26, main_v27, main_v28, main_v29, main_v30, main_v31, main_v32, main_v33, main_v34, main_v35] →
      StableHlo.upto (hostOps0 (F := Ideal)) (fun b => m (c, b)) 31 (Proc.devRef .tc r) = V m c r := fun r hr => keep 31 _ rfl hr _
  refine Eq.trans ?_ (congr (congr (congrArg cat (k main_v16 (by decide))) (k main_v13 (by decide))) (k main_v15 (by decide)))
  exact e

theorem v29_eq : V m c main_v29 = twice (V m c main_v26) := by
  have e := StableHlo.after_last_write (ops := hostOps0 (F := Ideal)) (i := 32) (r := main_v27)
    [main_v28, main_v29, main_v30, main_v31, main_v32, main_v33, main_v34, main_v35] rfl rfl (by decide) (fun b => m (c, b))
  have f := StableHlo.after_last_write (ops := hostOps0 (F := Ideal)) (i := 33) (r := main_v28)
    [main_v29, main_v30, main_v31, main_v32, main_v33, main_v34, main_v35] rfl rfl (by decide) (fun b => m (c, b))
  have g := StableHlo.after_last_write (ops := hostOps0 (F := Ideal)) (i := 34) (r := main_v29)
    [main_v30, main_v31, main_v32, main_v33, main_v34, main_v35] rfl rfl (by decide) (fun b => m (c, b))
  rw [StableHlo.reshape_result] at e g
  rw [StableHlo.unary_result] at f
  rw [keep 32 [main_v27, main_v28, main_v29, main_v30, main_v31, main_v32, main_v33, main_v34, main_v35] rfl (by decide)] at e
  rw [keep 33 [main_v28, main_v29, main_v30, main_v31, main_v32, main_v33, main_v34, main_v35] rfl (by decide), e] at f
  rw [keep 34 [main_v29, main_v30, main_v31, main_v32, main_v33, main_v34, main_v35] rfl (by decide), f] at g
  exact g

theorem cos_eq : V m c main_v12 = cosT (posn m c) := by
  entry_read
  rfl

theorem sin_eq : V m c main_v13 = sinT (posn m c) := by
  entry_read
  rfl

theorem nsin_at (r : Fin 2048) (e : Fin 8) : V m c main_v21 (ix2 r e) = -(sinT (posn m c) (ix2 r e)) := by
  rw [← sin_eq]
  entry_read
  rfl

theorem one_at (r : Fin 2048) (e : Fin 48) : V m c main_v14 (ix2 r e) = (1 : EReal) := by
  entry_read
  pointwise

theorem zero48_at (r : Fin 2048) (e : Fin 48) : V m c main_v15 (ix2 r e) = (0 : EReal) := by
  entry_read
  pointwise

theorem zero8_at (r : Fin 2048) (e : Fin 8) : V m c main_v16 (ix2 r e) = (0 : EReal) := by
  entry_read
  pointwise

theorem gq_eq (h : Fin 2) (e : Fin 64) : V m c main_v32 (ix2 0 (hl h e)) = gq m c (ix2 0 e) := by
  entry_read
  pointwise
  blk_ext [hl]

theorem gk_eq (h : Fin 2) (e : Fin 64) : V m c main_v35 (ix2 0 (hl h e)) = gk m c (ix2 0 e) := by
  entry_read
  pointwise
  blk_ext [hl]

end Cert.Proof.BPre

end
-- ==== Proof.BMix.Kernel.lean ====
/-
  The queries' and keys' normalisation and rotary embedding: what the kernel computes, 256 rows at a time.
-/
module

public import proofs.«01_k».proof.Proof.BMix.Tables

@[expose] public section

set_option maxRecDepth 16384

noncomputable section

namespace Cert.Proof.BPre

open Cert.BPreIdeal Cert.BPreIdeal.Gen Idealize.ShloMosaic Idealize.ShloMosaic.TcCoe Idealize.SL.Sem

/-- Each point's blocks. -/
theorem idx : ∀ t : Fin cfg0.N, win0_0.index t = ![t.val, 1] ∧ win0_1.index t = ![t.val, 16]
    ∧ win0_2.index t = ![0, 0] ∧ win0_3.index t = ![0, 0] ∧ win0_4.index t = ![t.val, 0] ∧ win0_5.index t = ![t.val, 0]
    ∧ win0_6.index t = ![t.val, 0] ∧ win0_7.index t = ![t.val, 0] ∧ win0_8.index t = ![t.val, 0] ∧ t.val < 8 :=
  (by decide +kernel : ∀ t : Fin grid0.N, _)

/-- Row `r` of the point's block. -/
def row (t : Fin cfg0.N) (r : Fin 256) : Fin 2048 := ⟨t.val * 256 + r, by have := (idx t).2.2.2.2.2.2.2.2.2; omega⟩

/-- Column `l` of the queries, in the projection. -/
def qcol (l : Fin 1024) : Fin 8960 := ⟨1024 + l, by omega⟩

/-- Column `l` of the keys, in the projection. -/
def kcol (l : Fin 128) : Fin 8960 := ⟨2048 + l, by omega⟩

variable (m : (ℓ : Loc nD τ sig) → Buf (Elt Ideal) ℓ) (c : Dev nD) (t : Fin cfg0.N)

section
variable (r : Fin 256)

theorem q_block (l : Fin 1024) : X0_0 m c t (ix2 r l) = proj m c (ix2 (row t r) (qcol l)) := by
  unfold X0_0 Pipeline.Window.fill
  rw [dif_pos (moved0_0 t _)]
  refine Eq.trans ?_ (congrFun (V_main_arg0 m c) _)
  blk_ext [iblk, idx t, row, qcol]

theorem k_block (l : Fin 128) : iblk m c 1 t (ix2 r l) = proj m c (ix2 (row t r) (kcol l)) := by
  refine Eq.trans ?_ (congrFun (V_main_arg0 m c) _)
  blk_ext [iblk, idx t, row, kcol]

theorem gq_block (l : Fin 128) : iblk m c 2 t (ix2 0 l) = V m c main_v32 (ix2 0 l) := by
  blk_ext [iblk, idx t]

theorem gk_block (l : Fin 128) : iblk m c 3 t (ix2 0 l) = V m c main_v35 (ix2 0 l) := by
  blk_ext [iblk, idx t]

theorem ct_block (l : Fin 128) : iblk m c 4 t (ix2 r l) = V m c main_v20 (ix2 (row t r) l) := by
  blk_ext [iblk, idx t, row]

theorem sa_block (l : Fin 128) : iblk m c 5 t (ix2 r l) = V m c main_v25 (ix2 (row t r) l) := by
  blk_ext [iblk, idx t, row]

theorem sb_block (l : Fin 128) : iblk m c 6 t (ix2 r l) = V m c main_v29 (ix2 (row t r) l) := by
  blk_ext [iblk, idx t, row]

theorem emb7 (l : Fin 1024) : ((cfg0.win 7).blk t).view.emb (ix2 r l) = ix2 (row t r) l := by
  blk_ext [idx t, row]

theorem emb8 (l : Fin 128) : ((cfg0.win 8).blk t).view.emb (ix2 r l) = ix2 (row t r) l := by
  blk_ext [idx t, row]

theorem tab (h : Fin 2) : Tab (iblk m c 4 t) (iblk m c 5 t) (iblk m c 6 t) r h
    (fun e => cosT (posn m c) (ix2 (row t r) e)) (fun e => sinT (posn m c) (ix2 (row t r) e)) where
  c0 e := by rw [ct_block, v20_eq, twice_at, v17_eq, cat_0, cos_eq]
  c1 e := by rw [ct_block, v20_eq, twice_at, v17_eq, cat_1, cos_eq]
  c2 e := by rw [ct_block, v20_eq, twice_at, v17_eq, cat_2, one_at]
  a0 e := by rw [sa_block, v25_eq, twice_at, v22_eq, cat_0, nsin_at]
  a1 e := by rw [sa_block, v25_eq, twice_at, v22_eq, cat_1, zero8_at]
  a2 e := by rw [sa_block, v25_eq, twice_at, v22_eq, cat_2, zero48_at]
  b0 e := by rw [sb_block, v29_eq, twice_at, v26_eq, cat_0, zero8_at]
  b1 e := by rw [sb_block, v29_eq, twice_at, v26_eq, cat_1, sin_eq]
  b2 e := by rw [sb_block, v29_eq, twice_at, v26_eq, cat_2, zero48_at]

end

/-! Every tile is computed alike. -/

section
variable (ct sa sb x : FVec Ideal S256x128 .f32) (g : FVec Ideal S1x128 .f32)

theorem pay2 : k0_pay2 ct = ct := ext2 (f := fun r l => ct (ix2 r l)) (fun r l => by pointwise [k0_pay2]) |>.trans
  (ext2 (f := fun r l => ct (ix2 r l)) fun _ _ => rfl).symm

theorem pay3 : k0_pay3 ct = ct := pay2 ct

theorem pay4 : k0_pay4 ct = ct := pay2 ct

theorem t0 : k0_pay9 ct sa sb x g k0_pay5 (k0_pay7 x) (k0_pay8 x) = T ct sa sb x g := rfl

theorem t1 : k0_pay14 ct sa sb x g k0_pay10 (k0_pay12 x) (k0_pay13 x) = T ct sa sb x g := rfl

theorem t2 : k0_pay19 ct sa sb x g k0_pay15 (k0_pay17 x) (k0_pay18 x) (FloatOps.ofBits FTy.f32 0x3C800000#32) = T ct sa sb x g := rfl

theorem t3 : k0_pay24 ct sa sb x g k0_pay20 (k0_pay22 x) (k0_pay23 x) = T ct sa sb x g := rfl

theorem t4 : k0_pay29 ct sa sb x g k0_pay25 (k0_pay27 x) (k0_pay28 x) = T ct sa sb x g := rfl

theorem t5 : k0_pay33 ct sa sb x g k0_pay30 (k0_pay31 x) (k0_pay32 x) = T ct sa sb x g := rfl

theorem t6 : k0_pay36 ct sa sb x g k0_pay34 (k0_pay35 x) = T ct sa sb x g := rfl

end

/-! The results. -/

/-- One head's result: the head whose first column is `o`. -/
def fh (P : Mat 2048 8960) (pos : IVec S2048 32) (g : Mat 1 64) (i : Fin 2048) (o : ℕ) (ho : o + 64 ≤ 8960) (e : Fin 64) : EReal :=
  rope (nrm (fun j => P (ix2 i ⟨o + j, by omega⟩)) (fun j => g (ix2 0 j))) (fun j => cosT pos (ix2 i j)) (fun j => sinT pos (ix2 i j)) e

/-- The queries. -/
def fq (P : Mat 2048 8960) (pos : IVec S2048 32) (g : Mat 1 64) (i : Fin 2048) (j : Fin 1024) : EReal :=
  fh P pos g i (1024 + j / 64 * 64) (by omega) ⟨j % 64, by omega⟩

/-- The keys. -/
def fk (P : Mat 2048 8960) (pos : IVec S2048 32) (g : Mat 1 64) (i : Fin 2048) (j : Fin 128) : EReal :=
  fh P pos g i (2048 + j / 64 * 64) (by omega) ⟨j % 64, by omega⟩

theorem fh_congr {P : Mat 2048 8960} {pos : IVec S2048 32} {g : Mat 1 64} {i : Fin 2048} {o o' : ℕ} {ho ho'} {e e' : Fin 64}
    (h : o = o') (h' : e = e') : fh P pos g i o ho e = fh P pos g i o' ho' e' := by
  subst h h'
  rfl

theorem tile_out (X : FVec Ideal S256x128 .f32) (G : FVec Ideal S1x128 .f32) (g : Mat 1 64) (o : ℕ) (ho : o + 128 ≤ 8960) (r : Fin 256)
    (hX : ∀ l : Fin 128, X (ix2 r l) = proj m c (ix2 (row t r) ⟨o + l, by omega⟩)) (hG : ∀ h e, G (ix2 0 (hl h e)) = g (ix2 0 e)) (l : Fin 128) :
    T (iblk m c 4 t) (iblk m c 5 t) (iblk m c 6 t) X G (ix2 r l)
      = fh (proj m c) (posn m c) g (row t r) (o + l / 64 * 64) (by omega) ⟨l % 64, by omega⟩ := by
  have el : l = hl ⟨l / 64, by omega⟩ ⟨l % 64, by omega⟩ := by ext; simp only [hl]; omega
  have ex : (fun j : Fin 64 => X (ix2 r (hl ⟨l / 64, by omega⟩ j)))
      = fun j : Fin 64 => proj m c (ix2 (row t r) ⟨o + l.val / 64 * 64 + j.val, by omega⟩) := by
    funext j
    rw [hX]
    exact congrArg (fun k => proj m c (ix2 (row t r) k)) (Fin.ext (Nat.add_assoc _ _ _).symm)
  refine (congrArg (fun k => T (iblk m c 4 t) (iblk m c 5 t) (iblk m c 6 t) X G (ix2 r k)) el).trans ?_
  refine (T_rope _ _ _ _ _ r _ _ _ (tab m c t r _) _).trans ?_
  unfold fh
  rw [ex]
  simp only [hG]

theorem q_piece (p : ℕ) (hp : p + 128 ≤ 1024) (hd : p % 128 = 0) (X : FVec Ideal S256x128 .f32)
    (hX : ∀ (r : Fin 256) (l : Fin 128), X (ix2 r l) = X0_0 m c t (ix2 r ⟨p + l, by omega⟩))
    (x : S256x128.Idx) (r : Fin 256) (l : Fin 1024) (h0 : r.val = (x 0).val) (h1 : l.val = p + (x 1).val) :
    T (iblk m c 4 t) (iblk m c 5 t) (iblk m c 6 t) X (iblk m c 2 t) x = fq (proj m c) (posn m c) (gq m c) (row t r) l := by
  have e : x = ix2 (x 0) (x 1) := by funext k; fin_cases k <;> rfl
  obtain rfl : r = x 0 := Fin.ext h0
  refine (congrArg _ e).trans ((tile_out m c t X _ (gq m c) (1024 + p) (by omega) (x 0) (fun l => ?_) (fun h e => ?_) (x 1)).trans ?_)
  · refine (hX _ _).trans ((q_block m c t _ _).trans ?_)
    exact congrArg (fun k => proj m c (ix2 (row t (x 0)) k)) (Fin.ext (Nat.add_assoc _ _ _).symm)
  · rw [gq_block, gq_eq]
  · have hx : (x 1).val < 128 := (x 1).isLt
    exact fh_congr (by omega) (Fin.ext (by show (x 1).val % 64 = l.val % 64; omega))

theorem ld_q {p : ℕ} (hp : p + 128 ≤ 1024) (Z : Vec Ideal S256x1024 .f32)
    (inb : ∀ a, (![0, p] : Fin 2 → Nat) a + (![256, 128] : Fin 2 → Nat) a ≤ S256x1024.size a) (r : Fin 256) (l : Fin 128) :
    View.ld Z (Rect.unit ![0, p] ![256, 128] inb) (ix2 r l) = Z (ix2 r ⟨p + l, by omega⟩) :=
  View.ld_unit_apply_of _ _ _ _ _ _ fun a => by
    fin_cases a
    · exact (Nat.zero_add _).symm
    · rfl

set_option maxHeartbeats 4000000 in
theorem outk_at (r : Fin 256) (l : Fin 128) : (outsAt0 m c t).2 (ix2 r l) = fk (proj m c) (posn m c) (gk m c) (row t r) l := by
  have e : (outsAt0 m c t).2 = T (iblk m c 4 t) (iblk m c 5 t) (iblk m c 6 t) (iblk m c 1 t) (iblk m c 3 t) := by
    unfold outsAt0
    frame_out
    simp only [pay2, pay3, pay4]
    exact (T_eq _ _ _ _ _).symm
  rw [e, tile_out m c t _ _ (gk m c) 2048 (by omega) r (fun l => k_block m c t r l) (fun h e => by rw [gk_block, gk_eq]) l]
  rfl

set_option maxHeartbeats 4000000 in
theorem outq_at (r : Fin 256) (l : Fin 1024) : (outsAt0 m c t).1 (ix2 r l) = fq (proj m c) (posn m c) (gq m c) (row t r) l := by
  unfold outsAt0
  frame_out
  simp only [pay2, pay3, pay4, t0, t1, t2, t3, t4, t5, t6]
  canon_tiles x h
  all_goals
    first
    | exact q_piece m c t _ (by omega) rfl _ (fun r l => ld_q (by omega) _ _ r l) x r l h0 h1
    | exact q_piece m c t 0 (by omega) rfl _ (fun r l => ld_q (by omega) _ _ r l) x r l h0 (h1.trans (Nat.zero_add _).symm)

/-! The whole results. -/

theorem final_q : (dats m 0 c).arrAt 7 cfg0.N = fun i => fq (proj m c) (posn m c) (gq m c) (i 0) (i 1) := by
  refine (dats m 0 c).arrAt_eq_of_covers 7 _ (by decide +kernel) fun t hf y => ?_
  blk_simp
  rw [after0_7]
  idx_vars y
  exact (outq_at m c t y0 y1).trans
    (congrArg₂ (fq _ _ _) (congrFun (emb7 t y0 y1) 0).symm (congrFun (emb7 t y0 y1) 1).symm)

theorem final_k : (dats m 0 c).arrAt 8 cfg0.N = fun i => fk (proj m c) (posn m c) (gk m c) (i 0) (i 1) := by
  refine (dats m 0 c).arrAt_eq_of_covers 8 _ (by decide +kernel) fun t hf y => ?_
  blk_simp
  rw [after0_8]
  idx_vars y
  exact (outk_at m c t y0 y1).trans
    (congrArg₂ (fk _ _ _) (congrFun (emb8 t y0 y1) 0).symm (congrFun (emb8 t y0 y1) 1).symm)

end Cert.Proof.BPre

end
-- ==== Proof.BMix.Claim.lean ====
/-
  The queries' and keys' normalisation and rotary embedding: what the reference computes, and the five claims.
-/
module

public import proofs.«01_k».proof.Proof.Gen.BPreRefIdeal.Read
public import proofs.«01_k».proof.Proof.Gen.BPreRefIdeal.Run
public import proofs.«01_k».proof.Proof.BMix.Kernel
public import Idealize.ShloMosaic.Lib.Quiescent

@[expose] public section

set_option maxRecDepth 16384

noncomputable section

namespace Cert.Proof.BPre

open Idealize.ShloMosaic Idealize.ShloMosaic.TcCoe Idealize.SL.Sem

namespace Ref

open Cert.BPreRefIdeal Cert.BPreRefIdeal.Read

theorem bits_64 : Ideal.ofBits .f32 0x42800000#32 = ((64 : ℝ) : EReal) := by
  simp [Ideal.ofBits, Ideal.ieee, -EReal.coe_mul]; norm_num

theorem bits_inv_64 : Ideal.ofBits .f32 0x3C800000#32 = ((1 / 64 : ℝ) : EReal) := by
  simp [Ideal.ofBits, Ideal.ieee, -EReal.coe_mul]; norm_num

variable (P : Mat 2048 8960) (pos : IVec S2048 32) (g : Mat 1 64)

/-! The queries. -/

section
variable (i : Fin 2048) (h : Fin 16)

theorem fqx (e : Fin 64) : val_main_v1 (F := Ideal) P (ix3 i h e) = P (ix2 i ⟨1024 + h * 64 + e, by omega⟩) := by
  pointwise [val_main_v1, val_main_v0]
  blk_ext

/-- The head's normalised row. -/
abbrev fqrow : Fin 64 → EReal := nrm (fun j => P (ix2 i ⟨1024 + h.val * 64 + j.val, by omega⟩)) (fun j => g (ix2 0 j))

theorem fqn (e : Fin 64) : val_main_v16 (F := Ideal) P g (ix3 i h e) = fqrow P g i h e := by
  unfold fqrow nrm
  pointwise [val_main_v16, val_main_v15, val_main_v14, val_main_v13, val_main_v12, val_main_v11, val_main_v10, val_main_v9, val_main_v8, val_main_v7, val_main_v6, val_main_v5, val_main_v4, val_main_cst, val_main_cst_0, val_main_cst_1, fqx]
  rw [bits_64, bits_inv_64, Ideal.div_coe (by norm_num)]

theorem fqlo (e : Fin 8) : val_main_v39 (F := Ideal) P pos g (ix3 i h e)
    = fqrow P g i h ⟨e, by omega⟩ * cosT pos (ix2 i e) - fqrow P g i h ⟨e + 8, by omega⟩ * sinT pos (ix2 i e) := by
  rw [← fqn, ← fqn]
  pointwise [val_main_v39, val_main_v36, val_main_v38, val_main_v33, val_main_v34, val_main_v35, val_main_v37, val_main_v30, val_main_v32]
  rw [show (⟨8 + e.val, by omega⟩ : Fin 64) = ⟨e.val + 8, by omega⟩ from Fin.ext (Nat.add_comm _ _)]

theorem fqhi (e : Fin 8) : val_main_v44 (F := Ideal) P pos g (ix3 i h e)
    = fqrow P g i h ⟨e + 8, by omega⟩ * cosT pos (ix2 i e) + fqrow P g i h ⟨e, by omega⟩ * sinT pos (ix2 i e) := by
  rw [← fqn, ← fqn]
  pointwise [val_main_v44, val_main_v41, val_main_v43, val_main_v40, val_main_v42, val_main_v33, val_main_v34, val_main_v30, val_main_v32]
  rw [show (⟨8 + e.val, by omega⟩ : Fin 64) = ⟨e.val + 8, by omega⟩ from Fin.ext (Nat.add_comm _ _)]

theorem fqrope (e : Fin 64) : val_main_v47 (F := Ideal) P pos g (ix3 i h e)
    = rope (fqrow P g i h) (fun j => cosT pos (ix2 i j)) (fun j => sinT pos (ix2 i j)) e := by
  unfold rope val_main_v47
  split_ifs with h0 h1
  · refine (concatenate_pair_apply_left (t := S2048x16x64) (s₁ := S2048x16x16) (s₂ := S2048x16x48) 2 _ _ _ _ rfl (ix3 i h (⟨e, by omega⟩ : Fin 16)) (fun b => by fin_cases b <;> rfl)).trans ?_
    unfold val_main_v45
    exact (concatenate_pair_apply_left (t := S2048x16x16) (s₁ := S2048x16x8) (s₂ := S2048x16x8) 2 _ _ _ _ rfl (ix3 i h (⟨e, h0⟩ : Fin 8)) (fun b => by fin_cases b <;> rfl)).trans (fqlo P pos g i h _)
  · refine (concatenate_pair_apply_left (t := S2048x16x64) (s₁ := S2048x16x16) (s₂ := S2048x16x48) 2 _ _ _ _ rfl (ix3 i h (⟨e, h1⟩ : Fin 16)) (fun b => by fin_cases b <;> rfl)).trans ?_
    unfold val_main_v45
    refine (concatenate_pair_apply_right (t := S2048x16x16) (s₁ := S2048x16x8) (s₂ := S2048x16x8) 2 _ _ _ _ rfl rfl (ix3 i h (⟨e - 8, by omega⟩ : Fin 8)) (fun b hb => ?_) (Nat.sub_add_cancel (by omega))).trans
      ((fqhi P pos g i h _).trans ?_)
    · fin_cases b
      · rfl
      · rfl
      · exact absurd rfl hb
    · have e8 : (⟨e.val - 8 + 8, by omega⟩ : Fin 64) = e := Fin.ext (by show e.val - 8 + 8 = e.val; omega)
      rw [e8]
  · refine (concatenate_pair_apply_right (t := S2048x16x64) (s₁ := S2048x16x16) (s₂ := S2048x16x48) 2 _ _ _ _ rfl rfl (ix3 i h (⟨e - 16, by omega⟩ : Fin 48)) (fun b hb => ?_) (Nat.sub_add_cancel (by omega))).trans ?_
    · fin_cases b
      · rfl
      · rfl
      · exact absurd rfl hb
    · rw [← fqn]
      pointwise [val_main_v46]
      exact congrArg (fun k => val_main_v16 (F := Ideal) P g (ix3 i h k)) (Fin.ext (by show 16 + (e.val - 16) = e.val; omega))

end

theorem fqout (i : Fin 2048) (j : Fin 1024) : val_main_v93 (F := Ideal) P pos g (ix2 i j) = fq P pos g i j := by
  unfold fq fh
  refine Eq.trans ?_ (fqrope P pos g i ⟨j / 64, by omega⟩ ⟨j % 64, by omega⟩)
  pointwise [val_main_v93, val_main_v92]

/-! The keys. -/

section
variable (i : Fin 2048) (h : Fin 2)

theorem fkx (e : Fin 64) : val_main_v3 (F := Ideal) P (ix3 i h e) = P (ix2 i ⟨2048 + h * 64 + e, by omega⟩) := by
  pointwise [val_main_v3, val_main_v2]
  blk_ext

/-- The head's normalised row. -/
abbrev fkrow : Fin 64 → EReal := nrm (fun j => P (ix2 i ⟨2048 + h.val * 64 + j.val, by omega⟩)) (fun j => g (ix2 0 j))

theorem fkn (e : Fin 64) : val_main_v60 (F := Ideal) P g (ix3 i h e) = fkrow P g i h e := by
  unfold fkrow nrm
  pointwise [val_main_v60, val_main_v59, val_main_v58, val_main_v57, val_main_v56, val_main_v55, val_main_v54, val_main_v53, val_main_v52, val_main_v51, val_main_v50, val_main_v49, val_main_v48, val_main_cst_4, val_main_cst_5, val_main_cst_6, fkx]
  rw [bits_64, bits_inv_64, Ideal.div_coe (by norm_num)]

theorem fklo (e : Fin 8) : val_main_v83 (F := Ideal) P pos g (ix3 i h e)
    = fkrow P g i h ⟨e, by omega⟩ * cosT pos (ix2 i e) - fkrow P g i h ⟨e + 8, by omega⟩ * sinT pos (ix2 i e) := by
  rw [← fkn, ← fkn]
  pointwise [val_main_v83, val_main_v80, val_main_v82, val_main_v77, val_main_v78, val_main_v79, val_main_v81, val_main_v74, val_main_v76]
  rw [show (⟨8 + e.val, by omega⟩ : Fin 64) = ⟨e.val + 8, by omega⟩ from Fin.ext (Nat.add_comm _ _)]
  rfl

theorem fkhi (e : Fin 8) : val_main_v88 (F := Ideal) P pos g (ix3 i h e)
    = fkrow P g i h ⟨e + 8, by omega⟩ * cosT pos (ix2 i e) + fkrow P g i h ⟨e, by omega⟩ * sinT pos (ix2 i e) := by
  rw [← fkn, ← fkn]
  pointwise [val_main_v88, val_main_v85, val_main_v87, val_main_v84, val_main_v86, val_main_v77, val_main_v78, val_main_v74, val_main_v76]
  rw [show (⟨8 + e.val, by omega⟩ : Fin 64) = ⟨e.val + 8, by omega⟩ from Fin.ext (Nat.add_comm _ _)]
  rfl

theorem fkrope (e : Fin 64) : val_main_v91 (F := Ideal) P pos g (ix3 i h e)
    = rope (fkrow P g i h) (fun j => cosT pos (ix2 i j)) (fun j => sinT pos (ix2 i j)) e := by
  unfold rope val_main_v91
  split_ifs with h0 h1
  · refine (concatenate_pair_apply_left (t := S2048x2x64) (s₁ := S2048x2x16) (s₂ := S2048x2x48) 2 _ _ _ _ rfl (ix3 i h (⟨e, by omega⟩ : Fin 16)) (fun b => by fin_cases b <;> rfl)).trans ?_
    unfold val_main_v89
    exact (concatenate_pair_apply_left (t := S2048x2x16) (s₁ := S2048x2x8) (s₂ := S2048x2x8) 2 _ _ _ _ rfl (ix3 i h (⟨e, h0⟩ : Fin 8)) (fun b => by fin_cases b <;> rfl)).trans (fklo P pos g i h _)
  · refine (concatenate_pair_apply_left (t := S2048x2x64) (s₁ := S2048x2x16) (s₂ := S2048x2x48) 2 _ _ _ _ rfl (ix3 i h (⟨e, h1⟩ : Fin 16)) (fun b => by fin_cases b <;> rfl)).trans ?_
    unfold val_main_v89
    refine (concatenate_pair_apply_right (t := S2048x2x16) (s₁ := S2048x2x8) (s₂ := S2048x2x8) 2 _ _ _ _ rfl rfl (ix3 i h (⟨e - 8, by omega⟩ : Fin 8)) (fun b hb => ?_) (Nat.sub_add_cancel (by omega))).trans
      ((fkhi P pos g i h _).trans ?_)
    · fin_cases b
      · rfl
      · rfl
      · exact absurd rfl hb
    · have e8 : (⟨e.val - 8 + 8, by omega⟩ : Fin 64) = e := Fin.ext (by show e.val - 8 + 8 = e.val; omega)
      rw [e8]
  · refine (concatenate_pair_apply_right (t := S2048x2x64) (s₁ := S2048x2x16) (s₂ := S2048x2x48) 2 _ _ _ _ rfl rfl (ix3 i h (⟨e - 16, by omega⟩ : Fin 48)) (fun b hb => ?_) (Nat.sub_add_cancel (by omega))).trans ?_
    · fin_cases b
      · rfl
      · rfl
      · exact absurd rfl hb
    · rw [← fkn]
      pointwise [val_main_v90]
      exact congrArg (fun k => val_main_v60 (F := Ideal) P g (ix3 i h k)) (Fin.ext (by show 16 + (e.val - 16) = e.val; omega))

end

theorem fkout (i : Fin 2048) (j : Fin 128) : val_main_v95 (F := Ideal) P pos g (ix2 i j) = fk P pos g i j := by
  unfold fk fh
  refine Eq.trans ?_ (fkrope P pos g i ⟨j / 64, by omega⟩ ⟨j % 64, by omega⟩)
  pointwise [val_main_v95, val_main_v94]

end Ref

theorem frame_kernel : Cert.quiescent_BPre := fun m ρ _ => Cert.BPre.Gen.frame m ρ

theorem frame_ideal : Cert.quiescent_BPreIdeal := fun m ρ _ => Cert.BPreIdeal.Gen.frame m ρ

theorem frame_ref : Cert.quiescent_BPreRefIdeal := fun m ρ _ =>
  (θ_run _ _ _).mono (fun _ h => ⟨fun c => (h c).2.2, sem_eq_zero_of_no_sems rfl _⟩) (Cert.BPreRefIdeal.Value.run m ρ)

section
open Cert.BPreIdeal Cert.BPreIdeal.Gen Cert.BPreRefIdeal.Read

variable (m : (ℓ : Loc nD τ sig) → Buf (Elt Ideal) ℓ) (c : Dev nD)

theorem agree_q : val_main_v93 (F := Ideal) (proj m c) (posn m c) (gq m c) = (dats m 0 c).arrAt 7 cfg0.N :=
  (Cert.Proof.ext2 (Ref.fqout _ _ _)).trans (final_q m c).symm

theorem agree_k : val_main_v95 (F := Ideal) (proj m c) (posn m c) (gk m c) = (dats m 0 c).arrAt 8 cfg0.N :=
  (Cert.Proof.ext2 (Ref.fkout _ _ _)).trans (final_k m c).symm

end

/-- Kernel and reference end with the same arrays. -/
theorem algebraic : Cert.algebraic_BPreIdeal_BPreRefIdeal := fun m ρ m' ρ' _ hm => by
  refine ⟨_, _, Cert.BPreIdeal.Value.run_blocks m ρ, (θ_run _ _ _).mono (fun r h c => ?_) (Cert.BPreRefIdeal.Value.run m' ρ')⟩
  obtain ⟨h0, h1, ha⟩ := h c
  obtain ⟨a0, a1, a2, a3⟩ := hm c
  rw [Cert.BPreRefIdeal.Read.val_main_v93_eq, a0, a1, a2] at h0
  rw [Cert.BPreRefIdeal.Read.val_main_v95_eq, a0, a1, a3] at h1
  exact ⟨h0.trans (agree_q m c), h1.trans (agree_k m c), ha⟩

end Cert.Proof.BPre

end
-- ==== Proof.lean ====
/-
  The claims of this certificate. Each program's claims are proved in a module of its own: its frames, and the equation
  between its results and its reference's.
-/
module

public import proofs.«01_k».proof.Proof.MergeBwd.Claim
public import proofs.«01_k».proof.Proof.ABwd.Claim
public import proofs.«01_k».proof.Proof.Products.RmsBwd
public import proofs.«01_k».proof.Proof.Products.DH
public import proofs.«01_k».proof.Proof.Products.DAct
public import proofs.«01_k».proof.Proof.Products.GDown
public import proofs.«01_k».proof.Proof.Products.GOut
public import proofs.«01_k».proof.Proof.Products.GBranchA
public import proofs.«01_k».proof.Proof.Products.Proj
public import proofs.«01_k».proof.Proof.Products.Up
public import proofs.«01_k».proof.Proof.Products.OutLoss
public import proofs.«01_k».proof.Proof.Products.ResidualRms
public import proofs.«01_k».proof.Proof.Products.MergeFwd
public import proofs.«01_k».proof.Proof.CMix.CBwd.Claim
public import proofs.«01_k».proof.Proof.Products.GBranchB
public import proofs.«01_k».proof.Proof.Products.GKv
public import proofs.«01_k».proof.Proof.Products.DMemH
public import proofs.«01_k».proof.Proof.Products.MemBwd
public import proofs.«01_k».proof.Proof.Products.RmsFwd
public import proofs.«01_k».proof.Proof.Products.MemFwd
public import proofs.«01_k».proof.Proof.Products.KV
public import proofs.«01_k».proof.Proof.AFwd.Claim
public import proofs.«01_k».proof.Proof.CMix.CFwd
public import proofs.«01_k».proof.Proof.Optimiser.AdamPlain
public import proofs.«01_k».proof.Proof.BMix.Claim

@[expose] public section

noncomputable section

namespace Cert.Proof

/-- Facts, frames, and values of the programs, in the order of the statement. -/
theorem claim : Cert.Claim := ⟨
  Cert.MergeBwd.Gen.facts, Cert.MergeBwdIdeal.Gen.facts, Cert.MergeBwdRefIdeal.Gen.facts,
  Cert.ABwd.Gen.facts, Cert.ABwdIdeal.Gen.facts, Cert.ABwdRefIdeal.Gen.facts,
  Cert.RmsBwd.Gen.facts, Cert.RmsBwdIdeal.Gen.facts, Cert.RmsBwdRefIdeal.Gen.facts,
  Cert.DH.Gen.facts, Cert.DHIdeal.Gen.facts, Cert.DHRefIdeal.Gen.facts,
  Cert.DAct.Gen.facts, Cert.DActIdeal.Gen.facts, Cert.DActRefIdeal.Gen.facts,
  Cert.GDown.Gen.facts, Cert.GDownIdeal.Gen.facts, Cert.GDownRefIdeal.Gen.facts,
  Cert.GOut.Gen.facts, Cert.GOutIdeal.Gen.facts, Cert.GOutRefIdeal.Gen.facts,
  Cert.GBranchA.Gen.facts, Cert.GBranchAIdeal.Gen.facts, Cert.GBranchARefIdeal.Gen.facts,
  Cert.Proj.Gen.facts, Cert.ProjIdeal.Gen.facts, Cert.ProjRefIdeal.Gen.facts,
  Cert.Up.Gen.facts, Cert.UpIdeal.Gen.facts, Cert.UpRefIdeal.Gen.facts,
  Cert.OutLoss.Gen.facts, Cert.OutLossIdeal.Gen.facts, Cert.OutLossRefIdeal.Gen.facts,
  Cert.ResidualRms.Gen.facts, Cert.ResidualRmsIdeal.Gen.facts, Cert.ResidualRmsRefIdeal.Gen.facts,
  Cert.MergeFwd.Gen.facts, Cert.MergeFwdIdeal.Gen.facts, Cert.MergeFwdRefIdeal.Gen.facts,
  Cert.CBwd.Gen.facts, Cert.CBwdIdeal.Gen.facts, Cert.CBwdRefIdeal.Gen.facts,
  Cert.GBranchB.Gen.facts, Cert.GBranchBIdeal.Gen.facts, Cert.GBranchBRefIdeal.Gen.facts,
  Cert.GKv.Gen.facts, Cert.GKvIdeal.Gen.facts, Cert.GKvRefIdeal.Gen.facts,
  Cert.DMemH.Gen.facts, Cert.DMemHIdeal.Gen.facts, Cert.DMemHRefIdeal.Gen.facts,
  Cert.MemBwd.Gen.facts, Cert.MemBwdIdeal.Gen.facts, Cert.MemBwdRefIdeal.Gen.facts,
  Cert.RmsFwd.Gen.facts, Cert.RmsFwdIdeal.Gen.facts, Cert.RmsFwdRefIdeal.Gen.facts,
  Cert.MemFwd.Gen.facts, Cert.MemFwdIdeal.Gen.facts, Cert.MemFwdRefIdeal.Gen.facts,
  Cert.KV.Gen.facts, Cert.KVIdeal.Gen.facts, Cert.KVRefIdeal.Gen.facts,
  Cert.AFwd.Gen.facts, Cert.AFwdIdeal.Gen.facts, Cert.AFwdRefIdeal.Gen.facts,
  Cert.CFwd.Gen.facts, Cert.CFwdIdeal.Gen.facts, Cert.CFwdRefIdeal.Gen.facts,
  Cert.AdamPlain.Gen.facts, Cert.AdamPlainIdeal.Gen.facts, Cert.AdamPlainRefIdeal.Gen.facts,
  Cert.BPre.Gen.facts, Cert.BPreIdeal.Gen.facts, Cert.BPreRefIdeal.Gen.facts,
  Cert.Pre_finite.Gen.facts,
  MergeBwd.frame_kernel, MergeBwd.frame_ideal, MergeBwd.frame_ref,
  ABwd.frame_kernel, ABwd.frame_ideal, ABwd.frame_ref,
  RmsBwd.frame_kernel, RmsBwd.frame_ideal, RmsBwd.frame_ref,
  DH.frame_kernel, DH.frame_ideal, DH.frame_ref,
  DAct.frame_kernel, DAct.frame_ideal, DAct.frame_ref,
  GDown.frame_kernel, GDown.frame_ideal, GDown.frame_ref,
  GOut.frame_kernel, GOut.frame_ideal, GOut.frame_ref,
  GBranchA.frame_kernel, GBranchA.frame_ideal, GBranchA.frame_ref,
  Proj.frame_kernel, Proj.frame_ideal, Proj.frame_ref,
  Up.frame_kernel, Up.frame_ideal, Up.frame_ref,
  OutLoss.frame_kernel, OutLoss.frame_ideal, OutLoss.frame_ref,
  ResidualRms.frame_kernel, ResidualRms.frame_ideal, ResidualRms.frame_ref,
  MergeFwd.frame_kernel, MergeFwd.frame_ideal, MergeFwd.frame_ref,
  CBwd.frame_kernel, CBwd.frame_ideal, CBwd.frame_ideal_pre, CBwd.frame_ref, CBwd.frame_ref_pre,
  GBranchB.frame_kernel, GBranchB.frame_ideal, GBranchB.frame_ref,
  GKv.frame_kernel, GKv.frame_ideal, GKv.frame_ref,
  DMemH.frame_kernel, DMemH.frame_ideal, DMemH.frame_ref,
  MemBwd.frame_kernel, MemBwd.frame_ideal, MemBwd.frame_ref,
  RmsFwd.frame_kernel, RmsFwd.frame_ideal, RmsFwd.frame_ref,
  MemFwd.frame_kernel, MemFwd.frame_ideal, MemFwd.frame_ref,
  KV.frame_kernel, KV.frame_ideal, KV.frame_ref,
  AFwd.frame_kernel, AFwd.frame_ideal, AFwd.frame_ref,
  CFwd.frame_kernel, CFwd.frame_ideal, CFwd.frame_ref,
  AdamPlain.frame_kernel, AdamPlain.frame_ideal, AdamPlain.frame_ref,
  BPre.frame_kernel, BPre.frame_ideal, BPre.frame_ref,
  trivial, MergeBwd.algebraic,
  trivial, ABwd.algebraic,
  trivial, RmsBwd.algebraic,
  trivial, DH.algebraic,
  trivial, DAct.algebraic,
  trivial, GDown.algebraic,
  trivial, GOut.algebraic,
  trivial, GBranchA.algebraic,
  trivial, Proj.algebraic,
  trivial, Up.algebraic,
  trivial, OutLoss.algebraic,
  trivial, ResidualRms.algebraic,
  trivial, MergeFwd.algebraic,
  trivial, CBwd.algebraic,
  trivial, GBranchB.algebraic,
  trivial, GKv.algebraic,
  trivial, DMemH.algebraic,
  trivial, MemBwd.algebraic,
  trivial, RmsFwd.algebraic,
  trivial, MemFwd.algebraic,
  trivial, KV.algebraic,
  trivial, AFwd.algebraic,
  trivial, CFwd.algebraic,
  trivial, AdamPlain.algebraic,
  trivial, BPre.algebraic⟩

end Cert.Proof

end
